-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))) = (fun _ => 1#1)

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSIdeal_prep_sample_finite [hPre_prep_sample_finite : Cert.Pre_prep_sample_finite.Facts] (m : (ℓ : Loc Cert.PrepSIdeal.nD Cert.PrepSIdeal.τ Cert.PrepSIdeal.sig) → Buf (Elt Ideal) ℓ) : Prop :=
  ∀ c : Dev Cert.PrepSIdeal.nD,
    (Cert.Pre_prep_sample_finite.fn (F := Ideal) (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg2)) (m ((c.tc : Thread Cert.PrepSIdeal.nD Cert.PrepSIdeal.τ).loc Cert.PrepSIdeal.main_arg3)) (m ((c.tc : Thread Cert.PrepSIdeal.nD Cert.PrepSIdeal.τ).loc Cert.PrepSIdeal.main_arg4)) (m ((c.tc : Thread Cert.PrepSIdeal.nD Cert.PrepSIdeal.τ).loc Cert.PrepSIdeal.main_arg5)) (m ((c.tc : Thread Cert.PrepSIdeal.nD Cert.PrepSIdeal.τ).loc Cert.PrepSIdeal.main_arg6)) (m ((c.tc : Thread Cert.PrepSIdeal.nD Cert.PrepSIdeal.τ).loc Cert.PrepSIdeal.main_arg7)) (m ((c.tc : Thread Cert.PrepSIdeal.nD Cert.PrepSIdeal.τ).loc Cert.PrepSIdeal.main_arg8)) (m ((c.tc : Thread Cert.PrepSIdeal.nD Cert.PrepSIdeal.τ).loc Cert.PrepSIdeal.main_arg9)) (m ((c.tc : Thread Cert.PrepSIdeal.nD Cert.PrepSIdeal.τ).loc Cert.PrepSIdeal.main_arg10))) = (fun _ => 1#1)

def Pre_PrepSRefIdeal (m : (ℓ : Loc Cert.PrepSRefIdeal.nD Cert.PrepSRefIdeal.τ Cert.PrepSRefIdeal.sig) → Buf (Elt Ideal) ℓ) : Prop :=
  True

def Pre_PrepSRefIdeal_prep_sample_finite [hPre_prep_sample_finite : Cert.Pre_prep_sample_finite.Facts] (m : (ℓ : Loc Cert.PrepSRefIdeal.nD Cert.PrepSRefIdeal.τ Cert.PrepSRefIdeal.sig) → Buf (Elt Ideal) ℓ) : Prop :=
  ∀ c : Dev Cert.PrepSRefIdeal.nD,
    (Cert.Pre_prep_sample_finite.fn (F := Ideal) (m ((c.tc : Thread Cert.PrepSRefIdeal.nD Cert.PrepSRefIdeal.τ).loc Cert.PrepSRefIdeal.main_arg0)) (m ((c.tc : Thread Cert.PrepSRefIdeal.nD Cert.PrepSRefIdeal.τ).loc Cert.PrepSRefIdeal.main_arg1)) (m ((c.tc : Thread Cert.PrepSRefIdeal.nD Cert.PrepSRefIdeal.τ).loc Cert.PrepSRefIdeal.main_arg2)) (m ((c.tc : Thread Cert.PrepSRefIdeal.nD Cert.PrepSRefIdeal.τ).loc Cert.PrepSRefIdeal.main_arg3)) (m ((c.tc : Thread Cert.PrepSRefIdeal.nD Cert.PrepSRefIdeal.τ).loc Cert.PrepSRefIdeal.main_arg4)) (m ((c.tc : Thread Cert.PrepSRefIdeal.nD Cert.PrepSRefIdeal.τ).loc Cert.PrepSRefIdeal.main_arg5)) (m ((c.tc : Thread Cert.PrepSRefIdeal.nD Cert.PrepSRefIdeal.τ).loc Cert.PrepSRefIdeal.main_arg6)) (m ((c.tc : Thread Cert.PrepSRefIdeal.nD Cert.PrepSRefIdeal.τ).loc Cert.PrepSRefIdeal.main_arg7)) (m ((c.tc : Thread Cert.PrepSRefIdeal.nD Cert.PrepSRefIdeal.τ).loc Cert.PrepSRefIdeal.main_arg8)) (m ((c.tc : Thread Cert.PrepSRefIdeal.nD Cert.PrepSRefIdeal.τ).loc Cert.PrepSRefIdeal.main_arg9)) (m ((c.tc : Thread Cert.PrepSRefIdeal.nD Cert.PrepSRefIdeal.τ).loc Cert.PrepSRefIdeal.main_arg10))) = (fun _ => 1#1)

def Pre_ProjShift (m : (ℓ : Loc Cert.ProjShift.nD Cert.ProjShift.τ Cert.ProjShift.sig) → Buf (Elt Bits) ℓ) : Prop :=
  True

def Pre_ProjShiftIdeal (m : (ℓ : Loc Cert.ProjShiftIdeal.nD Cert.ProjShiftIdeal.τ Cert.ProjShiftIdeal.sig) → Buf (Elt Ideal) ℓ) : Prop :=
  True

def Pre_ProjShiftRefIdeal (m : (ℓ : Loc Cert.ProjShiftRefIdeal.nD Cert.ProjShiftRefIdeal.τ Cert.ProjShiftRefIdeal.sig) → Buf (Elt Ideal) ℓ) : Prop :=
  True

def Pre_ScanS (m : (ℓ : Loc Cert.ScanS.nD Cert.ScanS.τ Cert.ScanS.sig) → Buf (Elt Bits) ℓ) : Prop :=
  True

def Pre_ScanSIdeal (m : (ℓ : Loc Cert.ScanSIdeal.nD Cert.ScanSIdeal.τ Cert.ScanSIdeal.sig) → Buf (Elt Ideal) ℓ) : Prop :=
  True

def Pre_ScanSRefIdeal (m : (ℓ : Loc Cert.ScanSRefIdeal.nD Cert.ScanSRefIdeal.τ Cert.ScanSRefIdeal.sig) → Buf (Elt Ideal) ℓ) : Prop :=
  True

def Pre_SelectS (m : (ℓ : Loc Cert.SelectS.nD Cert.SelectS.τ Cert.SelectS.sig) → Buf (Elt Bits) ℓ) : Prop :=
  True

def Pre_SelectSIdeal (m : (ℓ : Loc Cert.SelectSIdeal.nD Cert.SelectSIdeal.τ Cert.SelectSIdeal.sig) → Buf (Elt Ideal) ℓ) : Prop :=
  True

def Pre_SelectSRefIdeal (m : (ℓ : Loc Cert.SelectSRefIdeal.nD Cert.SelectSRefIdeal.τ Cert.SelectSRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3)
      ∧ r.2.mem ((c.tc : Thread Cert.PrepS.nD Cert.PrepS.τ).loc Cert.PrepS.main_arg4) = m ((c.tc : Thread Cert.PrepS.nD Cert.PrepS.τ).loc Cert.PrepS.main_arg4)
      ∧ r.2.mem ((c.tc : Thread Cert.PrepS.nD Cert.PrepS.τ).loc Cert.PrepS.main_arg5) = m ((c.tc : Thread Cert.PrepS.nD Cert.PrepS.τ).loc Cert.PrepS.main_arg5)
      ∧ r.2.mem ((c.tc : Thread Cert.PrepS.nD Cert.PrepS.τ).loc Cert.PrepS.main_arg6) = m ((c.tc : Thread Cert.PrepS.nD Cert.PrepS.τ).loc Cert.PrepS.main_arg6)
      ∧ r.2.mem ((c.tc : Thread Cert.PrepS.nD Cert.PrepS.τ).loc Cert.PrepS.main_arg7) = m ((c.tc : Thread Cert.PrepS.nD Cert.PrepS.τ).loc Cert.PrepS.main_arg7)
      ∧ r.2.mem ((c.tc : Thread Cert.PrepS.nD Cert.PrepS.τ).loc Cert.PrepS.main_arg8) = m ((c.tc : Thread Cert.PrepS.nD Cert.PrepS.τ).loc Cert.PrepS.main_arg8)
      ∧ r.2.mem ((c.tc : Thread Cert.PrepS.nD Cert.PrepS.τ).loc Cert.PrepS.main_arg9) = m ((c.tc : Thread Cert.PrepS.nD Cert.PrepS.τ).loc Cert.PrepS.main_arg9)
      ∧ r.2.mem ((c.tc : Thread Cert.PrepS.nD Cert.PrepS.τ).loc Cert.PrepS.main_arg10) = m ((c.tc : Thread Cert.PrepS.nD Cert.PrepS.τ).loc Cert.PrepS.main_arg10))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
      ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
      ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
      ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
      ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
      ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9)
      ∧ r.2.mem ((c.tc : Thread Cert.PrepSIdeal.nD Cert.PrepSIdeal.τ).loc Cert.PrepSIdeal.main_arg10) = m ((c.tc : Thread Cert.PrepSIdeal.nD Cert.PrepSIdeal.τ).loc Cert.PrepSIdeal.main_arg10))
      ∧ r.2.sem = fun _ => 0)

def quiescent_PrepSIdeal_pre_prep_sample_finite [hPrepSIdeal : Cert.PrepSIdeal.Facts] [hPre_prep_sample_finite : Cert.Pre_prep_sample_finite.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal_prep_sample_finite m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
      ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
      ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
      ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
      ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
      ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9)
      ∧ r.2.mem ((c.tc : Thread Cert.PrepSIdeal.nD Cert.PrepSIdeal.τ).loc Cert.PrepSIdeal.main_arg10) = m ((c.tc : Thread Cert.PrepSIdeal.nD Cert.PrepSIdeal.τ).loc Cert.PrepSIdeal.main_arg10))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4)
      ∧ r.2.mem ((c.tc : Thread Cert.PrepSRefIdeal.nD Cert.PrepSRefIdeal.τ).loc Cert.PrepSRefIdeal.main_arg5) = m ((c.tc : Thread Cert.PrepSRefIdeal.nD Cert.PrepSRefIdeal.τ).loc Cert.PrepSRefIdeal.main_arg5)
      ∧ r.2.mem ((c.tc : Thread Cert.PrepSRefIdeal.nD Cert.PrepSRefIdeal.τ).loc Cert.PrepSRefIdeal.main_arg6) = m ((c.tc : Thread Cert.PrepSRefIdeal.nD Cert.PrepSRefIdeal.τ).loc Cert.PrepSRefIdeal.main_arg6)
      ∧ r.2.mem ((c.tc : Thread Cert.PrepSRefIdeal.nD Cert.PrepSRefIdeal.τ).loc Cert.PrepSRefIdeal.main_arg7) = m ((c.tc : Thread Cert.PrepSRefIdeal.nD Cert.PrepSRefIdeal.τ).loc Cert.PrepSRefIdeal.main_arg7)
      ∧ r.2.mem ((c.tc : Thread Cert.PrepSRefIdeal.nD Cert.PrepSRefIdeal.τ).loc Cert.PrepSRefIdeal.main_arg8) = m ((c.tc : Thread Cert.PrepSRefIdeal.nD Cert.PrepSRefIdeal.τ).loc Cert.PrepSRefIdeal.main_arg8)
      ∧ r.2.mem ((c.tc : Thread Cert.PrepSRefIdeal.nD Cert.PrepSRefIdeal.τ).loc Cert.PrepSRefIdeal.main_arg9) = m ((c.tc : Thread Cert.PrepSRefIdeal.nD Cert.PrepSRefIdeal.τ).loc Cert.PrepSRefIdeal.main_arg9)
      ∧ r.2.mem ((c.tc : Thread Cert.PrepSRefIdeal.nD Cert.PrepSRefIdeal.τ).loc Cert.PrepSRefIdeal.main_arg10) = m ((c.tc : Thread Cert.PrepSRefIdeal.nD Cert.PrepSRefIdeal.τ).loc Cert.PrepSRefIdeal.main_arg10))
      ∧ r.2.sem = fun _ => 0)

def quiescent_PrepSRefIdeal_pre_prep_sample_finite [hPrepSRefIdeal : Cert.PrepSRefIdeal.Facts] [hPre_prep_sample_finite : Cert.Pre_prep_sample_finite.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal_prep_sample_finite m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4)
      ∧ r.2.mem ((c.tc : Thread Cert.PrepSRefIdeal.nD Cert.PrepSRefIdeal.τ).loc Cert.PrepSRefIdeal.main_arg5) = m ((c.tc : Thread Cert.PrepSRefIdeal.nD Cert.PrepSRefIdeal.τ).loc Cert.PrepSRefIdeal.main_arg5)
      ∧ r.2.mem ((c.tc : Thread Cert.PrepSRefIdeal.nD Cert.PrepSRefIdeal.τ).loc Cert.PrepSRefIdeal.main_arg6) = m ((c.tc : Thread Cert.PrepSRefIdeal.nD Cert.PrepSRefIdeal.τ).loc Cert.PrepSRefIdeal.main_arg6)
      ∧ r.2.mem ((c.tc : Thread Cert.PrepSRefIdeal.nD Cert.PrepSRefIdeal.τ).loc Cert.PrepSRefIdeal.main_arg7) = m ((c.tc : Thread Cert.PrepSRefIdeal.nD Cert.PrepSRefIdeal.τ).loc Cert.PrepSRefIdeal.main_arg7)
      ∧ r.2.mem ((c.tc : Thread Cert.PrepSRefIdeal.nD Cert.PrepSRefIdeal.τ).loc Cert.PrepSRefIdeal.main_arg8) = m ((c.tc : Thread Cert.PrepSRefIdeal.nD Cert.PrepSRefIdeal.τ).loc Cert.PrepSRefIdeal.main_arg8)
      ∧ r.2.mem ((c.tc : Thread Cert.PrepSRefIdeal.nD Cert.PrepSRefIdeal.τ).loc Cert.PrepSRefIdeal.main_arg9) = m ((c.tc : Thread Cert.PrepSRefIdeal.nD Cert.PrepSRefIdeal.τ).loc Cert.PrepSRefIdeal.main_arg9)
      ∧ r.2.mem ((c.tc : Thread Cert.PrepSRefIdeal.nD Cert.PrepSRefIdeal.τ).loc Cert.PrepSRefIdeal.main_arg10) = m ((c.tc : Thread Cert.PrepSRefIdeal.nD Cert.PrepSRefIdeal.τ).loc Cert.PrepSRefIdeal.main_arg10))
      ∧ r.2.sem = fun _ => 0)

def quiescent_ProjShift [hProjShift : Cert.ProjShift.Facts] : Prop :=
  ∀ (m : (ℓ : Loc Cert.ProjShift.nD Cert.ProjShift.τ Cert.ProjShift.sig) → Buf (Elt Bits) ℓ) (g : Dev Cert.ProjShift.nD → PrngReg), Pre_ProjShift m →
    θ_run (Cert.ProjShift.defs (F := Bits)) (onTc (τ := Cert.ProjShift.τ) (Cert.ProjShift.main (F := Bits))) ⟨m, fun _ => 0, g⟩ (fun r => (∀ c : Dev Cert.ProjShift.nD,
      r.2.mem ((c.tc : Thread Cert.ProjShift.nD Cert.ProjShift.τ).loc Cert.ProjShift.main_arg0) = m ((c.tc : Thread Cert.ProjShift.nD Cert.ProjShift.τ).loc Cert.ProjShift.main_arg0)
      ∧ r.2.mem ((c.tc : Thread Cert.ProjShift.nD Cert.ProjShift.τ).loc Cert.ProjShift.main_arg1) = m ((c.tc : Thread Cert.ProjShift.nD Cert.ProjShift.τ).loc Cert.ProjShift.main_arg1))
      ∧ r.2.sem = fun _ => 0)

def quiescent_ProjShiftIdeal [hProjShiftIdeal : Cert.ProjShiftIdeal.Facts] : Prop :=
  ∀ (m : (ℓ : Loc Cert.ProjShiftIdeal.nD Cert.ProjShiftIdeal.τ Cert.ProjShiftIdeal.sig) → Buf (Elt Ideal) ℓ) (g : Dev Cert.ProjShiftIdeal.nD → PrngReg), Pre_ProjShiftIdeal m →
    θ_run (Cert.ProjShiftIdeal.defs (F := Ideal)) (onTc (τ := Cert.ProjShiftIdeal.τ) (Cert.ProjShiftIdeal.main (F := Ideal))) ⟨m, fun _ => 0, g⟩ (fun r => (∀ c : Dev Cert.ProjShiftIdeal.nD,
      r.2.mem ((c.tc : Thread Cert.ProjShiftIdeal.nD Cert.ProjShiftIdeal.τ).loc Cert.ProjShiftIdeal.main_arg0) = m ((c.tc : Thread Cert.ProjShiftIdeal.nD Cert.ProjShiftIdeal.τ).loc Cert.ProjShiftIdeal.main_arg0)
      ∧ r.2.mem ((c.tc : Thread Cert.ProjShiftIdeal.nD Cert.ProjShiftIdeal.τ).loc Cert.ProjShiftIdeal.main_arg1) = m ((c.tc : Thread Cert.ProjShiftIdeal.nD Cert.ProjShiftIdeal.τ).loc Cert.ProjShiftIdeal.main_arg1))
      ∧ r.2.sem = fun _ => 0)

def quiescent_ProjShiftRefIdeal [hProjShiftRefIdeal : Cert.ProjShiftRefIdeal.Facts] : Prop :=
  ∀ (m : (ℓ : Loc Cert.ProjShiftRefIdeal.nD Cert.ProjShiftRefIdeal.τ Cert.ProjShiftRefIdeal.sig) → Buf (Elt Ideal) ℓ) (g : Dev Cert.ProjShiftRefIdeal.nD → PrngReg), Pre_ProjShiftRefIdeal m →
    θ_run (Cert.ProjShiftRefIdeal.defs (F := Ideal)) (onTc (τ := Cert.ProjShiftRefIdeal.τ) (Cert.ProjShiftRefIdeal.main (F := Ideal))) ⟨m, fun _ => 0, g⟩ (fun r => (∀ c : Dev Cert.ProjShiftRefIdeal.nD,
      r.2.mem ((c.tc : Thread Cert.ProjShiftRefIdeal.nD Cert.ProjShiftRefIdeal.τ).loc Cert.ProjShiftRefIdeal.main_arg0) = m ((c.tc : Thread Cert.ProjShiftRefIdeal.nD Cert.ProjShiftRefIdeal.τ).loc Cert.ProjShiftRefIdeal.main_arg0)
      ∧ r.2.mem ((c.tc : Thread Cert.ProjShiftRefIdeal.nD Cert.ProjShiftRefIdeal.τ).loc Cert.ProjShiftRefIdeal.main_arg1) = m ((c.tc : Thread Cert.ProjShiftRefIdeal.nD Cert.ProjShiftRefIdeal.τ).loc Cert.ProjShiftRefIdeal.main_arg1))
      ∧ r.2.sem = fun _ => 0)

def quiescent_ScanS [hScanS : Cert.ScanS.Facts] : Prop :=
  ∀ (m : (ℓ : Loc Cert.ScanS.nD Cert.ScanS.τ Cert.ScanS.sig) → Buf (Elt Bits) ℓ) (g : Dev Cert.ScanS.nD → PrngReg), Pre_ScanS m →
    θ_run (Cert.ScanS.defs (F := Bits)) (onTc (τ := Cert.ScanS.τ) (Cert.ScanS.main (F := Bits))) ⟨m, fun _ => 0, g⟩ (fun r => (∀ c : Dev Cert.ScanS.nD,
      r.2.mem ((c.tc : Thread Cert.ScanS.nD Cert.ScanS.τ).loc Cert.ScanS.main_arg0) = m ((c.tc : Thread Cert.ScanS.nD Cert.ScanS.τ).loc Cert.ScanS.main_arg0)
      ∧ r.2.mem ((c.tc : Thread Cert.ScanS.nD Cert.ScanS.τ).loc Cert.ScanS.main_arg1) = m ((c.tc : Thread Cert.ScanS.nD Cert.ScanS.τ).loc Cert.ScanS.main_arg1)
      ∧ r.2.mem ((c.tc : Thread Cert.ScanS.nD Cert.ScanS.τ).loc Cert.ScanS.main_arg2) = m ((c.tc : Thread Cert.ScanS.nD Cert.ScanS.τ).loc Cert.ScanS.main_arg2)
      ∧ r.2.mem ((c.tc : Thread Cert.ScanS.nD Cert.ScanS.τ).loc Cert.ScanS.main_arg3) = m ((c.tc : Thread Cert.ScanS.nD Cert.ScanS.τ).loc Cert.ScanS.main_arg3)
      ∧ r.2.mem ((c.tc : Thread Cert.ScanS.nD Cert.ScanS.τ).loc Cert.ScanS.main_arg4) = m ((c.tc : Thread Cert.ScanS.nD Cert.ScanS.τ).loc Cert.ScanS.main_arg4)
      ∧ r.2.mem ((c.tc : Thread Cert.ScanS.nD Cert.ScanS.τ).loc Cert.ScanS.main_arg5) = m ((c.tc : Thread Cert.ScanS.nD Cert.ScanS.τ).loc Cert.ScanS.main_arg5)
      ∧ r.2.mem ((c.tc : Thread Cert.ScanS.nD Cert.ScanS.τ).loc Cert.ScanS.main_arg6) = m ((c.tc : Thread Cert.ScanS.nD Cert.ScanS.τ).loc Cert.ScanS.main_arg6)
      ∧ r.2.mem ((c.tc : Thread Cert.ScanS.nD Cert.ScanS.τ).loc Cert.ScanS.main_arg7) = m ((c.tc : Thread Cert.ScanS.nD Cert.ScanS.τ).loc Cert.ScanS.main_arg7)
      ∧ r.2.mem ((c.tc : Thread Cert.ScanS.nD Cert.ScanS.τ).loc Cert.ScanS.main_arg8) = m ((c.tc : Thread Cert.ScanS.nD Cert.ScanS.τ).loc Cert.ScanS.main_arg8)
      ∧ r.2.mem ((c.tc : Thread Cert.ScanS.nD Cert.ScanS.τ).loc Cert.ScanS.main_arg9) = m ((c.tc : Thread Cert.ScanS.nD Cert.ScanS.τ).loc Cert.ScanS.main_arg9)
      ∧ r.2.mem ((c.tc : Thread Cert.ScanS.nD Cert.ScanS.τ).loc Cert.ScanS.main_arg10) = m ((c.tc : Thread Cert.ScanS.nD Cert.ScanS.τ).loc Cert.ScanS.main_arg10))
      ∧ r.2.sem = fun _ => 0)

def quiescent_ScanSIdeal [hScanSIdeal : Cert.ScanSIdeal.Facts] : Prop :=
  ∀ (m : (ℓ : Loc Cert.ScanSIdeal.nD Cert.ScanSIdeal.τ Cert.ScanSIdeal.sig) → Buf (Elt Ideal) ℓ) (g : Dev Cert.ScanSIdeal.nD → PrngReg), Pre_ScanSIdeal m →
    θ_run (Cert.ScanSIdeal.defs (F := Ideal)) (onTc (τ := Cert.ScanSIdeal.τ) (Cert.ScanSIdeal.main (F := Ideal))) ⟨m, fun _ => 0, g⟩ (fun r => (∀ c : Dev Cert.ScanSIdeal.nD,
      r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
      ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
      ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
      ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
      ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
      ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
      ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6)
      ∧ r.2.mem ((c.tc : Thread Cert.ScanSIdeal.nD Cert.ScanSIdeal.τ).loc Cert.ScanSIdeal.main_arg7) = m ((c.tc : Thread Cert.ScanSIdeal.nD Cert.ScanSIdeal.τ).loc Cert.ScanSIdeal.main_arg7)
      ∧ r.2.mem ((c.tc : Thread Cert.ScanSIdeal.nD Cert.ScanSIdeal.τ).loc Cert.ScanSIdeal.main_arg8) = m ((c.tc : Thread Cert.ScanSIdeal.nD Cert.ScanSIdeal.τ).loc Cert.ScanSIdeal.main_arg8)
      ∧ r.2.mem ((c.tc : Thread Cert.ScanSIdeal.nD Cert.ScanSIdeal.τ).loc Cert.ScanSIdeal.main_arg9) = m ((c.tc : Thread Cert.ScanSIdeal.nD Cert.ScanSIdeal.τ).loc Cert.ScanSIdeal.main_arg9)
      ∧ r.2.mem ((c.tc : Thread Cert.ScanSIdeal.nD Cert.ScanSIdeal.τ).loc Cert.ScanSIdeal.main_arg10) = m ((c.tc : Thread Cert.ScanSIdeal.nD Cert.ScanSIdeal.τ).loc Cert.ScanSIdeal.main_arg10))
      ∧ r.2.sem = fun _ => 0)

def quiescent_ScanSRefIdeal [hScanSRefIdeal : Cert.ScanSRefIdeal.Facts] : Prop :=
  ∀ (m : (ℓ : Loc Cert.ScanSRefIdeal.nD Cert.ScanSRefIdeal.τ Cert.ScanSRefIdeal.sig) → Buf (Elt Ideal) ℓ) (g : Dev Cert.ScanSRefIdeal.nD → PrngReg), Pre_ScanSRefIdeal m →
    θ_run (Cert.ScanSRefIdeal.defs (F := Ideal)) (onTc (τ := Cert.ScanSRefIdeal.τ) (Cert.ScanSRefIdeal.main (F := Ideal))) ⟨m, fun _ => 0, g⟩ (fun r => (∀ c : Dev Cert.ScanSRefIdeal.nD,
      r.2.mem ((c.tc : Thread Cert.ScanSRefIdeal.nD Cert.ScanSRefIdeal.τ).loc Cert.ScanSRefIdeal.main_arg0) = m ((c.tc : Thread Cert.ScanSRefIdeal.nD Cert.ScanSRefIdeal.τ).loc Cert.ScanSRefIdeal.main_arg0)
      ∧ r.2.mem ((c.tc : Thread Cert.ScanSRefIdeal.nD Cert.ScanSRefIdeal.τ).loc Cert.ScanSRefIdeal.main_arg1) = m ((c.tc : Thread Cert.ScanSRefIdeal.nD Cert.ScanSRefIdeal.τ).loc Cert.ScanSRefIdeal.main_arg1)
      ∧ r.2.mem ((c.tc : Thread Cert.ScanSRefIdeal.nD Cert.ScanSRefIdeal.τ).loc Cert.ScanSRefIdeal.main_arg2) = m ((c.tc : Thread Cert.ScanSRefIdeal.nD Cert.ScanSRefIdeal.τ).loc Cert.ScanSRefIdeal.main_arg2)
      ∧ r.2.mem ((c.tc : Thread Cert.ScanSRefIdeal.nD Cert.ScanSRefIdeal.τ).loc Cert.ScanSRefIdeal.main_arg3) = m ((c.tc : Thread Cert.ScanSRefIdeal.nD Cert.ScanSRefIdeal.τ).loc Cert.ScanSRefIdeal.main_arg3)
      ∧ r.2.mem ((c.tc : Thread Cert.ScanSRefIdeal.nD Cert.ScanSRefIdeal.τ).loc Cert.ScanSRefIdeal.main_arg4) = m ((c.tc : Thread Cert.ScanSRefIdeal.nD Cert.ScanSRefIdeal.τ).loc Cert.ScanSRefIdeal.main_arg4)
      ∧ r.2.mem ((c.tc : Thread Cert.ScanSRefIdeal.nD Cert.ScanSRefIdeal.τ).loc Cert.ScanSRefIdeal.main_arg5) = m ((c.tc : Thread Cert.ScanSRefIdeal.nD Cert.ScanSRefIdeal.τ).loc Cert.ScanSRefIdeal.main_arg5)
      ∧ r.2.mem ((c.tc : Thread Cert.ScanSRefIdeal.nD Cert.ScanSRefIdeal.τ).loc Cert.ScanSRefIdeal.main_arg6) = m ((c.tc : Thread Cert.ScanSRefIdeal.nD Cert.ScanSRefIdeal.τ).loc Cert.ScanSRefIdeal.main_arg6)
      ∧ r.2.mem ((c.tc : Thread Cert.ScanSRefIdeal.nD Cert.ScanSRefIdeal.τ).loc Cert.ScanSRefIdeal.main_arg7) = m ((c.tc : Thread Cert.ScanSRefIdeal.nD Cert.ScanSRefIdeal.τ).loc Cert.ScanSRefIdeal.main_arg7)
      ∧ r.2.mem ((c.tc : Thread Cert.ScanSRefIdeal.nD Cert.ScanSRefIdeal.τ).loc Cert.ScanSRefIdeal.main_arg8) = m ((c.tc : Thread Cert.ScanSRefIdeal.nD Cert.ScanSRefIdeal.τ).loc Cert.ScanSRefIdeal.main_arg8)
      ∧ r.2.mem ((c.tc : Thread Cert.ScanSRefIdeal.nD Cert.ScanSRefIdeal.τ).loc Cert.ScanSRefIdeal.main_arg9) = m ((c.tc : Thread Cert.ScanSRefIdeal.nD Cert.ScanSRefIdeal.τ).loc Cert.ScanSRefIdeal.main_arg9)
      ∧ r.2.mem ((c.tc : Thread Cert.ScanSRefIdeal.nD Cert.ScanSRefIdeal.τ).loc Cert.ScanSRefIdeal.main_arg10) = m ((c.tc : Thread Cert.ScanSRefIdeal.nD Cert.ScanSRefIdeal.τ).loc Cert.ScanSRefIdeal.main_arg10))
      ∧ r.2.sem = fun _ => 0)

def quiescent_SelectS [hSelectS : Cert.SelectS.Facts] : Prop :=
  ∀ (m : (ℓ : Loc Cert.SelectS.nD Cert.SelectS.τ Cert.SelectS.sig) → Buf (Elt Bits) ℓ) (g : Dev Cert.SelectS.nD → PrngReg), Pre_SelectS m →
    θ_run (Cert.SelectS.defs (F := Bits)) (onTc (τ := Cert.SelectS.τ) (Cert.SelectS.main (F := Bits))) ⟨m, fun _ => 0, g⟩ (fun r => (∀ c : Dev Cert.SelectS.nD,
      r.2.mem ((c.tc : Thread Cert.SelectS.nD Cert.SelectS.τ).loc Cert.SelectS.main_arg0) = m ((c.tc : Thread Cert.SelectS.nD Cert.SelectS.τ).loc Cert.SelectS.main_arg0)
      ∧ r.2.mem ((c.tc : Thread Cert.SelectS.nD Cert.SelectS.τ).loc Cert.SelectS.main_arg1) = m ((c.tc : Thread Cert.SelectS.nD Cert.SelectS.τ).loc Cert.SelectS.main_arg1))
      ∧ r.2.sem = fun _ => 0)

def quiescent_SelectSIdeal [hSelectSIdeal : Cert.SelectSIdeal.Facts] : Prop :=
  ∀ (m : (ℓ : Loc Cert.SelectSIdeal.nD Cert.SelectSIdeal.τ Cert.SelectSIdeal.sig) → Buf (Elt Ideal) ℓ) (g : Dev Cert.SelectSIdeal.nD → PrngReg), Pre_SelectSIdeal m →
    θ_run (Cert.SelectSIdeal.defs (F := Ideal)) (onTc (τ := Cert.SelectSIdeal.τ) (Cert.SelectSIdeal.main (F := Ideal))) ⟨m, fun _ => 0, g⟩ (fun r => (∀ c : Dev Cert.SelectSIdeal.nD,
      r.2.mem ((c.tc : Thread Cert.SelectSIdeal.nD Cert.SelectSIdeal.τ).loc Cert.SelectSIdeal.main_arg0) = m ((c.tc : Thread Cert.SelectSIdeal.nD Cert.SelectSIdeal.τ).loc Cert.SelectSIdeal.main_arg0)
      ∧ r.2.mem ((c.tc : Thread Cert.SelectSIdeal.nD Cert.SelectSIdeal.τ).loc Cert.SelectSIdeal.main_arg1) = m ((c.tc : Thread Cert.SelectSIdeal.nD Cert.SelectSIdeal.τ).loc Cert.SelectSIdeal.main_arg1))
      ∧ r.2.sem = fun _ => 0)

def quiescent_SelectSRefIdeal [hSelectSRefIdeal : Cert.SelectSRefIdeal.Facts] : Prop :=
  ∀ (m : (ℓ : Loc Cert.SelectSRefIdeal.nD Cert.SelectSRefIdeal.τ Cert.SelectSRefIdeal.sig) → Buf (Elt Ideal) ℓ) (g : Dev Cert.SelectSRefIdeal.nD → PrngReg), Pre_SelectSRefIdeal m →
    θ_run (Cert.SelectSRefIdeal.defs (F := Ideal)) (onTc (τ := Cert.SelectSRefIdeal.τ) (Cert.SelectSRefIdeal.main (F := Ideal))) ⟨m, fun _ => 0, g⟩ (fun r => (∀ c : Dev Cert.SelectSRefIdeal.nD,
      r.2.mem ((c.tc : Thread Cert.SelectSRefIdeal.nD Cert.SelectSRefIdeal.τ).loc Cert.SelectSRefIdeal.main_arg0) = m ((c.tc : Thread Cert.SelectSRefIdeal.nD Cert.SelectSRefIdeal.τ).loc Cert.SelectSRefIdeal.main_arg0)
      ∧ r.2.mem ((c.tc : Thread Cert.SelectSRefIdeal.nD Cert.SelectSRefIdeal.τ).loc Cert.SelectSRefIdeal.main_arg1) = m ((c.tc : Thread Cert.SelectSRefIdeal.nD Cert.SelectSRefIdeal.τ).loc Cert.SelectSRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Kernel_KernelIdeal : Prop :=
  IdealRules.named_const.Statement Cert.KernelIdeal.κ "mask" .f32 0xF149F2CA#32 ⊥

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)) (v5 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_v6) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_v4) = v1 c
          ∧ r.2.mem ((c.tc : Thread Cert.InProjRefIdeal.nD Cert.InProjRefIdeal.τ).loc Cert.InProjRefIdeal.main_v5) = v2 c
          ∧ r.2.mem ((c.tc : Thread Cert.InProjRefIdeal.nD Cert.InProjRefIdeal.τ).loc Cert.InProjRefIdeal.main_v6) = v3 c
          ∧ r.2.mem ((c.tc : Thread Cert.InProjRefIdeal.nD Cert.InProjRefIdeal.τ).loc Cert.InProjRefIdeal.main_v7) = v4 c
          ∧ r.2.mem ((c.tc : Thread Cert.InProjRefIdeal.nD Cert.InProjRefIdeal.τ).loc Cert.InProjRefIdeal.main_v10) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)) →
    ∃ (v0 : (c : Dev Cert.InProjSIdeal.nD) → Buf (Elt Ideal) ((c.tc : Thread Cert.InProjSIdeal.nD Cert.InProjSIdeal.τ).loc Cert.InProjSIdeal.main_v7_0)) (v1 : (c : Dev Cert.InProjSIdeal.nD) → Buf (Elt Ideal) ((c.tc : Thread Cert.InProjSIdeal.nD Cert.InProjSIdeal.τ).loc Cert.InProjSIdeal.main_v7_1)) (v2 : (c : Dev Cert.InProjSIdeal.nD) → Buf (Elt Ideal) ((c.tc : Thread Cert.InProjSIdeal.nD Cert.InProjSIdeal.τ).loc Cert.InProjSIdeal.main_v7_2)) (v3 : (c : Dev Cert.InProjSIdeal.nD) → Buf (Elt Ideal) ((c.tc : Thread Cert.InProjSIdeal.nD Cert.InProjSIdeal.τ).loc Cert.InProjSIdeal.main_v7_3)) (v4 : (c : Dev Cert.InProjSIdeal.nD) → Buf (Elt Ideal) ((c.tc : Thread Cert.InProjSIdeal.nD Cert.InProjSIdeal.τ).loc Cert.InProjSIdeal.main_v7_4)) (v5 : (c : Dev Cert.InProjSIdeal.nD) → Buf (Elt Ideal) ((c.tc : Thread Cert.InProjSIdeal.nD Cert.InProjSIdeal.τ).loc Cert.InProjSIdeal.main_v6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v7_0) = v0 c
          ∧ r.2.mem ((c.tc : Thread Cert.InProjSIdeal.nD Cert.InProjSIdeal.τ).loc Cert.InProjSIdeal.main_v7_1) = v1 c
          ∧ r.2.mem ((c.tc : Thread Cert.InProjSIdeal.nD Cert.InProjSIdeal.τ).loc Cert.InProjSIdeal.main_v7_2) = v2 c
          ∧ r.2.mem ((c.tc : Thread Cert.InProjSIdeal.nD Cert.InProjSIdeal.τ).loc Cert.InProjSIdeal.main_v7_3) = v3 c
          ∧ r.2.mem ((c.tc : Thread Cert.InProjSIdeal.nD Cert.InProjSIdeal.τ).loc Cert.InProjSIdeal.main_v7_4) = v4 c
          ∧ r.2.mem ((c.tc : Thread Cert.InProjSIdeal.nD Cert.InProjSIdeal.τ).loc Cert.InProjSIdeal.main_v6) = v5 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v3) = v0 c
          ∧ r.2.mem ((c.tc : Thread Cert.InProjSRefIdeal.nD Cert.InProjSRefIdeal.τ).loc Cert.InProjSRefIdeal.main_v4) = v1 c
          ∧ r.2.mem ((c.tc : Thread Cert.InProjSRefIdeal.nD Cert.InProjSRefIdeal.τ).loc Cert.InProjSRefIdeal.main_v5) = v2 c
          ∧ r.2.mem ((c.tc : Thread Cert.InProjSRefIdeal.nD Cert.InProjSRefIdeal.τ).loc Cert.InProjSRefIdeal.main_v6) = v3 c
          ∧ r.2.mem ((c.tc : Thread Cert.InProjSRefIdeal.nD Cert.InProjSRefIdeal.τ).loc Cert.InProjSRefIdeal.main_v7) = v4 c
          ∧ r.2.mem ((c.tc : Thread Cert.InProjSRefIdeal.nD Cert.InProjSRefIdeal.τ).loc Cert.InProjSRefIdeal.main_v10) = v5 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)) →
    ∃ (v0 : (c : Dev Cert.MergeSIdeal.nD) → Buf (Elt Ideal) ((c.tc : Thread Cert.MergeSIdeal.nD Cert.MergeSIdeal.τ).loc Cert.MergeSIdeal.main_v13)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v13) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v52) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v12)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v12) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v36) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v35_0)) (v1 : (c : Dev Cert.PrepIdeal.nD) → Buf (Elt Ideal) ((c.tc : Thread Cert.PrepIdeal.nD Cert.PrepIdeal.τ).loc Cert.PrepIdeal.main_v35_1)) (v2 : (c : Dev Cert.PrepIdeal.nD) → Buf (Elt Ideal) ((c.tc : Thread Cert.PrepIdeal.nD Cert.PrepIdeal.τ).loc Cert.PrepIdeal.main_v35_2)) (v3 : (c : Dev Cert.PrepIdeal.nD) → Buf (Elt Ideal) ((c.tc : Thread Cert.PrepIdeal.nD Cert.PrepIdeal.τ).loc Cert.PrepIdeal.main_v35_3)) (v4 : (c : Dev Cert.PrepIdeal.nD) → Buf (Elt Ideal) ((c.tc : Thread Cert.PrepIdeal.nD Cert.PrepIdeal.τ).loc Cert.PrepIdeal.main_v35_4)) (v5 : (c : Dev Cert.PrepIdeal.nD) → Buf (Elt Ideal) ((c.tc : Thread Cert.PrepIdeal.nD Cert.PrepIdeal.τ).loc Cert.PrepIdeal.main_v35_5)) (v6 : (c : Dev Cert.PrepIdeal.nD) → Buf (Elt Ideal) ((c.tc : Thread Cert.PrepIdeal.nD Cert.PrepIdeal.τ).loc Cert.PrepIdeal.main_v35_6)) (v7 : (c : Dev Cert.PrepIdeal.nD) → Buf (Elt Ideal) ((c.tc : Thread Cert.PrepIdeal.nD Cert.PrepIdeal.τ).loc Cert.PrepIdeal.main_v35_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v35_0) = v0 c
          ∧ r.2.mem ((c.tc : Thread Cert.PrepIdeal.nD Cert.PrepIdeal.τ).loc Cert.PrepIdeal.main_v35_1) = v1 c
          ∧ r.2.mem ((c.tc : Thread Cert.PrepIdeal.nD Cert.PrepIdeal.τ).loc Cert.PrepIdeal.main_v35_2) = v2 c
          ∧ r.2.mem ((c.tc : Thread Cert.PrepIdeal.nD Cert.PrepIdeal.τ).loc Cert.PrepIdeal.main_v35_3) = v3 c
          ∧ r.2.mem ((c.tc : Thread Cert.PrepIdeal.nD Cert.PrepIdeal.τ).loc Cert.PrepIdeal.main_v35_4) = v4 c
          ∧ r.2.mem ((c.tc : Thread Cert.PrepIdeal.nD Cert.PrepIdeal.τ).loc Cert.PrepIdeal.main_v35_5) = v5 c
          ∧ r.2.mem ((c.tc : Thread Cert.PrepIdeal.nD Cert.PrepIdeal.τ).loc Cert.PrepIdeal.main_v35_6) = v6 c
          ∧ r.2.mem ((c.tc : Thread Cert.PrepIdeal.nD Cert.PrepIdeal.τ).loc Cert.PrepIdeal.main_v35_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v10) = v0 c
          ∧ r.2.mem ((c.tc : Thread Cert.PrepRefIdeal.nD Cert.PrepRefIdeal.τ).loc Cert.PrepRefIdeal.main_v84) = v1 c
          ∧ r.2.mem ((c.tc : Thread Cert.PrepRefIdeal.nD Cert.PrepRefIdeal.τ).loc Cert.PrepRefIdeal.main_v69) = v2 c
          ∧ r.2.mem ((c.tc : Thread Cert.PrepRefIdeal.nD Cert.PrepRefIdeal.τ).loc Cert.PrepRefIdeal.main_v12) = v3 c
          ∧ r.2.mem ((c.tc : Thread Cert.PrepRefIdeal.nD Cert.PrepRefIdeal.τ).loc Cert.PrepRefIdeal.main_v82) = v4 c
          ∧ r.2.mem ((c.tc : Thread Cert.PrepRefIdeal.nD Cert.PrepRefIdeal.τ).loc Cert.PrepRefIdeal.main_v85) = v5 c
          ∧ r.2.mem ((c.tc : Thread Cert.PrepRefIdeal.nD Cert.PrepRefIdeal.τ).loc Cert.PrepRefIdeal.main_v47) = v6 c
          ∧ r.2.mem ((c.tc : Thread Cert.PrepRefIdeal.nD Cert.PrepRefIdeal.τ).loc Cert.PrepRefIdeal.main_v86) = v7 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def preserves_PrepS_PrepSIdeal : Prop :=
  True

def algebraic_PrepSIdeal_PrepSRefIdeal_pre_prep_sample_finite [hPrepSIdeal : Cert.PrepSIdeal.Facts] [hPrepSRefIdeal : Cert.PrepSRefIdeal.Facts] [hPre_prep_sample_finite : Cert.Pre_prep_sample_finite.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal_prep_sample_finite m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)
      ∧ m' ((c.tc : Thread Cert.PrepSRefIdeal.nD Cert.PrepSRefIdeal.τ).loc Cert.PrepSRefIdeal.main_arg4) = m ((c.tc : Thread Cert.PrepSIdeal.nD Cert.PrepSIdeal.τ).loc Cert.PrepSIdeal.main_arg4)
      ∧ m' ((c.tc : Thread Cert.PrepSRefIdeal.nD Cert.PrepSRefIdeal.τ).loc Cert.PrepSRefIdeal.main_arg5) = m ((c.tc : Thread Cert.PrepSIdeal.nD Cert.PrepSIdeal.τ).loc Cert.PrepSIdeal.main_arg5)
      ∧ m' ((c.tc : Thread Cert.PrepSRefIdeal.nD Cert.PrepSRefIdeal.τ).loc Cert.PrepSRefIdeal.main_arg6) = m ((c.tc : Thread Cert.PrepSIdeal.nD Cert.PrepSIdeal.τ).loc Cert.PrepSIdeal.main_arg6)
      ∧ m' ((c.tc : Thread Cert.PrepSRefIdeal.nD Cert.PrepSRefIdeal.τ).loc Cert.PrepSRefIdeal.main_arg7) = m ((c.tc : Thread Cert.PrepSIdeal.nD Cert.PrepSIdeal.τ).loc Cert.PrepSIdeal.main_arg7)
      ∧ m' ((c.tc : Thread Cert.PrepSRefIdeal.nD Cert.PrepSRefIdeal.τ).loc Cert.PrepSRefIdeal.main_arg8) = m ((c.tc : Thread Cert.PrepSIdeal.nD Cert.PrepSIdeal.τ).loc Cert.PrepSIdeal.main_arg8)
      ∧ m' ((c.tc : Thread Cert.PrepSRefIdeal.nD Cert.PrepSRefIdeal.τ).loc Cert.PrepSRefIdeal.main_arg9) = m ((c.tc : Thread Cert.PrepSIdeal.nD Cert.PrepSIdeal.τ).loc Cert.PrepSIdeal.main_arg9)
      ∧ m' ((c.tc : Thread Cert.PrepSRefIdeal.nD Cert.PrepSRefIdeal.τ).loc Cert.PrepSRefIdeal.main_arg10) = m ((c.tc : Thread Cert.PrepSIdeal.nD Cert.PrepSIdeal.τ).loc Cert.PrepSIdeal.main_arg10)) →
    ∃ (v0 : (c : Dev Cert.PrepSIdeal.nD) → Buf (Elt Ideal) ((c.tc : Thread Cert.PrepSIdeal.nD Cert.PrepSIdeal.τ).loc Cert.PrepSIdeal.main_v35_0)) (v1 : (c : Dev Cert.PrepSIdeal.nD) → Buf (Elt Ideal) ((c.tc : Thread Cert.PrepSIdeal.nD Cert.PrepSIdeal.τ).loc Cert.PrepSIdeal.main_v35_1)) (v2 : (c : Dev Cert.PrepSIdeal.nD) → Buf (Elt Ideal) ((c.tc : Thread Cert.PrepSIdeal.nD Cert.PrepSIdeal.τ).loc Cert.PrepSIdeal.main_v35_2)) (v3 : (c : Dev Cert.PrepSIdeal.nD) → Buf (Elt Ideal) ((c.tc : Thread Cert.PrepSIdeal.nD Cert.PrepSIdeal.τ).loc Cert.PrepSIdeal.main_v35_3)) (v4 : (c : Dev Cert.PrepSIdeal.nD) → Buf (Elt Ideal) ((c.tc : Thread Cert.PrepSIdeal.nD Cert.PrepSIdeal.τ).loc Cert.PrepSIdeal.main_v35_4)) (v5 : (c : Dev Cert.PrepSIdeal.nD) → Buf (Elt Ideal) ((c.tc : Thread Cert.PrepSIdeal.nD Cert.PrepSIdeal.τ).loc Cert.PrepSIdeal.main_v35_5)) (v6 : (c : Dev Cert.PrepSIdeal.nD) → Buf (Elt Ideal) ((c.tc : Thread Cert.PrepSIdeal.nD Cert.PrepSIdeal.τ).loc Cert.PrepSIdeal.main_v35_6)) (v7 : (c : Dev Cert.PrepSIdeal.nD) → Buf (Elt Ideal) ((c.tc : Thread Cert.PrepSIdeal.nD Cert.PrepSIdeal.τ).loc Cert.PrepSIdeal.main_v35_7)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v35_0) = v0 c
          ∧ r.2.mem ((c.tc : Thread Cert.PrepSIdeal.nD Cert.PrepSIdeal.τ).loc Cert.PrepSIdeal.main_v35_1) = v1 c
          ∧ r.2.mem ((c.tc : Thread Cert.PrepSIdeal.nD Cert.PrepSIdeal.τ).loc Cert.PrepSIdeal.main_v35_2) = v2 c
          ∧ r.2.mem ((c.tc : Thread Cert.PrepSIdeal.nD Cert.PrepSIdeal.τ).loc Cert.PrepSIdeal.main_v35_3) = v3 c
          ∧ r.2.mem ((c.tc : Thread Cert.PrepSIdeal.nD Cert.PrepSIdeal.τ).loc Cert.PrepSIdeal.main_v35_4) = v4 c
          ∧ r.2.mem ((c.tc : Thread Cert.PrepSIdeal.nD Cert.PrepSIdeal.τ).loc Cert.PrepSIdeal.main_v35_5) = v5 c
          ∧ r.2.mem ((c.tc : Thread Cert.PrepSIdeal.nD Cert.PrepSIdeal.τ).loc Cert.PrepSIdeal.main_v35_6) = v6 c
          ∧ r.2.mem ((c.tc : Thread Cert.PrepSIdeal.nD Cert.PrepSIdeal.τ).loc Cert.PrepSIdeal.main_v35_7) = v7 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
          ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
          ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
          ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
          ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
          ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
          ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9)
          ∧ r.2.mem ((c.tc : Thread Cert.PrepSIdeal.nD Cert.PrepSIdeal.τ).loc Cert.PrepSIdeal.main_arg10) = m ((c.tc : Thread Cert.PrepSIdeal.nD Cert.PrepSIdeal.τ).loc Cert.PrepSIdeal.main_arg10))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v13) = v0 c
          ∧ r.2.mem ((c.tc : Thread Cert.PrepSRefIdeal.nD Cert.PrepSRefIdeal.τ).loc Cert.PrepSRefIdeal.main_v87) = v1 c
          ∧ r.2.mem ((c.tc : Thread Cert.PrepSRefIdeal.nD Cert.PrepSRefIdeal.τ).loc Cert.PrepSRefIdeal.main_v72) = v2 c
          ∧ r.2.mem ((c.tc : Thread Cert.PrepSRefIdeal.nD Cert.PrepSRefIdeal.τ).loc Cert.PrepSRefIdeal.main_v15) = v3 c
          ∧ r.2.mem ((c.tc : Thread Cert.PrepSRefIdeal.nD Cert.PrepSRefIdeal.τ).loc Cert.PrepSRefIdeal.main_v85) = v4 c
          ∧ r.2.mem ((c.tc : Thread Cert.PrepSRefIdeal.nD Cert.PrepSRefIdeal.τ).loc Cert.PrepSRefIdeal.main_v88) = v5 c
          ∧ r.2.mem ((c.tc : Thread Cert.PrepSRefIdeal.nD Cert.PrepSRefIdeal.τ).loc Cert.PrepSRefIdeal.main_v50) = v6 c
          ∧ r.2.mem ((c.tc : Thread Cert.PrepSRefIdeal.nD Cert.PrepSRefIdeal.τ).loc Cert.PrepSRefIdeal.main_v89) = v7 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3)
          ∧ r.2.mem ((c.tc : Thread Cert.PrepSRefIdeal.nD Cert.PrepSRefIdeal.τ).loc Cert.PrepSRefIdeal.main_arg4) = m' ((c.tc : Thread Cert.PrepSRefIdeal.nD Cert.PrepSRefIdeal.τ).loc Cert.PrepSRefIdeal.main_arg4)
          ∧ r.2.mem ((c.tc : Thread Cert.PrepSRefIdeal.nD Cert.PrepSRefIdeal.τ).loc Cert.PrepSRefIdeal.main_arg5) = m' ((c.tc : Thread Cert.PrepSRefIdeal.nD Cert.PrepSRefIdeal.τ).loc Cert.PrepSRefIdeal.main_arg5)
          ∧ r.2.mem ((c.tc : Thread Cert.PrepSRefIdeal.nD Cert.PrepSRefIdeal.τ).loc Cert.PrepSRefIdeal.main_arg6) = m' ((c.tc : Thread Cert.PrepSRefIdeal.nD Cert.PrepSRefIdeal.τ).loc Cert.PrepSRefIdeal.main_arg6)
          ∧ r.2.mem ((c.tc : Thread Cert.PrepSRefIdeal.nD Cert.PrepSRefIdeal.τ).loc Cert.PrepSRefIdeal.main_arg7) = m' ((c.tc : Thread Cert.PrepSRefIdeal.nD Cert.PrepSRefIdeal.τ).loc Cert.PrepSRefIdeal.main_arg7)
          ∧ r.2.mem ((c.tc : Thread Cert.PrepSRefIdeal.nD Cert.PrepSRefIdeal.τ).loc Cert.PrepSRefIdeal.main_arg8) = m' ((c.tc : Thread Cert.PrepSRefIdeal.nD Cert.PrepSRefIdeal.τ).loc Cert.PrepSRefIdeal.main_arg8)
          ∧ r.2.mem ((c.tc : Thread Cert.PrepSRefIdeal.nD Cert.PrepSRefIdeal.τ).loc Cert.PrepSRefIdeal.main_arg9) = m' ((c.tc : Thread Cert.PrepSRefIdeal.nD Cert.PrepSRefIdeal.τ).loc Cert.PrepSRefIdeal.main_arg9)
          ∧ r.2.mem ((c.tc : Thread Cert.PrepSRefIdeal.nD Cert.PrepSRefIdeal.τ).loc Cert.PrepSRefIdeal.main_arg10) = m' ((c.tc : Thread Cert.PrepSRefIdeal.nD Cert.PrepSRefIdeal.τ).loc Cert.PrepSRefIdeal.main_arg10))

def preserves_ProjShift_ProjShiftIdeal : Prop :=
  True

def algebraic_ProjShiftIdeal_ProjShiftRefIdeal [hProjShiftIdeal : Cert.ProjShiftIdeal.Facts] [hProjShiftRefIdeal : Cert.ProjShiftRefIdeal.Facts] : Prop :=
  ∀ (m : (ℓ : Loc Cert.ProjShiftIdeal.nD Cert.ProjShiftIdeal.τ Cert.ProjShiftIdeal.sig) → Buf (Elt Ideal) ℓ) (g : Dev Cert.ProjShiftIdeal.nD → PrngReg)
    (m' : (ℓ : Loc Cert.ProjShiftRefIdeal.nD Cert.ProjShiftRefIdeal.τ Cert.ProjShiftRefIdeal.sig) → Buf (Elt Ideal) ℓ) (g' : Dev Cert.ProjShiftRefIdeal.nD → PrngReg), Pre_ProjShiftIdeal m →
    (∀ c : Dev Cert.ProjShiftIdeal.nD,
      m' ((c.tc : Thread Cert.ProjShiftRefIdeal.nD Cert.ProjShiftRefIdeal.τ).loc Cert.ProjShiftRefIdeal.main_arg0) = m ((c.tc : Thread Cert.ProjShiftIdeal.nD Cert.ProjShiftIdeal.τ).loc Cert.ProjShiftIdeal.main_arg0)
      ∧ m' ((c.tc : Thread Cert.ProjShiftRefIdeal.nD Cert.ProjShiftRefIdeal.τ).loc Cert.ProjShiftRefIdeal.main_arg1) = m ((c.tc : Thread Cert.ProjShiftIdeal.nD Cert.ProjShiftIdeal.τ).loc Cert.ProjShiftIdeal.main_arg1)) →
    ∃ (v0 : (c : Dev Cert.ProjShiftIdeal.nD) → Buf (Elt Ideal) ((c.tc : Thread Cert.ProjShiftIdeal.nD Cert.ProjShiftIdeal.τ).loc Cert.ProjShiftIdeal.main_v3)),
      θ_run (Cert.ProjShiftIdeal.defs (F := Ideal)) (onTc (τ := Cert.ProjShiftIdeal.τ) (Cert.ProjShiftIdeal.main (F := Ideal))) ⟨m, fun _ => 0, g⟩ (fun r => ∀ c : Dev Cert.ProjShiftIdeal.nD,
          r.2.mem ((c.tc : Thread Cert.ProjShiftIdeal.nD Cert.ProjShiftIdeal.τ).loc Cert.ProjShiftIdeal.main_v3) = v0 c
          ∧ r.2.mem ((c.tc : Thread Cert.ProjShiftIdeal.nD Cert.ProjShiftIdeal.τ).loc Cert.ProjShiftIdeal.main_arg0) = m ((c.tc : Thread Cert.ProjShiftIdeal.nD Cert.ProjShiftIdeal.τ).loc Cert.ProjShiftIdeal.main_arg0)
          ∧ r.2.mem ((c.tc : Thread Cert.ProjShiftIdeal.nD Cert.ProjShiftIdeal.τ).loc Cert.ProjShiftIdeal.main_arg1) = m ((c.tc : Thread Cert.ProjShiftIdeal.nD Cert.ProjShiftIdeal.τ).loc Cert.ProjShiftIdeal.main_arg1))
      ∧ θ_run (Cert.ProjShiftRefIdeal.defs (F := Ideal)) (onTc (τ := Cert.ProjShiftRefIdeal.τ) (Cert.ProjShiftRefIdeal.main (F := Ideal))) ⟨m', fun _ => 0, g'⟩ (fun r => ∀ c : Dev Cert.ProjShiftRefIdeal.nD,
          r.2.mem ((c.tc : Thread Cert.ProjShiftRefIdeal.nD Cert.ProjShiftRefIdeal.τ).loc Cert.ProjShiftRefIdeal.main_v3) = v0 c
          ∧ r.2.mem ((c.tc : Thread Cert.ProjShiftRefIdeal.nD Cert.ProjShiftRefIdeal.τ).loc Cert.ProjShiftRefIdeal.main_arg0) = m' ((c.tc : Thread Cert.ProjShiftRefIdeal.nD Cert.ProjShiftRefIdeal.τ).loc Cert.ProjShiftRefIdeal.main_arg0)
          ∧ r.2.mem ((c.tc : Thread Cert.ProjShiftRefIdeal.nD Cert.ProjShiftRefIdeal.τ).loc Cert.ProjShiftRefIdeal.main_arg1) = m' ((c.tc : Thread Cert.ProjShiftRefIdeal.nD Cert.ProjShiftRefIdeal.τ).loc Cert.ProjShiftRefIdeal.main_arg1))

def preserves_ScanS_ScanSIdeal : Prop :=
  True

def preserves_SelectS_SelectSIdeal : Prop :=
  True

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hMergeS : Cert.MergeS.Facts) (hMergeSIdeal : Cert.MergeSIdeal.Facts) (hMergeSRefIdeal : Cert.MergeSRefIdeal.Facts) (hFfnS : Cert.FfnS.Facts) (hFfnSIdeal : Cert.FfnSIdeal.Facts) (hFfnSRefIdeal : Cert.FfnSRefIdeal.Facts) (hPrep : Cert.Prep.Facts) (hPrepIdeal : Cert.PrepIdeal.Facts) (hPrepRefIdeal : Cert.PrepRefIdeal.Facts) (hPrepS : Cert.PrepS.Facts) (hPrepSIdeal : Cert.PrepSIdeal.Facts) (hPrepSRefIdeal : Cert.PrepSRefIdeal.Facts) (hProjShift : Cert.ProjShift.Facts) (hProjShiftIdeal : Cert.ProjShiftIdeal.Facts) (hProjShiftRefIdeal : Cert.ProjShiftRefIdeal.Facts) (hScanS : Cert.ScanS.Facts) (hScanSIdeal : Cert.ScanSIdeal.Facts) (hScanSRefIdeal : Cert.ScanSRefIdeal.Facts) (hSelectS : Cert.SelectS.Facts) (hSelectSIdeal : Cert.SelectSIdeal.Facts) (hSelectSRefIdeal : Cert.SelectSRefIdeal.Facts) (hPre_prep_finite : Cert.Pre_prep_finite.Facts) (hPre_prep_sample_finite : Cert.Pre_prep_sample_finite.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_PrepS (hPrepS := hPrepS)
    ∧ quiescent_PrepSIdeal (hPrepSIdeal := hPrepSIdeal)
    ∧ quiescent_PrepSIdeal_pre_prep_sample_finite (hPrepSIdeal := hPrepSIdeal) (hPre_prep_sample_finite := hPre_prep_sample_finite)
    ∧ quiescent_PrepSRefIdeal (hPrepSRefIdeal := hPrepSRefIdeal)
    ∧ quiescent_PrepSRefIdeal_pre_prep_sample_finite (hPrepSRefIdeal := hPrepSRefIdeal) (hPre_prep_sample_finite := hPre_prep_sample_finite)
    ∧ quiescent_ProjShift (hProjShift := hProjShift)
    ∧ quiescent_ProjShiftIdeal (hProjShiftIdeal := hProjShiftIdeal)
    ∧ quiescent_ProjShiftRefIdeal (hProjShiftRefIdeal := hProjShiftRefIdeal)
    ∧ quiescent_ScanS (hScanS := hScanS)
    ∧ quiescent_ScanSIdeal (hScanSIdeal := hScanSIdeal)
    ∧ quiescent_ScanSRefIdeal (hScanSRefIdeal := hScanSRefIdeal)
    ∧ quiescent_SelectS (hSelectS := hSelectS)
    ∧ quiescent_SelectSIdeal (hSelectSIdeal := hSelectSIdeal)
    ∧ quiescent_SelectSRefIdeal (hSelectSRefIdeal := hSelectSRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Kernel_KernelIdeal
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_MergeS_MergeSIdeal
    ∧ algebraic_MergeSIdeal_MergeSRefIdeal (hMergeSIdeal := hMergeSIdeal) (hMergeSRefIdeal := hMergeSRefIdeal)
    ∧ preserves_FfnS_FfnSIdeal
    ∧ algebraic_FfnSIdeal_FfnSRefIdeal (hFfnSIdeal := hFfnSIdeal) (hFfnSRefIdeal := hFfnSRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_PrepS_PrepSIdeal
    ∧ algebraic_PrepSIdeal_PrepSRefIdeal_pre_prep_sample_finite (hPrepSIdeal := hPrepSIdeal) (hPrepSRefIdeal := hPrepSRefIdeal) (hPre_prep_sample_finite := hPre_prep_sample_finite)
    ∧ preserves_ProjShift_ProjShiftIdeal
    ∧ algebraic_ProjShiftIdeal_ProjShiftRefIdeal (hProjShiftIdeal := hProjShiftIdeal) (hProjShiftRefIdeal := hProjShiftRefIdeal)
    ∧ preserves_ScanS_ScanSIdeal
    ∧ preserves_SelectS_SelectSIdeal
-- ==== Pre_prep_finite.lean ====
abbrev S8192x3584 : Shape := ⟨2, ![8192, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S_ : Shape := ⟨0, ![]⟩

class Facts : Prop where
  bcast_S_S8192x3584 : S_.BroadcastsInDim S8192x3584 (![] : Fin 0 → Fin S8192x3584.rank)
  reducesTo_S8192x3584_S_d0_1 : S8192x3584.ReducesTo [0, 1] S_
  h_S_ : 0 < S_.numel
  bcast_S_S1x3520 : S_.BroadcastsInDim S1x3520 (![] : Fin 0 → Fin S1x3520.rank)
  reducesTo_S1x3520_S_d0_1 : S1x3520.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x3584 .f32) (main_arg1 : FVec F S1x3520 .f32) (main_arg2 : FVec F S1x1024 .f32) (main_arg3 : FVec F S1x96x1024 .f32) (main_arg4 : FVec F S1x1024 .f32) (main_arg5 : FVec F S1x96x1024 .f32) (main_arg6 : FVec F S1x256x1024 .f32) (main_arg7 : FVec F S1x1024 .f32) (main_arg8 : FVec F S1x1024 .f32) (main_arg9 : FVec F S1x16x64 .f32) : IVec S_ 1 :=
  let main_v0 : FVec F S8192x3584 .f32 := Host.absf main_arg0
  let main_cst : FVec F S_ .f32 := constant S_ .f32 0x7F800000#32
  let main_v1 : FVec F S8192x3584 .f32 := broadcastInDim S8192x3584 ![] bcast_S_S8192x3584 main_cst
  let main_v2 : IVec S8192x3584 1 := cmpf .olt main_v0 main_v1
  let main_c : IVec S_ 1 := constantI S_ 1 1#1
  let main_v3 : IVec S_ 1 := (fun x v => Host.reduce IntOp.andi x v reducesTo_S8192x3584_S_d0_1 h_S_) main_v2 main_c
  let main_v4 : FVec F S1x3520 .f32 := Host.absf main_arg1
  let main_cst_0 : FVec F S_ .f32 := constant S_ .f32 0x7F800000#32
  let main_v5 : FVec F S1x3520 .f32 := broadcastInDim S1x3520 ![] bcast_S_S1x3520 main_cst_0
  let main_v6 : IVec S1x3520 1 := cmpf .olt main_v4 main_v5
  let main_c_1 : IVec S_ 1 := constantI S_ 1 1#1
  let main_v7 : IVec S_ 1 := (fun x v => Host.reduce IntOp.andi x v reducesTo_S1x3520_S_d0_1 h_S_) main_v6 main_c_1
  let main_v8 : IVec S_ 1 := andi main_v3 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_prep_sample_finite.lean ====
abbrev S256x3584 : Shape := ⟨2, ![256, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S32x3584 : Shape := ⟨2, ![32, 3584]⟩
abbrev S_ : Shape := ⟨0, ![]⟩

class Facts : Prop where
  bcast_S_S256x3584 : S_.BroadcastsInDim S256x3584 (![] : Fin 0 → Fin S256x3584.rank)
  reducesTo_S256x3584_S_d0_1 : S256x3584.ReducesTo [0, 1] S_
  h_S_ : 0 < S_.numel
  bcast_S_S1x3520 : S_.BroadcastsInDim S1x3520 (![] : Fin 0 → Fin S1x3520.rank)
  reducesTo_S1x3520_S_d0_1 : S1x3520.ReducesTo [0, 1] S_
  bcast_S_S1x1024 : S_.BroadcastsInDim S1x1024 (![] : Fin 0 → Fin S1x1024.rank)
  reducesTo_S1x1024_S_d0_1 : S1x1024.ReducesTo [0, 1] S_
  bcast_S_S32x3584 : S_.BroadcastsInDim S32x3584 (![] : Fin 0 → Fin S32x3584.rank)
  reducesTo_S32x3584_S_d0_1 : S32x3584.ReducesTo [0, 1] S_

variable [Facts]

def fn_part1 {F : FTy → Type} [FloatOps F] (main_v13 : IVec S_ 1) (main_v16 : IVec S32x3584 1) : IVec S_ 1 :=
  let main_c_5 : IVec S_ 1 := constantI S_ 1 1#1
  let main_v17 : IVec S_ 1 := (fun x v => Host.reduce IntOp.andi x v reducesTo_S32x3584_S_d0_1 h_S_) main_v16 main_c_5
  let main_v18 : IVec S_ 1 := andi main_v13 main_v17
  main_v18

def fn {F : FTy → Type} [FloatOps F] (main_arg0 : FVec F S256x3584 .f32) (main_arg1 : FVec F S1x3520 .f32) (main_arg2 : FVec F S1x1024 .f32) (main_arg3 : FVec F S1x96x1024 .f32) (main_arg4 : FVec F S1x1024 .f32) (main_arg5 : FVec F S1x96x1024 .f32) (main_arg6 : FVec F S1x256x1024 .f32) (main_arg7 : FVec F S1x1024 .f32) (main_arg8 : FVec F S1x1024 .f32) (main_arg9 : FVec F S1x16x64 .f32) (main_arg10 : FVec F S32x3584 .f32) : IVec S_ 1 :=
  let main_v0 : FVec F S256x3584 .f32 := Host.absf main_arg0
  let main_cst : FVec F S_ .f32 := constant S_ .f32 0x7F800000#32
  let main_v1 : FVec F S256x3584 .f32 := broadcastInDim S256x3584 ![] bcast_S_S256x3584 main_cst
  let main_v2 : IVec S256x3584 1 := cmpf .olt main_v0 main_v1
  let main_c : IVec S_ 1 := constantI S_ 1 1#1
  let main_v3 : IVec S_ 1 := (fun x v => Host.reduce IntOp.andi x v reducesTo_S256x3584_S_d0_1 h_S_) main_v2 main_c
  let main_v4 : FVec F S1x3520 .f32 := Host.absf main_arg1
  let main_cst_0 : FVec F S_ .f32 := constant S_ .f32 0x7F800000#32
  let main_v5 : FVec F S1x3520 .f32 := broadcastInDim S1x3520 ![] bcast_S_S1x3520 main_cst_0
  let main_v6 : IVec S1x3520 1 := cmpf .olt main_v4 main_v5
  let main_c_1 : IVec S_ 1 := constantI S_ 1 1#1
  let main_v7 : IVec S_ 1 := (fun x v => Host.reduce IntOp.andi x v reducesTo_S1x3520_S_d0_1 h_S_) main_v6 main_c_1
  let main_v8 : IVec S_ 1 := andi main_v3 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S32x3584 .f32 := Host.absf main_arg10
  let main_cst_4 : FVec F S_ .f32 := constant S_ .f32 0x7F800000#32
  let main_v15 : FVec F S32x3584 .f32 := broadcastInDim S32x3584 ![] bcast_S_S32x3584 main_cst_4
  let main_v16 : IVec S32x3584 1 := cmpf .olt main_v14 main_v15
  fn_part1 (F := F) main_v13 main_v16
-- ==== Ffn.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S6x2048 : Shape := ⟨2, ![6, 2048]⟩
abbrev S8x2048 : Shape := ⟨2, ![8, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S6x2048, .f32⟩
  | .hbm, ⟨18, _⟩ => ⟨S8x2048, .f32⟩
  | .hbm, ⟨19, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S8x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩
abbrev S2048 : Shape := ⟨1, ![2048]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Merge.lean ====
abbrev S1x8192x2048 : Shape := ⟨3, ![1, 8192, 2048]⟩
abbrev S8192x1024 : Shape := ⟨2, ![8192, 1024]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S6x2048 : Shape := ⟨2, ![6, 2048]⟩
abbrev S8x2048 : Shape := ⟨2, ![8, 2048]⟩
abbrev S256x2048 : Shape := ⟨2, ![256, 2048]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 24
  | .vmem => 14
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S6x2048, .f32⟩
  | .hbm, ⟨22, _⟩ => ⟨S8x2048, .f32⟩
  | .hbm, ⟨23, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .f32⟩
  | .local _ .vmem, ⟨7, _⟩ => ⟨S256x4096, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S8x2048, .f32⟩
  | .local _ .vmem, ⟨12, _⟩ => ⟨S256x2048, .f32⟩
  | .local _ .vmem, ⟨13, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S1x8192x2048 : Shape := ⟨3, ![1, 8192, 2048]⟩
abbrev S8192x1024 : Shape := ⟨2, ![8192, 1024]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S1024x2048, .f32⟩
  | .hbm, ⟨28, _⟩ => ⟨S8192x2048, .f32⟩
  | .hbm, ⟨29, _⟩ => ⟨S8192x2048, .f32⟩
  | .hbm, ⟨30, _⟩ => ⟨S1024x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S2048x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel.lean ====
abbrev S1x8192x8x128 : Shape := ⟨4, ![1, 8192, 8, 128]⟩
abbrev S32x8 : Shape := ⟨2, ![32, 8]⟩
abbrev S8192x1024 : Shape := ⟨2, ![8192, 1024]⟩
abbrev S256 : Shape := ⟨1, ![256]⟩
abbrev S256x256 : Shape := ⟨2, ![256, 256]⟩
abbrev S8192x256 : Shape := ⟨2, ![8192, 256]⟩
abbrev S2x128x128 : Shape := ⟨3, ![2, 128, 128]⟩
abbrev S2x2x256x256 : Shape := ⟨4, ![2, 2, 256, 256]⟩
abbrev S2x8192x256 : Shape := ⟨3, ![2, 8192, 256]⟩
abbrev S2x8192x128 : Shape := ⟨3, ![2, 8192, 128]⟩
abbrev S256x128 : Shape := ⟨2, ![256, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S1x1x128 : Shape := ⟨3, ![1, 1, 128]⟩
abbrev S1x256x128 : Shape := ⟨3, ![1, 256, 128]⟩
abbrev S1 : Shape := ⟨1, ![1]⟩
abbrev S1x1x256x256 : Shape := ⟨4, ![1, 1, 256, 256]⟩
abbrev S32x256 : Shape := ⟨2, ![32, 256]⟩
abbrev S128x256 : Shape := ⟨2, ![128, 256]⟩
abbrev S1x256 : Shape := ⟨2, ![1, 256]⟩
abbrev S96x256 : Shape := ⟨2, ![96, 256]⟩
abbrev S8x128 : Shape := ⟨2, ![8, 128]⟩
abbrev S256x1 : Shape := ⟨2, ![256, 1]⟩
abbrev S1x1024x256 : Shape := ⟨3, ![1, 1024, 256]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩

abbrev nBuf : Space → Nat
  | .hbm => 9
  | .vmem => 10
  | .smem => 1
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S32x8, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S256, .f32⟩
  | .hbm, ⟨8, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S8192x256, .f32⟩
  | .local _ .vmem, ⟨4, _⟩ => ⟨S256x256, .f32⟩
  | .local _ .vmem, ⟨5, _⟩ => ⟨S256x256, .f32⟩
  | .local _ .vmem, ⟨6, _⟩ => ⟨S2x128x128, .f32⟩
  | .local _ .vmem, ⟨7, _⟩ => ⟨S2x2x256x256, .f32⟩
  | .local _ .vmem, ⟨8, _⟩ => ⟨S2x8192x256, .bf16⟩
  | .local _ .vmem, ⟨9, _⟩ => ⟨S2x8192x128, .bf16⟩
  | .local _ .smem, ⟨0, _⟩ => ⟨S256, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) (c0_i32_879 : BitVec 32) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v1888 : BitVec 32 := Scalar.addi c0_i32_879 v1
  let v1889 : Index := Scalar.indexCast v1888
  ![v1889.toNat]
def k0_off2 (i : grid0.Coords) (c0_i32_74 : BitVec 32) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v189 : BitVec 32 := Scalar.addi c0_i32_74 v1
  let v190 : Index := Scalar.indexCast v189
  ![v190.toNat]
def k0_mult1 (i : grid0.Coords) : BitVec 32 :=
  let arg1 : BitVec 32 := BitVec.ofNat 32 (i 1).val
  let c256_i32 : BitVec 32 := 256#32
  let v719 : BitVec 32 := Scalar.muli arg1 c256_i32
  v719
def k0_mult2 (i : grid0.Coords) : BitVec 32 :=
  let arg1 : BitVec 32 := BitVec.ofNat 32 (i 1).val
  let c1_i32_174 : BitVec 32 := 1#32
  let v721 : BitVec 32 := Scalar.subi arg1 c1_i32_174
  let c0_i32_175 : BitVec 32 := 0#32
  let v722 : BitVec 32 := Scalar.maxsi v721 c0_i32_175
  let c256_i32_176 : BitVec 32 := 256#32
  let v723 : BitVec 32 := Scalar.muli v722 c256_i32_176
  v723
def k0_off3 (i : grid0.Coords) : Fin 3 → Nat :=
  let c0_177 : Index := 0#32
  let arg1 : BitVec 32 := BitVec.ofNat 32 (i 1).val
  let c256_i32 : BitVec 32 := 256#32
  let v719 : BitVec 32 := Scalar.muli arg1 c256_i32
  let v720 : BitVec 32 := v719
  let v728 : Index := Scalar.indexCast v720
  let c0_178 : Index := 0#32
  ![0, v728.toNat, 0]
def k0_off4 (i : grid0.Coords) : Fin 3 → Nat :=
  let c1_185 : Index := 1#32
  let arg1 : BitVec 32 := BitVec.ofNat 32 (i 1).val
  let c256_i32 : BitVec 32 := 256#32
  let v719 : BitVec 32 := Scalar.muli arg1 c256_i32
  let v720 : BitVec 32 := v719
  let v737 : Index := Scalar.indexCast v720
  let c0_186 : Index := 0#32
  ![1, v737.toNat, 0]
def k0_off5 (i : grid0.Coords) : Fin 3 → Nat :=
  let c0_199 : Index := 0#32
  let arg1 : BitVec 32 := BitVec.ofNat 32 (i 1).val
  let c1_i32_174 : BitVec 32 := 1#32
  let v721 : BitVec 32 := Scalar.subi arg1 c1_i32_174
  let c0_i32_175 : BitVec 32 := 0#32
  let v722 : BitVec 32 := Scalar.maxsi v721 c0_i32_175
  let c256_i32_176 : BitVec 32 := 256#32
  let v723 : BitVec 32 := Scalar.muli v722 c256_i32_176
  let v724 : BitVec 32 := v723
  let v762 : Index := Scalar.indexCast v724
  let c0_200 : Index := 0#32
  ![0, v762.toNat, 0]
def k0_off6 (i : grid0.Coords) : Fin 3 → Nat :=
  let c1_207 : Index := 1#32
  let arg1 : BitVec 32 := BitVec.ofNat 32 (i 1).val
  let c1_i32_174 : BitVec 32 := 1#32
  let v721 : BitVec 32 := Scalar.subi arg1 c1_i32_174
  let c0_i32_175 : BitVec 32 := 0#32
  let v722 : BitVec 32 := Scalar.maxsi v721 c0_i32_175
  let c256_i32_176 : BitVec 32 := 256#32
  let v723 : BitVec 32 := Scalar.muli v722 c256_i32_176
  let v724 : BitVec 32 := v723
  let v773 : Index := Scalar.indexCast v724
  let c0_208 : Index := 0#32
  ![1, v773.toNat, 0]
def k0_off7 (i : grid0.Coords) : Fin 3 → Nat :=
  let c0_221 : Index := 0#32
  let arg1 : BitVec 32 := BitVec.ofNat 32 (i 1).val
  let c256_i32 : BitVec 32 := 256#32
  let v719 : BitVec 32 := Scalar.muli arg1 c256_i32
  let v720 : BitVec 32 := v719
  let v813 : Index := Scalar.indexCast v720
  let c0_222 : Index := 0#32
  ![0, v813.toNat, 0]
def k0_off8 (i : grid0.Coords) : Fin 3 → Nat :=
  let c0_224 : Index := 0#32
  let arg1 : BitVec 32 := BitVec.ofNat 32 (i 1).val
  let c1_i32_174 : BitVec 32 := 1#32
  let v721 : BitVec 32 := Scalar.subi arg1 c1_i32_174
  let c0_i32_175 : BitVec 32 := 0#32
  let v722 : BitVec 32 := Scalar.maxsi v721 c0_i32_175
  let c256_i32_176 : BitVec 32 := 256#32
  let v723 : BitVec 32 := Scalar.muli v722 c256_i32_176
  let v724 : BitVec 32 := v723
  let v818 : Index := Scalar.indexCast v724
  let c0_225 : Index := 0#32
  ![0, v818.toNat, 0]
def k0_off9 (i : grid0.Coords) : Fin 3 → Nat :=
  let c1_227 : Index := 1#32
  let arg1 : BitVec 32 := BitVec.ofNat 32 (i 1).val
  let c256_i32 : BitVec 32 := 256#32
  let v719 : BitVec 32 := Scalar.muli arg1 c256_i32
  let v720 : BitVec 32 := v719
  let v824 : Index := Scalar.indexCast v720
  let c0_228 : Index := 0#32
  ![1, v824.toNat, 0]
def k0_off10 (i : grid0.Coords) : Fin 3 → Nat :=
  let c1_230 : Index := 1#32
  let arg1 : BitVec 32 := BitVec.ofNat 32 (i 1).val
  let c1_i32_174 : BitVec 32 := 1#32
  let v721 : BitVec 32 := Scalar.subi arg1 c1_i32_174
  let c0_i32_175 : BitVec 32 := 0#32
  let v722 : BitVec 32 := Scalar.maxsi v721 c0_i32_175
  let c256_i32_176 : BitVec 32 := 256#32
  let v723 : BitVec 32 := Scalar.muli v722 c256_i32_176
  let v724 : BitVec 32 := v723
  let v829 : Index := Scalar.indexCast v724
  let c0_231 : Index := 0#32
  ![1, v829.toNat, 0]
@[reducible] def k0_t1_loop (i : grid0.Coords) : Scf.Loop 32 :=
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_244 : BitVec 32 := 1#32
  ⟨c0_i32_242, v857, c1_i32_244⟩
def k0_mult3 (i : grid0.Coords) (k0_t1 : Fin (k0_t1_loop i).trips) : BitVec 32 :=
  let c0_i32_242 : BitVec 32 := 0#32
  let c1_i32_244 : BitVec 32 := 1#32
  let arg11 : BitVec 32 := Scf.iv c0_i32_242 c1_i32_244 k0_t1
  let c1024_i32 : BitVec 32 := 1024#32
  let v866 : BitVec 32 := Scalar.muli arg11 c1024_i32
  v866
def k0_off11 (i : grid0.Coords) (k0_t1 : Fin (k0_t1_loop i).trips) : Fin 3 → Nat :=
  let c0_250 : Index := 0#32
  let c0_i32_242 : BitVec 32 := 0#32
  let c1_i32_244 : BitVec 32 := 1#32
  let arg11 : BitVec 32 := Scf.iv c0_i32_242 c1_i32_244 k0_t1
  let c1024_i32 : BitVec 32 := 1024#32
  let v866 : BitVec 32 := Scalar.muli arg11 c1024_i32
  let v867 : BitVec 32 := v866
  let v868 : Index := Scalar.indexCast v867
  let c0_251 : Index := 0#32
  ![0, v868.toNat, 0]
def k0_off12 (i : grid0.Coords) (k0_t1 : Fin (k0_t1_loop i).trips) : Fin 3 → Nat :=
  let c1_253 : Index := 1#32
  let c0_i32_242 : BitVec 32 := 0#32
  let c1_i32_244 : BitVec 32 := 1#32
  let arg11 : BitVec 32 := Scf.iv c0_i32_242 c1_i32_244 k0_t1
  let c1024_i32 : BitVec 32 := 1024#32
  let v866 : BitVec 32 := Scalar.muli arg11 c1024_i32
  let v867 : BitVec 32 := v866
  let v872 : Index := Scalar.indexCast v867
  let c0_254 : Index := 0#32
  ![1, v872.toNat, 0]
def k0_off13 (i : grid0.Coords) (k0_t1 : Fin (k0_t1_loop i).trips) : Fin 3 → Nat :=
  let c0_260 : Index := 0#32
  let c0_i32_242 : BitVec 32 := 0#32
  let c1_i32_244 : BitVec 32 := 1#32
  let arg11 : BitVec 32 := Scf.iv c0_i32_242 c1_i32_244 k0_t1
  let c1024_i32 : BitVec 32 := 1024#32
  let v866 : BitVec 32 := Scalar.muli arg11 c1024_i32
  let v867 : BitVec 32 := v866
  let v903 : Index := Scalar.indexCast v867
  let c0_261 : Index := 0#32
  ![0, v903.toNat, 0]
def k0_off14 (i : grid0.Coords) (k0_t1 : Fin (k0_t1_loop i).trips) : Fin 3 → Nat :=
  let c1_263 : Index := 1#32
  let c0_i32_242 : BitVec 32 := 0#32
  let c1_i32_244 : BitVec 32 := 1#32
  let arg11 : BitVec 32 := Scf.iv c0_i32_242 c1_i32_244 k0_t1
  let c1024_i32 : BitVec 32 := 1024#32
  let v866 : BitVec 32 := Scalar.muli arg11 c1024_i32
  let v867 : BitVec 32 := v866
  let v911 : Index := Scalar.indexCast v867
  let c0_264 : Index := 0#32
  ![1, v911.toNat, 0]
@[reducible] def k0_t2_loop (i : grid0.Coords) : Scf.Loop 32 :=
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let v854 : BitVec 32 := Scalar.addi c0_i32_242 v853
  let c1_i32_245 : BitVec 32 := 1#32
  ⟨v857, v854, c1_i32_245⟩
def k0_mult4 (i : grid0.Coords) (k0_t2 : Fin (k0_t2_loop i).trips) : BitVec 32 :=
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_245 : BitVec 32 := 1#32
  let arg11 : BitVec 32 := Scf.iv v857 c1_i32_245 k0_t2
  let c1024_i32 : BitVec 32 := 1024#32
  let v866 : BitVec 32 := Scalar.muli arg11 c1024_i32
  v866
def k0_off15 (i : grid0.Coords) (k0_t2 : Fin (k0_t2_loop i).trips) : Fin 3 → Nat :=
  let c0_250 : Index := 0#32
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_245 : BitVec 32 := 1#32
  let arg11 : BitVec 32 := Scf.iv v857 c1_i32_245 k0_t2
  let c1024_i32 : BitVec 32 := 1024#32
  let v866 : BitVec 32 := Scalar.muli arg11 c1024_i32
  let v867 : BitVec 32 := v866
  let v868 : Index := Scalar.indexCast v867
  let c0_251 : Index := 0#32
  ![0, v868.toNat, 0]
def k0_off16 (i : grid0.Coords) (k0_t2 : Fin (k0_t2_loop i).trips) : Fin 3 → Nat :=
  let c1_253 : Index := 1#32
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_245 : BitVec 32 := 1#32
  let arg11 : BitVec 32 := Scf.iv v857 c1_i32_245 k0_t2
  let c1024_i32 : BitVec 32 := 1024#32
  let v866 : BitVec 32 := Scalar.muli arg11 c1024_i32
  let v867 : BitVec 32 := v866
  let v872 : Index := Scalar.indexCast v867
  let c0_254 : Index := 0#32
  ![1, v872.toNat, 0]
def k0_off17 (i : grid0.Coords) (k0_t2 : Fin (k0_t2_loop i).trips) : Fin 3 → Nat :=
  let c0_260 : Index := 0#32
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_245 : BitVec 32 := 1#32
  let arg11 : BitVec 32 := Scf.iv v857 c1_i32_245 k0_t2
  let c1024_i32 : BitVec 32 := 1024#32
  let v866 : BitVec 32 := Scalar.muli arg11 c1024_i32
  let v867 : BitVec 32 := v866
  let v903 : Index := Scalar.indexCast v867
  let c0_261 : Index := 0#32
  ![0, v903.toNat, 0]
def k0_off18 (i : grid0.Coords) (k0_t2 : Fin (k0_t2_loop i).trips) : Fin 3 → Nat :=
  let c1_263 : Index := 1#32
  let c0_i32_242 : BitVec 32 := 0#32
  let arg1 : BitVec 32 := BitVec.ofNat 32 (i 1).val
  let c1_i32_156 : BitVec 32 := 1#32
  let v657 : BitVec 32 := Scalar.subi arg1 c1_i32_156
  let c0_i32_157 : BitVec 32 := 0#32
  let v658 : BitVec 32 := Scalar.maxsi v657 c0_i32_157
  let c4_i32_233 : BitVec 32 := 4#32
  let v834 : BitVec 32 := Scalar.addi v658 c4_i32_233
  let c1_i32_234 : BitVec 32 := 1#32
  let v835 : BitVec 32 := Scalar.subi v834 c1_i32_234
  let c0_i32_236 : BitVec 32 := 0#32
  let v837 : BitVec 1 := Scalar.cmpi .sgt v835 c0_i32_236
  let v838 : BitVec 32 := Scalar.extui v837
  let c0_i32_237 : BitVec 32 := 0#32
  let v839 : BitVec 1 := Scalar.cmpi .slt v835 c0_i32_237
  let v840 : BitVec 32 := Scalar.extui v839
  let v841 : BitVec 32 := Scalar.subi v838 v840
  let c4_i32_235 : BitVec 32 := 4#32
  let c0_i32_238 : BitVec 32 := 0#32
  let v842 : BitVec 1 := Scalar.cmpi .sgt c4_i32_235 c0_i32_238
  let v843 : BitVec 32 := Scalar.extui v842
  let c0_i32_239 : BitVec 32 := 0#32
  let v844 : BitVec 1 := Scalar.cmpi .slt c4_i32_235 c0_i32_239
  let v845 : BitVec 32 := Scalar.extui v844
  let v846 : BitVec 32 := Scalar.subi v843 v845
  let v847 : BitVec 1 := Scalar.cmpi .ne v841 v846
  let v848 : BitVec 32 := Scalar.remsi v835 c4_i32_235
  let c0_i32_240 : BitVec 32 := 0#32
  let v849 : BitVec 1 := Scalar.cmpi .ne v848 c0_i32_240
  let v850 : BitVec 1 := Scalar.andi v847 v849
  let v836 : BitVec 32 := Scalar.divsi v835 c4_i32_235
  let c1_i32_241 : BitVec 32 := 1#32
  let v851 : BitVec 32 := Scalar.subi v836 c1_i32_241
  let v852 : BitVec 32 := Scalar.select v850 v851 v836
  let v853 : BitVec 32 := Scalar.subi v852 c0_i32_242
  let c1_i32_243 : BitVec 32 := 1#32
  let v855 : BitVec 32 := Scalar.divsi v853 c1_i32_243
  let v856 : BitVec 32 := Scalar.muli v855 c1_i32_243
  let v857 : BitVec 32 := Scalar.addi c0_i32_242 v856
  let c1_i32_245 : BitVec 32 := 1#32
  let arg11 : BitVec 32 := Scf.iv v857 c1_i32_245 k0_t2
  let c1024_i32 : BitVec 32 := 1024#32
  let v866 : BitVec 32 := Scalar.muli arg11 c1024_i32
  let v867 : BitVec 32 := v866
  let v911 : Index := Scalar.indexCast v867
  let c0_264 : Index := 0#32
  ![1, v911.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x8x128 : Shape := ⟨4, ![1, 8192, 8, 128]⟩
abbrev S32x8 : Shape := ⟨2, ![32, 8]⟩
abbrev S8192x8x128 : Shape := ⟨3, ![8192, 8, 128]⟩
abbrev S8192 : Shape := ⟨1, ![8192]⟩
abbrev S_ : Shape := ⟨0, ![]⟩
abbrev S32x256x8x128 : Shape := ⟨4, ![32, 256, 8, 128]⟩
abbrev S32x8x128 : Shape := ⟨3, ![32, 8, 128]⟩
abbrev S8x32x8192 : Shape := ⟨3, ![8, 32, 8192]⟩
abbrev S8192x8x32 : Shape := ⟨3, ![8192, 8, 32]⟩
abbrev S32 : Shape := ⟨1, ![32]⟩
abbrev S1x32 : Shape := ⟨2, ![1, 32]⟩
abbrev S8192x1 : Shape := ⟨2, ![8192, 1]⟩
abbrev S8192x32 : Shape := ⟨2, ![8192, 32]⟩
abbrev S8192x1x32 : Shape := ⟨3, ![8192, 1, 32]⟩
abbrev S8192x8x3 : Shape := ⟨3, ![8192, 8, 3]⟩
abbrev S3 : Shape := ⟨1, ![3]⟩
abbrev S1x3 : Shape := ⟨2, ![1, 3]⟩
abbrev S8192x3 : Shape := ⟨2, ![8192, 3]⟩
abbrev S8192x8x3x1 : Shape := ⟨4, ![8192, 8, 3, 1]⟩
abbrev S1x1x1x8192 : Shape := ⟨4, ![1, 1, 1, 8192]⟩
abbrev S8192x8x3x8192 : Shape := ⟨4, ![8192, 8, 3, 8192]⟩
abbrev S8192x1x3x1 : Shape := ⟨4, ![8192, 1, 3, 1]⟩
abbrev S8192x8x8192 : Shape := ⟨3, ![8192, 8, 8192]⟩
abbrev S1x8192 : Shape := ⟨2, ![1, 8192]⟩
abbrev S8192x8192 : Shape := ⟨2, ![8192, 8192]⟩
abbrev S8192x8192x1 : Shape := ⟨3, ![8192, 8192, 1]⟩
abbrev S8192x8192x8 : Shape := ⟨3, ![8192, 8192, 8]⟩
abbrev S8x8192x8192 : Shape := ⟨3, ![8, 8192, 8192]⟩
abbrev S8192x1x8192 : Shape := ⟨3, ![8192, 1, 8192]⟩
abbrev S8192x8 : Shape := ⟨2, ![8192, 8]⟩
abbrev S8192x8x1 : Shape := ⟨3, ![8192, 8, 1]⟩
abbrev S8x128x8192 : Shape := ⟨3, ![8, 128, 8192]⟩
abbrev S8192x1024 : Shape := ⟨2, ![8192, 1024]⟩

abbrev nBuf : Space → Nat
  | .hbm => 151
  | .vmem => 0
  | .smem => 0
  | _ => 0

abbrev hbmTy0_0 (i : Nat) : BufTy := match i % 128 with
  | 0 => ⟨S1x8192x8x128, .f32⟩
  | 1 => ⟨S1x8192x8x128, .f32⟩
  | 2 => ⟨S1x8192x8x128, .f32⟩
  | 3 => ⟨S32x8, .f32⟩
  | 4 => ⟨S8192x8x128, .f32⟩
  | 5 => ⟨S8192x8x128, .f32⟩
  | 6 => ⟨S8192x8x128, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S32x256x8x128, .f32⟩
  | 27 => ⟨S_, .f32⟩
  | 28 => ⟨S32x8x128, .f32⟩
  | 29 => ⟨S_, .f32⟩
  | 30 => ⟨S32x8x128, .f32⟩
  | 31 => ⟨S32x8x128, .f32⟩
  | 32 => ⟨S8x32x8192, .f32⟩
  | 33 => ⟨S8192x8x32, .f32⟩
  | 34 => ⟨S32, .i32⟩
  | 35 => ⟨S1x32, .i32⟩
  | 36 => ⟨S8192x1, .i32⟩
  | 37 => ⟨S8192x32, .i32⟩
  | 38 => ⟨S8192x32, .i32⟩
  | 39 => ⟨S8192x32, .i1⟩
  | 40 => ⟨S8192x1x32, .i1⟩
  | 41 => ⟨S_, .f32⟩
  | 42 => ⟨S_, .f32⟩
  | 43 => ⟨S8192x8x32, .i1⟩
  | 44 => ⟨S8192x8x32, .f32⟩
  | 45 => ⟨S8192x8x32, .f32⟩
  | 46 => ⟨S8192x8x3, .f32⟩
  | 47 => ⟨S8192x8x3, .i32⟩
  | 48 => ⟨S3, .i32⟩
  | 49 => ⟨S1x3, .i32⟩
  | 50 => ⟨S_, .i32⟩
  | 51 => ⟨S8192, .i32⟩
  | 52 => ⟨S8192, .i32⟩
  | 53 => ⟨S8192x1, .i32⟩
  | 54 => ⟨S8192x3, .i32⟩
  | 55 => ⟨S8192x3, .i32⟩
  | 56 => ⟨S8192x3, .i1⟩
  | 57 => ⟨S8192x8x3x1, .i32⟩
  | 58 => ⟨S1x1x1x8192, .i32⟩
  | 59 => ⟨S8192x8x3x8192, .i32⟩
  | 60 => ⟨S8192x8x3x8192, .i32⟩
  | 61 => ⟨S8192x8x3x8192, .i1⟩
  | 62 => ⟨S8192x1x3x1, .i1⟩
  | 63 => ⟨S8192x8x3x8192, .i1⟩
  | 64 => ⟨S8192x8x3x8192, .i1⟩
  | 65 => ⟨S_, .i1⟩
  | 66 => ⟨S8192x8x8192, .i1⟩
  | 67 => ⟨S1x8192, .i32⟩
  | 68 => ⟨S8192x1, .i32⟩
  | 69 => ⟨S8192x8192, .i32⟩
  | 70 => ⟨S8192x8192, .i32⟩
  | 71 => ⟨S8192x8192, .i1⟩
  | 72 => ⟨S1x8192, .i32⟩
  | 73 => ⟨S8192x1, .i32⟩
  | 74 => ⟨S8192x8192, .i32⟩
  | 75 => ⟨S8192x8192, .i32⟩
  | 76 => ⟨S8192x8192, .i1⟩
  | 77 => ⟨S8192x8192, .i1⟩
  | 78 => ⟨S8192x1, .i32⟩
  | 79 => ⟨S1x8192, .i32⟩
  | 80 => ⟨S8192x8192, .i32⟩
  | 81 => ⟨S8192x8192, .i32⟩
  | 82 => ⟨S8192x8192, .i32⟩
  | 83 => ⟨S_, .i32⟩
  | 84 => ⟨S8192x8192, .i32⟩
  | 85 => ⟨S8192x8192, .i32⟩
  | 86 => ⟨S_, .i32⟩
  | 87 => ⟨S8192x8192, .i32⟩
  | 88 => ⟨S8192x8192, .i32⟩
  | 89 => ⟨S8192x8192, .f32⟩
  | 90 => ⟨S_, .f32⟩
  | 91 => ⟨S8192x8192, .f32⟩
  | 92 => ⟨S8192x8192, .f32⟩
  | 93 => ⟨S8192x8192, .f32⟩
  | 94 => ⟨S_, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S8192x8192, .i32⟩
  | 101 => ⟨S_, .i32⟩
  | 102 => ⟨S8192x8192, .i32⟩
  | 103 => ⟨S8192x8192, .i32⟩
  | 104 => ⟨S_, .i32⟩
  | 105 => ⟨S8192x8192, .i32⟩
  | 106 => ⟨S8192x8192, .i32⟩
  | 107 => ⟨S_, .i32⟩
  | 108 => ⟨S8192x8192, .i32⟩
  | 109 => ⟨S8192x8192, .i1⟩
  | 110 => ⟨S8192x8192, .i32⟩
  | 111 => ⟨S_, .i32⟩
  | 112 => ⟨S8192x8192, .i32⟩
  | 113 => ⟨S8192x8192, .i1⟩
  | 114 => ⟨S_, .i32⟩
  | 115 => ⟨S8192x8192, .i32⟩
  | 116 => ⟨S8192x8192, .i32⟩
  | 117 => ⟨S8192x8192, .i32⟩
  | 118 => ⟨S8192x8192x1, .i32⟩
  | 119 => ⟨S8192x8192x8, .f32⟩
  | 120 => ⟨S_, .f32⟩
  | 121 => ⟨S8192x8x128, .f32⟩
  | 122 => ⟨S8192x8x128, .f32⟩
  | 123 => ⟨S8x8192x8192, .f32⟩
  | 124 => ⟨S8192x8x8192, .f32⟩
  | 125 => ⟨S8192x8x8192, .f32⟩
  | 126 => ⟨S8192x8x8192, .f32⟩
  | 127 => ⟨S8192x1x8192, .i1⟩
  | _ => ⟨S1x8192x8x128, .f32⟩

abbrev hbmTy0_1 (i : Nat) : BufTy := match i % 128 with
  | 0 => ⟨S8192x8x8192, .i1⟩
  | 1 => ⟨S8192x8x8192, .i1⟩
  | 2 => ⟨S_, .f32⟩
  | 3 => ⟨S_, .f32⟩
  | 4 => ⟨S8192x8x8192, .f32⟩
  | 5 => ⟨S8192x8x8192, .f32⟩
  | 6 => ⟨S_, .f32⟩
  | 7 => ⟨S8192x8, .f32⟩
  | 8 => ⟨S_, .f32⟩
  | 9 => ⟨S8192x8, .f32⟩
  | 10 => ⟨S8192x8, .f32⟩
  | 11 => ⟨S8192x8x1, .f32⟩
  | 12 => ⟨S8192x8x8192, .f32⟩
  | 13 => ⟨S8192x8x8192, .f32⟩
  | 14 => ⟨S8192x8x8192, .f32⟩
  | 15 => ⟨S_, .f32⟩
  | 16 => ⟨S8192x8, .f32⟩
  | 17 => ⟨S8192x8x1, .f32⟩
  | 18 => ⟨S8192x8x8192, .f32⟩
  | 19 => ⟨S8192x8x8192, .f32⟩
  | 20 => ⟨S8x128x8192, .f32⟩
  | 21 => ⟨S8192x8x128, .f32⟩
  | 22 => ⟨S8192x1024, .f32⟩
  | _ => ⟨S1x8192x8x128, .f32⟩

abbrev hbmTy (i : Nat) : BufTy := match i / 128 with
  | 0 => hbmTy0_0 i
  | 1 => hbmTy0_1 i
  | _ => ⟨S1x8192x8x128, .f32⟩

abbrev bufTy : (tb : Table) → Fin (tcTables nBuf tb) → BufTy
  | .hbm, ⟨i, _⟩ => hbmTy i
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_values : Ref sig .tc := ⟨.hbm, 46, rfl⟩
abbrev main_indices : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_4 : Ref sig .tc := ⟨.hbm, 83, rfl⟩
abbrev main_v52 : Ref sig .tc := ⟨.hbm, 84, rfl⟩
abbrev main_v53 : Ref sig .tc := ⟨.hbm, 85, rfl⟩
abbrev main_c_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_6 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_7 : Ref sig .tc := ⟨.hbm, 94, rfl⟩
abbrev main_v60 : Ref sig .tc := ⟨.hbm, 95, rfl⟩
abbrev main_v61 : Ref sig .tc := ⟨.hbm, 96, rfl⟩
abbrev main_cst_8 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_c_10 : Ref sig .tc := ⟨.hbm, 104, rfl⟩
abbrev main_v67 : Ref sig .tc := ⟨.hbm, 105, rfl⟩
abbrev main_v68 : Ref sig .tc := ⟨.hbm, 106, rfl⟩
abbrev main_c_11 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_12 : Ref sig .tc := ⟨.hbm, 111, rfl⟩
abbrev main_v72 : Ref sig .tc := ⟨.hbm, 112, rfl⟩
abbrev main_v73 : Ref sig .tc := ⟨.hbm, 113, rfl⟩
abbrev main_c_13 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_15 : Ref sig .tc := ⟨.hbm, 130, rfl⟩
abbrev main_call3_v0 : Ref sig .tc := ⟨.hbm, 131, rfl⟩
abbrev main_call3_v1 : Ref sig .tc := ⟨.hbm, 132, rfl⟩
abbrev main_v88 : Ref sig .tc := ⟨.hbm, 133, rfl⟩
abbrev main_cst_16 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩

abbrev nD : Nat := 1
abbrev τ : Topo := Topo.v7x

variable {F : FTy → Type} [FloatOps F]
-- ==== InProj.lean ====
abbrev S1x8192x2048 : Shape := ⟨3, ![1, 8192, 2048]⟩
abbrev S1x2048x10688 : Shape := ⟨3, ![1, 2048, 10688]⟩
abbrev S8192x2048 : Shape := ⟨2, ![8192, 2048]⟩
abbrev S2048x10688 : Shape := ⟨2, ![2048, 10688]⟩
abbrev S2048x4096 : Shape := ⟨2, ![2048, 4096]⟩
abbrev S1x1x2048 : Shape := ⟨3, ![1, 1, 2048]⟩
abbrev S1x2048 : Shape := ⟨2, ![1, 2048]⟩
abbrev S8192x1024 : Shape := ⟨2, ![8192, 1024]⟩
abbrev S8192x3584 : Shape := ⟨2, ![8192, 3584]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 14
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10688, .f32⟩
  | .hbm, ⟨2, _⟩ => ⟨S8192x2048, .f32⟩
  | .hbm, ⟨3, _⟩ => ⟨S2048x10688, .f32⟩
  | .hbm, ⟨4, _⟩ => ⟨S2048x10688, .bf16⟩
  | .hbm, ⟨5, _⟩ => ⟨S2048x4096, .bf16⟩
  | .hbm, ⟨6, _⟩ => ⟨S1x1x2048, .f32⟩
  | .hbm, ⟨7, _⟩ => ⟨S1x2048, .f32⟩
  | .hbm, ⟨8, _⟩ => ⟨S1x1x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x3584, .f32⟩
  | .hbm, ⟨13, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev main_v7_3 : Ref sig .tc := ⟨.hbm, 12, rfl⟩
abbrev main_v7_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 21], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c6_i32_7 : BitVec 32 := 6#32
  let v18 : BitVec 1 := Scalar.cmpi .sge arg1 c6_i32_7
  let c13_i32 : BitVec 32 := 13#32
  let v19 : BitVec 1 := Scalar.cmpi .slt arg1 c13_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c13_i32_9 : BitVec 32 := 13#32
  let v23 : BitVec 1 := Scalar.cmpi .sge arg1 c13_i32_9
  let c21_i32 : BitVec 32 := 21#32
  let v24 : BitVec 1 := Scalar.cmpi .slt arg1 c21_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c6_i32_0 : BitVec 32 := 6#32
  let v1 : BitVec 32 := Scalar.maxsi c0_i32 v0
  let v2 : BitVec 32 := Scalar.minsi c6_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjRefIdeal.lean ====
abbrev S1x8192x2048 : Shape := ⟨3, ![1, 8192, 2048]⟩
abbrev S1x2048x10688 : Shape := ⟨3, ![1, 2048, 10688]⟩
abbrev S8192x2048 : Shape := ⟨2, ![8192, 2048]⟩
abbrev S2048x10688 : Shape := ⟨2, ![2048, 10688]⟩
abbrev S8192x10688 : Shape := ⟨2, ![8192, 10688]⟩
abbrev S8192x1024 : Shape := ⟨2, ![8192, 1024]⟩
abbrev S8192x3584 : Shape := ⟨2, ![8192, 3584]⟩
abbrev S8192x4096 : Shape := ⟨2, ![8192, 4096]⟩
abbrev S1x1x2048 : Shape := ⟨3, ![1, 1, 2048]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10688, .f32⟩
  | .hbm, ⟨2, _⟩ => ⟨S8192x2048, .f32⟩
  | .hbm, ⟨3, _⟩ => ⟨S2048x10688, .f32⟩
  | .hbm, ⟨4, _⟩ => ⟨S8192x10688, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x3584, .f32⟩
  | .hbm, ⟨9, _⟩ => ⟨S8192x4096, .f32⟩
  | .hbm, ⟨10, _⟩ => ⟨S1x1x2048, .f32⟩
  | .hbm, ⟨11, _⟩ => ⟨S1x2048, .f32⟩
  | .hbm, ⟨12, _⟩ => ⟨S1x1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== InProjS.lean ====
abbrev S32x8x2048 : Shape := ⟨3, ![32, 8, 2048]⟩
abbrev S1x2048x10688 : Shape := ⟨3, ![1, 2048, 10688]⟩
abbrev S256x2048 : Shape := ⟨2, ![256, 2048]⟩
abbrev S2048x10688 : Shape := ⟨2, ![2048, 10688]⟩
abbrev S2048x4096 : Shape := ⟨2, ![2048, 4096]⟩
abbrev S32x1x2048 : Shape := ⟨3, ![32, 1, 2048]⟩
abbrev S32x2048 : Shape := ⟨2, ![32, 2048]⟩
abbrev S1x32x2048 : Shape := ⟨3, ![1, 32, 2048]⟩
abbrev S256x1024 : Shape := ⟨2, ![256, 1024]⟩
abbrev S256x3584 : Shape := ⟨2, ![256, 3584]⟩
abbrev S256x4096 : Shape := ⟨2, ![256, 4096]⟩
abbrev S2048x512 : Shape := ⟨2, ![2048, 512]⟩
abbrev S256x512 : Shape := ⟨2, ![256, 512]⟩

abbrev nBuf : Space → Nat
  | .hbm => 14
  | .vmem => 16
  | .smem => 0
  | _ => 0

abbrev bufTy : (tb : Table) → Fin (tcTables nBuf tb) → BufTy
  | .hbm, ⟨0, _⟩ => ⟨S32x8x2048, .f32⟩
  | .hbm, ⟨1, _⟩ => ⟨S1x2048x10688, .f32⟩
  | .hbm, ⟨2, _⟩ => ⟨S256x2048, .f32⟩
  | .hbm, ⟨3, _⟩ => ⟨S2048x10688, .f32⟩
  | .hbm, ⟨4, _⟩ => ⟨S2048x10688, .bf16⟩
  | .hbm, ⟨5, _⟩ => ⟨S2048x4096, .bf16⟩
  | .hbm, ⟨6, _⟩ => ⟨S32x1x2048, .f32⟩
  | .hbm, ⟨7, _⟩ => ⟨S32x2048, .f32⟩
  | .hbm, ⟨8, _⟩ => ⟨S1x32x2048, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x3584, .f32⟩
  | .hbm, ⟨13, _⟩ => ⟨S256x4096, .f32⟩
  | .local _ .vmem, ⟨0, _⟩ => ⟨S256x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev main_v7_3 : Ref sig .tc := ⟨.hbm, 12, rfl⟩
abbrev main_v7_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 21], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c6_i32_7 : BitVec 32 := 6#32
  let v18 : BitVec 1 := Scalar.cmpi .sge arg1 c6_i32_7
  let c13_i32 : BitVec 32 := 13#32
  let v19 : BitVec 1 := Scalar.cmpi .slt arg1 c13_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c13_i32_9 : BitVec 32 := 13#32
  let v23 : BitVec 1 := Scalar.cmpi .sge arg1 c13_i32_9
  let c21_i32 : BitVec 32 := 21#32
  let v24 : BitVec 1 := Scalar.cmpi .slt arg1 c21_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.minsi arg1 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c6_i32_0 : BitVec 32 := 6#32
  let v1 : BitVec 32 := Scalar.maxsi c0_i32 v0
  let v2 : BitVec 32 := Scalar.minsi c6_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjSRefIdeal.lean ====
abbrev S32x8x2048 : Shape := ⟨3, ![32, 8, 2048]⟩
abbrev S1x2048x10688 : Shape := ⟨3, ![1, 2048, 10688]⟩
abbrev S256x2048 : Shape := ⟨2, ![256, 2048]⟩
abbrev S2048x10688 : Shape := ⟨2, ![2048, 10688]⟩
abbrev S256x10688 : Shape := ⟨2, ![256, 10688]⟩
abbrev S256x1024 : Shape := ⟨2, ![256, 1024]⟩
abbrev S256x3584 : Shape := ⟨2, ![256, 3584]⟩
abbrev S256x4096 : Shape := ⟨2, ![256, 4096]⟩
abbrev S32x1x2048 : Shape := ⟨3, ![32, 1, 2048]⟩
abbrev S32x2048 : Shape := ⟨2, ![32, 2048]⟩
abbrev S1x32x2048 : Shape := ⟨3, ![1, 32, 2048]⟩

abbrev nBuf : Space → Nat
  | .hbm => 13
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048x10688, .f32⟩
  | .hbm, ⟨2, _⟩ => ⟨S256x2048, .f32⟩
  | .hbm, ⟨3, _⟩ => ⟨S2048x10688, .f32⟩
  | .hbm, ⟨4, _⟩ => ⟨S256x10688, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x3584, .f32⟩
  | .hbm, ⟨9, _⟩ => ⟨S256x4096, .f32⟩
  | .hbm, ⟨10, _⟩ => ⟨S32x1x2048, .f32⟩
  | .hbm, ⟨11, _⟩ => ⟨S32x2048, .f32⟩
  | .hbm, ⟨12, _⟩ => ⟨S1x32x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== MergeS.lean ====
abbrev S32x8x2048 : Shape := ⟨3, ![32, 8, 2048]⟩
abbrev S256x1024 : Shape := ⟨2, ![256, 1024]⟩
abbrev S256x4096 : Shape := ⟨2, ![256, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S256x2048 : Shape := ⟨2, ![256, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S6x2048 : Shape := ⟨2, ![6, 2048]⟩
abbrev S8x2048 : Shape := ⟨2, ![8, 2048]⟩
abbrev S256 : Shape := ⟨1, ![256]⟩
abbrev S256x1 : Shape := ⟨2, ![256, 1]⟩

abbrev nBuf : Space → Nat
  | .hbm => 24
  | .vmem => 9
  | .smem => 0
  | _ => 0

abbrev bufTy : (tb : Table) → Fin (tcTables nBuf tb) → BufTy
  | .hbm, ⟨0, _⟩ => ⟨S32x8x2048, .f32⟩
  | .hbm, ⟨1, _⟩ => ⟨S256x1024, .f32⟩
  | .hbm, ⟨2, _⟩ => ⟨S256x1024, .f32⟩
  | .hbm, ⟨3, _⟩ => ⟨S256x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S256x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S6x2048, .f32⟩
  | .hbm, ⟨22, _⟩ => ⟨S8x2048, .f32⟩
  | .hbm, ⟨23, _⟩ => ⟨S256x2048, .f32⟩
  | .local _ .vmem, ⟨0, _⟩ => ⟨S256x2048, .f32⟩
  | .local _ .vmem, ⟨1, _⟩ => ⟨S256x1024, .f32⟩
  | .local _ .vmem, ⟨2, _⟩ => ⟨S256x1024, .f32⟩
  | .local _ .vmem, ⟨3, _⟩ => ⟨S256x4096, .f32⟩
  | .local _ .vmem, ⟨4, _⟩ => ⟨S1024x2048, .bf16⟩
  | .local _ .vmem, ⟨5, _⟩ => ⟨S1024x2048, .bf16⟩
  | .local _ .vmem, ⟨6, _⟩ => ⟨S2048x2048, .bf16⟩
  | .local _ .vmem, ⟨7, _⟩ => ⟨S8x2048, .f32⟩
  | .local _ .vmem, ⟨8, _⟩ => ⟨S256x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSRefIdeal.lean ====
abbrev S32x8x2048 : Shape := ⟨3, ![32, 8, 2048]⟩
abbrev S256x1024 : Shape := ⟨2, ![256, 1024]⟩
abbrev S256x4096 : Shape := ⟨2, ![256, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S256x2048 : Shape := ⟨2, ![256, 2048]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S256 : Shape := ⟨1, ![256]⟩
abbrev S256x1 : Shape := ⟨2, ![256, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S256x1024, .f32⟩
  | .hbm, ⟨2, _⟩ => ⟨S256x1024, .f32⟩
  | .hbm, ⟨3, _⟩ => ⟨S256x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S1024x2048, .f32⟩
  | .hbm, ⟨28, _⟩ => ⟨S256x2048, .f32⟩
  | .hbm, ⟨29, _⟩ => ⟨S256x2048, .f32⟩
  | .hbm, ⟨30, _⟩ => ⟨S1024x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S2048x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x2048, .f32⟩
  | .hbm, ⟨59, _⟩ => ⟨S256x2048, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x2048, .f32⟩
  | .hbm, ⟨65, _⟩ => ⟨S256x2048, .f32⟩
  | .hbm, ⟨66, _⟩ => ⟨S1x2048, .f32⟩
  | .hbm, ⟨67, _⟩ => ⟨S256x2048, .f32⟩
  | .hbm, ⟨68, _⟩ => ⟨S256x2048, .f32⟩
  | .hbm, ⟨69, _⟩ => ⟨S1x2048, .f32⟩
  | .hbm, ⟨70, _⟩ => ⟨S256x2048, .f32⟩
  | .hbm, ⟨71, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== FfnS.lean ====
abbrev S256x2048 : Shape := ⟨2, ![256, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S6x2048 : Shape := ⟨2, ![6, 2048]⟩
abbrev S8x2048 : Shape := ⟨2, ![8, 2048]⟩
abbrev S2048x512 : Shape := ⟨2, ![2048, 512]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S6x2048, .f32⟩
  | .hbm, ⟨18, _⟩ => ⟨S8x2048, .f32⟩
  | .hbm, ⟨19, _⟩ => ⟨S256x2048, .f32⟩
  | .local _ .vmem, ⟨0, _⟩ => ⟨S256x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S8x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSRefIdeal.lean ====
abbrev S256x2048 : Shape := ⟨2, ![256, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S256x5632 : Shape := ⟨2, ![256, 5632]⟩
abbrev S_ : Shape := ⟨0, ![]⟩
abbrev S5632x2048 : Shape := ⟨2, ![5632, 2048]⟩
abbrev S2048 : Shape := ⟨1, ![2048]⟩
abbrev S256 : Shape := ⟨1, ![256]⟩
abbrev S256x1 : Shape := ⟨2, ![256, 1]⟩

abbrev nBuf : Space → Nat
  | .hbm => 57
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S256x5632, .f32⟩
  | .hbm, ⟨8, _⟩ => ⟨S256x5632, .f32⟩
  | .hbm, ⟨9, _⟩ => ⟨S256x5632, .f32⟩
  | .hbm, ⟨10, _⟩ => ⟨S_, .f32⟩
  | .hbm, ⟨11, _⟩ => ⟨S256x5632, .f32⟩
  | .hbm, ⟨12, _⟩ => ⟨S256x5632, .f32⟩
  | .hbm, ⟨13, _⟩ => ⟨S_, .f32⟩
  | .hbm, ⟨14, _⟩ => ⟨S256x5632, .f32⟩
  | .hbm, ⟨15, _⟩ => ⟨S256x5632, .f32⟩
  | .hbm, ⟨16, _⟩ => ⟨S256x5632, .f32⟩
  | .hbm, ⟨17, _⟩ => ⟨S2048x5632, .f32⟩
  | .hbm, ⟨18, _⟩ => ⟨S256x5632, .f32⟩
  | .hbm, ⟨19, _⟩ => ⟨S256x5632, .f32⟩
  | .hbm, ⟨20, _⟩ => ⟨S5632x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x2048, .f32⟩
  | .hbm, ⟨50, _⟩ => ⟨S256x2048, .f32⟩
  | .hbm, ⟨51, _⟩ => ⟨S1x2048, .f32⟩
  | .hbm, ⟨52, _⟩ => ⟨S256x2048, .f32⟩
  | .hbm, ⟨53, _⟩ => ⟨S256x2048, .f32⟩
  | .hbm, ⟨54, _⟩ => ⟨S1x2048, .f32⟩
  | .hbm, ⟨55, _⟩ => ⟨S256x2048, .f32⟩
  | .hbm, ⟨56, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Prep.lean ====
abbrev S8192x3584 : Shape := ⟨2, ![8192, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S3520 : Shape := ⟨1, ![3520]⟩
abbrev S_ : Shape := ⟨0, ![]⟩
abbrev S3584 : Shape := ⟨1, ![3584]⟩
abbrev S1x3584 : Shape := ⟨2, ![1, 3584]⟩
abbrev S1024 : Shape := ⟨1, ![1024]⟩
abbrev S16x64 : Shape := ⟨2, ![16, 64]⟩
abbrev S3x1024 : Shape := ⟨2, ![3, 1024]⟩
abbrev S8x1024 : Shape := ⟨2, ![8, 1024]⟩
abbrev S96x1024 : Shape := ⟨2, ![96, 1024]⟩
abbrev S512x1024 : Shape := ⟨2, ![512, 1024]⟩
abbrev S256x1024 : Shape := ⟨2, ![256, 1024]⟩
abbrev S1024x1 : Shape := ⟨2, ![1024, 1]⟩
abbrev S1024x1024 : Shape := ⟨2, ![1024, 1024]⟩
abbrev S1x1x3584 : Shape := ⟨3, ![1, 1, 3584]⟩
abbrev S8192x1024 : Shape := ⟨2, ![8192, 1024]⟩
abbrev S256x3584 : Shape := ⟨2, ![256, 3584]⟩
abbrev S256x512 : Shape := ⟨2, ![256, 512]⟩

abbrev nBuf : Space → Nat
  | .hbm => 80
  | .vmem => 26
  | .smem => 0
  | _ => 0

abbrev bufTy : (tb : Table) → Fin (tcTables nBuf tb) → BufTy
  | .hbm, ⟨0, _⟩ => ⟨S8192x3584, .f32⟩
  | .hbm, ⟨1, _⟩ => ⟨S1x3520, .f32⟩
  | .hbm, ⟨2, _⟩ => ⟨S1x1024, .f32⟩
  | .hbm, ⟨3, _⟩ => ⟨S1x96x1024, .f32⟩
  | .hbm, ⟨4, _⟩ => ⟨S1x1024, .f32⟩
  | .hbm, ⟨5, _⟩ => ⟨S1x96x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S3520, .f32⟩
  | .hbm, ⟨11, _⟩ => ⟨S_, .i32⟩
  | .hbm, ⟨12, _⟩ => ⟨S_, .f32⟩
  | .hbm, ⟨13, _⟩ => ⟨S3584, .f32⟩
  | .hbm, ⟨14, _⟩ => ⟨S1x3584, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S3x1024, .f32⟩
  | .hbm, ⟨28, _⟩ => ⟨S8x1024, .f32⟩
  | .hbm, ⟨29, _⟩ => ⟨S96x1024, .f32⟩
  | .hbm, ⟨30, _⟩ => ⟨S_, .i32⟩
  | .hbm, ⟨31, _⟩ => ⟨S_, .f32⟩
  | .hbm, ⟨32, _⟩ => ⟨S512x1024, .f32⟩
  | .hbm, ⟨33, _⟩ => ⟨S512x1024, .bf16⟩
  | .hbm, ⟨34, _⟩ => ⟨S96x1024, .f32⟩
  | .hbm, ⟨35, _⟩ => ⟨S_, .i32⟩
  | .hbm, ⟨36, _⟩ => ⟨S_, .f32⟩
  | .hbm, ⟨37, _⟩ => ⟨S512x1024, .f32⟩
  | .hbm, ⟨38, _⟩ => ⟨S512x1024, .bf16⟩
  | .hbm, ⟨39, _⟩ => ⟨S256x1024, .f32⟩
  | .hbm, ⟨40, _⟩ => ⟨S_, .i32⟩
  | .hbm, ⟨41, _⟩ => ⟨S_, .f32⟩
  | .hbm, ⟨42, _⟩ => ⟨S512x1024, .f32⟩
  | .hbm, ⟨43, _⟩ => ⟨S512x1024, .bf16⟩
  | .hbm, ⟨44, _⟩ => ⟨S1024, .i32⟩
  | .hbm, ⟨45, _⟩ => ⟨S_, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1x1024, .i32⟩
  | .hbm, ⟨65, _⟩ => ⟨S1024x1024, .i32⟩
  | .hbm, ⟨66, _⟩ => ⟨S1024x1024, .i32⟩
  | .hbm, ⟨67, _⟩ => ⟨S1024x1024, .i1⟩
  | .hbm, ⟨68, _⟩ => ⟨S1024x1024, .bf16⟩
  | .hbm, ⟨69, _⟩ => ⟨S_, .f32⟩
  | .hbm, ⟨70, _⟩ => ⟨S1x3584, .f32⟩
  | .hbm, ⟨71, _⟩ => ⟨S1x1x3584, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .local _ .vmem, ⟨0, _⟩ => ⟨S256x3584, .f32⟩
  | .local _ .vmem, ⟨1, _⟩ => ⟨S256x3584, .f32⟩
  | .local _ .vmem, ⟨2, _⟩ => ⟨S1x1x3584, .f32⟩
  | .local _ .vmem, ⟨3, _⟩ => ⟨S1x3584, .f32⟩
  | .local _ .vmem, ⟨4, _⟩ => ⟨S8x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x3584, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_call3_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_v7 : Ref sig .tc := ⟨.hbm, 53, rfl⟩
abbrev main_call4_v8 : Ref sig .tc := ⟨.hbm, 54, rfl⟩
abbrev main_call4_c : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_0 : Ref sig .tc := ⟨.hbm, 59, rfl⟩
abbrev main_call4_v12 : Ref sig .tc := ⟨.hbm, 60, rfl⟩
abbrev main_call4_v13 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_v35_0 : Ref sig .tc := ⟨.hbm, 72, rfl⟩
abbrev main_v35_1 : Ref sig .tc := ⟨.hbm, 73, rfl⟩
abbrev main_v35_2 : Ref sig .tc := ⟨.hbm, 74, rfl⟩
abbrev main_v35_3 : Ref sig .tc := ⟨.hbm, 75, rfl⟩
abbrev main_v35_4 : Ref sig .tc := ⟨.hbm, 76, rfl⟩
abbrev main_v35_5 : Ref sig .tc := ⟨.hbm, 77, rfl⟩
abbrev main_v35_6 : Ref sig .tc := ⟨.hbm, 78, rfl⟩
abbrev main_v35_7 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrepRefIdeal.lean ====
abbrev S8192x3584 : Shape := ⟨2, ![8192, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S8192x3520 : Shape := ⟨2, ![8192, 3520]⟩
abbrev S_ : Shape := ⟨0, ![]⟩
abbrev S8191x3520 : Shape := ⟨2, ![8191, 3520]⟩
abbrev S3520 : Shape := ⟨1, ![3520]⟩
abbrev S8192x1024 : Shape := ⟨2, ![8192, 1024]⟩
abbrev S8192x96 : Shape := ⟨2, ![8192, 96]⟩
abbrev S8192x256 : Shape := ⟨2, ![8192, 256]⟩
abbrev S1024 : Shape := ⟨1, ![1024]⟩
abbrev S96x1024 : Shape := ⟨2, ![96, 1024]⟩
abbrev S256x1024 : Shape := ⟨2, ![256, 1024]⟩
abbrev S8192x16x64 : Shape := ⟨3, ![8192, 16, 64]⟩
abbrev S8192x16 : Shape := ⟨2, ![8192, 16]⟩
abbrev S8192x16x1 : Shape := ⟨3, ![8192, 16, 1]⟩
abbrev S16x64 : Shape := ⟨2, ![16, 64]⟩

abbrev nBuf : Space → Nat
  | .hbm => 121
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1x3520, .f32⟩
  | .hbm, ⟨2, _⟩ => ⟨S1x1024, .f32⟩
  | .hbm, ⟨3, _⟩ => ⟨S1x96x1024, .f32⟩
  | .hbm, ⟨4, _⟩ => ⟨S1x1024, .f32⟩
  | .hbm, ⟨5, _⟩ => ⟨S1x96x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S8192x3520, .f32⟩
  | .hbm, ⟨11, _⟩ => ⟨S_, .f32⟩
  | .hbm, ⟨12, _⟩ => ⟨S1x3520, .f32⟩
  | .hbm, ⟨13, _⟩ => ⟨S8191x3520, .f32⟩
  | .hbm, ⟨14, _⟩ => ⟨S8192x3520, .f32⟩
  | .hbm, ⟨15, _⟩ => ⟨S8192x3520, .f32⟩
  | .hbm, ⟨16, _⟩ => ⟨S3520, .f32⟩
  | .hbm, ⟨17, _⟩ => ⟨S1x3520, .f32⟩
  | .hbm, ⟨18, _⟩ => ⟨S8192x3520, .f32⟩
  | .hbm, ⟨19, _⟩ => ⟨S8192x3520, .f32⟩
  | .hbm, ⟨20, _⟩ => ⟨S8192x3520, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x96, .f32⟩
  | .hbm, ⟨25, _⟩ => ⟨S8192x96, .f32⟩
  | .hbm, ⟨26, _⟩ => ⟨S8192x256, .f32⟩
  | .hbm, ⟨27, _⟩ => ⟨S1024, .f32⟩
  | .hbm, ⟨28, _⟩ => ⟨S8192x96, .f32⟩
  | .hbm, ⟨29, _⟩ => ⟨S96x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .i1⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S1024, .f32⟩
  | .hbm, ⟨54, _⟩ => ⟨S96x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S8192x256, .f32⟩
  | .hbm, ⟨71, _⟩ => ⟨S8192x256, .f32⟩
  | .hbm, ⟨72, _⟩ => ⟨S_, .f32⟩
  | .hbm, ⟨73, _⟩ => ⟨S8192x256, .f32⟩
  | .hbm, ⟨74, _⟩ => ⟨S8192x256, .f32⟩
  | .hbm, ⟨75, _⟩ => ⟨S256x1024, .f32⟩
  | .hbm, ⟨76, _⟩ => ⟨S8192x1024, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x16x64, .f32⟩
  | .hbm, ⟨82, _⟩ => ⟨S8192x16x64, .f32⟩
  | .hbm, ⟨83, _⟩ => ⟨S_, .f32⟩
  | .hbm, ⟨84, _⟩ => ⟨S8192x16, .f32⟩
  | .hbm, ⟨85, _⟩ => ⟨S8192x16x1, .f32⟩
  | .hbm, ⟨86, _⟩ => ⟨S8192x16x1, .f32⟩
  | .hbm, ⟨87, _⟩ => ⟨S_, .f32⟩
  | .hbm, ⟨88, _⟩ => ⟨S8192x16x1, .f32⟩
  | .hbm, ⟨89, _⟩ => ⟨S8192x16x1, .f32⟩
  | .hbm, ⟨90, _⟩ => ⟨S8192x16x64, .f32⟩
  | .hbm, ⟨91, _⟩ => ⟨S8192x16x64, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x16x64, .f32⟩
  | .hbm, ⟨104, _⟩ => ⟨S8192x16x64, .f32⟩
  | .hbm, ⟨105, _⟩ => ⟨S8192x16x64, .f32⟩
  | .hbm, ⟨106, _⟩ => ⟨S16x64, .f32⟩
  | .hbm, ⟨107, _⟩ => ⟨S1x16x64, .f32⟩
  | .hbm, ⟨108, _⟩ => ⟨S8192x16x64, .f32⟩
  | .hbm, ⟨109, _⟩ => ⟨S8192x16x64, .f32⟩
  | .hbm, ⟨110, _⟩ => ⟨S_, .f32⟩
  | .hbm, ⟨111, _⟩ => ⟨S8192x16, .f32⟩
  | .hbm, ⟨112, _⟩ => ⟨S8192x16x1, .f32⟩
  | .hbm, ⟨113, _⟩ => ⟨S8192x16x64, .f32⟩
  | .hbm, ⟨114, _⟩ => ⟨S8192x16x64, .f32⟩
  | .hbm, ⟨115, _⟩ => ⟨S8192x16x64, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_3 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_9 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== PrepS.lean ====
abbrev S256x3584 : Shape := ⟨2, ![256, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S32x3584 : Shape := ⟨2, ![32, 3584]⟩
abbrev S3520 : Shape := ⟨1, ![3520]⟩
abbrev S_ : Shape := ⟨0, ![]⟩
abbrev S3584 : Shape := ⟨1, ![3584]⟩
abbrev S1x3584 : Shape := ⟨2, ![1, 3584]⟩
abbrev S1024 : Shape := ⟨1, ![1024]⟩
abbrev S16x64 : Shape := ⟨2, ![16, 64]⟩
abbrev S3x1024 : Shape := ⟨2, ![3, 1024]⟩
abbrev S8x1024 : Shape := ⟨2, ![8, 1024]⟩
abbrev S96x1024 : Shape := ⟨2, ![96, 1024]⟩
abbrev S512x1024 : Shape := ⟨2, ![512, 1024]⟩
abbrev S256x1024 : Shape := ⟨2, ![256, 1024]⟩
abbrev S1024x1 : Shape := ⟨2, ![1024, 1]⟩
abbrev S1024x1024 : Shape := ⟨2, ![1024, 1024]⟩
abbrev S32x8x3584 : Shape := ⟨3, ![32, 8, 3584]⟩
abbrev S256x512 : Shape := ⟨2, ![256, 512]⟩

abbrev nBuf : Space → Nat
  | .hbm => 80
  | .vmem => 17
  | .smem => 0
  | _ => 0

abbrev bufTy : (tb : Table) → Fin (tcTables nBuf tb) → BufTy
  | .hbm, ⟨0, _⟩ => ⟨S256x3584, .f32⟩
  | .hbm, ⟨1, _⟩ => ⟨S1x3520, .f32⟩
  | .hbm, ⟨2, _⟩ => ⟨S1x1024, .f32⟩
  | .hbm, ⟨3, _⟩ => ⟨S1x96x1024, .f32⟩
  | .hbm, ⟨4, _⟩ => ⟨S1x1024, .f32⟩
  | .hbm, ⟨5, _⟩ => ⟨S1x96x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S32x3584, .f32⟩
  | .hbm, ⟨11, _⟩ => ⟨S3520, .f32⟩
  | .hbm, ⟨12, _⟩ => ⟨S_, .i32⟩
  | .hbm, ⟨13, _⟩ => ⟨S_, .f32⟩
  | .hbm, ⟨14, _⟩ => ⟨S3584, .f32⟩
  | .hbm, ⟨15, _⟩ => ⟨S1x3584, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S3x1024, .f32⟩
  | .hbm, ⟨29, _⟩ => ⟨S8x1024, .f32⟩
  | .hbm, ⟨30, _⟩ => ⟨S96x1024, .f32⟩
  | .hbm, ⟨31, _⟩ => ⟨S_, .i32⟩
  | .hbm, ⟨32, _⟩ => ⟨S_, .f32⟩
  | .hbm, ⟨33, _⟩ => ⟨S512x1024, .f32⟩
  | .hbm, ⟨34, _⟩ => ⟨S512x1024, .bf16⟩
  | .hbm, ⟨35, _⟩ => ⟨S96x1024, .f32⟩
  | .hbm, ⟨36, _⟩ => ⟨S_, .i32⟩
  | .hbm, ⟨37, _⟩ => ⟨S_, .f32⟩
  | .hbm, ⟨38, _⟩ => ⟨S512x1024, .f32⟩
  | .hbm, ⟨39, _⟩ => ⟨S512x1024, .bf16⟩
  | .hbm, ⟨40, _⟩ => ⟨S256x1024, .f32⟩
  | .hbm, ⟨41, _⟩ => ⟨S_, .i32⟩
  | .hbm, ⟨42, _⟩ => ⟨S_, .f32⟩
  | .hbm, ⟨43, _⟩ => ⟨S512x1024, .f32⟩
  | .hbm, ⟨44, _⟩ => ⟨S512x1024, .bf16⟩
  | .hbm, ⟨45, _⟩ => ⟨S1024, .i32⟩
  | .hbm, ⟨46, _⟩ => ⟨S_, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1x1024, .i32⟩
  | .hbm, ⟨66, _⟩ => ⟨S1024x1024, .i32⟩
  | .hbm, ⟨67, _⟩ => ⟨S1024x1024, .i32⟩
  | .hbm, ⟨68, _⟩ => ⟨S1024x1024, .i1⟩
  | .hbm, ⟨69, _⟩ => ⟨S1024x1024, .bf16⟩
  | .hbm, ⟨70, _⟩ => ⟨S32x8x3584, .f32⟩
  | .hbm, ⟨71, _⟩ => ⟨S256x3584, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S256x1024, .f32⟩
  | .hbm, ⟨78, _⟩ => ⟨S256x1024, .f32⟩
  | .hbm, ⟨79, _⟩ => ⟨S256x1024, .f32⟩
  | .local _ .vmem, ⟨0, _⟩ => ⟨S256x3584, .f32⟩
  | .local _ .vmem, ⟨1, _⟩ => ⟨S256x3584, .f32⟩
  | .local _ .vmem, ⟨2, _⟩ => ⟨S1x3584, .f32⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x3584, .f32⟩
  | _, _ => ⟨S256x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_call3_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_c : Ref sig .tc := ⟨.hbm, 56, rfl⟩
abbrev main_call4_v9 : Ref sig .tc := ⟨.hbm, 57, rfl⟩
abbrev main_call4_v10 : Ref sig .tc := ⟨.hbm, 58, rfl⟩
abbrev main_call4_v11 : Ref sig .tc := ⟨.hbm, 59, rfl⟩
abbrev main_call4_c_0 : Ref sig .tc := ⟨.hbm, 60, rfl⟩
abbrev main_call4_v12 : Ref sig .tc := ⟨.hbm, 61, rfl⟩
abbrev main_call4_v13 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35_0 : Ref sig .tc := ⟨.hbm, 72, rfl⟩
abbrev main_v35_1 : Ref sig .tc := ⟨.hbm, 73, rfl⟩
abbrev main_v35_2 : Ref sig .tc := ⟨.hbm, 74, rfl⟩
abbrev main_v35_3 : Ref sig .tc := ⟨.hbm, 75, rfl⟩
abbrev main_v35_4 : Ref sig .tc := ⟨.hbm, 76, rfl⟩
abbrev main_v35_5 : Ref sig .tc := ⟨.hbm, 77, rfl⟩
abbrev main_v35_6 : Ref sig .tc := ⟨.hbm, 78, rfl⟩
abbrev main_v35_7 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== PrepSRefIdeal.lean ====
abbrev S256x3584 : Shape := ⟨2, ![256, 3584]⟩
abbrev S1x3520 : Shape := ⟨2, ![1, 3520]⟩
abbrev S1x1024 : Shape := ⟨2, ![1, 1024]⟩
abbrev S1x96x1024 : Shape := ⟨3, ![1, 96, 1024]⟩
abbrev S1x256x1024 : Shape := ⟨3, ![1, 256, 1024]⟩
abbrev S1x16x64 : Shape := ⟨3, ![1, 16, 64]⟩
abbrev S32x3584 : Shape := ⟨2, ![32, 3584]⟩
abbrev S256x3520 : Shape := ⟨2, ![256, 3520]⟩
abbrev S32x8x3520 : Shape := ⟨3, ![32, 8, 3520]⟩
abbrev S32x3520 : Shape := ⟨2, ![32, 3520]⟩
abbrev S32x1x3520 : Shape := ⟨3, ![32, 1, 3520]⟩
abbrev S32x7x3520 : Shape := ⟨3, ![32, 7, 3520]⟩
abbrev S3520 : Shape := ⟨1, ![3520]⟩
abbrev S1x1x3520 : Shape := ⟨3, ![1, 1, 3520]⟩
abbrev S256x1024 : Shape := ⟨2, ![256, 1024]⟩
abbrev S256x96 : Shape := ⟨2, ![256, 96]⟩
abbrev S256x256 : Shape := ⟨2, ![256, 256]⟩
abbrev S1024 : Shape := ⟨1, ![1024]⟩
abbrev S96x1024 : Shape := ⟨2, ![96, 1024]⟩
abbrev S_ : Shape := ⟨0, ![]⟩
abbrev S256x16x64 : Shape := ⟨3, ![256, 16, 64]⟩
abbrev S256x16 : Shape := ⟨2, ![256, 16]⟩
abbrev S256x16x1 : Shape := ⟨3, ![256, 16, 1]⟩
abbrev S16x64 : Shape := ⟨2, ![16, 64]⟩

abbrev nBuf : Space → Nat
  | .hbm => 124
  | .vmem => 0
  | .smem => 0
  | _ => 0

abbrev bufTy : (tb : Table) → Fin (tcTables nBuf tb) → BufTy
  | .hbm, ⟨0, _⟩ => ⟨S256x3584, .f32⟩
  | .hbm, ⟨1, _⟩ => ⟨S1x3520, .f32⟩
  | .hbm, ⟨2, _⟩ => ⟨S1x1024, .f32⟩
  | .hbm, ⟨3, _⟩ => ⟨S1x96x1024, .f32⟩
  | .hbm, ⟨4, _⟩ => ⟨S1x1024, .f32⟩
  | .hbm, ⟨5, _⟩ => ⟨S1x96x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S32x3584, .f32⟩
  | .hbm, ⟨11, _⟩ => ⟨S256x3520, .f32⟩
  | .hbm, ⟨12, _⟩ => ⟨S32x8x3520, .f32⟩
  | .hbm, ⟨13, _⟩ => ⟨S32x3520, .f32⟩
  | .hbm, ⟨14, _⟩ => ⟨S32x1x3520, .f32⟩
  | .hbm, ⟨15, _⟩ => ⟨S32x7x3520, .f32⟩
  | .hbm, ⟨16, _⟩ => ⟨S32x8x3520, .f32⟩
  | .hbm, ⟨17, _⟩ => ⟨S32x8x3520, .f32⟩
  | .hbm, ⟨18, _⟩ => ⟨S3520, .f32⟩
  | .hbm, ⟨19, _⟩ => ⟨S1x1x3520, .f32⟩
  | .hbm, ⟨20, _⟩ => ⟨S32x8x3520, .f32⟩
  | .hbm, ⟨21, _⟩ => ⟨S32x8x3520, .f32⟩
  | .hbm, ⟨22, _⟩ => ⟨S32x8x3520, .f32⟩
  | .hbm, ⟨23, _⟩ => ⟨S256x3520, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x96, .f32⟩
  | .hbm, ⟨28, _⟩ => ⟨S256x96, .f32⟩
  | .hbm, ⟨29, _⟩ => ⟨S256x256, .f32⟩
  | .hbm, ⟨30, _⟩ => ⟨S1024, .f32⟩
  | .hbm, ⟨31, _⟩ => ⟨S256x96, .f32⟩
  | .hbm, ⟨32, _⟩ => ⟨S96x1024, .f32⟩
  | .hbm, ⟨33, _⟩ => ⟨S256x1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .i1⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256x1024, .f32⟩
  | .hbm, ⟨55, _⟩ => ⟨S256x1024, .f32⟩
  | .hbm, ⟨56, _⟩ => ⟨S1024, .f32⟩
  | .hbm, ⟨57, _⟩ => ⟨S96x1024, .f32⟩
  | .hbm, ⟨58, _⟩ => ⟨S256x1024, .f32⟩
  | .hbm, ⟨59, _⟩ => ⟨S1x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x256, .f32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x1024, .f32⟩
  | .hbm, ⟨79, _⟩ => ⟨S256x1024, .f32⟩
  | .hbm, ⟨80, _⟩ => ⟨S1024, .f32⟩
  | .hbm, ⟨81, _⟩ => ⟨S1x1024, .f32⟩
  | .hbm, ⟨82, _⟩ => ⟨S256x1024, .f32⟩
  | .hbm, ⟨83, _⟩ => ⟨S256x1024, .f32⟩
  | .hbm, ⟨84, _⟩ => ⟨S256x16x64, .f32⟩
  | .hbm, ⟨85, _⟩ => ⟨S256x16x64, .f32⟩
  | .hbm, ⟨86, _⟩ => ⟨S_, .f32⟩
  | .hbm, ⟨87, _⟩ => ⟨S256x16, .f32⟩
  | .hbm, ⟨88, _⟩ => ⟨S256x16x1, .f32⟩
  | .hbm, ⟨89, _⟩ => ⟨S256x16x1, .f32⟩
  | .hbm, ⟨90, _⟩ => ⟨S_, .f32⟩
  | .hbm, ⟨91, _⟩ => ⟨S256x16x1, .f32⟩
  | .hbm, ⟨92, _⟩ => ⟨S256x16x1, .f32⟩
  | .hbm, ⟨93, _⟩ => ⟨S256x16x64, .f32⟩
  | .hbm, ⟨94, _⟩ => ⟨S256x16x64, .f32⟩
  | .hbm, ⟨95, _⟩ => ⟨S_, .f32⟩
  | .hbm, ⟨96, _⟩ => ⟨S256x1024, .f32⟩
  | .hbm, ⟨97, _⟩ => ⟨S256x1024, .f32⟩
  | .hbm, ⟨98, _⟩ => ⟨S1024, .f32⟩
  | .hbm, ⟨99, _⟩ => ⟨S1x1024, .f32⟩
  | .hbm, ⟨100, _⟩ => ⟨S256x1024, .f32⟩
  | .hbm, ⟨101, _⟩ => ⟨S256x1024, .f32⟩
  | .hbm, ⟨102, _⟩ => ⟨S_, .f32⟩
  | .hbm, ⟨103, _⟩ => ⟨S256x1024, .f32⟩
  | .hbm, ⟨104, _⟩ => ⟨S256x1024, .f32⟩
  | .hbm, ⟨105, _⟩ => ⟨S256x1024, .f32⟩
  | .hbm, ⟨106, _⟩ => ⟨S256x16x64, .f32⟩
  | .hbm, ⟨107, _⟩ => ⟨S256x16x64, .f32⟩
  | .hbm, ⟨108, _⟩ => ⟨S256x16x64, .f32⟩
  | .hbm, ⟨109, _⟩ => ⟨S16x64, .f32⟩
  | .hbm, ⟨110, _⟩ => ⟨S1x16x64, .f32⟩
  | .hbm, ⟨111, _⟩ => ⟨S256x16x64, .f32⟩
  | .hbm, ⟨112, _⟩ => ⟨S256x16x64, .f32⟩
  | .hbm, ⟨113, _⟩ => ⟨S_, .f32⟩
  | .hbm, ⟨114, _⟩ => ⟨S256x16, .f32⟩
  | .hbm, ⟨115, _⟩ => ⟨S256x16x1, .f32⟩
  | .hbm, ⟨116, _⟩ => ⟨S256x16x64, .f32⟩
  | .hbm, ⟨117, _⟩ => ⟨S256x16x64, .f32⟩
  | .hbm, ⟨118, _⟩ => ⟨S256x16x64, .f32⟩
  | .hbm, ⟨119, _⟩ => ⟨S256x1024, .f32⟩
  | .hbm, ⟨120, _⟩ => ⟨S256x1024, .f32⟩
  | .hbm, ⟨121, _⟩ => ⟨S256x1024, .f32⟩
  | .hbm, ⟨122, _⟩ => ⟨S256x1024, .f32⟩
  | .hbm, ⟨123, _⟩ => ⟨S256x1024, .f32⟩
  | _, _ => ⟨S256x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_0 : Ref sig .tc := ⟨.hbm, 64, rfl⟩
abbrev main_v39 : Ref sig .tc := ⟨.hbm, 65, rfl⟩
abbrev main_v40 : Ref sig .tc := ⟨.hbm, 66, rfl⟩
abbrev main_cst_1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_2 : Ref sig .tc := ⟨.hbm, 72, rfl⟩
abbrev main_v45 : Ref sig .tc := ⟨.hbm, 73, rfl⟩
abbrev main_v46 : Ref sig .tc := ⟨.hbm, 74, rfl⟩
abbrev main_cst_3 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_4 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_6 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_7 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== ProjShift.lean ====
abbrev S1x32x2048 : Shape := ⟨3, ![1, 32, 2048]⟩
abbrev S1x2048x10688 : Shape := ⟨3, ![1, 2048, 10688]⟩
abbrev S2048x10688 : Shape := ⟨2, ![2048, 10688]⟩
abbrev S32x2048 : Shape := ⟨2, ![32, 2048]⟩
abbrev S32x3584 : Shape := ⟨2, ![32, 3584]⟩
abbrev S2048x512 : Shape := ⟨2, ![2048, 512]⟩
abbrev S32x512 : Shape := ⟨2, ![32, 512]⟩

abbrev nBuf : Space → Nat
  | .hbm => 6
  | .vmem => 6
  | .smem => 0
  | _ => 0

abbrev bufTy : (tb : Table) → Fin (tcTables nBuf tb) → BufTy
  | .hbm, ⟨0, _⟩ => ⟨S1x32x2048, .f32⟩
  | .hbm, ⟨1, _⟩ => ⟨S1x2048x10688, .f32⟩
  | .hbm, ⟨2, _⟩ => ⟨S2048x10688, .f32⟩
  | .hbm, ⟨3, _⟩ => ⟨S2048x10688, .bf16⟩
  | .hbm, ⟨4, _⟩ => ⟨S32x2048, .f32⟩
  | .hbm, ⟨5, _⟩ => ⟨S32x3584, .f32⟩
  | .local _ .vmem, ⟨0, _⟩ => ⟨S32x2048, .f32⟩
  | .local _ .vmem, ⟨1, _⟩ => ⟨S2048x512, .bf16⟩
  | .local _ .vmem, ⟨2, _⟩ => ⟨S2048x512, .bf16⟩
  | .local _ .vmem, ⟨3, _⟩ => ⟨S32x512, .f32⟩
  | .local _ .vmem, ⟨4, _⟩ => ⟨S32x512, .f32⟩
  | .local _ .vmem, ⟨5, _⟩ => ⟨S32x2048, .bf16⟩
  | _, _ => ⟨S1x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjShiftRefIdeal.lean ====
abbrev S1x32x2048 : Shape := ⟨3, ![1, 32, 2048]⟩
abbrev S1x2048x10688 : Shape := ⟨3, ![1, 2048, 10688]⟩
abbrev S32x2048 : Shape := ⟨2, ![32, 2048]⟩
abbrev S2048x10688 : Shape := ⟨2, ![2048, 10688]⟩
abbrev S2048x3584 : Shape := ⟨2, ![2048, 3584]⟩
abbrev S32x3584 : Shape := ⟨2, ![32, 3584]⟩

abbrev nBuf : Space → Nat
  | .hbm => 6
  | .vmem => 0
  | .smem => 0
  | _ => 0

abbrev bufTy : (tb : Table) → Fin (tcTables nBuf tb) → BufTy
  | .hbm, ⟨0, _⟩ => ⟨S1x32x2048, .f32⟩
  | .hbm, ⟨1, _⟩ => ⟨S1x2048x10688, .f32⟩
  | .hbm, ⟨2, _⟩ => ⟨S32x2048, .f32⟩
  | .hbm, ⟨3, _⟩ => ⟨S2048x10688, .f32⟩
  | .hbm, ⟨4, _⟩ => ⟨S2048x3584, .f32⟩
  | .hbm, ⟨5, _⟩ => ⟨S32x3584, .f32⟩
  | _, _ => ⟨S1x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScanS.lean ====
abbrev S256x1024 : Shape := ⟨2, ![256, 1024]⟩
abbrev S1x32x16x64x64 : Shape := ⟨5, ![1, 32, 16, 64, 64]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x1024 : Shape := ⟨2, ![1024, 1024]⟩
abbrev S32x16x64x64 : Shape := ⟨4, ![32, 16, 64, 64]⟩
abbrev S6x1024 : Shape := ⟨2, ![6, 1024]⟩
abbrev S8x1024 : Shape := ⟨2, ![8, 1024]⟩
abbrev S1x16x64x64 : Shape := ⟨4, ![1, 16, 64, 64]⟩
abbrev S4x256x256 : Shape := ⟨3, ![4, 256, 256]⟩
abbrev S1x1x64x64 : Shape := ⟨4, ![1, 1, 64, 64]⟩
abbrev S64x64 : Shape := ⟨2, ![64, 64]⟩
abbrev S1x64x64 : Shape := ⟨3, ![1, 64, 64]⟩
abbrev S32x256 : Shape := ⟨2, ![32, 256]⟩
abbrev S32x32 : Shape := ⟨2, ![32, 32]⟩
abbrev S8x256 : Shape := ⟨2, ![8, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 47
  | .vmem => 25
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1x32x16x64x64, .f32⟩
  | .hbm, ⟨9, _⟩ => ⟨S1x1024, .f32⟩
  | .hbm, ⟨10, _⟩ => ⟨S1x1024, .f32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1x1024, .i32⟩
  | .hbm, ⟨32, _⟩ => ⟨S1024x1024, .i32⟩
  | .hbm, ⟨33, _⟩ => ⟨S1024x1024, .i32⟩
  | .hbm, ⟨34, _⟩ => ⟨S1024x1024, .i1⟩
  | .hbm, ⟨35, _⟩ => ⟨S1024x1024, .bf16⟩
  | .hbm, ⟨36, _⟩ => ⟨S32x16x64x64, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S6x1024, .f32⟩
  | .hbm, ⟨43, _⟩ => ⟨S8x1024, .f32⟩
  | .hbm, ⟨44, _⟩ => ⟨S256x1024, .f32⟩
  | .hbm, ⟨45, _⟩ => ⟨S32x16x64x64, .f32⟩
  | .hbm, ⟨46, _⟩ => ⟨S1x32x16x64x64, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S1024x1024, .bf16⟩
  | .local _ .vmem, ⟨18, _⟩ => ⟨S1x16x64x64, .f32⟩
  | .local _ .vmem, ⟨19, _⟩ => ⟨S1x16x64x64, .f32⟩
  | .local _ .vmem, ⟨20, _⟩ => ⟨S8x1024, .f32⟩
  | .local _ .vmem, ⟨21, _⟩ => ⟨S8x1024, .f32⟩
  | .local _ .vmem, ⟨22, _⟩ => ⟨S1x16x64x64, .f32⟩
  | .local _ .vmem, ⟨23, _⟩ => ⟨S1x16x64x64, .f32⟩
  | .local _ .vmem, ⟨24, _⟩ => ⟨S4x256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_v15_0 : Ref sig .tc := ⟨.hbm, 44, rfl⟩
abbrev main_v15_1 : Ref sig .tc := ⟨.hbm, 45, rfl⟩
abbrev main_v16 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_168 : BitVec 32 := 0#32
  let v476 : BitVec 1 := Scalar.cmpi .eq arg1 c0_i32_168
  let v477 : BitVec 32 := Scalar.extui v476
  let c0_i32_169 : BitVec 32 := 0#32
  let v478 : BitVec 1 := Scalar.cmpi .ne v477 c0_i32_169
  v478

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScanSRefIdeal.lean ====
abbrev S256x1024 : Shape := ⟨2, ![256, 1024]⟩
abbrev S1x32x16x64x64 : Shape := ⟨5, ![1, 32, 16, 64, 64]⟩
abbrev S1x1024 : Shape := ⟨2, ![1, 1024]⟩
abbrev S32x8x16x64 : Shape := ⟨4, ![32, 8, 16, 64]⟩
abbrev S32x16x64x64 : Shape := ⟨4, ![32, 16, 64, 64]⟩
abbrev S32x1x16x64 : Shape := ⟨4, ![32, 1, 16, 64]⟩
abbrev S32x16x64 : Shape := ⟨3, ![32, 16, 64]⟩
abbrev S32x16x1x64 : Shape := ⟨4, ![32, 16, 1, 64]⟩
abbrev S32x16x64x1 : Shape := ⟨4, ![32, 16, 64, 1]⟩
abbrev S_ : Shape := ⟨0, ![]⟩
abbrev S32x8x16 : Shape := ⟨3, ![32, 8, 16]⟩
abbrev S32x8x16x1 : Shape := ⟨4, ![32, 8, 16, 1]⟩
abbrev S1024 : Shape := ⟨1, ![1024]⟩

abbrev nBuf : Space → Nat
  | .hbm => 303
  | .vmem => 0
  | .smem => 0
  | _ => 0

abbrev hbmTy0_0 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S1x32x16x64x64, .f32⟩
  | 9 => ⟨S1x1024, .f32⟩
  | 10 => ⟨S1x1024, .f32⟩
  | 11 => ⟨S32x8x16x64, .f32⟩
  | 12 => ⟨S256x1024, .f32⟩
  | 13 => ⟨S32x8x16x64, .f32⟩
  | 14 => ⟨S32x8x16x64, .f32⟩
  | 15 => ⟨S32x8x16x64, .f32⟩
  | 16 => ⟨S32x8x16x64, .f32⟩
  | 17 => ⟨S32x8x16x64, .f32⟩
  | 18 => ⟨S32x16x64x64, .f32⟩
  | 19 => ⟨S32x1x16x64, .f32⟩
  | 20 => ⟨S32x16x64, .f32⟩
  | 21 => ⟨S32x16x64, .f32⟩
  | 22 => ⟨S32x16x64, .f32⟩
  | 23 => ⟨S32x1x16x64, .f32⟩
  | 24 => ⟨S32x16x64, .f32⟩
  | 25 => ⟨S32x16x1x64, .f32⟩
  | 26 => ⟨S32x16x64x64, .f32⟩
  | 27 => ⟨S32x16x64x64, .f32⟩
  | 28 => ⟨S32x16x64x1, .f32⟩
  | 29 => ⟨S32x1x16x64, .f32⟩
  | 30 => ⟨S32x16x64, .f32⟩
  | 31 => ⟨S32x16x1x64, .f32⟩
  | 32 => ⟨S32x16x64x64, .f32⟩
  | 33 => ⟨S32x16x64x64, .f32⟩
  | 34 => ⟨S32x16x64x64, .f32⟩
  | 35 => ⟨S32x16x64x64, .f32⟩
  | 36 => ⟨S32x1x16x64, .f32⟩
  | 37 => ⟨S32x16x64, .f32⟩
  | 38 => ⟨S32x16x64x1, .f32⟩
  | 39 => ⟨S32x1x16x64, .f32⟩
  | 40 => ⟨S32x16x64, .f32⟩
  | 41 => ⟨S32x16x1x64, .f32⟩
  | 42 => ⟨S32x16x64x64, .f32⟩
  | 43 => ⟨S32x16x64x64, .f32⟩
  | 44 => ⟨S32x16x64x64, .f32⟩
  | 45 => ⟨S32x16x64x64, .f32⟩
  | 46 => ⟨S32x1x16x64, .f32⟩
  | 47 => ⟨S32x16x64, .f32⟩
  | 48 => ⟨S32x16x64, .f32⟩
  | 49 => ⟨S32x1x16x64, .f32⟩
  | 50 => ⟨S32x16x64, .f32⟩
  | 51 => ⟨S32x16x64, .f32⟩
  | 52 => ⟨S32x16x64, .f32⟩
  | 53 => ⟨S32x1x16x64, .f32⟩
  | 54 => ⟨S32x16x64, .f32⟩
  | 55 => ⟨S32x16x1x64, .f32⟩
  | 56 => ⟨S32x16x64x64, .f32⟩
  | 57 => ⟨S32x16x64x64, .f32⟩
  | 58 => ⟨S32x16x64x1, .f32⟩
  | 59 => ⟨S32x1x16x64, .f32⟩
  | 60 => ⟨S32x16x64, .f32⟩
  | 61 => ⟨S32x16x1x64, .f32⟩
  | 62 => ⟨S32x16x64x64, .f32⟩
  | 63 => ⟨S32x16x64x64, .f32⟩
  | 64 => ⟨S32x16x64x64, .f32⟩
  | 65 => ⟨S32x16x64x64, .f32⟩
  | 66 => ⟨S32x1x16x64, .f32⟩
  | 67 => ⟨S32x16x64, .f32⟩
  | 68 => ⟨S32x16x64x1, .f32⟩
  | 69 => ⟨S32x1x16x64, .f32⟩
  | 70 => ⟨S32x16x64, .f32⟩
  | 71 => ⟨S32x16x1x64, .f32⟩
  | 72 => ⟨S32x16x64x64, .f32⟩
  | 73 => ⟨S32x16x64x64, .f32⟩
  | 74 => ⟨S32x16x64x64, .f32⟩
  | 75 => ⟨S32x16x64x64, .f32⟩
  | 76 => ⟨S32x1x16x64, .f32⟩
  | 77 => ⟨S32x16x64, .f32⟩
  | 78 => ⟨S32x16x64, .f32⟩
  | 79 => ⟨S32x1x16x64, .f32⟩
  | 80 => ⟨S32x16x64, .f32⟩
  | 81 => ⟨S32x16x64, .f32⟩
  | 82 => ⟨S32x16x64, .f32⟩
  | 83 => ⟨S32x1x16x64, .f32⟩
  | 84 => ⟨S32x16x64, .f32⟩
  | 85 => ⟨S32x16x1x64, .f32⟩
  | 86 => ⟨S32x16x64x64, .f32⟩
  | 87 => ⟨S32x16x64x64, .f32⟩
  | 88 => ⟨S32x16x64x1, .f32⟩
  | 89 => ⟨S32x1x16x64, .f32⟩
  | 90 => ⟨S32x16x64, .f32⟩
  | 91 => ⟨S32x16x1x64, .f32⟩
  | 92 => ⟨S32x16x64x64, .f32⟩
  | 93 => ⟨S32x16x64x64, .f32⟩
  | 94 => ⟨S32x16x64x64, .f32⟩
  | 95 => ⟨S32x16x64x64, .f32⟩
  | 96 => ⟨S32x1x16x64, .f32⟩
  | 97 => ⟨S32x16x64, .f32⟩
  | 98 => ⟨S32x16x64x1, .f32⟩
  | 99 => ⟨S32x1x16x64, .f32⟩
  | 100 => ⟨S32x16x64, .f32⟩
  | 101 => ⟨S32x16x1x64, .f32⟩
  | 102 => ⟨S32x16x64x64, .f32⟩
  | 103 => ⟨S32x16x64x64, .f32⟩
  | 104 => ⟨S32x16x64x64, .f32⟩
  | 105 => ⟨S32x16x64x64, .f32⟩
  | 106 => ⟨S32x1x16x64, .f32⟩
  | 107 => ⟨S32x16x64, .f32⟩
  | 108 => ⟨S32x16x64, .f32⟩
  | 109 => ⟨S32x1x16x64, .f32⟩
  | 110 => ⟨S32x16x64, .f32⟩
  | 111 => ⟨S32x16x64, .f32⟩
  | 112 => ⟨S32x16x64, .f32⟩
  | 113 => ⟨S32x1x16x64, .f32⟩
  | 114 => ⟨S32x16x64, .f32⟩
  | 115 => ⟨S32x16x1x64, .f32⟩
  | 116 => ⟨S32x16x64x64, .f32⟩
  | 117 => ⟨S32x16x64x64, .f32⟩
  | 118 => ⟨S32x16x64x1, .f32⟩
  | 119 => ⟨S32x1x16x64, .f32⟩
  | 120 => ⟨S32x16x64, .f32⟩
  | 121 => ⟨S32x16x1x64, .f32⟩
  | 122 => ⟨S32x16x64x64, .f32⟩
  | 123 => ⟨S32x16x64x64, .f32⟩
  | 124 => ⟨S32x16x64x64, .f32⟩
  | 125 => ⟨S32x16x64x64, .f32⟩
  | 126 => ⟨S32x1x16x64, .f32⟩
  | 127 => ⟨S32x16x64, .f32⟩
  | _ => ⟨S256x1024, .f32⟩

abbrev hbmTy0_1 (i : Nat) : BufTy := match i % 128 with
  | 0 => ⟨S32x16x64x1, .f32⟩
  | 1 => ⟨S32x1x16x64, .f32⟩
  | 2 => ⟨S32x16x64, .f32⟩
  | 3 => ⟨S32x16x1x64, .f32⟩
  | 4 => ⟨S32x16x64x64, .f32⟩
  | 5 => ⟨S32x16x64x64, .f32⟩
  | 6 => ⟨S32x16x64x64, .f32⟩
  | 7 => ⟨S32x16x64x64, .f32⟩
  | 8 => ⟨S32x1x16x64, .f32⟩
  | 9 => ⟨S32x16x64, .f32⟩
  | 10 => ⟨S32x16x64, .f32⟩
  | 11 => ⟨S32x1x16x64, .f32⟩
  | 12 => ⟨S32x16x64, .f32⟩
  | 13 => ⟨S32x16x64, .f32⟩
  | 14 => ⟨S32x16x64, .f32⟩
  | 15 => ⟨S32x1x16x64, .f32⟩
  | 16 => ⟨S32x16x64, .f32⟩
  | 17 => ⟨S32x16x1x64, .f32⟩
  | 18 => ⟨S32x16x64x64, .f32⟩
  | 19 => ⟨S32x16x64x64, .f32⟩
  | 20 => ⟨S32x16x64x1, .f32⟩
  | 21 => ⟨S32x1x16x64, .f32⟩
  | 22 => ⟨S32x16x64, .f32⟩
  | 23 => ⟨S32x16x1x64, .f32⟩
  | 24 => ⟨S32x16x64x64, .f32⟩
  | 25 => ⟨S32x16x64x64, .f32⟩
  | 26 => ⟨S32x16x64x64, .f32⟩
  | 27 => ⟨S32x16x64x64, .f32⟩
  | 28 => ⟨S32x1x16x64, .f32⟩
  | 29 => ⟨S32x16x64, .f32⟩
  | 30 => ⟨S32x16x64x1, .f32⟩
  | 31 => ⟨S32x1x16x64, .f32⟩
  | 32 => ⟨S32x16x64, .f32⟩
  | 33 => ⟨S32x16x1x64, .f32⟩
  | 34 => ⟨S32x16x64x64, .f32⟩
  | 35 => ⟨S32x16x64x64, .f32⟩
  | 36 => ⟨S32x16x64x64, .f32⟩
  | 37 => ⟨S32x16x64x64, .f32⟩
  | 38 => ⟨S32x1x16x64, .f32⟩
  | 39 => ⟨S32x16x64, .f32⟩
  | 40 => ⟨S32x16x64, .f32⟩
  | 41 => ⟨S32x1x16x64, .f32⟩
  | 42 => ⟨S32x16x64, .f32⟩
  | 43 => ⟨S32x16x64, .f32⟩
  | 44 => ⟨S32x16x64, .f32⟩
  | 45 => ⟨S32x1x16x64, .f32⟩
  | 46 => ⟨S32x16x64, .f32⟩
  | 47 => ⟨S32x16x1x64, .f32⟩
  | 48 => ⟨S32x16x64x64, .f32⟩
  | 49 => ⟨S32x16x64x64, .f32⟩
  | 50 => ⟨S32x16x64x1, .f32⟩
  | 51 => ⟨S32x1x16x64, .f32⟩
  | 52 => ⟨S32x16x64, .f32⟩
  | 53 => ⟨S32x16x1x64, .f32⟩
  | 54 => ⟨S32x16x64x64, .f32⟩
  | 55 => ⟨S32x16x64x64, .f32⟩
  | 56 => ⟨S32x16x64x64, .f32⟩
  | 57 => ⟨S32x16x64x64, .f32⟩
  | 58 => ⟨S32x1x16x64, .f32⟩
  | 59 => ⟨S32x16x64, .f32⟩
  | 60 => ⟨S32x16x64x1, .f32⟩
  | 61 => ⟨S32x1x16x64, .f32⟩
  | 62 => ⟨S32x16x64, .f32⟩
  | 63 => ⟨S32x16x1x64, .f32⟩
  | 64 => ⟨S32x16x64x64, .f32⟩
  | 65 => ⟨S32x16x64x64, .f32⟩
  | 66 => ⟨S32x16x64x64, .f32⟩
  | 67 => ⟨S32x16x64x64, .f32⟩
  | 68 => ⟨S32x1x16x64, .f32⟩
  | 69 => ⟨S32x16x64, .f32⟩
  | 70 => ⟨S32x16x64, .f32⟩
  | 71 => ⟨S32x1x16x64, .f32⟩
  | 72 => ⟨S32x16x64, .f32⟩
  | 73 => ⟨S32x16x64, .f32⟩
  | 74 => ⟨S32x16x64, .f32⟩
  | 75 => ⟨S32x1x16x64, .f32⟩
  | 76 => ⟨S32x16x64, .f32⟩
  | 77 => ⟨S32x16x1x64, .f32⟩
  | 78 => ⟨S32x16x64x64, .f32⟩
  | 79 => ⟨S32x16x64x64, .f32⟩
  | 80 => ⟨S32x16x64x1, .f32⟩
  | 81 => ⟨S32x1x16x64, .f32⟩
  | 82 => ⟨S32x16x64, .f32⟩
  | 83 => ⟨S32x16x1x64, .f32⟩
  | 84 => ⟨S32x16x64x64, .f32⟩
  | 85 => ⟨S32x16x64x64, .f32⟩
  | 86 => ⟨S32x16x64x64, .f32⟩
  | 87 => ⟨S32x16x64x64, .f32⟩
  | 88 => ⟨S32x1x16x64, .f32⟩
  | 89 => ⟨S32x16x64, .f32⟩
  | 90 => ⟨S32x16x64x1, .f32⟩
  | 91 => ⟨S32x1x16x64, .f32⟩
  | 92 => ⟨S32x16x64, .f32⟩
  | 93 => ⟨S32x16x1x64, .f32⟩
  | 94 => ⟨S32x16x64x64, .f32⟩
  | 95 => ⟨S32x16x64x64, .f32⟩
  | 96 => ⟨S32x16x64x64, .f32⟩
  | 97 => ⟨S32x16x64x64, .f32⟩
  | 98 => ⟨S32x1x16x64, .f32⟩
  | 99 => ⟨S32x16x64, .f32⟩
  | 100 => ⟨S32x16x64, .f32⟩
  | 101 => ⟨S32x1x16x64, .f32⟩
  | 102 => ⟨S32x16x64, .f32⟩
  | 103 => ⟨S32x16x64, .f32⟩
  | 104 => ⟨S32x16x64, .f32⟩
  | 105 => ⟨S32x1x16x64, .f32⟩
  | 106 => ⟨S32x16x64, .f32⟩
  | 107 => ⟨S32x16x1x64, .f32⟩
  | 108 => ⟨S32x16x64x64, .f32⟩
  | 109 => ⟨S32x16x64x64, .f32⟩
  | 110 => ⟨S32x16x64x1, .f32⟩
  | 111 => ⟨S32x1x16x64, .f32⟩
  | 112 => ⟨S32x16x64, .f32⟩
  | 113 => ⟨S32x16x1x64, .f32⟩
  | 114 => ⟨S32x16x64x64, .f32⟩
  | 115 => ⟨S32x16x64x64, .f32⟩
  | 116 => ⟨S32x16x64x64, .f32⟩
  | 117 => ⟨S32x16x64x64, .f32⟩
  | 118 => ⟨S32x1x16x64, .f32⟩
  | 119 => ⟨S32x16x64, .f32⟩
  | 120 => ⟨S32x16x64x1, .f32⟩
  | 121 => ⟨S32x1x16x64, .f32⟩
  | 122 => ⟨S32x16x64, .f32⟩
  | 123 => ⟨S32x16x1x64, .f32⟩
  | 124 => ⟨S32x16x64x64, .f32⟩
  | 125 => ⟨S32x16x64x64, .f32⟩
  | 126 => ⟨S32x16x64x64, .f32⟩
  | 127 => ⟨S32x16x64x64, .f32⟩
  | _ => ⟨S256x1024, .f32⟩

abbrev hbmTy0_2 (i : Nat) : BufTy := match i % 128 with
  | 0 => ⟨S32x1x16x64, .f32⟩
  | 1 => ⟨S32x16x64, .f32⟩
  | 2 => ⟨S32x16x64, .f32⟩
  | 3 => ⟨S32x1x16x64, .f32⟩
  | 4 => ⟨S32x1x16x64, .f32⟩
  | 5 => ⟨S32x1x16x64, .f32⟩
  | 6 => ⟨S32x1x16x64, .f32⟩
  | 7 => ⟨S32x1x16x64, .f32⟩
  | 8 => ⟨S32x1x16x64, .f32⟩
  | 9 => ⟨S32x1x16x64, .f32⟩
  | 10 => ⟨S32x1x16x64, .f32⟩
  | 11 => ⟨S32x8x16x64, .f32⟩
  | 12 => ⟨S_, .f32⟩
  | 13 => ⟨S32x8x16, .f32⟩
  | 14 => ⟨S32x8x16x1, .f32⟩
  | 15 => ⟨S_, .f32⟩
  | 16 => ⟨S32x8x16x1, .f32⟩
  | 17 => ⟨S32x8x16x1, .f32⟩
  | 18 => ⟨S32x8x16x64, .f32⟩
  | 19 => ⟨S32x8x16x64, .f32⟩
  | 20 => ⟨S32x8x16x64, .f32⟩
  | 21 => ⟨S_, .f32⟩
  | 22 => ⟨S32x8x16, .f32⟩
  | 23 => ⟨S32x8x16x1, .f32⟩
  | 24 => ⟨S_, .f32⟩
  | 25 => ⟨S32x8x16x1, .f32⟩
  | 26 => ⟨S32x8x16x1, .f32⟩
  | 27 => ⟨S32x8x16x64, .f32⟩
  | 28 => ⟨S32x8x16x64, .f32⟩
  | 29 => ⟨S_, .f32⟩
  | 30 => ⟨S32x8x16x1, .f32⟩
  | 31 => ⟨S32x8x16x1, .f32⟩
  | 32 => ⟨S32x8x16x1, .f32⟩
  | 33 => ⟨S32x8x16x64, .f32⟩
  | 34 => ⟨S32x8x16x64, .f32⟩
  | 35 => ⟨S256x1024, .f32⟩
  | 36 => ⟨S1024, .f32⟩
  | 37 => ⟨S1x1024, .f32⟩
  | 38 => ⟨S256x1024, .f32⟩
  | 39 => ⟨S256x1024, .f32⟩
  | 40 => ⟨S1024, .f32⟩
  | 41 => ⟨S1x1024, .f32⟩
  | 42 => ⟨S256x1024, .f32⟩
  | 43 => ⟨S256x1024, .f32⟩
  | 44 => ⟨S256x1024, .f32⟩
  | 45 => ⟨S256x1024, .f32⟩
  | 46 => ⟨S1x32x16x64x64, .f32⟩
  | _ => ⟨S256x1024, .f32⟩

abbrev hbmTy (i : Nat) : BufTy := match i / 128 with
  | 0 => hbmTy0_0 i
  | 1 => hbmTy0_1 i
  | 2 => hbmTy0_2 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_cst : Ref sig .tc := ⟨.hbm, 268, rfl⟩
abbrev main_v257 : Ref sig .tc := ⟨.hbm, 269, rfl⟩
abbrev main_v258 : Ref sig .tc := ⟨.hbm, 270, rfl⟩
abbrev main_cst_0 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_cst_1 : Ref sig .tc := ⟨.hbm, 277, rfl⟩
abbrev main_v264 : Ref sig .tc := ⟨.hbm, 278, rfl⟩
abbrev main_v265 : Ref sig .tc := ⟨.hbm, 279, rfl⟩
abbrev main_cst_2 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_cst_3 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_v285 : Ref sig .tc := ⟨.hbm, 301, rfl⟩
abbrev main_v286 : Ref sig .tc := ⟨.hbm, 302, rfl⟩

abbrev nD : Nat := 1
abbrev τ : Topo := Topo.v7x

variable {F : FTy → Type} [FloatOps F]
-- ==== SelectS.lean ====
abbrev S256x1024 : Shape := ⟨2, ![256, 1024]⟩
abbrev S4096x8x128 : Shape := ⟨3, ![4096, 8, 128]⟩
abbrev S32x8x128 : Shape := ⟨3, ![32, 8, 128]⟩
abbrev S8x1024 : Shape := ⟨2, ![8, 1024]⟩
abbrev S128x8x128 : Shape := ⟨3, ![128, 8, 128]⟩
abbrev S1x8x128 : Shape := ⟨3, ![1, 8, 128]⟩
abbrev S8x64x128 : Shape := ⟨3, ![8, 64, 128]⟩
abbrev S8x128 : Shape := ⟨2, ![8, 128]⟩
abbrev S1x128 : Shape := ⟨2, ![1, 128]⟩
abbrev S1x1x128 : Shape := ⟨3, ![1, 1, 128]⟩
abbrev S1x64x128 : Shape := ⟨3, ![1, 64, 128]⟩
abbrev S64x128 : Shape := ⟨2, ![64, 128]⟩
abbrev S8x64 : Shape := ⟨2, ![8, 64]⟩
abbrev S8 : Shape := ⟨1, ![8]⟩
abbrev S8x1 : Shape := ⟨2, ![8, 1]⟩
abbrev S32x8x24 : Shape := ⟨3, ![32, 8, 24]⟩
abbrev S32x8x8x3 : Shape := ⟨4, ![32, 8, 8, 3]⟩

abbrev nBuf : Space → Nat
  | .hbm => 5
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S4096x8x128, .f32⟩
  | .hbm, ⟨2, _⟩ => ⟨S32x8x128, .i32⟩
  | .hbm, ⟨3, _⟩ => ⟨S32x8x24, .i32⟩
  | .hbm, ⟨4, _⟩ => ⟨S32x8x8x3, .i32⟩
  | .local _ .vmem, ⟨0, _⟩ => ⟨S8x1024, .f32⟩
  | .local _ .vmem, ⟨1, _⟩ => ⟨S8x1024, .f32⟩
  | .local _ .vmem, ⟨2, _⟩ => ⟨S128x8x128, .f32⟩
  | .local _ .vmem, ⟨3, _⟩ => ⟨S128x8x128, .f32⟩
  | .local _ .vmem, ⟨4, _⟩ => ⟨S1x8x128, .i32⟩
  | .local _ .vmem, ⟨5, _⟩ => ⟨S1x8x128, .i32⟩
  | .local _ .vmem, ⟨6, _⟩ => ⟨S8x64x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c2_i32_143 : BitVec 32 := 2#32
  let v536 : BitVec 32 := Scalar.muli arg5 c2_i32_143
  let v537 : Index := Scalar.indexCast v536
  let c0_144 : Index := 0#32
  let c0_145 : Index := 0#32
  ![v537.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c2_i32_146 : BitVec 32 := 2#32
  let v540 : BitVec 32 := Scalar.muli arg5 c2_i32_146
  let c1_i32_147 : BitVec 32 := 1#32
  let v541 : BitVec 32 := Scalar.addi v540 c1_i32_147
  let v542 : Index := Scalar.indexCast v541
  let c0_148 : Index := 0#32
  let c0_149 : Index := 0#32
  ![v542.toNat, 0, 0]
def k0_off3 (k0_t1 : Fin k0_t1_loop.trips) : Fin 3 → Nat :=
  let c0_151 : Index := 0#32
  let c0_i32 : BitVec 32 := 0#32
  let c1_i32 : BitVec 32 := 1#32
  let arg5 : BitVec 32 := Scf.iv c0_i32 c1_i32 k0_t1
  let v549 : Index := Scalar.indexCast arg5
  let c0_152 : Index := 0#32
  ![0, v549.toNat, 0]
def k0_off4 (k0_t1 : Fin k0_t1_loop.trips) : Fin 3 → Nat :=
  let c1_153 : Index := 1#32
  let c0_i32 : BitVec 32 := 0#32
  let c1_i32 : BitVec 32 := 1#32
  let arg5 : BitVec 32 := Scf.iv c0_i32 c1_i32 k0_t1
  let v554 : Index := Scalar.indexCast arg5
  let c0_154 : Index := 0#32
  ![1, v554.toNat, 0]
def k0_off5 (k0_t1 : Fin k0_t1_loop.trips) : Fin 3 → Nat :=
  let c2_155 : Index := 2#32
  let c0_i32 : BitVec 32 := 0#32
  let c1_i32 : BitVec 32 := 1#32
  let arg5 : BitVec 32 := Scf.iv c0_i32 c1_i32 k0_t1
  let v559 : Index := Scalar.indexCast arg5
  let c0_156 : Index := 0#32
  ![2, v559.toNat, 0]
def k0_off6 (k0_t1 : Fin k0_t1_loop.trips) : Fin 3 → Nat :=
  let c3_157 : Index := 3#32
  let c0_i32 : BitVec 32 := 0#32
  let c1_i32 : BitVec 32 := 1#32
  let arg5 : BitVec 32 := Scf.iv c0_i32 c1_i32 k0_t1
  let v564 : Index := Scalar.indexCast arg5
  let c0_158 : Index := 0#32
  ![3, v564.toNat, 0]
def k0_off7 (k0_t1 : Fin k0_t1_loop.trips) : Fin 3 → Nat :=
  let c4_159 : Index := 4#32
  let c0_i32 : BitVec 32 := 0#32
  let c1_i32 : BitVec 32 := 1#32
  let arg5 : BitVec 32 := Scf.iv c0_i32 c1_i32 k0_t1
  let v569 : Index := Scalar.indexCast arg5
  let c0_160 : Index := 0#32
  ![4, v569.toNat, 0]
def k0_off8 (k0_t1 : Fin k0_t1_loop.trips) : Fin 3 → Nat :=
  let c5_161 : Index := 5#32
  let c0_i32 : BitVec 32 := 0#32
  let c1_i32 : BitVec 32 := 1#32
  let arg5 : BitVec 32 := Scf.iv c0_i32 c1_i32 k0_t1
  let v574 : Index := Scalar.indexCast arg5
  let c0_162 : Index := 0#32
  ![5, v574.toNat, 0]
def k0_off9 (k0_t1 : Fin k0_t1_loop.trips) : Fin 3 → Nat :=
  let c6_163 : Index := 6#32
  let c0_i32 : BitVec 32 := 0#32
  let c1_i32 : BitVec 32 := 1#32
  let arg5 : BitVec 32 := Scf.iv c0_i32 c1_i32 k0_t1
  let v579 : Index := Scalar.indexCast arg5
  let c0_164 : Index := 0#32
  ![6, v579.toNat, 0]
def k0_off10 (k0_t1 : Fin k0_t1_loop.trips) : Fin 3 → Nat :=
  let c7_165 : Index := 7#32
  let c0_i32 : BitVec 32 := 0#32
  let c1_i32 : BitVec 32 := 1#32
  let arg5 : BitVec 32 := Scf.iv c0_i32 c1_i32 k0_t1
  let v584 : Index := Scalar.indexCast arg5
  let c0_166 : Index := 0#32
  ![7, v584.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SelectSRefIdeal.lean ====
abbrev S256x1024 : Shape := ⟨2, ![256, 1024]⟩
abbrev S4096x8x128 : Shape := ⟨3, ![4096, 8, 128]⟩
abbrev S32x8x8x128 : Shape := ⟨4, ![32, 8, 8, 128]⟩
abbrev S32x64x2x8x128 : Shape := ⟨5, ![32, 64, 2, 8, 128]⟩
abbrev S_ : Shape := ⟨0, ![]⟩
abbrev S32x64x8x128 : Shape := ⟨4, ![32, 64, 8, 128]⟩
abbrev S32x8x64x8 : Shape := ⟨4, ![32, 8, 64, 8]⟩
abbrev S32x8x8x64 : Shape := ⟨4, ![32, 8, 8, 64]⟩
abbrev S32x8x8x3 : Shape := ⟨4, ![32, 8, 8, 3]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x8x128, .f32⟩
  | .hbm, ⟨2, _⟩ => ⟨S32x8x8x128, .f32⟩
  | .hbm, ⟨3, _⟩ => ⟨S32x64x2x8x128, .f32⟩
  | .hbm, ⟨4, _⟩ => ⟨S_, .f32⟩
  | .hbm, ⟨5, _⟩ => ⟨S32x64x8x128, .f32⟩
  | .hbm, ⟨6, _⟩ => ⟨S_, .f32⟩
  | .hbm, ⟨7, _⟩ => ⟨S32x64x8x128, .f32⟩
  | .hbm, ⟨8, _⟩ => ⟨S32x64x8x128, .f32⟩
  | .hbm, ⟨9, _⟩ => ⟨S32x8x64x8, .f32⟩
  | .hbm, ⟨10, _⟩ => ⟨S32x8x8x64, .f32⟩
  | .hbm, ⟨11, _⟩ => ⟨S32x8x8x3, .f32⟩
  | .hbm, ⟨12, _⟩ => ⟨S32x8x8x3, .i32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_values : Ref sig .tc := ⟨.hbm, 11, rfl⟩
abbrev main_indices : Ref sig .tc := ⟨.hbm, 12, rfl⟩

abbrev nD : Nat := 1
abbrev τ : Topo := Topo.v7x

variable {F : FTy → Type} [FloatOps F]
-- ==== Proof.LayerNorm.lean ====
/- The layer norm of one row of 2048 numbers, as a formula over the extended reals. -/
module

public import Idealize.ShloMosaic.Lib.Pipeline.ValueKit

@[expose] public section

noncomputable section

namespace Cert.LayerNorm

open Idealize.ShloMosaic

/-- The mean of a row. -/
def rowMean (y : Fin 2048 → EReal) : EReal := Ideal.div (∑ k, y k) (Ideal.ofBits .f32 0x45000000#32)

/-- Element `j` of the layer norm of the row `y`, with the scale `g` and the offset `b` of that column. -/
def rowNorm (y : Fin 2048 → EReal) (g b : EReal) (j : Fin 2048) : EReal :=
  (y j - rowMean y) * Ideal.rsqrt (rowMean (fun k => (y k - rowMean y) * (y k - rowMean y)) + Ideal.ofBits .f32 0x3727C5AC#32) * g + b

end Cert.LayerNorm

end
-- ==== Proof.FfnRef.lean ====
/- What the reference of the feed-forward computes, element by element. -/
module

public import proofs.«01_k».proof.Proof.LayerNorm
public import proofs.«01_k».proof.Proof.Gen.FfnRefIdeal.Run

@[expose] public section

set_option maxRecDepth 16384

noncomputable section

namespace Cert.FfnRefIdeal.Value

open Cert.FfnRefIdeal Cert.FfnRefIdeal.Gen Cert.LayerNorm
open Idealize.ShloMosaic Idealize.ShloMosaic.TcCoe Idealize.SL.Sem

/-- The mean of every row. -/
def mean (Y : FVec Ideal S8192x2048 .f32) : FVec Ideal S8192x1 .f32 :=
  Host.divf (broadcastInDim S8192x1 ![0] Gen.bcast_S8192_S8192x1_0
      (Host.reduceAdd Y (constant S_ .f32 0x00000000#32) Gen.reducesTo_S8192x2048_S8192_d1 Gen.h_S_))
    (broadcastInDim S8192x1 ![] Gen.bcast_S_S8192x1 (constant S_ .f32 0x45000000#32))

/-- The difference from the mean. -/
def dev (Y : FVec Ideal S8192x2048 .f32) : FVec Ideal S8192x2048 .f32 :=
  subf Y (broadcastInDim S8192x2048 ![0, 1] Gen.bcast_S8192x1_S8192x2048_0_1 (mean Y))

/-- The layer norm of every row. -/
def norm (Y : FVec Ideal S8192x2048 .f32) (g b : FVec Ideal S1x2048 .f32) : FVec Ideal S8192x2048 .f32 :=
  addf (mulf (mulf (dev Y)
      (broadcastInDim S8192x2048 ![0, 1] Gen.bcast_S8192x1_S8192x2048_0_1
        (Host.rsqrt (addf (mean (mulf (dev Y) (dev Y)))
          (broadcastInDim S8192x1 ![] Gen.bcast_S_S8192x1 (constant S_ .f32 0x3727C5AC#32))))))
      (broadcastInDim S8192x2048 ![0, 1] Gen.bcast_S1x2048_S8192x2048_0_1
        (broadcastInDim S1x2048 ![1] Gen.bcast_S2048_S1x2048_1 (shapeCast _ g Gen.shapeCasts_S1x2048_S2048))))
    (broadcastInDim S8192x2048 ![0, 1] Gen.bcast_S1x2048_S8192x2048_0_1
      (broadcastInDim S1x2048 ![1] Gen.bcast_S2048_S1x2048_1 (shapeCast _ b Gen.shapeCasts_S1x2048_S2048)))

theorem mean_at (Y : FVec Ideal S8192x2048 .f32) (i : Fin 8192) (z : Fin 1) :
    mean Y (ix2 i z) = rowMean fun k => Y (ix2 i k) := by
  pointwise [mean, rowMean]

theorem dev_at (Y : FVec Ideal S8192x2048 .f32) (i : Fin 8192) (j : Fin 2048) :
    dev Y (ix2 i j) = Y (ix2 i j) - rowMean fun k => Y (ix2 i k) := by
  pointwise [dev, mean_at]

theorem norm_at (Y : FVec Ideal S8192x2048 .f32) (g b : FVec Ideal S1x2048 .f32) (i : Fin 8192) (j : Fin 2048) :
    norm Y g b (ix2 i j) = rowNorm (fun k => Y (ix2 i k)) (g (ix2 0 j)) (b (ix2 0 j)) j := by
  pointwise [norm, mean_at, dev_at, rowNorm]

/-- The gate's values before the activation. -/
def gate (X0 : FVec Ideal S8192x2048 .f32) (X1 : FVec Ideal S1x2048x5632 .f32) : FVec Ideal S8192x5632 .f32 :=
  Host.dotGeneral dot_S8192x2048_S2048x5632_S8192x5632_1_0_0_1_n_n none X0 (shapeCast _ X1 Gen.shapeCasts_S1x2048x5632_S2048x5632)

/-- The activation `z · sigmoid z`. -/
def silu (z : FVec Ideal S8192x5632 .f32) : FVec Ideal S8192x5632 .f32 :=
  mulf z (Host.divf (broadcastInDim S8192x5632 ![] Gen.bcast_S_S8192x5632 (constant S_ .f32 0x3F800000#32))
    (addf (broadcastInDim S8192x5632 ![] Gen.bcast_S_S8192x5632 (constant S_ .f32 0x3F800000#32)) (Host.exp (Host.negf z))))

/-- The residual sum the layer norm is taken of. -/
def mix (X0 : FVec Ideal S8192x2048 .f32) (X1 X2 : FVec Ideal S1x2048x5632 .f32) (X3 : FVec Ideal S1x5632x2048 .f32) :
    FVec Ideal S8192x2048 .f32 :=
  addf (mulf (broadcastInDim S8192x2048 ![] Gen.bcast_S_S8192x2048 (constant S_ .f32 0x3F9837F0#32)) X0)
    (Host.dotGeneral dot_S8192x5632_S5632x2048_S8192x2048_1_0_0_1_n_n none (mulf (silu (gate X0 X1)) (gate X0 X2))
      (shapeCast _ X3 Gen.shapeCasts_S1x5632x2048_S5632x2048))

set_option maxHeartbeats 1600000 in
/-- The reference's result is the layer norm of the residual sum. -/
theorem res_eq (m : (ℓ : Loc nD τ sig) → Buf (Elt Ideal) ℓ) (c : Dev nD) :
    res_main_v36 m c = norm (mix (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := by
  unfold res_main_v36 norm dev mean mix silu gate
  rfl

end Cert.FfnRefIdeal.Value

end
-- ==== Proof.FfnValue.lean ====
/- The feed-forward kernel computes what its reference computes, over the extended reals: the hidden units are taken in
   eleven groups of 512, one per grid point, and the groups' contributions are added into a scratch buffer. -/
module

public import proofs.«01_k».proof.Proof.FfnRef
public import proofs.«01_k».proof.Proof.Gen.FfnIdeal.Frame
public import Idealize.ShloMosaic.Lib.Claim

@[expose] public section

set_option maxRecDepth 16384

noncomputable section

namespace Cert.FfnIdeal.Ffn

open Cert.FfnIdeal Cert.FfnIdeal.Gen Cert.LayerNorm
open Idealize.ShloMosaic Idealize.ShloMosaic.TcCoe Idealize.SL.Sem
open Idealize.ShloMosaic.Pipeline (Dat)

variable (m : (ℓ : Loc nD τ sig) → Buf (Elt Ideal) ℓ)

/-- The last store is the layer norm of each row of the residual sum. -/
theorem pay_at (X A : FVec Ideal S512x2048 .f32) (g b : FVec Ideal S1x2048 .f32) (r : Fin 512) (j : Fin 2048) :
    k0_pay4 (F := Ideal) X A g b (ix2 r j)
      = rowNorm (fun k => Ideal.ofBits .f32 0x3F9837F0#32 * X (ix2 r k) + A (ix2 r k)) (g (ix2 0 j)) (b (ix2 0 j)) j := by
  pointwise [k0_pay4, rowNorm, rowMean]

/-- What one group of hidden units contributes. -/
def part (H : FVec Ideal S512x2048 .bf16) (Wg Wu : FVec Ideal S2048x512 .bf16) (Wd : FVec Ideal S512x2048 .bf16) (r : Fin 512) (j : Fin 2048) : EReal :=
  ∑ u : Fin 512, (((∑ k, H (ix2 r k) * Wg (ix2 k u)) * Ideal.div 1 (1 + Ideal.exp (-(∑ k, H (ix2 r k) * Wg (ix2 k u)))))
    * ∑ k, H (ix2 r k) * Wu (ix2 k u)) * Wd (ix2 u j)

/-- The logistic function is what the reference spells out. -/
theorem logistic_eq (x : EReal) : Ideal.logistic x = Ideal.div 1 (1 + Ideal.exp (-x)) := rfl

/-- Each point adds its group's contribution. -/
theorem acc_at (H : FVec Ideal S512x2048 .bf16) (Wg Wu : FVec Ideal S2048x512 .bf16) (A : FVec Ideal S512x2048 .f32) (Wd : FVec Ideal S512x2048 .bf16)
    (r : Fin 512) (j : Fin 2048) :
    k0_pay3 (F := Ideal) H Wg Wu A Wd (ix2 r j) = A (ix2 r j) + part H Wg Wu Wd r j := by
  pointwise [k0_pay3, part]
  simp only [logistic_eq]

theorem zero_at (r : Fin 512) (j : Fin 2048) : k0_pay2 (F := Ideal) (ix2 r j) = 0 := by
  pointwise [k0_pay2]

theorem copy_at (X : FVec Ideal S512x2048 .f32) : k0_pay1 (F := Ideal) X = X := by
  funext y
  obtain ⟨r, k, rfl⟩ : ∃ (r : Fin 512) (j : Fin 2048), y = ix2 r j := ⟨y 0, y 1, eq_ix2 y⟩
  pointwise [k0_pay1]

/-- The windows' block indices. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![t.val / 11, 0] ∧ t.val < 176 :=
  (by decide +kernel : ∀ t : Fin grid0.N, _)

/-- One hidden unit's contribution to an element of the down projection. -/
def unit (X0 : FVec Ideal S8192x2048 .f32) (X1 X2 : FVec Ideal S1x2048x5632 .f32) (X3 : FVec Ideal S1x5632x2048 .f32)
    (i : Fin 8192) (j : Fin 2048) (u : Fin 5632) : EReal :=
  (((∑ k : Fin 2048, X0 (ix2 i k) * X1 (ix3 0 k u)) * Ideal.div 1 (1 + Ideal.exp (-(∑ k : Fin 2048, X0 (ix2 i k) * X1 (ix3 0 k u)))))
    * ∑ k : Fin 2048, X0 (ix2 i k) * X2 (ix3 0 k u)) * X3 (ix3 0 u j)

/-- The reference's residual sum, element by element. -/
theorem mix_at (X0 : FVec Ideal S8192x2048 .f32) (X1 X2 : FVec Ideal S1x2048x5632 .f32) (X3 : FVec Ideal S1x5632x2048 .f32)
    (i : Fin 8192) (j : Fin 2048) :
    Cert.FfnRefIdeal.Value.mix X0 X1 X2 X3 (ix2 i j)
      = Ideal.ofBits .f32 0x3F9837F0#32 * X0 (ix2 i j) + ∑ u : Fin 5632, unit X0 X1 X2 X3 i j u := by
  pointwise [Cert.FfnRefIdeal.Value.mix, Cert.FfnRefIdeal.Value.silu, Cert.FfnRefIdeal.Value.gate, unit]

/-- The residual sum of the kernel's arguments. -/
abbrev MIX (c : Dev nD) : FVec Ideal S8192x2048 .f32 :=
  Cert.FfnRefIdeal.Value.mix (m ((c : Thread nD τ).loc main_arg0)) (m ((c : Thread nD τ).loc main_arg1))
    (m ((c : Thread nD τ).loc main_arg2)) (m ((c : Thread nD τ).loc main_arg3))

/-- The rows of a block of the layer's input. -/
theorem in_at (c : Dev nD) (t : Fin cfg0.N) (r : Fin 512) (k : Fin 2048) (i : Fin 8192) (hi : i.val = t.val / 11 * 512 + r.val) :
    iblk m c 0 t (ix2 r k) = m ((c : Thread nD τ).loc main_arg0) (ix2 i k) := by
  blk_point [iblk, V, idx t]

theorem gate_at (c : Dev nD) (t : Fin cfg0.N) (k : Fin 2048) (l : Fin 512) (u : Fin 5632) (hu : u.val = t.val % 11 * 512 + l.val) :
    iblk m c 1 t (ix2 k l) = m ((c : Thread nD τ).loc main_arg1) (ix3 0 k u) := by
  blk_point [iblk, V, idx t]

theorem up_at (c : Dev nD) (t : Fin cfg0.N) (k : Fin 2048) (l : Fin 512) (u : Fin 5632) (hu : u.val = t.val % 11 * 512 + l.val) :
    iblk m c 2 t (ix2 k l) = m ((c : Thread nD τ).loc main_arg2) (ix3 0 k u) := by
  blk_point [iblk, V, idx t]

theorem down_at (c : Dev nD) (t : Fin cfg0.N) (l : Fin 512) (j : Fin 2048) (u : Fin 5632) (hu : u.val = t.val % 11 * 512 + l.val) :
    iblk m c 3 t (ix2 l j) = m ((c : Thread nD τ).loc main_arg3) (ix3 0 u j) := by
  blk_point [iblk, V, idx t]

/-- The copy of the input block the kernel keeps is the block of the run, at every point of the run. -/
theorem kept (c : Dev nD) : ∀ (n : ℕ) (hn : n < cfg0.N) (r : Fin 512) (k : Fin 2048) (i : Fin 8192), i.val = n / 11 * 512 + r.val →
    (outsAt0 m c n hn).2.1 (ix2 r k) = m ((c : Thread nD τ).loc main_arg0) (ix2 i k) := by
  intro n
  induction n with
  | zero =>
    intro hn r k i hi
    have h := outsAt0_A m c ⟨0, hn⟩ (by norm_num) (by norm_num)
    rw [show outsAt0 m c 0 hn = _ from h]
    frame_out
    rw [copy_at]
    exact in_at m c ⟨0, hn⟩ r k i hi
  | succ n ih =>
    intro hn r k i hi
    by_cases h0 : (n + 1) % 11 = 0
    · have h := outsAt0_A m c ⟨n + 1, hn⟩ h0 (by simp only [h0]; norm_num)
      rw [show outsAt0 m c (n + 1) hn = _ from h]
      frame_out
      rw [copy_at]
      exact in_at m c ⟨n + 1, hn⟩ r k i hi
    · have hp := ih (Nat.lt_of_succ_lt hn) r k i (by omega)
      by_cases h1 : (n + 1) % 11 = 10
      · have h := outsAt0_C m c ⟨n + 1, hn⟩ h0 h1
        rw [show outsAt0 m c (n + 1) hn = _ from h]
        exact hp
      · have h := outsAt0_B m c ⟨n + 1, hn⟩ h0 h1
        rw [show outsAt0 m c (n + 1) hn = _ from h]
        exact hp

/-- The contribution of a point's group of hidden units, in the argument arrays. -/
theorem part_at (c : Dev nD) (t : Fin cfg0.N) (H : FVec Ideal S512x2048 .bf16) (r : Fin 512) (j : Fin 2048) (i : Fin 8192)
    (hH : ∀ k, H (ix2 r k) = m ((c : Thread nD τ).loc main_arg0) (ix2 i k)) :
    part H (iblk m c 1 t) (iblk m c 2 t) (iblk m c 3 t) r j
      = ∑ l : Fin 512, unit (m ((c : Thread nD τ).loc main_arg0)) (m ((c : Thread nD τ).loc main_arg1)) (m ((c : Thread nD τ).loc main_arg2))
          (m ((c : Thread nD τ).loc main_arg3)) i j ⟨t.val % 11 * 512 + l.val, by omega⟩ := by
  unfold part unit
  refine Fin.sum_fin_congr fun l => ?_
  simp only [hH, fun k => gate_at m c t k l ⟨t.val % 11 * 512 + l.val, by omega⟩ rfl,
    fun k => up_at m c t k l ⟨t.val % 11 * 512 + l.val, by omega⟩ rfl, down_at m c t l j ⟨t.val % 11 * 512 + l.val, by omega⟩ rfl]

/-- After the last point of a run the accumulator holds the whole down projection of the run's rows. -/
theorem total (c : Dev nD) (t : Fin cfg0.N) (hf : t.val % 11 = 10) (r : Fin 512) (j : Fin 2048) (i : Fin 8192)
    (hi : i.val = t.val / 11 * 512 + r.val) :
    (outsAt0 m c t.val t.isLt).2.2 (ix2 r j)
      = ∑ u : Fin 5632, unit (m ((c : Thread nD τ).loc main_arg0)) (m ((c : Thread nD τ).loc main_arg1)) (m ((c : Thread nD τ).loc main_arg2))
          (m ((c : Thread nD τ).loc main_arg3)) i j u := by
  have key := Pipeline.eq_sum_fin_of_reset_step_apply_of_flush (fun n h => (outsAt0 m c n h).2.2) 11 (fun _ => (0 : EReal))
    (fun s y => part (outsAt0 m c s.val s.isLt).2.1 (iblk m c 1 s) (iblk m c 2 s) (iblk m c 3 s) (y 0) (y 1))
    (fun s h0 y => by
      obtain ⟨r, j, rfl⟩ : ∃ (r : Fin 512) (j : Fin 2048), y = ix2 r j := ⟨y 0, y 1, eq_ix2 y⟩
      have h := outsAt0_A m c s h0 (by simp only [h0]; norm_num)
      have h2 : (outsAt0 m c s.val s.isLt).2.1 = k0_pay1 (iblk m c 0 s) := by rw [h]; frame_out
      have h3 : (outsAt0 m c s.val s.isLt).2.2 = k0_pay3 (k0_pay1 (iblk m c 0 s)) (iblk m c 1 s) (iblk m c 2 s) (k0_pay2 (F := Ideal)) (iblk m c 3 s) := by
        rw [h]; frame_out
      show (outsAt0 m c s.val s.isLt).2.2 (ix2 r j) = _
      rw [h3, acc_at, zero_at, h2]
      rfl)
    (fun s h0 y => by
      obtain ⟨r, j, rfl⟩ : ∃ (r : Fin 512) (j : Fin 2048), y = ix2 r j := ⟨y 0, y 1, eq_ix2 y⟩
      by_cases h1 : s.val % 11 = 10
      · have h := outsAt0_C m c s h0 h1
        have h2 : (outsAt0 m c s.val s.isLt).2.1 = (outsAt0 m c (s.val - 1) (Nat.lt_of_le_of_lt (Nat.sub_le _ _) s.isLt)).2.1 := by rw [h]; rfl
        have h3 : (outsAt0 m c s.val s.isLt).2.2 = k0_pay3 (outsAt0 m c (s.val - 1) (Nat.lt_of_le_of_lt (Nat.sub_le _ _) s.isLt)).2.1
            (iblk m c 1 s) (iblk m c 2 s) (outsAt0 m c (s.val - 1) (Nat.lt_of_le_of_lt (Nat.sub_le _ _) s.isLt)).2.2 (iblk m c 3 s) := by
          rw [h]; frame_out; congr 1 <;> exact Memref.IsWhole.read_unread _ _
        show (outsAt0 m c s.val s.isLt).2.2 (ix2 r j) = _
        rw [h3, acc_at, h2]
        rfl
      · have h := outsAt0_B m c s h0 h1
        have h2 : (outsAt0 m c s.val s.isLt).2.1 = (outsAt0 m c (s.val - 1) (Nat.lt_of_le_of_lt (Nat.sub_le _ _) s.isLt)).2.1 := by rw [h]; rfl
        have h3 : (outsAt0 m c s.val s.isLt).2.2 = k0_pay3 (outsAt0 m c (s.val - 1) (Nat.lt_of_le_of_lt (Nat.sub_le _ _) s.isLt)).2.1
            (iblk m c 1 s) (iblk m c 2 s) (outsAt0 m c (s.val - 1) (Nat.lt_of_le_of_lt (Nat.sub_le _ _) s.isLt)).2.2 (iblk m c 3 s) := by
          rw [h]; frame_out; congr 1 <;> exact Memref.IsWhole.read_unread _ _
        show (outsAt0 m c s.val s.isLt).2.2 (ix2 r j) = _
        rw [h3, acc_at, h2]
        rfl)
    t hf (ix2 r j)
  refine Eq.trans key ?_
  rw [zero_add]
  refine Eq.trans (Fin.sum_fin_congr fun s => ?_) (Fin.sum_mul_add_fin 11 512
    (unit (m ((c : Thread nD τ).loc main_arg0)) (m ((c : Thread nD τ).loc main_arg1)) (m ((c : Thread nD τ).loc main_arg2))
      (m ((c : Thread nD τ).loc main_arg3)) i j))
  have e : (11 * (t.val / 11) + s.val) / 11 = t.val / 11 := by omega
  have e' : (11 * (t.val / 11) + s.val) % 11 = s.val := by omega
  refine (part_at m c ⟨11 * (t.val / 11) + s.val, _⟩ _ r j i fun k => kept m c _ _ r k i (by rw [e]; exact hi)).trans ?_
  refine Fin.sum_fin_congr fun l => ?_
  congr 1
  exact Fin.ext (by simp only [e'])

/-- The scale as the kernel's host code lays it out. -/
theorem scale_eq (c : Dev nD) : V m c main_v8
    = shapeCast S1x2048 (shapeCast S2048 (m ((c : Thread nD τ).loc main_arg4) : FVec Ideal S1x2048 .f32) shapeCasts_S1x2048_S2048)
        shapeCasts_S2048_S1x2048 := by
  entry_read
  rfl

/-- The offset as the kernel's host code lays it out. -/
theorem offset_eq (c : Dev nD) : V m c main_v9
    = shapeCast S1x2048 (shapeCast S2048 (m ((c : Thread nD τ).loc main_arg5) : FVec Ideal S1x2048 .f32) shapeCasts_S1x2048_S2048)
        shapeCasts_S2048_S1x2048 := by
  entry_read
  rfl

set_option maxHeartbeats 2000000 in
/-- The kernel's eight-row operand. -/
theorem rows_eq (c : Dev nD) : V m c main_v11
    = concatenate S8x2048 0 [⟨S1x2048, (V m c main_v8 : FVec Ideal S1x2048 .f32)⟩, ⟨S1x2048, (V m c main_v9 : FVec Ideal S1x2048 .f32)⟩,
        ⟨S6x2048, (V m c main_v10 : FVec Ideal S6x2048 .f32)⟩] concatenates_S1x2048_S1x2048_S6x2048_S8x2048_d0 := by
  rfl

/-- The scale's row in the kernel's eight-row operand. -/
theorem scale_at (c : Dev nD) (t : Fin cfg0.N) (j : Fin 2048) :
    View.ld (iblk m c 4 t) (Rect.unit ![0, 0] ![1, 2048] inb_S8x2048_S1x2048_0_0) (ix2 0 j) = m ((c : Thread nD τ).loc main_arg4) (ix2 0 j) := by
  have h : View.ld (iblk m c 4 t) (Rect.unit ![0, 0] ![1, 2048] inb_S8x2048_S1x2048_0_0) (ix2 0 j) = V m c main_v11 (ix2 0 j) := by
    pointwise
    blk_simp [iblk, idx t]
    blk_ext [idx t]
  rw [h, rows_eq, scale_eq]
  pointwise

/-- The offset's row in the kernel's eight-row operand. -/
theorem offset_at (c : Dev nD) (t : Fin cfg0.N) (j : Fin 2048) :
    View.ld (iblk m c 4 t) (Rect.unit ![1, 0] ![1, 2048] inb_S8x2048_S1x2048_1_0) (ix2 0 j) = m ((c : Thread nD τ).loc main_arg5) (ix2 0 j) := by
  have h : View.ld (iblk m c 4 t) (Rect.unit ![1, 0] ![1, 2048] inb_S8x2048_S1x2048_1_0) (ix2 0 j) = V m c main_v11 (ix2 1 j) := by
    pointwise
    blk_simp [iblk, idx t]
    blk_ext [idx t]
  rw [h, rows_eq, offset_eq]
  pointwise

/-- The block the last point of a run writes back. -/
theorem out_eq (c : Dev nD) (t : Fin cfg0.N) (hf : t.val % 11 = 10) :
    (outsAt0 m c t.val t.isLt).1 = k0_pay4 (iblk m c 0 t) (outsAt0 m c t.val t.isLt).2.2
      (View.ld (iblk m c 4 t) (Rect.unit ![0, 0] ![1, 2048] inb_S8x2048_S1x2048_0_0))
      (View.ld (iblk m c 4 t) (Rect.unit ![1, 0] ![1, 2048] inb_S8x2048_S1x2048_1_0)) := by
  rw [outsAt0_C m c t (by omega) hf]
  frame_out
  rfl

/-- The result array is the layer norm of the residual sum, as the reference has it. -/
theorem final (c : Dev nD) : (dats m 0 c).arrAt 5 cfg0.N
    = Cert.FfnRefIdeal.Value.norm (MIX m c) (m ((c : Thread nD τ).loc main_arg4)) (m ((c : Thread nD τ).loc main_arg5)) := by
  refine (dats m 0 c).arrAt_eq_of_covers 5 _ (by decide +kernel) fun t hf y => ?_
  have hm : t.val % 11 = 10 := (flush0_5 t).mp hf
  blk_simp
  rw [after0_5, out_eq m c t hm]
  obtain ⟨r, j, rfl⟩ : ∃ (r : Fin 512) (j : Fin 2048), y = ix2 r j := ⟨y 0, y 1, eq_ix2 y⟩
  have ht : t.val < 176 := (idx t).2.2.2.2.2.2
  have he : ((View.whole main_v12).slice (win0_5.rect t)).emb (ix2 r j)
      = (ix2 ⟨t.val / 11 * 512 + r.val, by omega⟩ j : S8192x2048.Idx) := by
    blk_ext [idx t]
  refine (pay_at _ _ _ _ r j).trans ?_
  rw [scale_at m c t j, offset_at m c t j]
  refine Eq.trans ?_ (congrArg (Cert.FfnRefIdeal.Value.norm (MIX m c) (m ((c : Thread nD τ).loc main_arg4))
    (m ((c : Thread nD τ).loc main_arg5))) he).symm
  refine Eq.trans ?_ (Cert.FfnRefIdeal.Value.norm_at _ _ _ _ _).symm
  have hrow : (fun k => Ideal.ofBits .f32 0x3F9837F0#32 * iblk m c 0 t (ix2 r k) + (outsAt0 m c t.val t.isLt).2.2 (ix2 r k))
      = fun k => MIX m c (ix2 ⟨t.val / 11 * 512 + r.val, by omega⟩ k) := funext fun k => by
    rw [in_at m c t r k ⟨t.val / 11 * 512 + r.val, by omega⟩ rfl, total m c t hm r k ⟨t.val / 11 * 512 + r.val, by omega⟩ rfl]
    exact (mix_at _ _ _ _ _ k).symm
  rw [hrow]

end Cert.FfnIdeal.Ffn

end
-- ==== Proof.FfnSRef.lean ====
/- What the reference of the feed-forward computes, element by element. -/
module

public import proofs.«01_k».proof.Proof.LayerNorm
public import proofs.«01_k».proof.Proof.Gen.FfnSRefIdeal.Run

@[expose] public section

set_option maxRecDepth 16384

noncomputable section

namespace Cert.FfnSRefIdeal.Value

open Cert.FfnSRefIdeal Cert.FfnSRefIdeal.Gen Cert.LayerNorm
open Idealize.ShloMosaic Idealize.ShloMosaic.TcCoe Idealize.SL.Sem

/-- The mean of every row. -/
def mean (Y : FVec Ideal S256x2048 .f32) : FVec Ideal S256x1 .f32 :=
  Host.divf (broadcastInDim S256x1 ![0] Gen.bcast_S256_S256x1_0
      (Host.reduceAdd Y (constant S_ .f32 0x00000000#32) Gen.reducesTo_S256x2048_S256_d1 Gen.h_S_))
    (broadcastInDim S256x1 ![] Gen.bcast_S_S256x1 (constant S_ .f32 0x45000000#32))

/-- The difference from the mean. -/
def dev (Y : FVec Ideal S256x2048 .f32) : FVec Ideal S256x2048 .f32 :=
  subf Y (broadcastInDim S256x2048 ![0, 1] Gen.bcast_S256x1_S256x2048_0_1 (mean Y))

/-- The layer norm of every row. -/
def norm (Y : FVec Ideal S256x2048 .f32) (g b : FVec Ideal S1x2048 .f32) : FVec Ideal S256x2048 .f32 :=
  addf (mulf (mulf (dev Y)
      (broadcastInDim S256x2048 ![0, 1] Gen.bcast_S256x1_S256x2048_0_1
        (Host.rsqrt (addf (mean (mulf (dev Y) (dev Y)))
          (broadcastInDim S256x1 ![] Gen.bcast_S_S256x1 (constant S_ .f32 0x3727C5AC#32))))))
      (broadcastInDim S256x2048 ![0, 1] Gen.bcast_S1x2048_S256x2048_0_1
        (broadcastInDim S1x2048 ![1] Gen.bcast_S2048_S1x2048_1 (shapeCast _ g Gen.shapeCasts_S1x2048_S2048))))
    (broadcastInDim S256x2048 ![0, 1] Gen.bcast_S1x2048_S256x2048_0_1
      (broadcastInDim S1x2048 ![1] Gen.bcast_S2048_S1x2048_1 (shapeCast _ b Gen.shapeCasts_S1x2048_S2048)))

theorem mean_at (Y : FVec Ideal S256x2048 .f32) (i : Fin 256) (z : Fin 1) :
    mean Y (ix2 i z) = rowMean fun k => Y (ix2 i k) := by
  pointwise [mean, rowMean]

theorem dev_at (Y : FVec Ideal S256x2048 .f32) (i : Fin 256) (j : Fin 2048) :
    dev Y (ix2 i j) = Y (ix2 i j) - rowMean fun k => Y (ix2 i k) := by
  pointwise [dev, mean_at]

theorem norm_at (Y : FVec Ideal S256x2048 .f32) (g b : FVec Ideal S1x2048 .f32) (i : Fin 256) (j : Fin 2048) :
    norm Y g b (ix2 i j) = rowNorm (fun k => Y (ix2 i k)) (g (ix2 0 j)) (b (ix2 0 j)) j := by
  pointwise [norm, mean_at, dev_at, rowNorm]

/-- The gate's values before the activation. -/
def gate (X0 : FVec Ideal S256x2048 .f32) (X1 : FVec Ideal S1x2048x5632 .f32) : FVec Ideal S256x5632 .f32 :=
  Host.dotGeneral dot_S256x2048_S2048x5632_S256x5632_1_0_0_1_n_n none X0 (shapeCast _ X1 Gen.shapeCasts_S1x2048x5632_S2048x5632)

/-- The activation `z · sigmoid z`. -/
def silu (z : FVec Ideal S256x5632 .f32) : FVec Ideal S256x5632 .f32 :=
  mulf z (Host.divf (broadcastInDim S256x5632 ![] Gen.bcast_S_S256x5632 (constant S_ .f32 0x3F800000#32))
    (addf (broadcastInDim S256x5632 ![] Gen.bcast_S_S256x5632 (constant S_ .f32 0x3F800000#32)) (Host.exp (Host.negf z))))

/-- The residual sum the layer norm is taken of. -/
def mix (X0 : FVec Ideal S256x2048 .f32) (X1 X2 : FVec Ideal S1x2048x5632 .f32) (X3 : FVec Ideal S1x5632x2048 .f32) :
    FVec Ideal S256x2048 .f32 :=
  addf (mulf (broadcastInDim S256x2048 ![] Gen.bcast_S_S256x2048 (constant S_ .f32 0x3F9837F0#32)) X0)
    (Host.dotGeneral dot_S256x5632_S5632x2048_S256x2048_1_0_0_1_n_n none (mulf (silu (gate X0 X1)) (gate X0 X2))
      (shapeCast _ X3 Gen.shapeCasts_S1x5632x2048_S5632x2048))

set_option maxHeartbeats 1600000 in
/-- The reference's result is the layer norm of the residual sum. -/
theorem res_eq (m : (ℓ : Loc nD τ sig) → Buf (Elt Ideal) ℓ) (c : Dev nD) :
    res_main_v36 m c = norm (mix (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := by
  unfold res_main_v36 norm dev mean mix silu gate
  rfl

end Cert.FfnSRefIdeal.Value

end
-- ==== Proof.FfnSValue.lean ====
/- The feed-forward kernel on the sample computes what its reference computes, over the extended reals: the hidden units are taken in
   eleven groups of 512, one per grid point, and the groups' contributions are added into a scratch buffer. -/
module

public import proofs.«01_k».proof.Proof.FfnSRef
public import proofs.«01_k».proof.Proof.Gen.FfnSIdeal.Frame
public import Idealize.ShloMosaic.Lib.Claim

@[expose] public section

set_option maxRecDepth 16384

noncomputable section

namespace Cert.FfnSIdeal.Ffn

open Cert.FfnSIdeal Cert.FfnSIdeal.Gen Cert.LayerNorm
open Idealize.ShloMosaic Idealize.ShloMosaic.TcCoe Idealize.SL.Sem
open Idealize.ShloMosaic.Pipeline (Dat)

variable (m : (ℓ : Loc nD τ sig) → Buf (Elt Ideal) ℓ)

/-- The last store is the layer norm of each row of the residual sum. -/
theorem pay_at (X A : FVec Ideal S256x2048 .f32) (g b : FVec Ideal S1x2048 .f32) (r : Fin 256) (j : Fin 2048) :
    k0_pay4 (F := Ideal) X A g b (ix2 r j)
      = rowNorm (fun k => Ideal.ofBits .f32 0x3F9837F0#32 * X (ix2 r k) + A (ix2 r k)) (g (ix2 0 j)) (b (ix2 0 j)) j := by
  pointwise [k0_pay4, rowNorm, rowMean]

/-- What one group of hidden units contributes. -/
def part (H : FVec Ideal S256x2048 .bf16) (Wg Wu : FVec Ideal S2048x512 .bf16) (Wd : FVec Ideal S512x2048 .bf16) (r : Fin 256) (j : Fin 2048) : EReal :=
  ∑ u : Fin 512, (((∑ k, H (ix2 r k) * Wg (ix2 k u)) * Ideal.div 1 (1 + Ideal.exp (-(∑ k, H (ix2 r k) * Wg (ix2 k u)))))
    * ∑ k, H (ix2 r k) * Wu (ix2 k u)) * Wd (ix2 u j)

/-- The logistic function is what the reference spells out. -/
theorem logistic_eq (x : EReal) : Ideal.logistic x = Ideal.div 1 (1 + Ideal.exp (-x)) := rfl

/-- Each point adds its group's contribution. -/
theorem acc_at (H : FVec Ideal S256x2048 .bf16) (Wg Wu : FVec Ideal S2048x512 .bf16) (A : FVec Ideal S256x2048 .f32) (Wd : FVec Ideal S512x2048 .bf16)
    (r : Fin 256) (j : Fin 2048) :
    k0_pay3 (F := Ideal) H Wg Wu A Wd (ix2 r j) = A (ix2 r j) + part H Wg Wu Wd r j := by
  pointwise [k0_pay3, part]
  simp only [logistic_eq]

theorem zero_at (r : Fin 256) (j : Fin 2048) : k0_pay2 (F := Ideal) (ix2 r j) = 0 := by
  pointwise [k0_pay2]

theorem copy_at (X : FVec Ideal S256x2048 .f32) : k0_pay1 (F := Ideal) X = X := by
  funext y
  obtain ⟨r, k, rfl⟩ : ∃ (r : Fin 256) (j : Fin 2048), y = ix2 r j := ⟨y 0, y 1, eq_ix2 y⟩
  pointwise [k0_pay1]

/-- The windows' block indices. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![t.val / 11, 0] ∧ t.val < 11 :=
  (by decide +kernel : ∀ t : Fin grid0.N, _)

/-- One hidden unit's contribution to an element of the down projection. -/
def unit (X0 : FVec Ideal S256x2048 .f32) (X1 X2 : FVec Ideal S1x2048x5632 .f32) (X3 : FVec Ideal S1x5632x2048 .f32)
    (i : Fin 256) (j : Fin 2048) (u : Fin 5632) : EReal :=
  (((∑ k : Fin 2048, X0 (ix2 i k) * X1 (ix3 0 k u)) * Ideal.div 1 (1 + Ideal.exp (-(∑ k : Fin 2048, X0 (ix2 i k) * X1 (ix3 0 k u)))))
    * ∑ k : Fin 2048, X0 (ix2 i k) * X2 (ix3 0 k u)) * X3 (ix3 0 u j)

/-- The reference's residual sum, element by element. -/
theorem mix_at (X0 : FVec Ideal S256x2048 .f32) (X1 X2 : FVec Ideal S1x2048x5632 .f32) (X3 : FVec Ideal S1x5632x2048 .f32)
    (i : Fin 256) (j : Fin 2048) :
    Cert.FfnSRefIdeal.Value.mix X0 X1 X2 X3 (ix2 i j)
      = Ideal.ofBits .f32 0x3F9837F0#32 * X0 (ix2 i j) + ∑ u : Fin 5632, unit X0 X1 X2 X3 i j u := by
  pointwise [Cert.FfnSRefIdeal.Value.mix, Cert.FfnSRefIdeal.Value.silu, Cert.FfnSRefIdeal.Value.gate, unit]

/-- The residual sum of the kernel's arguments. -/
abbrev MIX (c : Dev nD) : FVec Ideal S256x2048 .f32 :=
  Cert.FfnSRefIdeal.Value.mix (m ((c : Thread nD τ).loc main_arg0)) (m ((c : Thread nD τ).loc main_arg1))
    (m ((c : Thread nD τ).loc main_arg2)) (m ((c : Thread nD τ).loc main_arg3))

/-- The rows of a block of the layer's input. -/
theorem in_at (c : Dev nD) (t : Fin cfg0.N) (r : Fin 256) (k : Fin 2048) (i : Fin 256) (hi : i.val = t.val / 11 * 256 + r.val) :
    iblk m c 0 t (ix2 r k) = m ((c : Thread nD τ).loc main_arg0) (ix2 i k) := by
  blk_point [iblk, V, idx t]

theorem gate_at (c : Dev nD) (t : Fin cfg0.N) (k : Fin 2048) (l : Fin 512) (u : Fin 5632) (hu : u.val = t.val % 11 * 512 + l.val) :
    iblk m c 1 t (ix2 k l) = m ((c : Thread nD τ).loc main_arg1) (ix3 0 k u) := by
  blk_point [iblk, V, idx t]

theorem up_at (c : Dev nD) (t : Fin cfg0.N) (k : Fin 2048) (l : Fin 512) (u : Fin 5632) (hu : u.val = t.val % 11 * 512 + l.val) :
    iblk m c 2 t (ix2 k l) = m ((c : Thread nD τ).loc main_arg2) (ix3 0 k u) := by
  blk_point [iblk, V, idx t]

theorem down_at (c : Dev nD) (t : Fin cfg0.N) (l : Fin 512) (j : Fin 2048) (u : Fin 5632) (hu : u.val = t.val % 11 * 512 + l.val) :
    iblk m c 3 t (ix2 l j) = m ((c : Thread nD τ).loc main_arg3) (ix3 0 u j) := by
  blk_point [iblk, V, idx t]

/-- The copy of the input block the kernel keeps is the block of the run, at every point of the run. -/
theorem kept (c : Dev nD) : ∀ (n : ℕ) (hn : n < cfg0.N) (r : Fin 256) (k : Fin 2048) (i : Fin 256), i.val = n / 11 * 256 + r.val →
    (outsAt0 m c n hn).2.1 (ix2 r k) = m ((c : Thread nD τ).loc main_arg0) (ix2 i k) := by
  intro n
  induction n with
  | zero =>
    intro hn r k i hi
    have h := outsAt0_A m c ⟨0, hn⟩ (by norm_num) (by norm_num)
    rw [show outsAt0 m c 0 hn = _ from h]
    frame_out
    rw [copy_at]
    exact in_at m c ⟨0, hn⟩ r k i hi
  | succ n ih =>
    intro hn r k i hi
    by_cases h0 : (n + 1) % 11 = 0
    · have h := outsAt0_A m c ⟨n + 1, hn⟩ h0 (by simp only [h0]; norm_num)
      rw [show outsAt0 m c (n + 1) hn = _ from h]
      frame_out
      rw [copy_at]
      exact in_at m c ⟨n + 1, hn⟩ r k i hi
    · have hp := ih (Nat.lt_of_succ_lt hn) r k i (by omega)
      by_cases h1 : (n + 1) % 11 = 10
      · have h := outsAt0_C m c ⟨n + 1, hn⟩ h0 h1
        rw [show outsAt0 m c (n + 1) hn = _ from h]
        exact hp
      · have h := outsAt0_B m c ⟨n + 1, hn⟩ h0 h1
        rw [show outsAt0 m c (n + 1) hn = _ from h]
        exact hp

/-- The contribution of a point's group of hidden units, in the argument arrays. -/
theorem part_at (c : Dev nD) (t : Fin cfg0.N) (H : FVec Ideal S256x2048 .bf16) (r : Fin 256) (j : Fin 2048) (i : Fin 256)
    (hH : ∀ k, H (ix2 r k) = m ((c : Thread nD τ).loc main_arg0) (ix2 i k)) :
    part H (iblk m c 1 t) (iblk m c 2 t) (iblk m c 3 t) r j
      = ∑ l : Fin 512, unit (m ((c : Thread nD τ).loc main_arg0)) (m ((c : Thread nD τ).loc main_arg1)) (m ((c : Thread nD τ).loc main_arg2))
          (m ((c : Thread nD τ).loc main_arg3)) i j ⟨t.val % 11 * 512 + l.val, by omega⟩ := by
  unfold part unit
  refine Fin.sum_fin_congr fun l => ?_
  simp only [hH, fun k => gate_at m c t k l ⟨t.val % 11 * 512 + l.val, by omega⟩ rfl,
    fun k => up_at m c t k l ⟨t.val % 11 * 512 + l.val, by omega⟩ rfl, down_at m c t l j ⟨t.val % 11 * 512 + l.val, by omega⟩ rfl]

/-- After the last point of a run the accumulator holds the whole down projection of the run's rows. -/
theorem total (c : Dev nD) (t : Fin cfg0.N) (hf : t.val % 11 = 10) (r : Fin 256) (j : Fin 2048) (i : Fin 256)
    (hi : i.val = t.val / 11 * 256 + r.val) :
    (outsAt0 m c t.val t.isLt).2.2 (ix2 r j)
      = ∑ u : Fin 5632, unit (m ((c : Thread nD τ).loc main_arg0)) (m ((c : Thread nD τ).loc main_arg1)) (m ((c : Thread nD τ).loc main_arg2))
          (m ((c : Thread nD τ).loc main_arg3)) i j u := by
  have key := Pipeline.eq_sum_fin_of_reset_step_apply_of_flush (fun n h => (outsAt0 m c n h).2.2) 11 (fun _ => (0 : EReal))
    (fun s y => part (outsAt0 m c s.val s.isLt).2.1 (iblk m c 1 s) (iblk m c 2 s) (iblk m c 3 s) (y 0) (y 1))
    (fun s h0 y => by
      obtain ⟨r, j, rfl⟩ : ∃ (r : Fin 256) (j : Fin 2048), y = ix2 r j := ⟨y 0, y 1, eq_ix2 y⟩
      have h := outsAt0_A m c s h0 (by simp only [h0]; norm_num)
      have h2 : (outsAt0 m c s.val s.isLt).2.1 = k0_pay1 (iblk m c 0 s) := by rw [h]; frame_out
      have h3 : (outsAt0 m c s.val s.isLt).2.2 = k0_pay3 (k0_pay1 (iblk m c 0 s)) (iblk m c 1 s) (iblk m c 2 s) (k0_pay2 (F := Ideal)) (iblk m c 3 s) := by
        rw [h]; frame_out
      show (outsAt0 m c s.val s.isLt).2.2 (ix2 r j) = _
      rw [h3, acc_at, zero_at, h2]
      rfl)
    (fun s h0 y => by
      obtain ⟨r, j, rfl⟩ : ∃ (r : Fin 256) (j : Fin 2048), y = ix2 r j := ⟨y 0, y 1, eq_ix2 y⟩
      by_cases h1 : s.val % 11 = 10
      · have h := outsAt0_C m c s h0 h1
        have h2 : (outsAt0 m c s.val s.isLt).2.1 = (outsAt0 m c (s.val - 1) (Nat.lt_of_le_of_lt (Nat.sub_le _ _) s.isLt)).2.1 := by rw [h]; rfl
        have h3 : (outsAt0 m c s.val s.isLt).2.2 = k0_pay3 (outsAt0 m c (s.val - 1) (Nat.lt_of_le_of_lt (Nat.sub_le _ _) s.isLt)).2.1
            (iblk m c 1 s) (iblk m c 2 s) (outsAt0 m c (s.val - 1) (Nat.lt_of_le_of_lt (Nat.sub_le _ _) s.isLt)).2.2 (iblk m c 3 s) := by
          rw [h]; frame_out; congr 1 <;> exact Memref.IsWhole.read_unread _ _
        show (outsAt0 m c s.val s.isLt).2.2 (ix2 r j) = _
        rw [h3, acc_at, h2]
        rfl
      · have h := outsAt0_B m c s h0 h1
        have h2 : (outsAt0 m c s.val s.isLt).2.1 = (outsAt0 m c (s.val - 1) (Nat.lt_of_le_of_lt (Nat.sub_le _ _) s.isLt)).2.1 := by rw [h]; rfl
        have h3 : (outsAt0 m c s.val s.isLt).2.2 = k0_pay3 (outsAt0 m c (s.val - 1) (Nat.lt_of_le_of_lt (Nat.sub_le _ _) s.isLt)).2.1
            (iblk m c 1 s) (iblk m c 2 s) (outsAt0 m c (s.val - 1) (Nat.lt_of_le_of_lt (Nat.sub_le _ _) s.isLt)).2.2 (iblk m c 3 s) := by
          rw [h]; frame_out; congr 1 <;> exact Memref.IsWhole.read_unread _ _
        show (outsAt0 m c s.val s.isLt).2.2 (ix2 r j) = _
        rw [h3, acc_at, h2]
        rfl)
    t hf (ix2 r j)
  refine Eq.trans key ?_
  rw [zero_add]
  refine Eq.trans (Fin.sum_fin_congr fun s => ?_) (Fin.sum_mul_add_fin 11 512
    (unit (m ((c : Thread nD τ).loc main_arg0)) (m ((c : Thread nD τ).loc main_arg1)) (m ((c : Thread nD τ).loc main_arg2))
      (m ((c : Thread nD τ).loc main_arg3)) i j))
  have e : (11 * (t.val / 11) + s.val) / 11 = t.val / 11 := by omega
  have e' : (11 * (t.val / 11) + s.val) % 11 = s.val := by omega
  refine (part_at m c ⟨11 * (t.val / 11) + s.val, _⟩ _ r j i fun k => kept m c _ _ r k i (by rw [e]; exact hi)).trans ?_
  refine Fin.sum_fin_congr fun l => ?_
  congr 1
  exact Fin.ext (by simp only [e'])

/-- The scale as the kernel's host code lays it out. -/
theorem scale_eq (c : Dev nD) : V m c main_v8
    = shapeCast S1x2048 (shapeCast S2048 (m ((c : Thread nD τ).loc main_arg4) : FVec Ideal S1x2048 .f32) shapeCasts_S1x2048_S2048)
        shapeCasts_S2048_S1x2048 := by
  entry_read
  rfl

/-- The offset as the kernel's host code lays it out. -/
theorem offset_eq (c : Dev nD) : V m c main_v9
    = shapeCast S1x2048 (shapeCast S2048 (m ((c : Thread nD τ).loc main_arg5) : FVec Ideal S1x2048 .f32) shapeCasts_S1x2048_S2048)
        shapeCasts_S2048_S1x2048 := by
  entry_read
  rfl

set_option maxHeartbeats 2000000 in
/-- The kernel's eight-row operand. -/
theorem rows_eq (c : Dev nD) : V m c main_v11
    = concatenate S8x2048 0 [⟨S1x2048, (V m c main_v8 : FVec Ideal S1x2048 .f32)⟩, ⟨S1x2048, (V m c main_v9 : FVec Ideal S1x2048 .f32)⟩,
        ⟨S6x2048, (V m c main_v10 : FVec Ideal S6x2048 .f32)⟩] concatenates_S1x2048_S1x2048_S6x2048_S8x2048_d0 := by
  rfl

/-- The scale's row in the kernel's eight-row operand. -/
theorem scale_at (c : Dev nD) (t : Fin cfg0.N) (j : Fin 2048) :
    View.ld (iblk m c 4 t) (Rect.unit ![0, 0] ![1, 2048] inb_S8x2048_S1x2048_0_0) (ix2 0 j) = m ((c : Thread nD τ).loc main_arg4) (ix2 0 j) := by
  have h : View.ld (iblk m c 4 t) (Rect.unit ![0, 0] ![1, 2048] inb_S8x2048_S1x2048_0_0) (ix2 0 j) = V m c main_v11 (ix2 0 j) := by
    pointwise
    blk_simp [iblk, idx t]
    blk_ext [idx t]
  rw [h, rows_eq, scale_eq]
  pointwise

/-- The offset's row in the kernel's eight-row operand. -/
theorem offset_at (c : Dev nD) (t : Fin cfg0.N) (j : Fin 2048) :
    View.ld (iblk m c 4 t) (Rect.unit ![1, 0] ![1, 2048] inb_S8x2048_S1x2048_1_0) (ix2 0 j) = m ((c : Thread nD τ).loc main_arg5) (ix2 0 j) := by
  have h : View.ld (iblk m c 4 t) (Rect.unit ![1, 0] ![1, 2048] inb_S8x2048_S1x2048_1_0) (ix2 0 j) = V m c main_v11 (ix2 1 j) := by
    pointwise
    blk_simp [iblk, idx t]
    blk_ext [idx t]
  rw [h, rows_eq, offset_eq]
  pointwise

/-- The block the last point of a run writes back. -/
theorem out_eq (c : Dev nD) (t : Fin cfg0.N) (hf : t.val % 11 = 10) :
    (outsAt0 m c t.val t.isLt).1 = k0_pay4 (iblk m c 0 t) (outsAt0 m c t.val t.isLt).2.2
      (View.ld (iblk m c 4 t) (Rect.unit ![0, 0] ![1, 2048] inb_S8x2048_S1x2048_0_0))
      (View.ld (iblk m c 4 t) (Rect.unit ![1, 0] ![1, 2048] inb_S8x2048_S1x2048_1_0)) := by
  rw [outsAt0_C m c t (by omega) hf]
  frame_out
  rfl

/-- The result array is the layer norm of the residual sum, as the reference has it. -/
theorem final (c : Dev nD) : (dats m 0 c).arrAt 5 cfg0.N
    = Cert.FfnSRefIdeal.Value.norm (MIX m c) (m ((c : Thread nD τ).loc main_arg4)) (m ((c : Thread nD τ).loc main_arg5)) := by
  refine (dats m 0 c).arrAt_eq_of_covers 5 _ (by decide +kernel) fun t hf y => ?_
  have hm : t.val % 11 = 10 := (flush0_5 t).mp hf
  blk_simp
  rw [after0_5, out_eq m c t hm]
  obtain ⟨r, j, rfl⟩ : ∃ (r : Fin 256) (j : Fin 2048), y = ix2 r j := ⟨y 0, y 1, eq_ix2 y⟩
  have ht : t.val < 11 := (idx t).2.2.2.2.2.2
  have he : ((View.whole main_v12).slice (win0_5.rect t)).emb (ix2 r j)
      = (ix2 ⟨t.val / 11 * 256 + r.val, by omega⟩ j : S256x2048.Idx) := by
    blk_ext [idx t]
  refine (pay_at _ _ _ _ r j).trans ?_
  rw [scale_at m c t j, offset_at m c t j]
  refine Eq.trans ?_ (congrArg (Cert.FfnSRefIdeal.Value.norm (MIX m c) (m ((c : Thread nD τ).loc main_arg4))
    (m ((c : Thread nD τ).loc main_arg5))) he).symm
  refine Eq.trans ?_ (Cert.FfnSRefIdeal.Value.norm_at _ _ _ _ _).symm
  have hrow : (fun k => Ideal.ofBits .f32 0x3F9837F0#32 * iblk m c 0 t (ix2 r k) + (outsAt0 m c t.val t.isLt).2.2 (ix2 r k))
      = fun k => MIX m c (ix2 ⟨t.val / 11 * 256 + r.val, by omega⟩ k) := funext fun k => by
    rw [in_at m c t r k ⟨t.val / 11 * 256 + r.val, by omega⟩ rfl, total m c t hm r k ⟨t.val / 11 * 256 + r.val, by omega⟩ rfl]
    exact (mix_at _ _ _ _ _ k).symm
  rw [hrow]

end Cert.FfnSIdeal.Ffn

end
-- ==== Proof.MergeRef.lean ====
/- What the reference of the merge computes, element by element. -/
module

public import proofs.«01_k».proof.Proof.LayerNorm
public import proofs.«01_k».proof.Proof.Gen.MergeRefIdeal.Run

@[expose] public section

set_option maxRecDepth 16384

noncomputable section

namespace Cert.MergeRefIdeal.Value

open Cert.MergeRefIdeal Cert.MergeRefIdeal.Gen Cert.LayerNorm
open Idealize.ShloMosaic Idealize.ShloMosaic.TcCoe Idealize.SL.Sem

/-- The mean of every row. -/
def mean (Y : FVec Ideal S8192x2048 .f32) : FVec Ideal S8192x1 .f32 :=
  Host.divf (broadcastInDim S8192x1 ![0] Gen.bcast_S8192_S8192x1_0
      (Host.reduceAdd Y (constant S_ .f32 0x00000000#32) Gen.reducesTo_S8192x2048_S8192_d1 Gen.h_S_))
    (broadcastInDim S8192x1 ![] Gen.bcast_S_S8192x1 (constant S_ .f32 0x45000000#32))

/-- The difference from the mean. -/
def dev (Y : FVec Ideal S8192x2048 .f32) : FVec Ideal S8192x2048 .f32 :=
  subf Y (broadcastInDim S8192x2048 ![0, 1] Gen.bcast_S8192x1_S8192x2048_0_1 (mean Y))

/-- The layer norm of every row. -/
def norm (Y : FVec Ideal S8192x2048 .f32) (g b : FVec Ideal S1x2048 .f32) : FVec Ideal S8192x2048 .f32 :=
  addf (mulf (mulf (dev Y)
      (broadcastInDim S8192x2048 ![0, 1] Gen.bcast_S8192x1_S8192x2048_0_1
        (Host.rsqrt (addf (mean (mulf (dev Y) (dev Y)))
          (broadcastInDim S8192x1 ![] Gen.bcast_S_S8192x1 (constant S_ .f32 0x3727C5AC#32))))))
      (broadcastInDim S8192x2048 ![0, 1] Gen.bcast_S1x2048_S8192x2048_0_1
        (broadcastInDim S1x2048 ![1] Gen.bcast_S2048_S1x2048_1 (shapeCast _ g Gen.shapeCasts_S1x2048_S2048))))
    (broadcastInDim S8192x2048 ![0, 1] Gen.bcast_S1x2048_S8192x2048_0_1
      (broadcastInDim S1x2048 ![1] Gen.bcast_S2048_S1x2048_1 (shapeCast _ b Gen.shapeCasts_S1x2048_S2048)))

theorem mean_at (Y : FVec Ideal S8192x2048 .f32) (i : Fin 8192) (z : Fin 1) :
    mean Y (ix2 i z) = rowMean fun k => Y (ix2 i k) := by
  pointwise [mean, rowMean]

theorem dev_at (Y : FVec Ideal S8192x2048 .f32) (i : Fin 8192) (j : Fin 2048) :
    dev Y (ix2 i j) = Y (ix2 i j) - rowMean fun k => Y (ix2 i k) := by
  pointwise [dev, mean_at]

theorem norm_at (Y : FVec Ideal S8192x2048 .f32) (g b : FVec Ideal S1x2048 .f32) (i : Fin 8192) (j : Fin 2048) :
    norm Y g b (ix2 i j) = rowNorm (fun k => Y (ix2 i k)) (g (ix2 0 j)) (b (ix2 0 j)) j := by
  pointwise [norm, mean_at, dev_at, rowNorm]

/-- The gates' sigmoid. -/
def sig8 (z : FVec Ideal S8192x2048 .f32) : FVec Ideal S8192x2048 .f32 :=
  Host.divf (broadcastInDim S8192x2048 ![] Gen.bcast_S_S8192x2048 (constant S_ .f32 0x3F800000#32))
    (addf (broadcastInDim S8192x2048 ![] Gen.bcast_S_S8192x2048 (constant S_ .f32 0x3F800000#32)) (Host.exp (Host.negf z)))

/-- The two branches, gated and summed. -/
def gated (X1 X2 : FVec Ideal S8192x1024 .f32) (X3 : FVec Ideal S8192x4096 .f32) (X4 X5 : FVec Ideal S1x1024x2048 .f32) :
    FVec Ideal S8192x2048 .f32 :=
  addf (mulf (sig8 (extractStridedSlice S8192x2048 ![0, 0] X3 Gen.slices_S8192x4096_S8192x2048_0_0))
      (Host.dotGeneral dot_S8192x1024_S1024x2048_S8192x2048_1_0_0_1_n_n none X1 (shapeCast _ X4 Gen.shapeCasts_S1x1024x2048_S1024x2048)))
    (mulf (sig8 (extractStridedSlice S8192x2048 ![0, 2048] X3 Gen.slices_S8192x4096_S8192x2048_0_2048))
      (Host.dotGeneral dot_S8192x1024_S1024x2048_S8192x2048_1_0_0_1_n_n none X2 (shapeCast _ X5 Gen.shapeCasts_S1x1024x2048_S1024x2048)))

/-- The residual sum the layer norm is taken of. -/
def mix (X0 : FVec Ideal S1x8192x2048 .f32) (X1 X2 : FVec Ideal S8192x1024 .f32) (X3 : FVec Ideal S8192x4096 .f32)
    (X4 X5 : FVec Ideal S1x1024x2048 .f32) (X6 : FVec Ideal S1x2048x2048 .f32) : FVec Ideal S8192x2048 .f32 :=
  addf (mulf (broadcastInDim S8192x2048 ![] Gen.bcast_S_S8192x2048 (constant S_ .f32 0x3F9837F0#32))
      (shapeCast _ X0 Gen.shapeCasts_S1x8192x2048_S8192x2048))
    (Host.dotGeneral dot_S8192x2048_S2048x2048_S8192x2048_1_0_0_1_n_n none (gated X1 X2 X3 X4 X5)
      (shapeCast _ X6 Gen.shapeCasts_S1x2048x2048_S2048x2048))

set_option maxHeartbeats 1600000 in
/-- The reference's result is the layer norm of the residual sum. -/
theorem res_eq (m : (ℓ : Loc nD τ sig) → Buf (Elt Ideal) ℓ) (c : Dev nD) :
    res_main_v52 m c = norm (mix (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))
      (m ((c.tc : Thread nD τ).loc main_arg7)) (m ((c.tc : Thread nD τ).loc main_arg8)) := by
  unfold res_main_v52 norm dev mean mix gated sig8
  rfl

end Cert.MergeRefIdeal.Value

end
-- ==== Proof.MergeValue.lean ====
/- The merge kernel computes what its reference computes: block by block, over the extended reals. -/
module

public import proofs.«01_k».proof.Proof.MergeRef
public import proofs.«01_k».proof.Proof.Gen.MergeIdeal.Frame
public import Idealize.ShloMosaic.Lib.Claim

@[expose] public section

set_option maxRecDepth 16384

noncomputable section

namespace Cert.MergeIdeal.Merge

open Cert.MergeIdeal Cert.MergeIdeal.Gen Cert.LayerNorm
open Idealize.ShloMosaic Idealize.ShloMosaic.TcCoe Idealize.SL.Sem
open Idealize.ShloMosaic.Pipeline (Dat)

variable (m : (ℓ : Loc nD τ sig) → Buf (Elt Ideal) ℓ)

/-- The body's store is the layer norm of each row of its residual sum. -/
theorem pay_at (P0 : FVec Ideal S256x4096 .f32) (P1 : FVec Ideal S256x1024 .f32) (P2 : FVec Ideal S1024x2048 .bf16)
    (P3 : FVec Ideal S256x1024 .f32) (P4 : FVec Ideal S1024x2048 .bf16) (P5 : FVec Ideal S2048x2048 .bf16)
    (P6 : FVec Ideal S256x2048 .f32) (g b : FVec Ideal S1x2048 .f32) (r : Fin 256) (j : Fin 2048) :
    k0_pay1 (F := Ideal) (k0_pay2 P0 P1 P2 P3 P4 P5 P6) (k0_pay3 g) (k0_pay4 b) (k0_pay5 P0 P1 P2 P3 P4 P5 P6) (ix2 r j)
      = rowNorm (fun k => k0_pay2 (F := Ideal) P0 P1 P2 P3 P4 P5 P6 (ix2 r k)) (g (ix2 0 j)) (b (ix2 0 j)) j := by
  pointwise [k0_pay1, k0_pay3, k0_pay4, k0_pay5, rowNorm, rowMean]

/-- The logistic function is what the reference spells out. -/
theorem logistic_eq (x : EReal) : Ideal.logistic x = Ideal.div 1 (1 + Ideal.exp (-x)) := rfl

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 32 :=
  (by decide +kernel : ∀ t : Fin grid0.N, _)

/-- The reference's residual sum over the kernel's arguments. -/
abbrev MIX (c : Dev nD) : FVec Ideal S8192x2048 .f32 :=
  Cert.MergeRefIdeal.Value.mix (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Row `r` of the body's residual sum at point `t` is the reference's row `256 t + r`. -/
theorem sum_at (c : Dev nD) (t : Fin cfg0.N) (r : Fin 256) (k : Fin 2048) (R : Fin 8192) (hR : R.val = t.val * 256 + r.val) :
    k0_pay2 (iblk m c 3 t) (iblk m c 1 t) (iblk m c 4 t) (iblk m c 2 t) (iblk m c 5 t) (iblk m c 6 t) (iblk m c 0 t) (ix2 r k)
      = MIX m c (ix2 R k) := by
  pointwise [k0_pay2, Cert.MergeRefIdeal.Value.mix, Cert.MergeRefIdeal.Value.gated, Cert.MergeRefIdeal.Value.sig8]
  simp only [logistic_eq]
  blk_point [iblk, V, idx t]

/-- The scale as the kernel's host code lays it out. -/
theorem scale_eq (c : Dev nD) : V m c main_v9
    = shapeCast S1x2048 (shapeCast S2048 (m ((c : Thread nD τ).loc main_arg7) : FVec Ideal S1x2048 .f32) shapeCasts_S1x2048_S2048)
        shapeCasts_S2048_S1x2048 := by
  entry_read
  rfl

/-- The offset as the kernel's host code lays it out. -/
theorem offset_eq (c : Dev nD) : V m c main_v10
    = shapeCast S1x2048 (shapeCast S2048 (m ((c : Thread nD τ).loc main_arg8) : FVec Ideal S1x2048 .f32) shapeCasts_S1x2048_S2048)
        shapeCasts_S2048_S1x2048 := by
  entry_read
  rfl

set_option maxHeartbeats 2000000 in
/-- The kernel's eight-row operand. -/
theorem rows_eq (c : Dev nD) : V m c main_v12
    = concatenate S8x2048 0 [⟨S1x2048, (V m c main_v9 : FVec Ideal S1x2048 .f32)⟩, ⟨S1x2048, (V m c main_v10 : FVec Ideal S1x2048 .f32)⟩,
        ⟨S6x2048, (V m c main_v11 : FVec Ideal S6x2048 .f32)⟩] concatenates_S1x2048_S1x2048_S6x2048_S8x2048_d0 := by
  rfl

/-- The scale's row in the kernel's eight-row operand. -/
theorem scale_at (c : Dev nD) (t : Fin cfg0.N) (j : Fin 2048) :
    View.ld (iblk m c 7 t) r0_5 (ix2 0 j) = m ((c : Thread nD τ).loc main_arg7) (ix2 0 j) := by
  have h : View.ld (iblk m c 7 t) r0_5 (ix2 0 j) = V m c main_v12 (ix2 0 j) := by
    pointwise
    blk_simp [iblk, idx t]
    blk_ext [idx t]
  rw [h, rows_eq, scale_eq]
  pointwise

/-- The offset's row in the kernel's eight-row operand. -/
theorem offset_at (c : Dev nD) (t : Fin cfg0.N) (j : Fin 2048) :
    View.ld (iblk m c 7 t) r0_6 (ix2 0 j) = m ((c : Thread nD τ).loc main_arg8) (ix2 0 j) := by
  have h : View.ld (iblk m c 7 t) r0_6 (ix2 0 j) = V m c main_v12 (ix2 1 j) := by
    pointwise
    blk_simp [iblk, idx t]
    blk_ext [idx t]
  rw [h, rows_eq, offset_eq]
  pointwise

/-- The result array is the layer norm of the residual sum, as the reference has it. -/
theorem final (c : Dev nD) : (dats m 0 c).arrAt 8 cfg0.N
    = Cert.MergeRefIdeal.Value.norm (MIX m c) (m ((c : Thread nD τ).loc main_arg7)) (m ((c : Thread nD τ).loc main_arg8)) := by
  refine (dats m 0 c).arrAt_eq_of_covers 8 _ (by decide +kernel) fun t _ y => ?_
  blk_simp
  rw [after0_8]
  frame_out
  obtain ⟨r, j, rfl⟩ : ∃ (r : Fin 256) (j : Fin 2048), y = ix2 r j := ⟨y 0, y 1, eq_ix2 y⟩
  have ht : t.val < 32 := (idx t).2.2.2.2.2.2.2.2.2
  have he : ((View.whole main_v13).slice (win0_8.rect t)).emb (ix2 r j)
      = (ix2 ⟨t.val * 256 + r.val, by omega⟩ j : S8192x2048.Idx) := by
    blk_ext [idx t]
  refine (pay_at _ _ _ _ _ _ _ _ _ r j).trans ?_
  rw [scale_at m c t j, offset_at m c t j]
  refine Eq.trans ?_ (congrArg (Cert.MergeRefIdeal.Value.norm (MIX m c) (m ((c : Thread nD τ).loc main_arg7))
    (m ((c : Thread nD τ).loc main_arg8))) he).symm
  refine Eq.trans ?_ (Cert.MergeRefIdeal.Value.norm_at _ _ _ _ _).symm
  rw [show (fun k => k0_pay2 (iblk m c 3 t) (iblk m c 1 t) (iblk m c 4 t) (iblk m c 2 t) (iblk m c 5 t) (iblk m c 6 t) (iblk m c 0 t) (ix2 r k))
    = fun k => MIX m c (ix2 ⟨t.val * 256 + r.val, by omega⟩ k) from funext fun k => sum_at m c t r k _ rfl]

end Cert.MergeIdeal.Merge

end
-- ==== Proof.MergeSRef.lean ====
/- What the reference of the merge computes, element by element. -/
module

public import proofs.«01_k».proof.Proof.LayerNorm
public import proofs.«01_k».proof.Proof.Gen.MergeSRefIdeal.Run

@[expose] public section

set_option maxRecDepth 16384

noncomputable section

namespace Cert.MergeSRefIdeal.Value

open Cert.MergeSRefIdeal Cert.MergeSRefIdeal.Gen Cert.LayerNorm
open Idealize.ShloMosaic Idealize.ShloMosaic.TcCoe Idealize.SL.Sem

/-- The mean of every row. -/
def mean (Y : FVec Ideal S256x2048 .f32) : FVec Ideal S256x1 .f32 :=
  Host.divf (broadcastInDim S256x1 ![0] Gen.bcast_S256_S256x1_0
      (Host.reduceAdd Y (constant S_ .f32 0x00000000#32) Gen.reducesTo_S256x2048_S256_d1 Gen.h_S_))
    (broadcastInDim S256x1 ![] Gen.bcast_S_S256x1 (constant S_ .f32 0x45000000#32))

/-- The difference from the mean. -/
def dev (Y : FVec Ideal S256x2048 .f32) : FVec Ideal S256x2048 .f32 :=
  subf Y (broadcastInDim S256x2048 ![0, 1] Gen.bcast_S256x1_S256x2048_0_1 (mean Y))

/-- The layer norm of every row. -/
def norm (Y : FVec Ideal S256x2048 .f32) (g b : FVec Ideal S1x2048 .f32) : FVec Ideal S256x2048 .f32 :=
  addf (mulf (mulf (dev Y)
      (broadcastInDim S256x2048 ![0, 1] Gen.bcast_S256x1_S256x2048_0_1
        (Host.rsqrt (addf (mean (mulf (dev Y) (dev Y)))
          (broadcastInDim S256x1 ![] Gen.bcast_S_S256x1 (constant S_ .f32 0x3727C5AC#32))))))
      (broadcastInDim S256x2048 ![0, 1] Gen.bcast_S1x2048_S256x2048_0_1
        (broadcastInDim S1x2048 ![1] Gen.bcast_S2048_S1x2048_1 (shapeCast _ g Gen.shapeCasts_S1x2048_S2048))))
    (broadcastInDim S256x2048 ![0, 1] Gen.bcast_S1x2048_S256x2048_0_1
      (broadcastInDim S1x2048 ![1] Gen.bcast_S2048_S1x2048_1 (shapeCast _ b Gen.shapeCasts_S1x2048_S2048)))

theorem mean_at (Y : FVec Ideal S256x2048 .f32) (i : Fin 256) (z : Fin 1) :
    mean Y (ix2 i z) = rowMean fun k => Y (ix2 i k) := by
  pointwise [mean, rowMean]

theorem dev_at (Y : FVec Ideal S256x2048 .f32) (i : Fin 256) (j : Fin 2048) :
    dev Y (ix2 i j) = Y (ix2 i j) - rowMean fun k => Y (ix2 i k) := by
  pointwise [dev, mean_at]

theorem norm_at (Y : FVec Ideal S256x2048 .f32) (g b : FVec Ideal S1x2048 .f32) (i : Fin 256) (j : Fin 2048) :
    norm Y g b (ix2 i j) = rowNorm (fun k => Y (ix2 i k)) (g (ix2 0 j)) (b (ix2 0 j)) j := by
  pointwise [norm, mean_at, dev_at, rowNorm]

/-- The gates' sigmoid. -/
def sig8 (z : FVec Ideal S256x2048 .f32) : FVec Ideal S256x2048 .f32 :=
  Host.divf (broadcastInDim S256x2048 ![] Gen.bcast_S_S256x2048 (constant S_ .f32 0x3F800000#32))
    (addf (broadcastInDim S256x2048 ![] Gen.bcast_S_S256x2048 (constant S_ .f32 0x3F800000#32)) (Host.exp (Host.negf z)))

/-- The two branches, gated and summed. -/
def gated (X1 X2 : FVec Ideal S256x1024 .f32) (X3 : FVec Ideal S256x4096 .f32) (X4 X5 : FVec Ideal S1x1024x2048 .f32) :
    FVec Ideal S256x2048 .f32 :=
  addf (mulf (sig8 (extractStridedSlice S256x2048 ![0, 0] X3 Gen.slices_S256x4096_S256x2048_0_0))
      (Host.dotGeneral dot_S256x1024_S1024x2048_S256x2048_1_0_0_1_n_n none X1 (shapeCast _ X4 Gen.shapeCasts_S1x1024x2048_S1024x2048)))
    (mulf (sig8 (extractStridedSlice S256x2048 ![0, 2048] X3 Gen.slices_S256x4096_S256x2048_0_2048))
      (Host.dotGeneral dot_S256x1024_S1024x2048_S256x2048_1_0_0_1_n_n none X2 (shapeCast _ X5 Gen.shapeCasts_S1x1024x2048_S1024x2048)))

/-- The residual sum the layer norm is taken of. -/
def mix (X0 : FVec Ideal S32x8x2048 .f32) (X1 X2 : FVec Ideal S256x1024 .f32) (X3 : FVec Ideal S256x4096 .f32)
    (X4 X5 : FVec Ideal S1x1024x2048 .f32) (X6 : FVec Ideal S1x2048x2048 .f32) : FVec Ideal S256x2048 .f32 :=
  addf (mulf (broadcastInDim S256x2048 ![] Gen.bcast_S_S256x2048 (constant S_ .f32 0x3F9837F0#32))
      (shapeCast _ X0 Gen.shapeCasts_S32x8x2048_S256x2048))
    (Host.dotGeneral dot_S256x2048_S2048x2048_S256x2048_1_0_0_1_n_n none (gated X1 X2 X3 X4 X5)
      (shapeCast _ X6 Gen.shapeCasts_S1x2048x2048_S2048x2048))

set_option maxHeartbeats 1600000 in
/-- The reference's result is the layer norm of the residual sum. -/
theorem res_eq (m : (ℓ : Loc nD τ sig) → Buf (Elt Ideal) ℓ) (c : Dev nD) :
    res_main_v52 m c = norm (mix (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))
      (m ((c.tc : Thread nD τ).loc main_arg7)) (m ((c.tc : Thread nD τ).loc main_arg8)) := by
  unfold res_main_v52 norm dev mean mix gated sig8
  rfl

end Cert.MergeSRefIdeal.Value

end
-- ==== Proof.MergeSValue.lean ====
/- The merge kernel of the sample computes what its reference computes: block by block, over the extended reals. -/
module

public import proofs.«01_k».proof.Proof.MergeSRef
public import proofs.«01_k».proof.Proof.Gen.MergeSIdeal.Frame
public import Idealize.ShloMosaic.Lib.Claim

@[expose] public section

set_option maxRecDepth 16384

noncomputable section

namespace Cert.MergeSIdeal.Merge

open Cert.MergeSIdeal Cert.MergeSIdeal.Gen Cert.LayerNorm
open Idealize.ShloMosaic Idealize.ShloMosaic.TcCoe Idealize.SL.Sem
open Idealize.ShloMosaic.Pipeline (Dat)

variable (m : (ℓ : Loc nD τ sig) → Buf (Elt Ideal) ℓ)

/-- The body's store is the layer norm of each row of its residual sum. -/
theorem pay_at (P0 : FVec Ideal S256x4096 .f32) (P1 : FVec Ideal S256x1024 .f32) (P2 : FVec Ideal S1024x2048 .bf16)
    (P3 : FVec Ideal S256x1024 .f32) (P4 : FVec Ideal S1024x2048 .bf16) (P5 : FVec Ideal S2048x2048 .bf16)
    (P6 : FVec Ideal S256x2048 .f32) (g b : FVec Ideal S1x2048 .f32) (r : Fin 256) (j : Fin 2048) :
    k0_pay1 (F := Ideal) (k0_pay2 P0 P1 P2 P3 P4 P5 P6) (k0_pay3 g) (k0_pay4 b) (k0_pay5 P0 P1 P2 P3 P4 P5 P6) (ix2 r j)
      = rowNorm (fun k => k0_pay2 (F := Ideal) P0 P1 P2 P3 P4 P5 P6 (ix2 r k)) (g (ix2 0 j)) (b (ix2 0 j)) j := by
  pointwise [k0_pay1, k0_pay3, k0_pay4, k0_pay5, rowNorm, rowMean]

/-- The logistic function is what the reference spells out. -/
theorem logistic_eq (x : EReal) : Ideal.logistic x = Ideal.div 1 (1 + Ideal.exp (-x)) := rfl

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 1 :=
  (by decide +kernel : ∀ t : Fin grid0.N, _)

/-- The reference's residual sum over the kernel's arguments. -/
abbrev MIX (c : Dev nD) : FVec Ideal S256x2048 .f32 :=
  Cert.MergeSRefIdeal.Value.mix (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Row `r` of the body's residual sum at point `t` is the reference's row `256 t + r`. -/
theorem sum_at (c : Dev nD) (t : Fin cfg0.N) (r : Fin 256) (k : Fin 2048) (R : Fin 256) (hR : R.val = t.val * 256 + r.val) :
    k0_pay2 (iblk m c 3 t) (iblk m c 1 t) (iblk m c 4 t) (iblk m c 2 t) (iblk m c 5 t) (iblk m c 6 t) (iblk m c 0 t) (ix2 r k)
      = MIX m c (ix2 R k) := by
  pointwise [k0_pay2, Cert.MergeSRefIdeal.Value.mix, Cert.MergeSRefIdeal.Value.gated, Cert.MergeSRefIdeal.Value.sig8]
  simp only [logistic_eq]
  blk_point [iblk, V, idx t]

/-- The scale as the kernel's host code lays it out. -/
theorem scale_eq (c : Dev nD) : V m c main_v9
    = shapeCast S1x2048 (shapeCast S2048 (m ((c : Thread nD τ).loc main_arg7) : FVec Ideal S1x2048 .f32) shapeCasts_S1x2048_S2048)
        shapeCasts_S2048_S1x2048 := by
  entry_read
  rfl

/-- The offset as the kernel's host code lays it out. -/
theorem offset_eq (c : Dev nD) : V m c main_v10
    = shapeCast S1x2048 (shapeCast S2048 (m ((c : Thread nD τ).loc main_arg8) : FVec Ideal S1x2048 .f32) shapeCasts_S1x2048_S2048)
        shapeCasts_S2048_S1x2048 := by
  entry_read
  rfl

set_option maxHeartbeats 2000000 in
/-- The kernel's eight-row operand. -/
theorem rows_eq (c : Dev nD) : V m c main_v12
    = concatenate S8x2048 0 [⟨S1x2048, (V m c main_v9 : FVec Ideal S1x2048 .f32)⟩, ⟨S1x2048, (V m c main_v10 : FVec Ideal S1x2048 .f32)⟩,
        ⟨S6x2048, (V m c main_v11 : FVec Ideal S6x2048 .f32)⟩] concatenates_S1x2048_S1x2048_S6x2048_S8x2048_d0 := by
  rfl

/-- The scale's row in the kernel's eight-row operand. -/
theorem scale_at (c : Dev nD) (t : Fin cfg0.N) (j : Fin 2048) :
    View.ld (iblk m c 7 t) r0_5 (ix2 0 j) = m ((c : Thread nD τ).loc main_arg7) (ix2 0 j) := by
  have h : View.ld (iblk m c 7 t) r0_5 (ix2 0 j) = V m c main_v12 (ix2 0 j) := by
    pointwise
    blk_simp [iblk, idx t]
    blk_ext [idx t]
  rw [h, rows_eq, scale_eq]
  pointwise

/-- The offset's row in the kernel's eight-row operand. -/
theorem offset_at (c : Dev nD) (t : Fin cfg0.N) (j : Fin 2048) :
    View.ld (iblk m c 7 t) r0_6 (ix2 0 j) = m ((c : Thread nD τ).loc main_arg8) (ix2 0 j) := by
  have h : View.ld (iblk m c 7 t) r0_6 (ix2 0 j) = V m c main_v12 (ix2 1 j) := by
    pointwise
    blk_simp [iblk, idx t]
    blk_ext [idx t]
  rw [h, rows_eq, offset_eq]
  pointwise

/-- The result array is the layer norm of the residual sum, as the reference has it. -/
theorem final (c : Dev nD) : (dats m 0 c).arrAt 8 cfg0.N
    = Cert.MergeSRefIdeal.Value.norm (MIX m c) (m ((c : Thread nD τ).loc main_arg7)) (m ((c : Thread nD τ).loc main_arg8)) := by
  refine (dats m 0 c).arrAt_eq_of_covers 8 _ (by decide +kernel) fun t _ y => ?_
  blk_simp
  rw [after0_8]
  frame_out
  obtain ⟨r, j, rfl⟩ : ∃ (r : Fin 256) (j : Fin 2048), y = ix2 r j := ⟨y 0, y 1, eq_ix2 y⟩
  have ht : t.val < 1 := (idx t).2.2.2.2.2.2.2.2.2
  have he : ((View.whole main_v13).slice (win0_8.rect t)).emb (ix2 r j)
      = (ix2 ⟨t.val * 256 + r.val, by omega⟩ j : S256x2048.Idx) := by
    blk_ext [idx t]
  refine (pay_at _ _ _ _ _ _ _ _ _ r j).trans ?_
  rw [scale_at m c t j, offset_at m c t j]
  refine Eq.trans ?_ (congrArg (Cert.MergeSRefIdeal.Value.norm (MIX m c) (m ((c : Thread nD τ).loc main_arg7))
    (m ((c : Thread nD τ).loc main_arg8))) he).symm
  refine Eq.trans ?_ (Cert.MergeSRefIdeal.Value.norm_at _ _ _ _ _).symm
  rw [show (fun k => k0_pay2 (iblk m c 3 t) (iblk m c 1 t) (iblk m c 4 t) (iblk m c 2 t) (iblk m c 5 t) (iblk m c 6 t) (iblk m c 0 t) (ix2 r k))
    = fun k => MIX m c (ix2 ⟨t.val * 256 + r.val, by omega⟩ k) from funext fun k => sum_at m c t r k _ rfl]

end Cert.MergeSIdeal.Merge

end
-- ==== Proof.InProjRef.lean ====
/- The reference of the input projection, read at an index. -/
module

public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.InProjRefIdeal.Value

open Cert.InProjRefIdeal Cert.InProjRefIdeal.Gen
open Idealize.ShloMosaic Idealize.ShloMosaic.TcCoe

/-- The activations times the whole weight matrix. -/
def prod (x : FVec Ideal S1x8192x2048 .f32) (w : FVec Ideal S1x2048x10688 .f32) : FVec Ideal S8192x10688 .f32 :=
  Host.dotGeneral dot_S8192x2048_S2048x10688_S8192x10688_1_0_0_1_n_n none (shapeCast _ x shapeCasts_S1x8192x2048_S8192x2048)
    (shapeCast _ w shapeCasts_S1x2048x10688_S2048x10688)

theorem prod_at (x : FVec Ideal S1x8192x2048 .f32) (w : FVec Ideal S1x2048x10688 .f32) (i : Fin 8192) (j : Fin 10688) :
    prod x w (ix2 i j) = ∑ k : Fin 2048, x (ix3 0 i k) * w (ix3 0 k j) := by
  pointwise [prod]

/-- The columns of the queries. -/
def queries (x : FVec Ideal S1x8192x2048 .f32) (w : FVec Ideal S1x2048x10688 .f32) : FVec Ideal S8192x1024 .f32 :=
  extractStridedSlice S8192x1024 ![0, 0] (prod x w) slices_S8192x10688_S8192x1024_0_0

theorem queries_at (x : FVec Ideal S1x8192x2048 .f32) (w : FVec Ideal S1x2048x10688 .f32) (i : Fin 8192) (j : Fin 1024) (l : Fin 10688)
    (hl : l.val = 0 + j.val) : queries x w (ix2 i j) = ∑ k : Fin 2048, x (ix3 0 i k) * w (ix3 0 k l) := by
  obtain rfl : l = ⟨0 + j.val, lt_of_lt_of_le (Nat.add_lt_add_left j.isLt 0) (by decide)⟩ := Fin.ext hl
  pointwise [queries, prod]

/-- The columns of the keys. -/
def keys (x : FVec Ideal S1x8192x2048 .f32) (w : FVec Ideal S1x2048x10688 .f32) : FVec Ideal S8192x1024 .f32 :=
  extractStridedSlice S8192x1024 ![0, 1024] (prod x w) slices_S8192x10688_S8192x1024_0_1024

theorem keys_at (x : FVec Ideal S1x8192x2048 .f32) (w : FVec Ideal S1x2048x10688 .f32) (i : Fin 8192) (j : Fin 1024) (l : Fin 10688)
    (hl : l.val = 1024 + j.val) : keys x w (ix2 i j) = ∑ k : Fin 2048, x (ix3 0 i k) * w (ix3 0 k l) := by
  obtain rfl : l = ⟨1024 + j.val, lt_of_lt_of_le (Nat.add_lt_add_left j.isLt 1024) (by decide)⟩ := Fin.ext hl
  pointwise [keys, prod]

/-- The columns of the values. -/
def values (x : FVec Ideal S1x8192x2048 .f32) (w : FVec Ideal S1x2048x10688 .f32) : FVec Ideal S8192x1024 .f32 :=
  extractStridedSlice S8192x1024 ![0, 2048] (prod x w) slices_S8192x10688_S8192x1024_0_2048

theorem values_at (x : FVec Ideal S1x8192x2048 .f32) (w : FVec Ideal S1x2048x10688 .f32) (i : Fin 8192) (j : Fin 1024) (l : Fin 10688)
    (hl : l.val = 2048 + j.val) : values x w (ix2 i j) = ∑ k : Fin 2048, x (ix3 0 i k) * w (ix3 0 k l) := by
  obtain rfl : l = ⟨2048 + j.val, lt_of_lt_of_le (Nat.add_lt_add_left j.isLt 2048) (by decide)⟩ := Fin.ext hl
  pointwise [values, prod]

/-- The columns of the recurrence. -/
def recurrence (x : FVec Ideal S1x8192x2048 .f32) (w : FVec Ideal S1x2048x10688 .f32) : FVec Ideal S8192x3584 .f32 :=
  extractStridedSlice S8192x3584 ![0, 3072] (prod x w) slices_S8192x10688_S8192x3584_0_3072

theorem recurrence_at (x : FVec Ideal S1x8192x2048 .f32) (w : FVec Ideal S1x2048x10688 .f32) (i : Fin 8192) (j : Fin 3584) (l : Fin 10688)
    (hl : l.val = 3072 + j.val) : recurrence x w (ix2 i j) = ∑ k : Fin 2048, x (ix3 0 i k) * w (ix3 0 k l) := by
  obtain rfl : l = ⟨3072 + j.val, lt_of_lt_of_le (Nat.add_lt_add_left j.isLt 3072) (by decide)⟩ := Fin.ext hl
  pointwise [recurrence, prod]

/-- The columns of the gates. -/
def gates (x : FVec Ideal S1x8192x2048 .f32) (w : FVec Ideal S1x2048x10688 .f32) : FVec Ideal S8192x4096 .f32 :=
  extractStridedSlice S8192x4096 ![0, 6592] (prod x w) slices_S8192x10688_S8192x4096_0_6592

theorem gates_at (x : FVec Ideal S1x8192x2048 .f32) (w : FVec Ideal S1x2048x10688 .f32) (i : Fin 8192) (j : Fin 4096) (l : Fin 10688)
    (hl : l.val = 6592 + j.val) : gates x w (ix2 i j) = ∑ k : Fin 2048, x (ix3 0 i k) * w (ix3 0 k l) := by
  obtain rfl : l = ⟨6592 + j.val, lt_of_lt_of_le (Nat.add_lt_add_left j.isLt 6592) (by decide)⟩ := Fin.ext hl
  pointwise [gates, prod]

/-- The last token of the activations. -/
def lastToken (x : FVec Ideal S1x8192x2048 .f32) : FVec Ideal S1x1x2048 .f32 :=
  broadcastInDim S1x1x2048 ![1, 2] bcast_S1x2048_S1x1x2048_1_2 (shapeCast _ (extractStridedSlice S1x1x2048 ![0, 8191, 0] x
    slices_S1x8192x2048_S1x1x2048_0_8191_0) shapeCasts_S1x1x2048_S1x2048)

end Cert.InProjRefIdeal.Value

end
-- ==== Proof.InProj.Body.lean ====
/- What the body of the projection kernel does at each kind of grid point: the block of the activations is rounded into the
   scratch buffer at the first point of a row tile, and every point multiplies the scratch by one block of the weights into
   the output whose columns the point serves. -/
module

public import proofs.«01_k».proof.Proof.Gen.InProjIdeal.Frame
public import proofs.«01_k».proof.Proof.Gen.InProjIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a point is the first of its row tile. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 21 = 0 :=
  (by decide +kernel : ∀ t : Fin grid0.N, first (grid0.coords t) ↔ t.val % 21 = 0)

/-- Whether a point serves the queries, the keys, the values, the recurrence's columns, the gates. -/
abbrev on3 (i : grid0.Coords) : Prop := k0_cond2 i = 1#1
abbrev on4 (i : grid0.Coords) : Prop := k0_cond3 i = 1#1
abbrev on5 (i : grid0.Coords) : Prop := k0_cond4 i = 1#1
abbrev on6 (i : grid0.Coords) : Prop := k0_cond5 i = 1#1
abbrev on7 (i : grid0.Coords) : Prop := k0_cond6 i = 1#1
theorem on3_iff : ∀ t : Fin cfg0.N, on3 (grid0.coords t) ↔ (t.val % 21 ≤ 1) :=
  (by decide +kernel : ∀ t : Fin grid0.N, on3 (grid0.coords t) ↔ (t.val % 21 ≤ 1))
theorem on4_iff : ∀ t : Fin cfg0.N, on4 (grid0.coords t) ↔ (2 ≤ t.val % 21 ∧ t.val % 21 ≤ 3) :=
  (by decide +kernel : ∀ t : Fin grid0.N, on4 (grid0.coords t) ↔ (2 ≤ t.val % 21 ∧ t.val % 21 ≤ 3))
theorem on5_iff : ∀ t : Fin cfg0.N, on5 (grid0.coords t) ↔ (4 ≤ t.val % 21 ∧ t.val % 21 ≤ 5) :=
  (by decide +kernel : ∀ t : Fin grid0.N, on5 (grid0.coords t) ↔ (4 ≤ t.val % 21 ∧ t.val % 21 ≤ 5))
theorem on6_iff : ∀ t : Fin cfg0.N, on6 (grid0.coords t) ↔ (6 ≤ t.val % 21 ∧ t.val % 21 ≤ 12) :=
  (by decide +kernel : ∀ t : Fin grid0.N, on6 (grid0.coords t) ↔ (6 ≤ t.val % 21 ∧ t.val % 21 ≤ 12))
theorem on7_iff : ∀ t : Fin cfg0.N, on7 (grid0.coords t) ↔ (13 ≤ t.val % 21) :=
  (by decide +kernel : ∀ t : Fin grid0.N, on7 (grid0.coords t) ↔ (13 ≤ t.val % 21))

/-- At the first point of a row tile the block of activations is rounded into the scratch, and the scratch multiplied. -/
theorem run_first (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : first i) (h3 : on3 i) (h4 : ¬on4 i) (h5 : ¬on5 i) (h6 : ¬on6 i) (h7 : ¬on7 i)
    (x : Vec F S1024x2048 .f32) (y : Vec F S2048x512 .bf16) (E : Set ℕ) (K : PUnit → sProp 𝕄) :
    iprop(owns (c : Thread nD τ) arg2 fullShare x ∗ owns (c : Thread nD τ) arg3 fullShare y ∗ (∃ d, owns (c : Thread nD τ) arg5 fullShare d) ∗ (∃ d, owns (c : Thread nD τ) arg10 fullShare d)
        ∗ (iprop(owns (c : Thread nD τ) arg2 fullShare x ∗ owns (c : Thread nD τ) arg3 fullShare y ∗ owns (c : Thread nD τ) arg5 fullShare (k0_pay2 (k0_pay1 x) y) ∗ owns (c : Thread nD τ) arg10 fullShare (k0_pay1 x)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; rw [View.read_writes_full]; unfold run_first.sl.v28 run_first.sl.H3_1; rw [View.readCov_full, View.readAt_full, View.readAt_full, hf0, hf1]
  iexists _; isplitr; swap; · iexact H3
  ipureintro; unfold run_first.sl.H3_1; rw [View.read_writes_full, View.readAt_full, hf0]

/-- A later point serving the queries multiplies the scratch. -/
theorem run3 (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : ¬first i) (h3 : on3 i) (h4 : ¬on4 i) (h5 : ¬on5 i) (h6 : ¬on6 i) (h7 : ¬on7 i)
    (x : Vec F S1024x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg5 fullShare d)
        ∗ (iprop(owns (c : Thread nD τ) arg10 fullShare x ∗ owns (c : Thread nD τ) arg3 fullShare y ∗ owns (c : Thread nD τ) arg5 fullShare (k0_pay2 x y)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the keys multiplies the scratch. -/
theorem run4 (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : ¬first i) (h3 : ¬on3 i) (h4 : on4 i) (h5 : ¬on5 i) (h6 : ¬on6 i) (h7 : ¬on7 i)
    (x : Vec F S1024x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg6 fullShare d)
        ∗ (iprop(owns (c : Thread nD τ) arg10 fullShare x ∗ owns (c : Thread nD τ) arg3 fullShare y ∗ owns (c : Thread nD τ) arg6 fullShare (k0_pay3 x y)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the values multiplies the scratch. -/
theorem run5 (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : ¬first i) (h3 : ¬on3 i) (h4 : ¬on4 i) (h5 : on5 i) (h6 : ¬on6 i) (h7 : ¬on7 i)
    (x : Vec F S1024x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg7 fullShare d)
        ∗ (iprop(owns (c : Thread nD τ) arg10 fullShare x ∗ owns (c : Thread nD τ) arg3 fullShare y ∗ owns (c : Thread nD τ) arg7 fullShare (k0_pay4 x y)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the columns of the recurrence multiplies the scratch. -/
theorem run6 (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : ¬first i) (h3 : ¬on3 i) (h4 : ¬on4 i) (h5 : ¬on5 i) (h6 : on6 i) (h7 : ¬on7 i)
    (x : Vec F S1024x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg8 fullShare d)
        ∗ (iprop(owns (c : Thread nD τ) arg10 fullShare x ∗ owns (c : Thread nD τ) arg3 fullShare y ∗ owns (c : Thread nD τ) arg8 fullShare (k0_pay5 x y)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the gates multiplies the scratch. -/
theorem run7 (c : Dev nD) (i : grid0.Coords) (arg2 : Memref sig .tc .vmem S1024x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (arg8 : Memref sig .tc .vmem S1024x512 .f32) (harg8 : arg8.IsWhole) (arg9 : Memref sig .tc .vmem S1024x512 .f32) (harg9 : arg9.IsWhole)
    (arg10 : Memref sig .tc .vmem S1024x2048 .bf16) (harg10 : arg10.IsWhole)
    (hf : ¬first i) (h3 : ¬on3 i) (h4 : ¬on4 i) (h5 : ¬on5 i) (h6 : ¬on6 i) (h7 : on7 i)
    (x : Vec F S1024x2048 .bf16) (y : Vec F S2048x512 .bf16) (E : Set ℕ) (K : PUnit → sProp 𝕄) :
    iprop(owns (c : Thread nD τ) arg10 fullShare x ∗ owns (c : Thread nD τ) arg4 fullShare y ∗ (∃ d, owns (c : Thread nD τ) arg9 fullShare d)
        ∗ (iprop(owns (c : Thread nD τ) arg10 fullShare x ∗ owns (c : Thread nD τ) arg4 fullShare y ∗ owns (c : Thread nD τ) arg9 fullShare (k0_pay6 x y)) -∗ K ⟨⟩))
      ⊢ wp frame (wpE (defs₀ (F := F)) Variants.none c none) E (cc0_in_proj_p i arg2 harg2 arg3 harg3 arg4 harg4 arg5 harg5 arg6 harg6 arg7 harg7 arg8 harg8 arg9 harg9 arg10 harg10) K := by
  simp only [cc0_in_proj_p_eq_skeleton]; unfold cc0_in_proj_p_skel
  unfold owns
  iintro ⟨⟨%f0, %hf0, H0⟩, ⟨%f1, %hf1, H1⟩, ⟨%d2, %f2, -, H2⟩, Hk⟩
  obtain rfl := harg10.eq_unread hf0; obtain rfl := harg4.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg4.read_unread _
    iexact H1
  iexists _; isplitr; swap; · iexact H2
  ipureintro; rw [View.read_writes_full, View.readAt_full, View.readAt_full, hf0, hf1]

end Cert.InProjIdeal.Proj

end
-- ==== Proof.InProj.Frame.lean ====
/- The run of the projection kernel: what every staging buffer and the scratch hold at every grid point, the body from point
   to point, and what the run ends with. A row tile takes twenty-one points; an output's buffer is stored at the points that
   serve its columns, keeps the last stored block through the rest of the row tile, and is written back once more, with that
   block, at the row tile's last point. -/
module

public import proofs.«01_k».proof.Proof.InProj.Body
public import Idealize.ShloMosaic.Lib.Claim
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Each window's staging buffer at a point, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .f32 := win0_7.stage (cfg0.slots t 7)
abbrev hs7 (t : Fin cfg0.N) : (ms7 t).IsWhole := hstage0_7 ((cfg0.slots t 7).cast nbuf0_7)
/-- The scratch buffer. -/
abbrev scr : Memref sig .tc .vmem S1024x2048 .bf16 := Memref.whole cc0_scratch0

/-- The launch's share for the body: the scratch at anything, and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## What they hold -/

/-- The last point up to `t` of its row tile whose column is at most `h`. -/
def src (h : ℕ) (t : Fin cfg0.N) : Fin cfg0.N := ⟨t.val - (t.val % 21 - h), lt_of_le_of_lt (Nat.sub_le _ _) t.isLt⟩

theorem src_self (h : ℕ) (t : Fin cfg0.N) (ht : t.val % 21 ≤ h) : src h t = t :=
  Fin.ext (by show t.val - (t.val % 21 - h) = t.val; omega)

theorem src_pred (h : ℕ) (t : Fin cfg0.N) (ht : h < t.val % 21) :
    src h t = src h ⟨t.val - 1, lt_of_le_of_lt (Nat.sub_le _ _) t.isLt⟩ :=
  Fin.ext (by show t.val - (t.val % 21 - h) = t.val - 1 - ((t.val - 1) % 21 - h); omega)

/-- The rounded block of activations of the point's row tile. -/
def act (c : Dev nD) (t : Fin cfg0.N) : Vec F S1024x2048 .bf16 := k0_pay1 (iblk m c 0 t)

/-- The scratch before position `n`: anything at the start, then the rounded activations of the point before. -/
def Phi (c : Dev nD) : (n : ℕ) → n ≤ cfg0.N → sProp 𝕄
  | 0, _ => Pipeline.ΦA spec0 c
  | n + 1, hn => iprop(iprop(owns (c : Thread nD τ) scr fullShare (act m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scr fullShare (act m c ⟨n, hn⟩)) ∗ (∃ r, prngReg c r)) := rfl

theorem Phi_pos (c : Dev nD) (n : ℕ) (h : n ≤ cfg0.N) (hz : n ≠ 0) :
    Phi m c n h = iprop(iprop(owns (c : Thread nD τ) scr fullShare (act m c ⟨n - 1, by omega⟩)) ∗ (∃ r, prngReg c r)) := by
  cases n with
  | zero => exact absurd rfl hz
  | succ n => rfl

/-- Whatever the position, the scratch is held at some contents. -/
theorem Phi_any (c : Dev nD) (n : ℕ) (h : n ≤ cfg0.N) : Phi m c n h ⊢ Pipeline.ΦA spec0 c := by
  by_cases hz : n = 0
  · rw [Phi_zero m c n h hz]
  · rw [Phi_pos m c n h hz, PhiA_eq]
    iintro ⟨HS, Hg⟩
    isplitl [HS]
    · iexists _; iexact HS
    iexact Hg

theorem Phi_open (c : Dev nD) (n : ℕ) (h : n ≤ cfg0.N) :
    Phi m c n h ⊢ iprop(iprop((∃ d, owns (c : Thread nD τ) scr fullShare d)) ∗ (∃ r, prngReg c r)) := by
  have := Phi_any m c n h; rwa [PhiA_eq] at this

/-- The kernel's data: the arrays as launched, and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay2 (act m c t) (X0_1 m c (src 1 t))
    | ⟨4, _⟩ => k0_pay3 (act m c t) (X0_1 m c (src 3 t))
    | ⟨5, _⟩ => k0_pay4 (act m c t) (X0_1 m c (src 5 t))
    | ⟨6, _⟩ => k0_pay5 (act m c t) (X0_1 m c (src 12 t))
    | ⟨7, _⟩ => k0_pay6 (act m c t) (iblk m c 2 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (act m c t) (X0_1 m c (src 1 t)) := by dsimp only [dats]
theorem after_4 (c : Dev nD) (t : Fin cfg0.N) : (dats m 0 c).after 4 t = k0_pay3 (act m c t) (X0_1 m c (src 3 t)) := by dsimp only [dats]
theorem after_5 (c : Dev nD) (t : Fin cfg0.N) : (dats m 0 c).after 5 t = k0_pay4 (act m c t) (X0_1 m c (src 5 t)) := by dsimp only [dats]
theorem after_6 (c : Dev nD) (t : Fin cfg0.N) : (dats m 0 c).after 6 t = k0_pay5 (act m c t) (X0_1 m c (src 12 t)) := by dsimp only [dats]
theorem after_7 (c : Dev nD) (t : Fin cfg0.N) : (dats m 0 c).after 7 t = k0_pay6 (act m c t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The activations' block is the same at all points of a row tile. -/
theorem index0 : ∀ t : Fin cfg0.N, (cfg0.win 0).index t = ![t.val / 21, 0] :=
  (by decide +kernel : ∀ t : Fin grid0.N, win0_0.index t = ![t.val / 21, 0])

theorem act_same (c : Dev nD) {t s : Fin cfg0.N} (h : t.val / 21 = s.val / 21) : act m c t = act m c s := by
  have hi : (cfg0.win 0).index t = (cfg0.win 0).index s := by rw [index0 t, index0 s, h]
  have hc : ∀ i i', (cfg0.win 0).clip i = (cfg0.win 0).clip i' := fun _ _ => rfl
  have e : ∀ (u : Fin cfg0.N) d, (dats m 0 c).fetched 0 u d = iblk m c 0 u := fun u d => by
    unfold Dat.fetched Dat.blockOf iblk; rw [A_eq]; try rfl
  have h2 := (dats m 0 c).fetched_congr 0 hi (hc _ _)
  have h3 : (iblk m c 0 t : Vec F S1024x2048 .f32) = iblk m c 0 s := (e t (fun _ => Classical.choice inferInstance)).symm.trans ((h2 _).trans (e s _))
  unfold act
  rw [h3]

/-! ## The outputs' buffers where nothing is stored -/

theorem idle3 : ∀ t : Fin cfg0.N, cfg0.idle 3 (cfg0.grid.coords t) = !decide (t.val % 21 ≤ 1) :=
  (by decide +kernel : ∀ t : Fin cfg0.N, cfg0.idle 3 (cfg0.grid.coords t) = !decide (t.val % 21 ≤ 1))
theorem flush3 : ∀ t : Fin cfg0.N, ¬(t.val % 21 ≤ 1) → (cfg0.win 3).flush t = decide (t.val % 21 = 20) :=
  (by decide +kernel : ∀ t : Fin cfg0.N, ¬(t.val % 21 ≤ 1) → (cfg0.win 3).flush t = decide (t.val % 21 = 20))
theorem fresh3 : ∀ n, n ≤ cfg0.N → cfg0.fresh 3 n = decide (n % 21 < 2) :=
  Cfg.fresh_tab cfg0 3 (fun n => decide (n % 21 < 2)) (by decide)
    (by decide +kernel : ∀ t : Fin cfg0.N, decide ((t.val + 1) % 21 < 2) = ((cfg0.win 3).flush t || (cfg0.idle 3 (cfg0.grid.coords t) && decide (t.val % 21 < 2))))
theorem carry3 (c : Dev nD) (t : Fin cfg0.N) (h : 2 ≤ t.val % 21) (d) : (dats m 0 c).before 3 t d = (dats m 0 c).after 3 t := by
  have hc : ∀ (t : Fin cfg0.N) (_ : 2 ≤ t.val % 21), (dats m 0 c).after 3 t = (dats m 0 c).after 3 ⟨t.val - 1, by omega⟩ := fun t h => by
    rw [after_3, after_3, src_pred 1 t (by omega), act_same m c (t := t) (s := ⟨t.val - 1, by omega⟩) (by show t.val / 21 = (t.val - 1) / 21; omega)]
  rw [(dats m 0 c).before_out_traj 3 rfl (fun _ _ => rfl) (fun t ht hi hf => hc t (by
      have := (fresh3 t.val (Nat.le_of_lt t.isLt)).symm.trans hf; simpa using this)) t.val t rfl d,
    fresh3 _ (Nat.le_of_lt t.isLt), if_neg (by simp; omega)]
  exact (hc t h).symm
/-- Where nothing is stored the buffer may be handed on as found. -/
theorem skip3 (c : Dev nD) (t : Fin cfg0.N) (h : ¬(t.val % 21 ≤ 1)) :
    iprop(∃ d, owns (c : Thread nD τ) (ms3 t) fullShare ((dats m 0 c).before 3 t d)) ⊢ ((dats m 0 c).leavesExact 3 t : sProp 𝕄) := by
  have hi : cfg0.idle 3 (cfg0.grid.coords t) = true := by rw [idle3]; simp only [Bool.not_eq_true', Bool.not_eq_false', decide_eq_false_iff_not, decide_eq_true_eq]; exact h
  by_cases hf : t.val % 21 = 20
  · rw [show ((dats m 0 c).leavesExact 3 t : sProp 𝕄) = owns (c : Thread nD τ) (ms3 t) fullShare ((dats m 0 c).after 3 t) from by
      unfold Dat.leavesExact; rw [hi, (flush3 t h).trans (decide_eq_true hf)]]
    simp only [carry3 m c t (by omega)]
    iintro ⟨%d, H⟩; iexact H
  · rw [Dat.leavesExact_idle (dats m 0 c) 3 t hi ((flush3 t h).trans (decide_eq_false hf))]
/-- Where something is stored the buffer ends at the stored block. -/
theorem stored3 (c : Dev nD) (t : Fin cfg0.N) (h : t.val % 21 ≤ 1) :
    ((dats m 0 c).leavesExact 3 t : sProp 𝕄) = owns (c : Thread nD τ) (ms3 t) fullShare (k0_pay2 (act m c t) (X0_1 m c t)) := by
  rw [show ((dats m 0 c).leavesExact 3 t : sProp 𝕄) = owns (c : Thread nD τ) (ms3 t) fullShare ((dats m 0 c).after 3 t) from by
    unfold Dat.leavesExact; rw [show cfg0.idle 3 (cfg0.grid.coords t) = false from by rw [idle3]; simp only [Bool.not_eq_true', Bool.not_eq_false', decide_eq_false_iff_not, decide_eq_true_eq]; exact h], after_3, src_self 1 t (by omega)]

theorem idle4 : ∀ t : Fin cfg0.N, cfg0.idle 4 (cfg0.grid.coords t) = !decide (2 ≤ t.val % 21 ∧ t.val % 21 ≤ 3) :=
  (by decide +kernel : ∀ t : Fin cfg0.N, cfg0.idle 4 (cfg0.grid.coords t) = !decide (2 ≤ t.val % 21 ∧ t.val % 21 ≤ 3))
theorem flush4 : ∀ t : Fin cfg0.N, ¬(2 ≤ t.val % 21 ∧ t.val % 21 ≤ 3) → (cfg0.win 4).flush t = decide (t.val % 21 = 20) :=
  (by decide +kernel : ∀ t : Fin cfg0.N, ¬(2 ≤ t.val % 21 ∧ t.val % 21 ≤ 3) → (cfg0.win 4).flush t = decide (t.val % 21 = 20))
theorem fresh4 : ∀ n, n ≤ cfg0.N → cfg0.fresh 4 n = decide (n % 21 < 4) :=
  Cfg.fresh_tab cfg0 4 (fun n => decide (n % 21 < 4)) (by decide)
    (by decide +kernel : ∀ t : Fin cfg0.N, decide ((t.val + 1) % 21 < 4) = ((cfg0.win 4).flush t || (cfg0.idle 4 (cfg0.grid.coords t) && decide (t.val % 21 < 4))))
theorem carry4 (c : Dev nD) (t : Fin cfg0.N) (h : 4 ≤ t.val % 21) (d) : (dats m 0 c).before 4 t d = (dats m 0 c).after 4 t := by
  have hc : ∀ (t : Fin cfg0.N) (_ : 4 ≤ t.val % 21), (dats m 0 c).after 4 t = (dats m 0 c).after 4 ⟨t.val - 1, by omega⟩ := fun t h => by
    rw [after_4, after_4, src_pred 3 t (by omega), act_same m c (t := t) (s := ⟨t.val - 1, by omega⟩) (by show t.val / 21 = (t.val - 1) / 21; omega)]
  rw [(dats m 0 c).before_out_traj 4 rfl (fun _ _ => rfl) (fun t ht hi hf => hc t (by
      have := (fresh4 t.val (Nat.le_of_lt t.isLt)).symm.trans hf; simpa using this)) t.val t rfl d,
    fresh4 _ (Nat.le_of_lt t.isLt), if_neg (by simp; omega)]
  exact (hc t h).symm
/-- Where nothing is stored the buffer may be handed on as found. -/
theorem skip4 (c : Dev nD) (t : Fin cfg0.N) (h : ¬(2 ≤ t.val % 21 ∧ t.val % 21 ≤ 3)) :
    iprop(∃ d, owns (c : Thread nD τ) (ms4 t) fullShare ((dats m 0 c).before 4 t d)) ⊢ ((dats m 0 c).leavesExact 4 t : sProp 𝕄) := by
  have hi : cfg0.idle 4 (cfg0.grid.coords t) = true := by rw [idle4]; simp only [Bool.not_eq_true', Bool.not_eq_false', decide_eq_false_iff_not, decide_eq_true_eq]; exact h
  by_cases hf : t.val % 21 = 20
  · rw [show ((dats m 0 c).leavesExact 4 t : sProp 𝕄) = owns (c : Thread nD τ) (ms4 t) fullShare ((dats m 0 c).after 4 t) from by
      unfold Dat.leavesExact; rw [hi, (flush4 t h).trans (decide_eq_true hf)]]
    simp only [carry4 m c t (by omega)]
    iintro ⟨%d, H⟩; iexact H
  · rw [Dat.leavesExact_idle (dats m 0 c) 4 t hi ((flush4 t h).trans (decide_eq_false hf))]
/-- Where something is stored the buffer ends at the stored block. -/
theorem stored4 (c : Dev nD) (t : Fin cfg0.N) (h : 2 ≤ t.val % 21 ∧ t.val % 21 ≤ 3) :
    ((dats m 0 c).leavesExact 4 t : sProp 𝕄) = owns (c : Thread nD τ) (ms4 t) fullShare (k0_pay3 (act m c t) (X0_1 m c t)) := by
  rw [show ((dats m 0 c).leavesExact 4 t : sProp 𝕄) = owns (c : Thread nD τ) (ms4 t) fullShare ((dats m 0 c).after 4 t) from by
    unfold Dat.leavesExact; rw [show cfg0.idle 4 (cfg0.grid.coords t) = false from by rw [idle4]; simp only [Bool.not_eq_true', Bool.not_eq_false', decide_eq_false_iff_not, decide_eq_true_eq]; exact h], after_4, src_self 3 t (by omega)]

theorem idle5 : ∀ t : Fin cfg0.N, cfg0.idle 5 (cfg0.grid.coords t) = !decide (4 ≤ t.val % 21 ∧ t.val % 21 ≤ 5) :=
  (by decide +kernel : ∀ t : Fin cfg0.N, cfg0.idle 5 (cfg0.grid.coords t) = !decide (4 ≤ t.val % 21 ∧ t.val % 21 ≤ 5))
theorem flush5 : ∀ t : Fin cfg0.N, ¬(4 ≤ t.val % 21 ∧ t.val % 21 ≤ 5) → (cfg0.win 5).flush t = decide (t.val % 21 = 20) :=
  (by decide +kernel : ∀ t : Fin cfg0.N, ¬(4 ≤ t.val % 21 ∧ t.val % 21 ≤ 5) → (cfg0.win 5).flush t = decide (t.val % 21 = 20))
theorem fresh5 : ∀ n, n ≤ cfg0.N → cfg0.fresh 5 n = decide (n % 21 < 6) :=
  Cfg.fresh_tab cfg0 5 (fun n => decide (n % 21 < 6)) (by decide)
    (by decide +kernel : ∀ t : Fin cfg0.N, decide ((t.val + 1) % 21 < 6) = ((cfg0.win 5).flush t || (cfg0.idle 5 (cfg0.grid.coords t) && decide (t.val % 21 < 6))))
theorem carry5 (c : Dev nD) (t : Fin cfg0.N) (h : 6 ≤ t.val % 21) (d) : (dats m 0 c).before 5 t d = (dats m 0 c).after 5 t := by
  have hc : ∀ (t : Fin cfg0.N) (_ : 6 ≤ t.val % 21), (dats m 0 c).after 5 t = (dats m 0 c).after 5 ⟨t.val - 1, by omega⟩ := fun t h => by
    rw [after_5, after_5, src_pred 5 t (by omega), act_same m c (t := t) (s := ⟨t.val - 1, by omega⟩) (by show t.val / 21 = (t.val - 1) / 21; omega)]
  rw [(dats m 0 c).before_out_traj 5 rfl (fun _ _ => rfl) (fun t ht hi hf => hc t (by
      have := (fresh5 t.val (Nat.le_of_lt t.isLt)).symm.trans hf; simpa using this)) t.val t rfl d,
    fresh5 _ (Nat.le_of_lt t.isLt), if_neg (by simp; omega)]
  exact (hc t h).symm
/-- Where nothing is stored the buffer may be handed on as found. -/
theorem skip5 (c : Dev nD) (t : Fin cfg0.N) (h : ¬(4 ≤ t.val % 21 ∧ t.val % 21 ≤ 5)) :
    iprop(∃ d, owns (c : Thread nD τ) (ms5 t) fullShare ((dats m 0 c).before 5 t d)) ⊢ ((dats m 0 c).leavesExact 5 t : sProp 𝕄) := by
  have hi : cfg0.idle 5 (cfg0.grid.coords t) = true := by rw [idle5]; simp only [Bool.not_eq_true', Bool.not_eq_false', decide_eq_false_iff_not, decide_eq_true_eq]; exact h
  by_cases hf : t.val % 21 = 20
  · rw [show ((dats m 0 c).leavesExact 5 t : sProp 𝕄) = owns (c : Thread nD τ) (ms5 t) fullShare ((dats m 0 c).after 5 t) from by
      unfold Dat.leavesExact; rw [hi, (flush5 t h).trans (decide_eq_true hf)]]
    simp only [carry5 m c t (by omega)]
    iintro ⟨%d, H⟩; iexact H
  · rw [Dat.leavesExact_idle (dats m 0 c) 5 t hi ((flush5 t h).trans (decide_eq_false hf))]
/-- Where something is stored the buffer ends at the stored block. -/
theorem stored5 (c : Dev nD) (t : Fin cfg0.N) (h : 4 ≤ t.val % 21 ∧ t.val % 21 ≤ 5) :
    ((dats m 0 c).leavesExact 5 t : sProp 𝕄) = owns (c : Thread nD τ) (ms5 t) fullShare (k0_pay4 (act m c t) (X0_1 m c t)) := by
  rw [show ((dats m 0 c).leavesExact 5 t : sProp 𝕄) = owns (c : Thread nD τ) (ms5 t) fullShare ((dats m 0 c).after 5 t) from by
    unfold Dat.leavesExact; rw [show cfg0.idle 5 (cfg0.grid.coords t) = false from by rw [idle5]; simp only [Bool.not_eq_true', Bool.not_eq_false', decide_eq_false_iff_not, decide_eq_true_eq]; exact h], after_5, src_self 5 t (by omega)]

theorem idle6 : ∀ t : Fin cfg0.N, cfg0.idle 6 (cfg0.grid.coords t) = !decide (6 ≤ t.val % 21 ∧ t.val % 21 ≤ 12) :=
  (by decide +kernel : ∀ t : Fin cfg0.N, cfg0.idle 6 (cfg0.grid.coords t) = !decide (6 ≤ t.val % 21 ∧ t.val % 21 ≤ 12))
theorem flush6 : ∀ t : Fin cfg0.N, ¬(6 ≤ t.val % 21 ∧ t.val % 21 ≤ 12) → (cfg0.win 6).flush t = decide (t.val % 21 = 20) :=
  (by decide +kernel : ∀ t : Fin cfg0.N, ¬(6 ≤ t.val % 21 ∧ t.val % 21 ≤ 12) → (cfg0.win 6).flush t = decide (t.val % 21 = 20))
theorem fresh6 : ∀ n, n ≤ cfg0.N → cfg0.fresh 6 n = decide (n % 21 < 13) :=
  Cfg.fresh_tab cfg0 6 (fun n => decide (n % 21 < 13)) (by decide)
    (by decide +kernel : ∀ t : Fin cfg0.N, decide ((t.val + 1) % 21 < 13) = ((cfg0.win 6).flush t || (cfg0.idle 6 (cfg0.grid.coords t) && decide (t.val % 21 < 13))))
theorem carry6 (c : Dev nD) (t : Fin cfg0.N) (h : 13 ≤ t.val % 21) (d) : (dats m 0 c).before 6 t d = (dats m 0 c).after 6 t := by
  have hc : ∀ (t : Fin cfg0.N) (_ : 13 ≤ t.val % 21), (dats m 0 c).after 6 t = (dats m 0 c).after 6 ⟨t.val - 1, by omega⟩ := fun t h => by
    rw [after_6, after_6, src_pred 12 t (by omega), act_same m c (t := t) (s := ⟨t.val - 1, by omega⟩) (by show t.val / 21 = (t.val - 1) / 21; omega)]
  rw [(dats m 0 c).before_out_traj 6 rfl (fun _ _ => rfl) (fun t ht hi hf => hc t (by
      have := (fresh6 t.val (Nat.le_of_lt t.isLt)).symm.trans hf; simpa using this)) t.val t rfl d,
    fresh6 _ (Nat.le_of_lt t.isLt), if_neg (by simp; omega)]
  exact (hc t h).symm
/-- Where nothing is stored the buffer may be handed on as found. -/
theorem skip6 (c : Dev nD) (t : Fin cfg0.N) (h : ¬(6 ≤ t.val % 21 ∧ t.val % 21 ≤ 12)) :
    iprop(∃ d, owns (c : Thread nD τ) (ms6 t) fullShare ((dats m 0 c).before 6 t d)) ⊢ ((dats m 0 c).leavesExact 6 t : sProp 𝕄) := by
  have hi : cfg0.idle 6 (cfg0.grid.coords t) = true := by rw [idle6]; simp only [Bool.not_eq_true', Bool.not_eq_false', decide_eq_false_iff_not, decide_eq_true_eq]; exact h
  by_cases hf : t.val % 21 = 20
  · rw [show ((dats m 0 c).leavesExact 6 t : sProp 𝕄) = owns (c : Thread nD τ) (ms6 t) fullShare ((dats m 0 c).after 6 t) from by
      unfold Dat.leavesExact; rw [hi, (flush6 t h).trans (decide_eq_true hf)]]
    simp only [carry6 m c t (by omega)]
    iintro ⟨%d, H⟩; iexact H
  · rw [Dat.leavesExact_idle (dats m 0 c) 6 t hi ((flush6 t h).trans (decide_eq_false hf))]
/-- Where something is stored the buffer ends at the stored block. -/
theorem stored6 (c : Dev nD) (t : Fin cfg0.N) (h : 6 ≤ t.val % 21 ∧ t.val % 21 ≤ 12) :
    ((dats m 0 c).leavesExact 6 t : sProp 𝕄) = owns (c : Thread nD τ) (ms6 t) fullShare (k0_pay5 (act m c t) (X0_1 m c t)) := by
  rw [show ((dats m 0 c).leavesExact 6 t : sProp 𝕄) = owns (c : Thread nD τ) (ms6 t) fullShare ((dats m 0 c).after 6 t) from by
    unfold Dat.leavesExact; rw [show cfg0.idle 6 (cfg0.grid.coords t) = false from by rw [idle6]; simp only [Bool.not_eq_true', Bool.not_eq_false', decide_eq_false_iff_not, decide_eq_true_eq]; exact h], after_6, src_self 12 t (by omega)]

theorem idle7 : ∀ t : Fin cfg0.N, cfg0.idle 7 (cfg0.grid.coords t) = !decide (13 ≤ t.val % 21) :=
  (by decide +kernel : ∀ t : Fin cfg0.N, cfg0.idle 7 (cfg0.grid.coords t) = !decide (13 ≤ t.val % 21))
theorem flush7 : ∀ t : Fin cfg0.N, ¬(13 ≤ t.val % 21) → (cfg0.win 7).flush t = false :=
  (by decide +kernel : ∀ t : Fin cfg0.N, ¬(13 ≤ t.val % 21) → (cfg0.win 7).flush t = false)
/-- Where nothing is stored the buffer may be handed on as found. -/
theorem skip7 (c : Dev nD) (t : Fin cfg0.N) (h : ¬(13 ≤ t.val % 21)) :
    iprop(∃ d, owns (c : Thread nD τ) (ms7 t) fullShare ((dats m 0 c).before 7 t d)) ⊢ ((dats m 0 c).leavesExact 7 t : sProp 𝕄) := by
  rw [Dat.leavesExact_idle (dats m 0 c) 7 t (by rw [idle7]; simp only [Bool.not_eq_true', Bool.not_eq_false', decide_eq_false_iff_not, decide_eq_true_eq]; exact h) (flush7 t h)]
/-- Where something is stored the buffer ends at the stored block. -/
theorem stored7 (c : Dev nD) (t : Fin cfg0.N) (h : 13 ≤ t.val % 21) :
    ((dats m 0 c).leavesExact 7 t : sProp 𝕄) = owns (c : Thread nD τ) (ms7 t) fullShare (k0_pay6 (act m c t) (iblk m c 2 t)) := by
  rw [show ((dats m 0 c).leavesExact 7 t : sProp 𝕄) = owns (c : Thread nD τ) (ms7 t) fullShare ((dats m 0 c).after 7 t) from by
    unfold Dat.leavesExact; rw [show cfg0.idle 7 (cfg0.grid.coords t) = false from by rw [idle7]; simp only [Bool.not_eq_true', Bool.not_eq_false', decide_eq_false_iff_not, decide_eq_true_eq]; exact h], after_7]

/-! ## The body from point to point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = Phi m c (t.val + 1) t.isLt from rfl, Phi_succ, Phi_castSucc]
  have hN : t.val < 168 := lt_of_lt_of_eq t.isLt (show cfg0.N = 168 from N_0)
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  by_cases hf : t.val % 21 = 0
  · rw [stored3 m c t (by omega)]
    iintro ⟨HP, Ho, ⟨%d0, H0⟩, ⟨%d1, H1⟩, ⟨%d2, H2⟩, ⟨%d3, H3⟩, H4, H5, H6, H7⟩
    ihave HP := (Phi_open m c t.val (Nat.le_of_lt t.isLt)) $$ HP
    icases HP with ⟨HS, Hg⟩
    iapply (run_first c (grid0.coords t) _ _ _ _ _ _ _ _ _ _ _ _ _ _ _ _ _ _ ((first_iff t).mpr hf) ((on3_iff t).mpr (by omega)) (fun h => absurd ((on4_iff t).mp h) (by omega)) (fun h => absurd ((on5_iff t).mp h) (by omega)) (fun h => absurd ((on6_iff t).mp h) (by omega)) (fun h => absurd ((on7_iff t).mp h) (by omega)) (iblk m c 0 t) (X0_1 m c t) Set.univ _)
    isplitl [H0]; · iexact H0
    isplitl [H1]; · iexact H1
    isplitl [H3]; · iexists _; iexact H3
    isplitl [HS]; · iexact HS
    iintro ⟨H0, H1, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (skip4 m c t (by omega)); iexact H4
    isplitl [H5]; · iapply (skip5 m c t (by omega)); iexact H5
    isplitl [H6]; · iapply (skip6 m c t (by omega)); iexact H6
    iapply (skip7 m c t (by omega)); iexact H7
  · rcases (by omega : t.val % 21 = 1 ∨ (2 ≤ t.val % 21 ∧ t.val % 21 ≤ 3) ∨ (4 ≤ t.val % 21 ∧ t.val % 21 ≤ 5) ∨ (6 ≤ t.val % 21 ∧ t.val % 21 ≤ 12) ∨ 13 ≤ t.val % 21) with h | h | h | h | h
    · rw [stored3 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, ⟨%d3, H3⟩, H4, H5, H6, H7⟩
      iapply (run3 c (grid0.coords t) _ _ _ _ _ _ _ _ _ _ _ _ _ _ _ _ _ _ (fun h => hf ((first_iff t).mp h)) ((on3_iff t).mpr (by omega)) (fun h => absurd ((on4_iff t).mp h) (by omega)) (fun h => absurd ((on5_iff t).mp h) (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H3]; · iexists _; iexact H3
      iintro ⟨HS, H1, H3⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iapply (skip4 m c t (by omega)); iexact H4
      isplitl [H5]; · iapply (skip5 m c t (by omega)); iexact H5
      isplitl [H6]; · iapply (skip6 m c t (by omega)); iexact H6
      iapply (skip7 m c t (by omega)); iexact H7
    · rw [stored4 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, ⟨%d4, H4⟩, H5, H6, H7⟩
      iapply (run4 c (grid0.coords t) _ _ _ _ _ _ _ _ _ _ _ _ _ _ _ _ _ _ (fun h => hf ((first_iff t).mp h)) (fun h => absurd ((on3_iff t).mp h) (by omega)) ((on4_iff t).mpr (by omega)) (fun h => absurd ((on5_iff t).mp h) (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H4]; · iexists _; iexact H4
      iintro ⟨HS, H1, H4⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iexact H4
      isplitl [H5]; · iapply (skip5 m c t (by omega)); iexact H5
      isplitl [H6]; · iapply (skip6 m c t (by omega)); iexact H6
      iapply (skip7 m c t (by omega)); iexact H7
    · rw [stored5 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, ⟨%d5, H5⟩, H6, H7⟩
      iapply (run5 c (grid0.coords t) _ _ _ _ _ _ _ _ _ _ _ _ _ _ _ _ _ _ (fun h => hf ((first_iff t).mp h)) (fun h => absurd ((on3_iff t).mp h) (by omega)) (fun h => absurd ((on4_iff t).mp h) (by omega)) ((on5_iff t).mpr (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H5]; · iexists _; iexact H5
      iintro ⟨HS, H1, H5⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iexact H5
      isplitl [H6]; · iapply (skip6 m c t (by omega)); iexact H6
      iapply (skip7 m c t (by omega)); iexact H7
    · rw [stored6 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, H5, ⟨%d6, H6⟩, H7⟩
      iapply (run6 c (grid0.coords t) _ _ _ _ _ _ _ _ _ _ _ _ _ _ _ _ _ _ (fun h => hf ((first_iff t).mp h)) (fun h => absurd ((on3_iff t).mp h) (by omega)) (fun h => absurd ((on4_iff t).mp h) (by omega)) (fun h => absurd ((on5_iff t).mp h) (by omega)) ((on6_iff t).mpr (by omega)) (fun h => absurd ((on7_iff t).mp h) (by omega)) (act m c t) (X0_1 m c t) Set.univ _)
      isplitl [HS]; · iexact HS
      isplitl [H1]; · iexact H1
      isplitl [H6]; · iexists _; iexact H6
      iintro ⟨HS, H1, H6⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iapply (skip5 m c t (by omega)); iexact H5
      isplitl [H6]; · iexact H6
      iapply (skip7 m c t (by omega)); iexact H7
    · rw [stored7 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, H5, H6, ⟨%d7, H7⟩⟩
      iapply (run7 c (grid0.coords t) _ _ _ _ _ _ _ _ _ _ _ _ _ _ _ _ _ _ (fun h => hf ((first_iff t).mp h)) (fun h => absurd ((on3_iff t).mp h) (by omega)) (fun h => absurd ((on4_iff t).mp h) (by omega)) (fun h => absurd ((on5_iff t).mp h) (by omega)) (fun h => absurd ((on6_iff t).mp h) (by omega)) ((on7_iff t).mpr (by omega)) (act m c t) (iblk m c 2 t) Set.univ _)
      isplitl [HS]; · iexact HS
      isplitl [H2]; · iexact H2
      isplitl [H7]; · iexists _; iexact H7
      iintro ⟨HS, H2, H7⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iapply (skip5 m c t (by omega)); iexact H5
      isplitl [H6]; · iapply (skip6 m c t (by omega)); iexact H6
      iexact H7

/-- The body's part of the launch. -/
theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_any m c _ _

/-! ## The run -/

set_option backward.isDefEq.respectTransparency.types false in
/-- The run ends with every output at what was written back, and the counters at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_all m ρ))

end Cert.InProjIdeal.Proj

end
-- ==== Proof.InProjValue.lean ====
/- The projection kernel computes what its reference computes: block by block, over the extended reals. -/
module

public import proofs.«01_k».proof.Proof.InProjRef
public import proofs.«01_k».proof.Proof.InProj.Frame
public import Idealize.ShloMosaic.Lib.Claim

@[expose] public section

set_option maxRecDepth 16384

noncomputable section

namespace Cert.InProjIdeal.Proj

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![t.val / 21, 0] ∧ win0_1.index t = ![0, min (t.val % 21) 12]
    ∧ win0_2.index t = ![0, t.val % 21 - 13] ∧ win0_3.index t = ![t.val / 21, min (t.val % 21) 1]
    ∧ win0_4.index t = ![t.val / 21, min (t.val % 21 - 2) 1] ∧ win0_5.index t = ![t.val / 21, min (t.val % 21 - 4) 1]
    ∧ win0_6.index t = ![t.val / 21, min (t.val % 21 - 6) 6] ∧ win0_7.index t = ![t.val / 21, t.val % 21 - 13] ∧ t.val < 168 :=
  (by decide +kernel : ∀ t : Fin grid0.N, _)

/-- The rounded activations are the activations. -/
theorem act_at (c : Dev nD) (t : Fin cfg0.N) (r : Fin 1024) (k : Fin 2048) (R : Fin 8192) (hR : R.val = t.val / 21 * 1024 + r.val) :
    act m c t (ix2 r k) = m ((c : Thread nD τ).loc main_arg0) (ix3 0 R k) := by
  pointwise [act, k0_pay1]
  blk_point [iblk, V, idx t]

/-- The block of the weights. -/
theorem weight_at (c : Dev nD) (t : Fin cfg0.N) (k : Fin 2048) (j : Fin 512) (l : Fin 10688) (hl : l.val = min (t.val % 21) 12 * 512 + j.val) :
    X0_1 m c t (ix2 k j) = m ((c : Thread nD τ).loc main_arg1) (ix3 0 k l) := by
  unfold X0_1 Pipeline.Window.fill
  rw [dif_pos (moved0_1 t (ix2 k j))]
  pointwise
  blk_point [iblk, V, idx t]

/-- The block of the gates' weights. -/
theorem gate_at (c : Dev nD) (t : Fin cfg0.N) (k : Fin 2048) (j : Fin 512) (l : Fin 10688) (hl : l.val = 6592 + ((t.val % 21 - 13) * 512 + j.val)) :
    iblk m c 2 t (ix2 k j) = m ((c : Thread nD τ).loc main_arg1) (ix3 0 k l) := by
  pointwise
  blk_point [iblk, V, idx t]

theorem pay2_at (a : FVec Ideal S1024x2048 .bf16) (b : FVec Ideal S2048x512 .bf16) (r : Fin 1024) (j : Fin 512) :
    k0_pay2 (F := Ideal) a b (ix2 r j) = ∑ k : Fin 2048, a (ix2 r k) * b (ix2 k j) := by
  pointwise [k0_pay2]

theorem late3 : ∀ t : Fin cfg0.N, (cfg0.win 3).flush t = true → 0 ≤ t.val % 21 :=
  (by decide +kernel : ∀ t : Fin cfg0.N, (cfg0.win 3).flush t = true → 0 ≤ t.val % 21)

/-- The array of the queries. -/
theorem queries_eq (c : Dev nD) : (dats m 0 c).arrAt 3 cfg0.N
    = Cert.InProjRefIdeal.Value.queries (m ((c : Thread nD τ).loc main_arg0)) (m ((c : Thread nD τ).loc main_arg1)) := by
  refine (dats m 0 c).arrAt_eq_of_covers 3 _ (by decide +kernel) fun t hf y => ?_
  have hlo := late3 t hf
  blk_simp
  rw [after_3]
  obtain ⟨r, j, rfl⟩ : ∃ (r : Fin 1024) (j : Fin 512), y = ix2 r j := ⟨y 0, y 1, eq_ix2 y⟩
  have ht : t.val < 168 := (idx t).2.2.2.2.2.2.2.2
  have he : ((View.whole main_v7_0).slice (win0_3.rect t)).emb (ix2 r j)
      = (ix2 ⟨t.val / 21 * 1024 + r.val, by omega⟩ ⟨min (t.val % 21) 1 * 512 + j.val, by omega⟩ : S8192x1024.Idx) := by
    blk_ext [idx t]
  refine (pay2_at _ _ r j).trans ?_
  refine Eq.trans ?_ (congrArg (Cert.InProjRefIdeal.Value.queries (m ((c : Thread nD τ).loc main_arg0))
    (m ((c : Thread nD τ).loc main_arg1))) he).symm
  refine Eq.trans ?_ (Cert.InProjRefIdeal.Value.queries_at _ _ _ _ ⟨0 + (min (t.val % 21) 1 * 512 + j.val), by omega⟩ rfl).symm
  have hs : (src 1 t).val % 21 = min (t.val % 21) 1 := by
    show (t.val - (t.val % 21 - 1)) % 21 = _
    omega
  exact Finset.sum_congr rfl fun k _ => congrArg₂ (· * ·) (act_at m c t r k _ rfl)
    (weight_at m c (src 1 t) k j _ (by rw [hs]; show 0 + (min (t.val % 21) 1 * 512 + j.val) = _; omega))

theorem pay3_at (a : FVec Ideal S1024x2048 .bf16) (b : FVec Ideal S2048x512 .bf16) (r : Fin 1024) (j : Fin 512) :
    k0_pay3 (F := Ideal) a b (ix2 r j) = ∑ k : Fin 2048, a (ix2 r k) * b (ix2 k j) := by
  pointwise [k0_pay3]

theorem late4 : ∀ t : Fin cfg0.N, (cfg0.win 4).flush t = true → 2 ≤ t.val % 21 :=
  (by decide +kernel : ∀ t : Fin cfg0.N, (cfg0.win 4).flush t = true → 2 ≤ t.val % 21)

/-- The array of the keys. -/
theorem keys_eq (c : Dev nD) : (dats m 0 c).arrAt 4 cfg0.N
    = Cert.InProjRefIdeal.Value.keys (m ((c : Thread nD τ).loc main_arg0)) (m ((c : Thread nD τ).loc main_arg1)) := by
  refine (dats m 0 c).arrAt_eq_of_covers 4 _ (by decide +kernel) fun t hf y => ?_
  have hlo := late4 t hf
  blk_simp
  rw [after_4]
  obtain ⟨r, j, rfl⟩ : ∃ (r : Fin 1024) (j : Fin 512), y = ix2 r j := ⟨y 0, y 1, eq_ix2 y⟩
  have ht : t.val < 168 := (idx t).2.2.2.2.2.2.2.2
  have he : ((View.whole main_v7_1).slice (win0_4.rect t)).emb (ix2 r j)
      = (ix2 ⟨t.val / 21 * 1024 + r.val, by omega⟩ ⟨min (t.val % 21 - 2) 1 * 512 + j.val, by omega⟩ : S8192x1024.Idx) := by
    blk_ext [idx t]
  refine (pay3_at _ _ r j).trans ?_
  refine Eq.trans ?_ (congrArg (Cert.InProjRefIdeal.Value.keys (m ((c : Thread nD τ).loc main_arg0))
    (m ((c : Thread nD τ).loc main_arg1))) he).symm
  refine Eq.trans ?_ (Cert.InProjRefIdeal.Value.keys_at _ _ _ _ ⟨1024 + (min (t.val % 21 - 2) 1 * 512 + j.val), by omega⟩ rfl).symm
  have hs : (src 3 t).val % 21 = min (t.val % 21) 3 := by
    show (t.val - (t.val % 21 - 3)) % 21 = _
    omega
  exact Finset.sum_congr rfl fun k _ => congrArg₂ (· * ·) (act_at m c t r k _ rfl)
    (weight_at m c (src 3 t) k j _ (by rw [hs]; show 1024 + (min (t.val % 21 - 2) 1 * 512 + j.val) = _; omega))

theorem pay4_at (a : FVec Ideal S1024x2048 .bf16) (b : FVec Ideal S2048x512 .bf16) (r : Fin 1024) (j : Fin 512) :
    k0_pay4 (F := Ideal) a b (ix2 r j) = ∑ k : Fin 2048, a (ix2 r k) * b (ix2 k j) := by
  pointwise [k0_pay4]

theorem late5 : ∀ t : Fin cfg0.N, (cfg0.win 5).flush t = true → 4 ≤ t.val % 21 :=
  (by decide +kernel : ∀ t : Fin cfg0.N, (cfg0.win 5).flush t = true → 4 ≤ t.val % 21)

/-- The array of the values. -/
theorem values_eq (c : Dev nD) : (dats m 0 c).arrAt 5 cfg0.N
    = Cert.InProjRefIdeal.Value.values (m ((c : Thread nD τ).loc main_arg0)) (m ((c : Thread nD τ).loc main_arg1)) := by
  refine (dats m 0 c).arrAt_eq_of_covers 5 _ (by decide +kernel) fun t hf y => ?_
  have hlo := late5 t hf
  blk_simp
  rw [after_5]
  obtain ⟨r, j, rfl⟩ : ∃ (r : Fin 1024) (j : Fin 512), y = ix2 r j := ⟨y 0, y 1, eq_ix2 y⟩
  have ht : t.val < 168 := (idx t).2.2.2.2.2.2.2.2
  have he : ((View.whole main_v7_2).slice (win0_5.rect t)).emb (ix2 r j)
      = (ix2 ⟨t.val / 21 * 1024 + r.val, by omega⟩ ⟨min (t.val % 21 - 4) 1 * 512 + j.val, by omega⟩ : S8192x1024.Idx) := by
    blk_ext [idx t]
  refine (pay4_at _ _ r j).trans ?_
  refine Eq.trans ?_ (congrArg (Cert.InProjRefIdeal.Value.values (m ((c : Thread nD τ).loc main_arg0))
    (m ((c : Thread nD τ).loc main_arg1))) he).symm
  refine Eq.trans ?_ (Cert.InProjRefIdeal.Value.values_at _ _ _ _ ⟨2048 + (min (t.val % 21 - 4) 1 * 512 + j.val), by omega⟩ rfl).symm
  have hs : (src 5 t).val % 21 = min (t.val % 21) 5 := by
    show (t.val - (t.val % 21 - 5)) % 21 = _
    omega
  exact Finset.sum_congr rfl fun k _ => congrArg₂ (· * ·) (act_at m c t r k _ rfl)
    (weight_at m c (src 5 t) k j _ (by rw [hs]; show 2048 + (min (t.val % 21 - 4) 1 * 512 + j.val) = _; omega))

theorem pay5_at (a : FVec Ideal S1024x2048 .bf16) (b : FVec Ideal S2048x512 .bf16) (r : Fin 1024) (j : Fin 512) :
    k0_pay5 (F := Ideal) a b (ix2 r j) = ∑ k : Fin 2048, a (ix2 r k) * b (ix2 k j) := by
  pointwise [k0_pay5]

theorem late6 : ∀ t : Fin cfg0.N, (cfg0.win 6).flush t = true → 6 ≤ t.val % 21 :=
  (by decide +kernel : ∀ t : Fin cfg0.N, (cfg0.win 6).flush t = true → 6 ≤ t.val % 21)

/-- The array of the recurrence. -/
theorem recurrence_eq (c : Dev nD) : (dats m 0 c).arrAt 6 cfg0.N
    = Cert.InProjRefIdeal.Value.recurrence (m ((c : Thread nD τ).loc main_arg0)) (m ((c : Thread nD τ).loc main_arg1)) := by
  refine (dats m 0 c).arrAt_eq_of_covers 6 _ (by decide +kernel) fun t hf y => ?_
  have hlo := late6 t hf
  blk_simp
  rw [after_6]
  obtain ⟨r, j, rfl⟩ : ∃ (r : Fin 1024) (j : Fin 512), y = ix2 r j := ⟨y 0, y 1, eq_ix2 y⟩
  have ht : t.val < 168 := (idx t).2.2.2.2.2.2.2.2
  have he : ((View.whole main_v7_3).slice (win0_6.rect t)).emb (ix2 r j)
      = (ix2 ⟨t.val / 21 * 1024 + r.val, by omega⟩ ⟨min (t.val % 21 - 6) 6 * 512 + j.val, by omega⟩ : S8192x3584.Idx) := by
    blk_ext [idx t]
  refine (pay5_at _ _ r j).trans ?_
  refine Eq.trans ?_ (congrArg (Cert.InProjRefIdeal.Value.recurrence (m ((c : Thread nD τ).loc main_arg0))
    (m ((c : Thread nD τ).loc main_arg1))) he).symm
  refine Eq.trans ?_ (Cert.InProjRefIdeal.Value.recurrence_at _ _ _ _ ⟨3072 + (min (t.val % 21 - 6) 6 * 512 + j.val), by omega⟩ rfl).symm
  have hs : (src 12 t).val % 21 = min (t.val % 21) 12 := by
    show (t.val - (t.val % 21 - 12)) % 21 = _
    omega
  exact Finset.sum_congr rfl fun k _ => congrArg₂ (· * ·) (act_at m c t r k _ rfl)
    (weight_at m c (src 12 t) k j _ (by rw [hs]; show 3072 + (min (t.val % 21 - 6) 6 * 512 + j.val) = _; omega))

theorem pay6_at (a : FVec Ideal S1024x2048 .bf16) (b : FVec Ideal S2048x512 .bf16) (r : Fin 1024) (j : Fin 512) :
    k0_pay6 (F := Ideal) a b (ix2 r j) = ∑ k : Fin 2048, a (ix2 r k) * b (ix2 k j) := by
  pointwise [k0_pay6]

theorem late7 : ∀ t : Fin cfg0.N, (cfg0.win 7).flush t = true → 13 ≤ t.val % 21 :=
  (by decide +kernel : ∀ t : Fin cfg0.N, (cfg0.win 7).flush t = true → 13 ≤ t.val % 21)

/-- The array of the gates. -/
theorem gates_eq (c : Dev nD) : (dats m 0 c).arrAt 7 cfg0.N
    = Cert.InProjRefIdeal.Value.gates (m ((c : Thread nD τ).loc main_arg0)) (m ((c : Thread nD τ).loc main_arg1)) := by
  refine (dats m 0 c).arrAt_eq_of_covers 7 _ (by decide +kernel) fun t hf y => ?_
  have hlo := late7 t hf
  blk_simp
  rw [after_7]
  obtain ⟨r, j, rfl⟩ : ∃ (r : Fin 1024) (j : Fin 512), y = ix2 r j := ⟨y 0, y 1, eq_ix2 y⟩
  have ht : t.val < 168 := (idx t).2.2.2.2.2.2.2.2
  have he : ((View.whole main_v7_4).slice (win0_7.rect t)).emb (ix2 r j)
      = (ix2 ⟨t.val / 21 * 1024 + r.val, by omega⟩ ⟨(t.val % 21 - 13) * 512 + j.val, by omega⟩ : S8192x4096.Idx) := by
    blk_ext [idx t]
  refine (pay6_at _ _ r j).trans ?_
  refine Eq.trans ?_ (congrArg (Cert.InProjRefIdeal.Value.gates (m ((c : Thread nD τ).loc main_arg0))
    (m ((c : Thread nD τ).loc main_arg1))) he).symm
  refine Eq.trans ?_ (Cert.InProjRefIdeal.Value.gates_at _ _ _ _ ⟨6592 + ((t.val % 21 - 13) * 512 + j.val), by omega⟩ rfl).symm
  exact Finset.sum_congr rfl fun k _ => congrArg₂ (· * ·) (act_at m c t r k _ rfl) (gate_at m c t k j _ rfl)

/-- The last token is the host code's. -/
theorem lastToken_eq (c : Dev nD) : V m c main_v6 = Cert.InProjRefIdeal.Value.lastToken (m ((c : Thread nD τ).loc main_arg0)) := by
  entry_read
  rfl

end Cert.InProjIdeal.Proj

end
-- ==== Proof.InProjSRef.lean ====
/- The reference of the input projection of the sample, read at an index. -/
module

public import proofs.«01_k».proof.Proof.Gen.InProjSRefIdeal.Run
public import Idealize.ShloMosaic.Lib.Pipeline.ValueKit
public import Idealize.ShloMosaic.Lib.Pointwise

@[expose] public section

set_option maxRecDepth 16384

noncomputable section

namespace Cert.InProjSRefIdeal.Value

open Cert.InProjSRefIdeal Cert.InProjSRefIdeal.Gen
open Idealize.ShloMosaic Idealize.ShloMosaic.TcCoe

/-- The activations, row by row. -/
def rows (x : FVec Ideal S32x8x2048 .f32) : FVec Ideal S256x2048 .f32 := shapeCast _ x shapeCasts_S32x8x2048_S256x2048

/-- The activations times the whole weight matrix. -/
def prod (x : FVec Ideal S32x8x2048 .f32) (w : FVec Ideal S1x2048x10688 .f32) : FVec Ideal S256x10688 .f32 :=
  Host.dotGeneral dot_S256x2048_S2048x10688_S256x10688_1_0_0_1_n_n none (rows x)
    (shapeCast _ w shapeCasts_S1x2048x10688_S2048x10688)

theorem prod_at (x : FVec Ideal S32x8x2048 .f32) (w : FVec Ideal S1x2048x10688 .f32) (i : Fin 256) (j : Fin 10688) :
    prod x w (ix2 i j) = ∑ k : Fin 2048, rows x (ix2 i k) * w (ix3 0 k j) := by
  pointwise [prod]

/-- The columns of the queries. -/
def queries (x : FVec Ideal S32x8x2048 .f32) (w : FVec Ideal S1x2048x10688 .f32) : FVec Ideal S256x1024 .f32 :=
  extractStridedSlice S256x1024 ![0, 0] (prod x w) slices_S256x10688_S256x1024_0_0

theorem queries_at (x : FVec Ideal S32x8x2048 .f32) (w : FVec Ideal S1x2048x10688 .f32) (i : Fin 256) (j : Fin 1024) (l : Fin 10688)
    (hl : l.val = 0 + j.val) : queries x w (ix2 i j) = ∑ k : Fin 2048, rows x (ix2 i k) * w (ix3 0 k l) := by
  obtain rfl : l = ⟨0 + j.val, lt_of_lt_of_le (Nat.add_lt_add_left j.isLt 0) (by decide)⟩ := Fin.ext hl
  pointwise [queries, prod]

/-- The columns of the keys. -/
def keys (x : FVec Ideal S32x8x2048 .f32) (w : FVec Ideal S1x2048x10688 .f32) : FVec Ideal S256x1024 .f32 :=
  extractStridedSlice S256x1024 ![0, 1024] (prod x w) slices_S256x10688_S256x1024_0_1024

theorem keys_at (x : FVec Ideal S32x8x2048 .f32) (w : FVec Ideal S1x2048x10688 .f32) (i : Fin 256) (j : Fin 1024) (l : Fin 10688)
    (hl : l.val = 1024 + j.val) : keys x w (ix2 i j) = ∑ k : Fin 2048, rows x (ix2 i k) * w (ix3 0 k l) := by
  obtain rfl : l = ⟨1024 + j.val, lt_of_lt_of_le (Nat.add_lt_add_left j.isLt 1024) (by decide)⟩ := Fin.ext hl
  pointwise [keys, prod]

/-- The columns of the values. -/
def values (x : FVec Ideal S32x8x2048 .f32) (w : FVec Ideal S1x2048x10688 .f32) : FVec Ideal S256x1024 .f32 :=
  extractStridedSlice S256x1024 ![0, 2048] (prod x w) slices_S256x10688_S256x1024_0_2048

theorem values_at (x : FVec Ideal S32x8x2048 .f32) (w : FVec Ideal S1x2048x10688 .f32) (i : Fin 256) (j : Fin 1024) (l : Fin 10688)
    (hl : l.val = 2048 + j.val) : values x w (ix2 i j) = ∑ k : Fin 2048, rows x (ix2 i k) * w (ix3 0 k l) := by
  obtain rfl : l = ⟨2048 + j.val, lt_of_lt_of_le (Nat.add_lt_add_left j.isLt 2048) (by decide)⟩ := Fin.ext hl
  pointwise [values, prod]

/-- The columns of the recurrence. -/
def recurrence (x : FVec Ideal S32x8x2048 .f32) (w : FVec Ideal S1x2048x10688 .f32) : FVec Ideal S256x3584 .f32 :=
  extractStridedSlice S256x3584 ![0, 3072] (prod x w) slices_S256x10688_S256x3584_0_3072

theorem recurrence_at (x : FVec Ideal S32x8x2048 .f32) (w : FVec Ideal S1x2048x10688 .f32) (i : Fin 256) (j : Fin 3584) (l : Fin 10688)
    (hl : l.val = 3072 + j.val) : recurrence x w (ix2 i j) = ∑ k : Fin 2048, rows x (ix2 i k) * w (ix3 0 k l) := by
  obtain rfl : l = ⟨3072 + j.val, lt_of_lt_of_le (Nat.add_lt_add_left j.isLt 3072) (by decide)⟩ := Fin.ext hl
  pointwise [recurrence, prod]

/-- The columns of the gates. -/
def gates (x : FVec Ideal S32x8x2048 .f32) (w : FVec Ideal S1x2048x10688 .f32) : FVec Ideal S256x4096 .f32 :=
  extractStridedSlice S256x4096 ![0, 6592] (prod x w) slices_S256x10688_S256x4096_0_6592

theorem gates_at (x : FVec Ideal S32x8x2048 .f32) (w : FVec Ideal S1x2048x10688 .f32) (i : Fin 256) (j : Fin 4096) (l : Fin 10688)
    (hl : l.val = 6592 + j.val) : gates x w (ix2 i j) = ∑ k : Fin 2048, rows x (ix2 i k) * w (ix3 0 k l) := by
  obtain rfl : l = ⟨6592 + j.val, lt_of_lt_of_le (Nat.add_lt_add_left j.isLt 6592) (by decide)⟩ := Fin.ext hl
  pointwise [gates, prod]

/-- The last token of every sequence. -/
def lastToken (x : FVec Ideal S32x8x2048 .f32) : FVec Ideal S1x32x2048 .f32 :=
  broadcastInDim S1x32x2048 ![1, 2] bcast_S32x2048_S1x32x2048_1_2 (shapeCast _ (extractStridedSlice S32x1x2048 ![0, 7, 0] x
    slices_S32x8x2048_S32x1x2048_0_7_0) shapeCasts_S32x1x2048_S32x2048)

end Cert.InProjSRefIdeal.Value

end
-- ==== Proof.InProjS.Body.lean ====
/- What the body of the projection kernel of the sample does at each kind of grid point: the block of the activations is rounded into the
   scratch buffer at the first point of a row tile, and every point multiplies the scratch by one block of the weights into
   the output whose columns the point serves. -/
module

public import proofs.«01_k».proof.Proof.Gen.InProjSIdeal.Frame
public import proofs.«01_k».proof.Proof.Gen.InProjSIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.InProjSIdeal.Proj

open Cert.InProjSIdeal Cert.InProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a point is the first of its row tile. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 21 = 0 :=
  (by decide +kernel : ∀ t : Fin grid0.N, first (grid0.coords t) ↔ t.val % 21 = 0)

/-- Whether a point serves the queries, the keys, the values, the recurrence's columns, the gates. -/
abbrev on3 (i : grid0.Coords) : Prop := k0_cond2 i = 1#1
abbrev on4 (i : grid0.Coords) : Prop := k0_cond3 i = 1#1
abbrev on5 (i : grid0.Coords) : Prop := k0_cond4 i = 1#1
abbrev on6 (i : grid0.Coords) : Prop := k0_cond5 i = 1#1
abbrev on7 (i : grid0.Coords) : Prop := k0_cond6 i = 1#1
theorem on3_iff : ∀ t : Fin cfg0.N, on3 (grid0.coords t) ↔ (t.val % 21 ≤ 1) :=
  (by decide +kernel : ∀ t : Fin grid0.N, on3 (grid0.coords t) ↔ (t.val % 21 ≤ 1))
theorem on4_iff : ∀ t : Fin cfg0.N, on4 (grid0.coords t) ↔ (2 ≤ t.val % 21 ∧ t.val % 21 ≤ 3) :=
  (by decide +kernel : ∀ t : Fin grid0.N, on4 (grid0.coords t) ↔ (2 ≤ t.val % 21 ∧ t.val % 21 ≤ 3))
theorem on5_iff : ∀ t : Fin cfg0.N, on5 (grid0.coords t) ↔ (4 ≤ t.val % 21 ∧ t.val % 21 ≤ 5) :=
  (by decide +kernel : ∀ t : Fin grid0.N, on5 (grid0.coords t) ↔ (4 ≤ t.val % 21 ∧ t.val % 21 ≤ 5))
theorem on6_iff : ∀ t : Fin cfg0.N, on6 (grid0.coords t) ↔ (6 ≤ t.val % 21 ∧ t.val % 21 ≤ 12) :=
  (by decide +kernel : ∀ t : Fin grid0.N, on6 (grid0.coords t) ↔ (6 ≤ t.val % 21 ∧ t.val % 21 ≤ 12))
theorem on7_iff : ∀ t : Fin cfg0.N, on7 (grid0.coords t) ↔ (13 ≤ t.val % 21) :=
  (by decide +kernel : ∀ t : Fin grid0.N, on7 (grid0.coords t) ↔ (13 ≤ t.val % 21))

/-- At the first point of a row tile the block of activations is rounded into the scratch, and the scratch multiplied. -/
theorem run_first (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : first i) (h3 : on3 i) (h4 : ¬on4 i) (h5 : ¬on5 i) (h6 : ¬on6 i) (h7 : ¬on7 i)
    (x : Vec F S256x2048 .f32) (y : Vec F S2048x512 .bf16) (E : Set ℕ) (K : PUnit → sProp 𝕄) :
    iprop(owns (c : Thread nD τ) arg2 fullShare x ∗ owns (c : Thread nD τ) arg3 fullShare y ∗ (∃ d, owns (c : Thread nD τ) arg5 fullShare d) ∗ (∃ d, owns (c : Thread nD τ) arg10 fullShare d)
        ∗ (iprop(owns (c : Thread nD τ) arg2 fullShare x ∗ owns (c : Thread nD τ) arg3 fullShare y ∗ owns (c : Thread nD τ) arg5 fullShare (k0_pay2 (k0_pay1 x) y) ∗ owns (c : Thread nD τ) arg10 fullShare (k0_pay1 x)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; rw [View.read_writes_full]; unfold run_first.sl.v28 run_first.sl.H3_1; rw [View.readCov_full, View.readAt_full, View.readAt_full, hf0, hf1]
  iexists _; isplitr; swap; · iexact H3
  ipureintro; unfold run_first.sl.H3_1; rw [View.read_writes_full, View.readAt_full, hf0]

/-- A later point serving the queries multiplies the scratch. -/
theorem run3 (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : ¬first i) (h3 : on3 i) (h4 : ¬on4 i) (h5 : ¬on5 i) (h6 : ¬on6 i) (h7 : ¬on7 i)
    (x : Vec F S256x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg5 fullShare d)
        ∗ (iprop(owns (c : Thread nD τ) arg10 fullShare x ∗ owns (c : Thread nD τ) arg3 fullShare y ∗ owns (c : Thread nD τ) arg5 fullShare (k0_pay2 x y)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the keys multiplies the scratch. -/
theorem run4 (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : ¬first i) (h3 : ¬on3 i) (h4 : on4 i) (h5 : ¬on5 i) (h6 : ¬on6 i) (h7 : ¬on7 i)
    (x : Vec F S256x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg6 fullShare d)
        ∗ (iprop(owns (c : Thread nD τ) arg10 fullShare x ∗ owns (c : Thread nD τ) arg3 fullShare y ∗ owns (c : Thread nD τ) arg6 fullShare (k0_pay3 x y)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the values multiplies the scratch. -/
theorem run5 (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : ¬first i) (h3 : ¬on3 i) (h4 : ¬on4 i) (h5 : on5 i) (h6 : ¬on6 i) (h7 : ¬on7 i)
    (x : Vec F S256x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg7 fullShare d)
        ∗ (iprop(owns (c : Thread nD τ) arg10 fullShare x ∗ owns (c : Thread nD τ) arg3 fullShare y ∗ owns (c : Thread nD τ) arg7 fullShare (k0_pay4 x y)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the columns of the recurrence multiplies the scratch. -/
theorem run6 (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : ¬first i) (h3 : ¬on3 i) (h4 : ¬on4 i) (h5 : ¬on5 i) (h6 : on6 i) (h7 : ¬on7 i)
    (x : Vec F S256x2048 .bf16) (y : Vec F S2048x512 .bf16) (E : Set ℕ) (K : PUnit → sProp 𝕄) :
    iprop(owns (c : Thread nD τ) arg10 fullShare x ∗ owns (c : Thread nD τ) arg3 fullShare y ∗ (∃ d, owns (c : Thread nD τ) arg8 fullShare d)
        ∗ (iprop(owns (c : Thread nD τ) arg10 fullShare x ∗ owns (c : Thread nD τ) arg3 fullShare y ∗ owns (c : Thread nD τ) arg8 fullShare (k0_pay5 x y)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, Hk⟩
  obtain rfl := harg10.eq_unread hf0; obtain rfl := harg3.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg3.read_unread _
    iexact H1
  iexists _; isplitr; swap; · iexact H2
  ipureintro; rw [View.read_writes_full, View.readAt_full, View.readAt_full, hf0, hf1]

/-- A later point serving the gates multiplies the scratch. -/
theorem run7 (c : Dev nD) (i : grid0.Coords) (arg2 : Memref sig .tc .vmem S256x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S256x512 .f32) (harg5 : arg5.IsWhole)
    (arg6 : Memref sig .tc .vmem S256x512 .f32) (harg6 : arg6.IsWhole) (arg7 : Memref sig .tc .vmem S256x512 .f32) (harg7 : arg7.IsWhole)
    (arg8 : Memref sig .tc .vmem S256x512 .f32) (harg8 : arg8.IsWhole) (arg9 : Memref sig .tc .vmem S256x512 .f32) (harg9 : arg9.IsWhole)
    (arg10 : Memref sig .tc .vmem S256x2048 .bf16) (harg10 : arg10.IsWhole)
    (hf : ¬first i) (h3 : ¬on3 i) (h4 : ¬on4 i) (h5 : ¬on5 i) (h6 : ¬on6 i) (h7 : on7 i)
    (x : Vec F S256x2048 .bf16) (y : Vec F S2048x512 .bf16) (E : Set ℕ) (K : PUnit → sProp 𝕄) :
    iprop(owns (c : Thread nD τ) arg10 fullShare x ∗ owns (c : Thread nD τ) arg4 fullShare y ∗ (∃ d, owns (c : Thread nD τ) arg9 fullShare d)
        ∗ (iprop(owns (c : Thread nD τ) arg10 fullShare x ∗ owns (c : Thread nD τ) arg4 fullShare y ∗ owns (c : Thread nD τ) arg9 fullShare (k0_pay6 x y)) -∗ K ⟨⟩))
      ⊢ wp frame (wpE (defs₀ (F := F)) Variants.none c none) E (cc0_in_proj_s i arg2 harg2 arg3 harg3 arg4 harg4 arg5 harg5 arg6 harg6 arg7 harg7 arg8 harg8 arg9 harg9 arg10 harg10) K := by
  simp only [cc0_in_proj_s_eq_skeleton]; unfold cc0_in_proj_s_skel
  unfold owns
  iintro ⟨⟨%f0, %hf0, H0⟩, ⟨%f1, %hf1, H1⟩, ⟨%d2, %f2, -, H2⟩, Hk⟩
  obtain rfl := harg10.eq_unread hf0; obtain rfl := harg4.eq_unread hf1
  sl_exec (disch := first | sl_exact hf | sl_exact h3 | sl_exact h4 | sl_exact h5 | sl_exact h6 | sl_exact h7)
  sl_step
  iapply Hk
  isplitl [H0]
  · iexists _; isplitr; · ipureintro; exact harg10.read_unread _
    iexact H0
  isplitl [H1]
  · iexists _; isplitr; · ipureintro; exact harg4.read_unread _
    iexact H1
  iexists _; isplitr; swap; · iexact H2
  ipureintro; rw [View.read_writes_full, View.readAt_full, View.readAt_full, hf0, hf1]

end Cert.InProjSIdeal.Proj

end
-- ==== Proof.InProjS.Frame.lean ====
/- The run of the projection kernel of the sample: what every staging buffer and the scratch hold at every grid point, the body from point
   to point, and what the run ends with. A row tile takes twenty-one points; an output's buffer is stored at the points that
   serve its columns, keeps the last stored block through the rest of the row tile, and is written back once more, with that
   block, at the row tile's last point. -/
module

public import proofs.«01_k».proof.Proof.InProjS.Body
public import Idealize.ShloMosaic.Lib.Claim
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.InProjSIdeal.Proj

open Cert.InProjSIdeal Cert.InProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Each window's staging buffer at a point, and its wholeness. -/
abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
/-- The scratch buffer. -/
abbrev scr : Memref sig .tc .vmem S256x2048 .bf16 := Memref.whole cc0_scratch0

/-- The launch's share for the body: the scratch at anything, and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## What they hold -/

/-- The last point up to `t` of its row tile whose column is at most `h`. -/
def src (h : ℕ) (t : Fin cfg0.N) : Fin cfg0.N := ⟨t.val - (t.val % 21 - h), lt_of_le_of_lt (Nat.sub_le _ _) t.isLt⟩

theorem src_self (h : ℕ) (t : Fin cfg0.N) (ht : t.val % 21 ≤ h) : src h t = t :=
  Fin.ext (by show t.val - (t.val % 21 - h) = t.val; omega)

theorem src_pred (h : ℕ) (t : Fin cfg0.N) (ht : h < t.val % 21) :
    src h t = src h ⟨t.val - 1, lt_of_le_of_lt (Nat.sub_le _ _) t.isLt⟩ :=
  Fin.ext (by show t.val - (t.val % 21 - h) = t.val - 1 - ((t.val - 1) % 21 - h); omega)

/-- The rounded block of activations of the point's row tile. -/
def act (c : Dev nD) (t : Fin cfg0.N) : Vec F S256x2048 .bf16 := k0_pay1 (iblk m c 0 t)

/-- The scratch before position `n`: anything at the start, then the rounded activations of the point before. -/
def Phi (c : Dev nD) : (n : ℕ) → n ≤ cfg0.N → sProp 𝕄
  | 0, _ => Pipeline.ΦA spec0 c
  | n + 1, hn => iprop(iprop(owns (c : Thread nD τ) scr fullShare (act m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scr fullShare (act m c ⟨n, hn⟩)) ∗ (∃ r, prngReg c r)) := rfl

theorem Phi_pos (c : Dev nD) (n : ℕ) (h : n ≤ cfg0.N) (hz : n ≠ 0) :
    Phi m c n h = iprop(iprop(owns (c : Thread nD τ) scr fullShare (act m c ⟨n - 1, by omega⟩)) ∗ (∃ r, prngReg c r)) := by
  cases n with
  | zero => exact absurd rfl hz
  | succ n => rfl

/-- Whatever the position, the scratch is held at some contents. -/
theorem Phi_any (c : Dev nD) (n : ℕ) (h : n ≤ cfg0.N) : Phi m c n h ⊢ Pipeline.ΦA spec0 c := by
  by_cases hz : n = 0
  · rw [Phi_zero m c n h hz]
  · rw [Phi_pos m c n h hz, PhiA_eq]
    iintro ⟨HS, Hg⟩
    isplitl [HS]
    · iexists _; iexact HS
    iexact Hg

theorem Phi_open (c : Dev nD) (n : ℕ) (h : n ≤ cfg0.N) :
    Phi m c n h ⊢ iprop(iprop((∃ d, owns (c : Thread nD τ) scr fullShare d)) ∗ (∃ r, prngReg c r)) := by
  have := Phi_any m c n h; rwa [PhiA_eq] at this

/-- The kernel's data: the arrays as launched, and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => k0_pay2 (act m c t) (X0_1 m c (src 1 t))
    | ⟨4, _⟩ => k0_pay3 (act m c t) (X0_1 m c (src 3 t))
    | ⟨5, _⟩ => k0_pay4 (act m c t) (X0_1 m c (src 5 t))
    | ⟨6, _⟩ => k0_pay5 (act m c t) (X0_1 m c (src 12 t))
    | ⟨7, _⟩ => k0_pay6 (act m c t) (iblk m c 2 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (act m c t) (X0_1 m c (src 1 t)) := by dsimp only [dats]
theorem after_4 (c : Dev nD) (t : Fin cfg0.N) : (dats m 0 c).after 4 t = k0_pay3 (act m c t) (X0_1 m c (src 3 t)) := by dsimp only [dats]
theorem after_5 (c : Dev nD) (t : Fin cfg0.N) : (dats m 0 c).after 5 t = k0_pay4 (act m c t) (X0_1 m c (src 5 t)) := by dsimp only [dats]
theorem after_6 (c : Dev nD) (t : Fin cfg0.N) : (dats m 0 c).after 6 t = k0_pay5 (act m c t) (X0_1 m c (src 12 t)) := by dsimp only [dats]
theorem after_7 (c : Dev nD) (t : Fin cfg0.N) : (dats m 0 c).after 7 t = k0_pay6 (act m c t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The activations' block is the same at all points of a row tile. -/
theorem index0 : ∀ t : Fin cfg0.N, (cfg0.win 0).index t = ![t.val / 21, 0] :=
  (by decide +kernel : ∀ t : Fin grid0.N, win0_0.index t = ![t.val / 21, 0])

theorem act_same (c : Dev nD) {t s : Fin cfg0.N} (h : t.val / 21 = s.val / 21) : act m c t = act m c s := by
  have hi : (cfg0.win 0).index t = (cfg0.win 0).index s := by rw [index0 t, index0 s, h]
  have hc : ∀ i i', (cfg0.win 0).clip i = (cfg0.win 0).clip i' := fun _ _ => rfl
  have e : ∀ (u : Fin cfg0.N) d, (dats m 0 c).fetched 0 u d = iblk m c 0 u := fun u d => by
    unfold Dat.fetched Dat.blockOf iblk; rw [A_eq]; try rfl
  have h2 := (dats m 0 c).fetched_congr 0 hi (hc _ _)
  have h3 : (iblk m c 0 t : Vec F S256x2048 .f32) = iblk m c 0 s := (e t (fun _ => Classical.choice inferInstance)).symm.trans ((h2 _).trans (e s _))
  unfold act
  rw [h3]

/-! ## The outputs' buffers where nothing is stored -/

theorem idle3 : ∀ t : Fin cfg0.N, cfg0.idle 3 (cfg0.grid.coords t) = !decide (t.val % 21 ≤ 1) :=
  (by decide +kernel : ∀ t : Fin cfg0.N, cfg0.idle 3 (cfg0.grid.coords t) = !decide (t.val % 21 ≤ 1))
theorem flush3 : ∀ t : Fin cfg0.N, ¬(t.val % 21 ≤ 1) → (cfg0.win 3).flush t = decide (t.val % 21 = 20) :=
  (by decide +kernel : ∀ t : Fin cfg0.N, ¬(t.val % 21 ≤ 1) → (cfg0.win 3).flush t = decide (t.val % 21 = 20))
theorem fresh3 : ∀ n, n ≤ cfg0.N → cfg0.fresh 3 n = decide (n % 21 < 2) :=
  Cfg.fresh_tab cfg0 3 (fun n => decide (n % 21 < 2)) (by decide)
    (by decide +kernel : ∀ t : Fin cfg0.N, decide ((t.val + 1) % 21 < 2) = ((cfg0.win 3).flush t || (cfg0.idle 3 (cfg0.grid.coords t) && decide (t.val % 21 < 2))))
theorem carry3 (c : Dev nD) (t : Fin cfg0.N) (h : 2 ≤ t.val % 21) (d) : (dats m 0 c).before 3 t d = (dats m 0 c).after 3 t := by
  have hc : ∀ (t : Fin cfg0.N) (_ : 2 ≤ t.val % 21), (dats m 0 c).after 3 t = (dats m 0 c).after 3 ⟨t.val - 1, by omega⟩ := fun t h => by
    rw [after_3, after_3, src_pred 1 t (by omega), act_same m c (t := t) (s := ⟨t.val - 1, by omega⟩) (by show t.val / 21 = (t.val - 1) / 21; omega)]
  rw [(dats m 0 c).before_out_traj 3 rfl (fun _ _ => rfl) (fun t ht hi hf => hc t (by
      have := (fresh3 t.val (Nat.le_of_lt t.isLt)).symm.trans hf; simpa using this)) t.val t rfl d,
    fresh3 _ (Nat.le_of_lt t.isLt), if_neg (by simp; omega)]
  exact (hc t h).symm
/-- Where nothing is stored the buffer may be handed on as found. -/
theorem skip3 (c : Dev nD) (t : Fin cfg0.N) (h : ¬(t.val % 21 ≤ 1)) :
    iprop(∃ d, owns (c : Thread nD τ) (ms3 t) fullShare ((dats m 0 c).before 3 t d)) ⊢ ((dats m 0 c).leavesExact 3 t : sProp 𝕄) := by
  have hi : cfg0.idle 3 (cfg0.grid.coords t) = true := by rw [idle3]; simp only [Bool.not_eq_true', Bool.not_eq_false', decide_eq_false_iff_not, decide_eq_true_eq]; exact h
  by_cases hf : t.val % 21 = 20
  · rw [show ((dats m 0 c).leavesExact 3 t : sProp 𝕄) = owns (c : Thread nD τ) (ms3 t) fullShare ((dats m 0 c).after 3 t) from by
      unfold Dat.leavesExact; rw [hi, (flush3 t h).trans (decide_eq_true hf)]]
    simp only [carry3 m c t (by omega)]
    iintro ⟨%d, H⟩; iexact H
  · rw [Dat.leavesExact_idle (dats m 0 c) 3 t hi ((flush3 t h).trans (decide_eq_false hf))]
/-- Where something is stored the buffer ends at the stored block. -/
theorem stored3 (c : Dev nD) (t : Fin cfg0.N) (h : t.val % 21 ≤ 1) :
    ((dats m 0 c).leavesExact 3 t : sProp 𝕄) = owns (c : Thread nD τ) (ms3 t) fullShare (k0_pay2 (act m c t) (X0_1 m c t)) := by
  rw [show ((dats m 0 c).leavesExact 3 t : sProp 𝕄) = owns (c : Thread nD τ) (ms3 t) fullShare ((dats m 0 c).after 3 t) from by
    unfold Dat.leavesExact; rw [show cfg0.idle 3 (cfg0.grid.coords t) = false from by rw [idle3]; simp only [Bool.not_eq_true', Bool.not_eq_false', decide_eq_false_iff_not, decide_eq_true_eq]; exact h], after_3, src_self 1 t (by omega)]

theorem idle4 : ∀ t : Fin cfg0.N, cfg0.idle 4 (cfg0.grid.coords t) = !decide (2 ≤ t.val % 21 ∧ t.val % 21 ≤ 3) :=
  (by decide +kernel : ∀ t : Fin cfg0.N, cfg0.idle 4 (cfg0.grid.coords t) = !decide (2 ≤ t.val % 21 ∧ t.val % 21 ≤ 3))
theorem flush4 : ∀ t : Fin cfg0.N, ¬(2 ≤ t.val % 21 ∧ t.val % 21 ≤ 3) → (cfg0.win 4).flush t = decide (t.val % 21 = 20) :=
  (by decide +kernel : ∀ t : Fin cfg0.N, ¬(2 ≤ t.val % 21 ∧ t.val % 21 ≤ 3) → (cfg0.win 4).flush t = decide (t.val % 21 = 20))
theorem fresh4 : ∀ n, n ≤ cfg0.N → cfg0.fresh 4 n = decide (n % 21 < 4) :=
  Cfg.fresh_tab cfg0 4 (fun n => decide (n % 21 < 4)) (by decide)
    (by decide +kernel : ∀ t : Fin cfg0.N, decide ((t.val + 1) % 21 < 4) = ((cfg0.win 4).flush t || (cfg0.idle 4 (cfg0.grid.coords t) && decide (t.val % 21 < 4))))
theorem carry4 (c : Dev nD) (t : Fin cfg0.N) (h : 4 ≤ t.val % 21) (d) : (dats m 0 c).before 4 t d = (dats m 0 c).after 4 t := by
  have hc : ∀ (t : Fin cfg0.N) (_ : 4 ≤ t.val % 21), (dats m 0 c).after 4 t = (dats m 0 c).after 4 ⟨t.val - 1, by omega⟩ := fun t h => by
    rw [after_4, after_4, src_pred 3 t (by omega), act_same m c (t := t) (s := ⟨t.val - 1, by omega⟩) (by show t.val / 21 = (t.val - 1) / 21; omega)]
  rw [(dats m 0 c).before_out_traj 4 rfl (fun _ _ => rfl) (fun t ht hi hf => hc t (by
      have := (fresh4 t.val (Nat.le_of_lt t.isLt)).symm.trans hf; simpa using this)) t.val t rfl d,
    fresh4 _ (Nat.le_of_lt t.isLt), if_neg (by simp; omega)]
  exact (hc t h).symm
/-- Where nothing is stored the buffer may be handed on as found. -/
theorem skip4 (c : Dev nD) (t : Fin cfg0.N) (h : ¬(2 ≤ t.val % 21 ∧ t.val % 21 ≤ 3)) :
    iprop(∃ d, owns (c : Thread nD τ) (ms4 t) fullShare ((dats m 0 c).before 4 t d)) ⊢ ((dats m 0 c).leavesExact 4 t : sProp 𝕄) := by
  have hi : cfg0.idle 4 (cfg0.grid.coords t) = true := by rw [idle4]; simp only [Bool.not_eq_true', Bool.not_eq_false', decide_eq_false_iff_not, decide_eq_true_eq]; exact h
  by_cases hf : t.val % 21 = 20
  · rw [show ((dats m 0 c).leavesExact 4 t : sProp 𝕄) = owns (c : Thread nD τ) (ms4 t) fullShare ((dats m 0 c).after 4 t) from by
      unfold Dat.leavesExact; rw [hi, (flush4 t h).trans (decide_eq_true hf)]]
    simp only [carry4 m c t (by omega)]
    iintro ⟨%d, H⟩; iexact H
  · rw [Dat.leavesExact_idle (dats m 0 c) 4 t hi ((flush4 t h).trans (decide_eq_false hf))]
/-- Where something is stored the buffer ends at the stored block. -/
theorem stored4 (c : Dev nD) (t : Fin cfg0.N) (h : 2 ≤ t.val % 21 ∧ t.val % 21 ≤ 3) :
    ((dats m 0 c).leavesExact 4 t : sProp 𝕄) = owns (c : Thread nD τ) (ms4 t) fullShare (k0_pay3 (act m c t) (X0_1 m c t)) := by
  rw [show ((dats m 0 c).leavesExact 4 t : sProp 𝕄) = owns (c : Thread nD τ) (ms4 t) fullShare ((dats m 0 c).after 4 t) from by
    unfold Dat.leavesExact; rw [show cfg0.idle 4 (cfg0.grid.coords t) = false from by rw [idle4]; simp only [Bool.not_eq_true', Bool.not_eq_false', decide_eq_false_iff_not, decide_eq_true_eq]; exact h], after_4, src_self 3 t (by omega)]

theorem idle5 : ∀ t : Fin cfg0.N, cfg0.idle 5 (cfg0.grid.coords t) = !decide (4 ≤ t.val % 21 ∧ t.val % 21 ≤ 5) :=
  (by decide +kernel : ∀ t : Fin cfg0.N, cfg0.idle 5 (cfg0.grid.coords t) = !decide (4 ≤ t.val % 21 ∧ t.val % 21 ≤ 5))
theorem flush5 : ∀ t : Fin cfg0.N, ¬(4 ≤ t.val % 21 ∧ t.val % 21 ≤ 5) → (cfg0.win 5).flush t = decide (t.val % 21 = 20) :=
  (by decide +kernel : ∀ t : Fin cfg0.N, ¬(4 ≤ t.val % 21 ∧ t.val % 21 ≤ 5) → (cfg0.win 5).flush t = decide (t.val % 21 = 20))
theorem fresh5 : ∀ n, n ≤ cfg0.N → cfg0.fresh 5 n = decide (n % 21 < 6) :=
  Cfg.fresh_tab cfg0 5 (fun n => decide (n % 21 < 6)) (by decide)
    (by decide +kernel : ∀ t : Fin cfg0.N, decide ((t.val + 1) % 21 < 6) = ((cfg0.win 5).flush t || (cfg0.idle 5 (cfg0.grid.coords t) && decide (t.val % 21 < 6))))
theorem carry5 (c : Dev nD) (t : Fin cfg0.N) (h : 6 ≤ t.val % 21) (d) : (dats m 0 c).before 5 t d = (dats m 0 c).after 5 t := by
  have hc : ∀ (t : Fin cfg0.N) (_ : 6 ≤ t.val % 21), (dats m 0 c).after 5 t = (dats m 0 c).after 5 ⟨t.val - 1, by omega⟩ := fun t h => by
    rw [after_5, after_5, src_pred 5 t (by omega), act_same m c (t := t) (s := ⟨t.val - 1, by omega⟩) (by show t.val / 21 = (t.val - 1) / 21; omega)]
  rw [(dats m 0 c).before_out_traj 5 rfl (fun _ _ => rfl) (fun t ht hi hf => hc t (by
      have := (fresh5 t.val (Nat.le_of_lt t.isLt)).symm.trans hf; simpa using this)) t.val t rfl d,
    fresh5 _ (Nat.le_of_lt t.isLt), if_neg (by simp; omega)]
  exact (hc t h).symm
/-- Where nothing is stored the buffer may be handed on as found. -/
theorem skip5 (c : Dev nD) (t : Fin cfg0.N) (h : ¬(4 ≤ t.val % 21 ∧ t.val % 21 ≤ 5)) :
    iprop(∃ d, owns (c : Thread nD τ) (ms5 t) fullShare ((dats m 0 c).before 5 t d)) ⊢ ((dats m 0 c).leavesExact 5 t : sProp 𝕄) := by
  have hi : cfg0.idle 5 (cfg0.grid.coords t) = true := by rw [idle5]; simp only [Bool.not_eq_true', Bool.not_eq_false', decide_eq_false_iff_not, decide_eq_true_eq]; exact h
  by_cases hf : t.val % 21 = 20
  · rw [show ((dats m 0 c).leavesExact 5 t : sProp 𝕄) = owns (c : Thread nD τ) (ms5 t) fullShare ((dats m 0 c).after 5 t) from by
      unfold Dat.leavesExact; rw [hi, (flush5 t h).trans (decide_eq_true hf)]]
    simp only [carry5 m c t (by omega)]
    iintro ⟨%d, H⟩; iexact H
  · rw [Dat.leavesExact_idle (dats m 0 c) 5 t hi ((flush5 t h).trans (decide_eq_false hf))]
/-- Where something is stored the buffer ends at the stored block. -/
theorem stored5 (c : Dev nD) (t : Fin cfg0.N) (h : 4 ≤ t.val % 21 ∧ t.val % 21 ≤ 5) :
    ((dats m 0 c).leavesExact 5 t : sProp 𝕄) = owns (c : Thread nD τ) (ms5 t) fullShare (k0_pay4 (act m c t) (X0_1 m c t)) := by
  rw [show ((dats m 0 c).leavesExact 5 t : sProp 𝕄) = owns (c : Thread nD τ) (ms5 t) fullShare ((dats m 0 c).after 5 t) from by
    unfold Dat.leavesExact; rw [show cfg0.idle 5 (cfg0.grid.coords t) = false from by rw [idle5]; simp only [Bool.not_eq_true', Bool.not_eq_false', decide_eq_false_iff_not, decide_eq_true_eq]; exact h], after_5, src_self 5 t (by omega)]

theorem idle6 : ∀ t : Fin cfg0.N, cfg0.idle 6 (cfg0.grid.coords t) = !decide (6 ≤ t.val % 21 ∧ t.val % 21 ≤ 12) :=
  (by decide +kernel : ∀ t : Fin cfg0.N, cfg0.idle 6 (cfg0.grid.coords t) = !decide (6 ≤ t.val % 21 ∧ t.val % 21 ≤ 12))
theorem flush6 : ∀ t : Fin cfg0.N, ¬(6 ≤ t.val % 21 ∧ t.val % 21 ≤ 12) → (cfg0.win 6).flush t = decide (t.val % 21 = 20) :=
  (by decide +kernel : ∀ t : Fin cfg0.N, ¬(6 ≤ t.val % 21 ∧ t.val % 21 ≤ 12) → (cfg0.win 6).flush t = decide (t.val % 21 = 20))
theorem fresh6 : ∀ n, n ≤ cfg0.N → cfg0.fresh 6 n = decide (n % 21 < 13) :=
  Cfg.fresh_tab cfg0 6 (fun n => decide (n % 21 < 13)) (by decide)
    (by decide +kernel : ∀ t : Fin cfg0.N, decide ((t.val + 1) % 21 < 13) = ((cfg0.win 6).flush t || (cfg0.idle 6 (cfg0.grid.coords t) && decide (t.val % 21 < 13))))
theorem carry6 (c : Dev nD) (t : Fin cfg0.N) (h : 13 ≤ t.val % 21) (d) : (dats m 0 c).before 6 t d = (dats m 0 c).after 6 t := by
  have hc : ∀ (t : Fin cfg0.N) (_ : 13 ≤ t.val % 21), (dats m 0 c).after 6 t = (dats m 0 c).after 6 ⟨t.val - 1, by omega⟩ := fun t h => by
    rw [after_6, after_6, src_pred 12 t (by omega), act_same m c (t := t) (s := ⟨t.val - 1, by omega⟩) (by show t.val / 21 = (t.val - 1) / 21; omega)]
  rw [(dats m 0 c).before_out_traj 6 rfl (fun _ _ => rfl) (fun t ht hi hf => hc t (by
      have := (fresh6 t.val (Nat.le_of_lt t.isLt)).symm.trans hf; simpa using this)) t.val t rfl d,
    fresh6 _ (Nat.le_of_lt t.isLt), if_neg (by simp; omega)]
  exact (hc t h).symm
/-- Where nothing is stored the buffer may be handed on as found. -/
theorem skip6 (c : Dev nD) (t : Fin cfg0.N) (h : ¬(6 ≤ t.val % 21 ∧ t.val % 21 ≤ 12)) :
    iprop(∃ d, owns (c : Thread nD τ) (ms6 t) fullShare ((dats m 0 c).before 6 t d)) ⊢ ((dats m 0 c).leavesExact 6 t : sProp 𝕄) := by
  have hi : cfg0.idle 6 (cfg0.grid.coords t) = true := by rw [idle6]; simp only [Bool.not_eq_true', Bool.not_eq_false', decide_eq_false_iff_not, decide_eq_true_eq]; exact h
  by_cases hf : t.val % 21 = 20
  · rw [show ((dats m 0 c).leavesExact 6 t : sProp 𝕄) = owns (c : Thread nD τ) (ms6 t) fullShare ((dats m 0 c).after 6 t) from by
      unfold Dat.leavesExact; rw [hi, (flush6 t h).trans (decide_eq_true hf)]]
    simp only [carry6 m c t (by omega)]
    iintro ⟨%d, H⟩; iexact H
  · rw [Dat.leavesExact_idle (dats m 0 c) 6 t hi ((flush6 t h).trans (decide_eq_false hf))]
/-- Where something is stored the buffer ends at the stored block. -/
theorem stored6 (c : Dev nD) (t : Fin cfg0.N) (h : 6 ≤ t.val % 21 ∧ t.val % 21 ≤ 12) :
    ((dats m 0 c).leavesExact 6 t : sProp 𝕄) = owns (c : Thread nD τ) (ms6 t) fullShare (k0_pay5 (act m c t) (X0_1 m c t)) := by
  rw [show ((dats m 0 c).leavesExact 6 t : sProp 𝕄) = owns (c : Thread nD τ) (ms6 t) fullShare ((dats m 0 c).after 6 t) from by
    unfold Dat.leavesExact; rw [show cfg0.idle 6 (cfg0.grid.coords t) = false from by rw [idle6]; simp only [Bool.not_eq_true', Bool.not_eq_false', decide_eq_false_iff_not, decide_eq_true_eq]; exact h], after_6, src_self 12 t (by omega)]

theorem idle7 : ∀ t : Fin cfg0.N, cfg0.idle 7 (cfg0.grid.coords t) = !decide (13 ≤ t.val % 21) :=
  (by decide +kernel : ∀ t : Fin cfg0.N, cfg0.idle 7 (cfg0.grid.coords t) = !decide (13 ≤ t.val % 21))
theorem flush7 : ∀ t : Fin cfg0.N, ¬(13 ≤ t.val % 21) → (cfg0.win 7).flush t = false :=
  (by decide +kernel : ∀ t : Fin cfg0.N, ¬(13 ≤ t.val % 21) → (cfg0.win 7).flush t = false)
/-- Where nothing is stored the buffer may be handed on as found. -/
theorem skip7 (c : Dev nD) (t : Fin cfg0.N) (h : ¬(13 ≤ t.val % 21)) :
    iprop(∃ d, owns (c : Thread nD τ) (ms7 t) fullShare ((dats m 0 c).before 7 t d)) ⊢ ((dats m 0 c).leavesExact 7 t : sProp 𝕄) := by
  rw [Dat.leavesExact_idle (dats m 0 c) 7 t (by rw [idle7]; simp only [Bool.not_eq_true', Bool.not_eq_false', decide_eq_false_iff_not, decide_eq_true_eq]; exact h) (flush7 t h)]
/-- Where something is stored the buffer ends at the stored block. -/
theorem stored7 (c : Dev nD) (t : Fin cfg0.N) (h : 13 ≤ t.val % 21) :
    ((dats m 0 c).leavesExact 7 t : sProp 𝕄) = owns (c : Thread nD τ) (ms7 t) fullShare (k0_pay6 (act m c t) (iblk m c 2 t)) := by
  rw [show ((dats m 0 c).leavesExact 7 t : sProp 𝕄) = owns (c : Thread nD τ) (ms7 t) fullShare ((dats m 0 c).after 7 t) from by
    unfold Dat.leavesExact; rw [show cfg0.idle 7 (cfg0.grid.coords t) = false from by rw [idle7]; simp only [Bool.not_eq_true', Bool.not_eq_false', decide_eq_false_iff_not, decide_eq_true_eq]; exact h], after_7]

/-! ## The body from point to point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = Phi m c (t.val + 1) t.isLt from rfl, Phi_succ, Phi_castSucc]
  have hN : t.val < 21 := lt_of_lt_of_eq t.isLt (show cfg0.N = 21 from N_0)
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  by_cases hf : t.val % 21 = 0
  · rw [stored3 m c t (by omega)]
    iintro ⟨HP, Ho, ⟨%d0, H0⟩, ⟨%d1, H1⟩, ⟨%d2, H2⟩, ⟨%d3, H3⟩, H4, H5, H6, H7⟩
    ihave HP := (Phi_open m c t.val (Nat.le_of_lt t.isLt)) $$ HP
    icases HP with ⟨HS, Hg⟩
    iapply (run_first c (grid0.coords t) _ _ _ _ _ _ _ _ _ _ _ _ _ _ _ _ _ _ ((first_iff t).mpr hf) ((on3_iff t).mpr (by omega)) (fun h => absurd ((on4_iff t).mp h) (by omega)) (fun h => absurd ((on5_iff t).mp h) (by omega)) (fun h => absurd ((on6_iff t).mp h) (by omega)) (fun h => absurd ((on7_iff t).mp h) (by omega)) (iblk m c 0 t) (X0_1 m c t) Set.univ _)
    isplitl [H0]; · iexact H0
    isplitl [H1]; · iexact H1
    isplitl [H3]; · iexists _; iexact H3
    isplitl [HS]; · iexact HS
    iintro ⟨H0, H1, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (skip4 m c t (by omega)); iexact H4
    isplitl [H5]; · iapply (skip5 m c t (by omega)); iexact H5
    isplitl [H6]; · iapply (skip6 m c t (by omega)); iexact H6
    iapply (skip7 m c t (by omega)); iexact H7
  · rcases (by omega : t.val % 21 = 1 ∨ (2 ≤ t.val % 21 ∧ t.val % 21 ≤ 3) ∨ (4 ≤ t.val % 21 ∧ t.val % 21 ≤ 5) ∨ (6 ≤ t.val % 21 ∧ t.val % 21 ≤ 12) ∨ 13 ≤ t.val % 21) with h | h | h | h | h
    · rw [stored3 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, ⟨%d3, H3⟩, H4, H5, H6, H7⟩
      iapply (run3 c (grid0.coords t) _ _ _ _ _ _ _ _ _ _ _ _ _ _ _ _ _ _ (fun h => hf ((first_iff t).mp h)) ((on3_iff t).mpr (by omega)) (fun h => absurd ((on4_iff t).mp h) (by omega)) (fun h => absurd ((on5_iff t).mp h) (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H3]; · iexists _; iexact H3
      iintro ⟨HS, H1, H3⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iapply (skip4 m c t (by omega)); iexact H4
      isplitl [H5]; · iapply (skip5 m c t (by omega)); iexact H5
      isplitl [H6]; · iapply (skip6 m c t (by omega)); iexact H6
      iapply (skip7 m c t (by omega)); iexact H7
    · rw [stored4 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, ⟨%d4, H4⟩, H5, H6, H7⟩
      iapply (run4 c (grid0.coords t) _ _ _ _ _ _ _ _ _ _ _ _ _ _ _ _ _ _ (fun h => hf ((first_iff t).mp h)) (fun h => absurd ((on3_iff t).mp h) (by omega)) ((on4_iff t).mpr (by omega)) (fun h => absurd ((on5_iff t).mp h) (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H4]; · iexists _; iexact H4
      iintro ⟨HS, H1, H4⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iexact H4
      isplitl [H5]; · iapply (skip5 m c t (by omega)); iexact H5
      isplitl [H6]; · iapply (skip6 m c t (by omega)); iexact H6
      iapply (skip7 m c t (by omega)); iexact H7
    · rw [stored5 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, ⟨%d5, H5⟩, H6, H7⟩
      iapply (run5 c (grid0.coords t) _ _ _ _ _ _ _ _ _ _ _ _ _ _ _ _ _ _ (fun h => hf ((first_iff t).mp h)) (fun h => absurd ((on3_iff t).mp h) (by omega)) (fun h => absurd ((on4_iff t).mp h) (by omega)) ((on5_iff t).mpr (by omega)) (fun h => absurd ((on6_iff t).mp h) (by omega)) (fun h => absurd ((on7_iff t).mp h) (by omega)) (act m c t) (X0_1 m c t) Set.univ _)
      isplitl [HS]; · iexact HS
      isplitl [H1]; · iexact H1
      isplitl [H5]; · iexists _; iexact H5
      iintro ⟨HS, H1, H5⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iexact H5
      isplitl [H6]; · iapply (skip6 m c t (by omega)); iexact H6
      iapply (skip7 m c t (by omega)); iexact H7
    · rw [stored6 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, H5, ⟨%d6, H6⟩, H7⟩
      iapply (run6 c (grid0.coords t) _ _ _ _ _ _ _ _ _ _ _ _ _ _ _ _ _ _ (fun h => hf ((first_iff t).mp h)) (fun h => absurd ((on3_iff t).mp h) (by omega)) (fun h => absurd ((on4_iff t).mp h) (by omega)) (fun h => absurd ((on5_iff t).mp h) (by omega)) ((on6_iff t).mpr (by omega)) (fun h => absurd ((on7_iff t).mp h) (by omega)) (act m c t) (X0_1 m c t) Set.univ _)
      isplitl [HS]; · iexact HS
      isplitl [H1]; · iexact H1
      isplitl [H6]; · iexists _; iexact H6
      iintro ⟨HS, H1, H6⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iapply (skip5 m c t (by omega)); iexact H5
      isplitl [H6]; · iexact H6
      iapply (skip7 m c t (by omega)); iexact H7
    · rw [stored7 m c t (by omega)]
      rw [Phi_pos m c t.val _ (by omega), act_same m c (t := ⟨t.val - 1, by omega⟩) (s := t) (by show (t.val - 1) / 21 = t.val / 21; omega)]
      iintro ⟨⟨HS, Hg⟩, Ho, ⟨%d0, H0⟩, ⟨%d1, H1⟩, ⟨%d2, H2⟩, H3, H4, H5, H6, ⟨%d7, H7⟩⟩
      iapply (run7 c (grid0.coords t) _ _ _ _ _ _ _ _ _ _ _ _ _ _ _ _ _ _ (fun h => hf ((first_iff t).mp h)) (fun h => absurd ((on3_iff t).mp h) (by omega)) (fun h => absurd ((on4_iff t).mp h) (by omega)) (fun h => absurd ((on5_iff t).mp h) (by omega)) (fun h => absurd ((on6_iff t).mp h) (by omega)) ((on7_iff t).mpr (by omega)) (act m c t) (iblk m c 2 t) Set.univ _)
      isplitl [HS]; · iexact HS
      isplitl [H2]; · iexact H2
      isplitl [H7]; · iexists _; iexact H7
      iintro ⟨HS, H2, H7⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iapply (skip3 m c t (by omega)); iexact H3
      isplitl [H4]; · iapply (skip4 m c t (by omega)); iexact H4
      isplitl [H5]; · iapply (skip5 m c t (by omega)); iexact H5
      isplitl [H6]; · iapply (skip6 m c t (by omega)); iexact H6
      iexact H7

/-- The body's part of the launch. -/
theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_any m c _ _

/-! ## The run -/

set_option backward.isDefEq.respectTransparency.types false in
/-- The run ends with every output at what was written back, and the counters at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_all m ρ))

end Cert.InProjSIdeal.Proj

end
-- ==== Proof.InProjSValue.lean ====
/- The projection kernel of the sample computes what its reference computes: block by block, over the extended reals. -/
module

public import proofs.«01_k».proof.Proof.InProjSRef
public import proofs.«01_k».proof.Proof.InProjS.Frame
public import Idealize.ShloMosaic.Lib.Claim

@[expose] public section

set_option maxRecDepth 16384

noncomputable section

namespace Cert.InProjSIdeal.Proj

open Cert.InProjSIdeal Cert.InProjSIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![t.val / 21, 0] ∧ win0_1.index t = ![0, min (t.val % 21) 12]
    ∧ win0_2.index t = ![0, t.val % 21 - 13] ∧ win0_3.index t = ![t.val / 21, min (t.val % 21) 1]
    ∧ win0_4.index t = ![t.val / 21, min (t.val % 21 - 2) 1] ∧ win0_5.index t = ![t.val / 21, min (t.val % 21 - 4) 1]
    ∧ win0_6.index t = ![t.val / 21, min (t.val % 21 - 6) 6] ∧ win0_7.index t = ![t.val / 21, t.val % 21 - 13] ∧ t.val < 21 :=
  (by decide +kernel : ∀ t : Fin grid0.N, _)

/-- The activations as the host code lays them out. -/
theorem rows_eq (c : Dev nD) : V m c main_v0 = Cert.InProjSRefIdeal.Value.rows (m ((c : Thread nD τ).loc main_arg0)) := by
  entry_read
  rfl

/-- The rounded activations are the activations. -/
theorem act_at (c : Dev nD) (t : Fin cfg0.N) (r : Fin 256) (k : Fin 2048) (R : Fin 256) (hR : R.val = t.val / 21 * 256 + r.val) :
    act m c t (ix2 r k) = Cert.InProjSRefIdeal.Value.rows (m ((c : Thread nD τ).loc main_arg0)) (ix2 R k) := by
  rw [← rows_eq]
  pointwise [act, k0_pay1]
  blk_point [iblk, idx t]

/-- The block of the weights. -/
theorem weight_at (c : Dev nD) (t : Fin cfg0.N) (k : Fin 2048) (j : Fin 512) (l : Fin 10688) (hl : l.val = min (t.val % 21) 12 * 512 + j.val) :
    X0_1 m c t (ix2 k j) = m ((c : Thread nD τ).loc main_arg1) (ix3 0 k l) := by
  unfold X0_1 Pipeline.Window.fill
  rw [dif_pos (moved0_1 t (ix2 k j))]
  pointwise
  blk_point [iblk, V, idx t]

/-- The block of the gates' weights. -/
theorem gate_at (c : Dev nD) (t : Fin cfg0.N) (k : Fin 2048) (j : Fin 512) (l : Fin 10688) (hl : l.val = 6592 + ((t.val % 21 - 13) * 512 + j.val)) :
    iblk m c 2 t (ix2 k j) = m ((c : Thread nD τ).loc main_arg1) (ix3 0 k l) := by
  pointwise
  blk_point [iblk, V, idx t]

theorem pay2_at (a : FVec Ideal S256x2048 .bf16) (b : FVec Ideal S2048x512 .bf16) (r : Fin 256) (j : Fin 512) :
    k0_pay2 (F := Ideal) a b (ix2 r j) = ∑ k : Fin 2048, a (ix2 r k) * b (ix2 k j) := by
  pointwise [k0_pay2]

theorem late3 : ∀ t : Fin cfg0.N, (cfg0.win 3).flush t = true → 0 ≤ t.val % 21 :=
  (by decide +kernel : ∀ t : Fin cfg0.N, (cfg0.win 3).flush t = true → 0 ≤ t.val % 21)

/-- The array of the queries. -/
theorem queries_eq (c : Dev nD) : (dats m 0 c).arrAt 3 cfg0.N
    = Cert.InProjSRefIdeal.Value.queries (m ((c : Thread nD τ).loc main_arg0)) (m ((c : Thread nD τ).loc main_arg1)) := by
  refine (dats m 0 c).arrAt_eq_of_covers 3 _ (by decide +kernel) fun t hf y => ?_
  have hlo := late3 t hf
  blk_simp
  rw [after_3]
  obtain ⟨r, j, rfl⟩ : ∃ (r : Fin 256) (j : Fin 512), y = ix2 r j := ⟨y 0, y 1, eq_ix2 y⟩
  have ht : t.val < 21 := (idx t).2.2.2.2.2.2.2.2
  have he : ((View.whole main_v7_0).slice (win0_3.rect t)).emb (ix2 r j)
      = (ix2 ⟨t.val / 21 * 256 + r.val, by omega⟩ ⟨min (t.val % 21) 1 * 512 + j.val, by omega⟩ : S256x1024.Idx) := by
    blk_ext [idx t]
  refine (pay2_at _ _ r j).trans ?_
  refine Eq.trans ?_ (congrArg (Cert.InProjSRefIdeal.Value.queries (m ((c : Thread nD τ).loc main_arg0))
    (m ((c : Thread nD τ).loc main_arg1))) he).symm
  refine Eq.trans ?_ (Cert.InProjSRefIdeal.Value.queries_at _ _ _ _ ⟨0 + (min (t.val % 21) 1 * 512 + j.val), by omega⟩ rfl).symm
  have hs : (src 1 t).val % 21 = min (t.val % 21) 1 := by
    show (t.val - (t.val % 21 - 1)) % 21 = _
    omega
  exact Finset.sum_congr rfl fun k _ => congrArg₂ (· * ·) (act_at m c t r k _ rfl)
    (weight_at m c (src 1 t) k j _ (by rw [hs]; show 0 + (min (t.val % 21) 1 * 512 + j.val) = _; omega))

theorem pay3_at (a : FVec Ideal S256x2048 .bf16) (b : FVec Ideal S2048x512 .bf16) (r : Fin 256) (j : Fin 512) :
    k0_pay3 (F := Ideal) a b (ix2 r j) = ∑ k : Fin 2048, a (ix2 r k) * b (ix2 k j) := by
  pointwise [k0_pay3]

theorem late4 : ∀ t : Fin cfg0.N, (cfg0.win 4).flush t = true → 2 ≤ t.val % 21 :=
  (by decide +kernel : ∀ t : Fin cfg0.N, (cfg0.win 4).flush t = true → 2 ≤ t.val % 21)

/-- The array of the keys. -/
theorem keys_eq (c : Dev nD) : (dats m 0 c).arrAt 4 cfg0.N
    = Cert.InProjSRefIdeal.Value.keys (m ((c : Thread nD τ).loc main_arg0)) (m ((c : Thread nD τ).loc main_arg1)) := by
  refine (dats m 0 c).arrAt_eq_of_covers 4 _ (by decide +kernel) fun t hf y => ?_
  have hlo := late4 t hf
  blk_simp
  rw [after_4]
  obtain ⟨r, j, rfl⟩ : ∃ (r : Fin 256) (j : Fin 512), y = ix2 r j := ⟨y 0, y 1, eq_ix2 y⟩
  have ht : t.val < 21 := (idx t).2.2.2.2.2.2.2.2
  have he : ((View.whole main_v7_1).slice (win0_4.rect t)).emb (ix2 r j)
      = (ix2 ⟨t.val / 21 * 256 + r.val, by omega⟩ ⟨min (t.val % 21 - 2) 1 * 512 + j.val, by omega⟩ : S256x1024.Idx) := by
    blk_ext [idx t]
  refine (pay3_at _ _ r j).trans ?_
  refine Eq.trans ?_ (congrArg (Cert.InProjSRefIdeal.Value.keys (m ((c : Thread nD τ).loc main_arg0))
    (m ((c : Thread nD τ).loc main_arg1))) he).symm
  refine Eq.trans ?_ (Cert.InProjSRefIdeal.Value.keys_at _ _ _ _ ⟨1024 + (min (t.val % 21 - 2) 1 * 512 + j.val), by omega⟩ rfl).symm
  have hs : (src 3 t).val % 21 = min (t.val % 21) 3 := by
    show (t.val - (t.val % 21 - 3)) % 21 = _
    omega
  exact Finset.sum_congr rfl fun k _ => congrArg₂ (· * ·) (act_at m c t r k _ rfl)
    (weight_at m c (src 3 t) k j _ (by rw [hs]; show 1024 + (min (t.val % 21 - 2) 1 * 512 + j.val) = _; omega))

theorem pay4_at (a : FVec Ideal S256x2048 .bf16) (b : FVec Ideal S2048x512 .bf16) (r : Fin 256) (j : Fin 512) :
    k0_pay4 (F := Ideal) a b (ix2 r j) = ∑ k : Fin 2048, a (ix2 r k) * b (ix2 k j) := by
  pointwise [k0_pay4]

theorem late5 : ∀ t : Fin cfg0.N, (cfg0.win 5).flush t = true → 4 ≤ t.val % 21 :=
  (by decide +kernel : ∀ t : Fin cfg0.N, (cfg0.win 5).flush t = true → 4 ≤ t.val % 21)

/-- The array of the values. -/
theorem values_eq (c : Dev nD) : (dats m 0 c).arrAt 5 cfg0.N
    = Cert.InProjSRefIdeal.Value.values (m ((c : Thread nD τ).loc main_arg0)) (m ((c : Thread nD τ).loc main_arg1)) := by
  refine (dats m 0 c).arrAt_eq_of_covers 5 _ (by decide +kernel) fun t hf y => ?_
  have hlo := late5 t hf
  blk_simp
  rw [after_5]
  obtain ⟨r, j, rfl⟩ : ∃ (r : Fin 256) (j : Fin 512), y = ix2 r j := ⟨y 0, y 1, eq_ix2 y⟩
  have ht : t.val < 21 := (idx t).2.2.2.2.2.2.2.2
  have he : ((View.whole main_v7_2).slice (win0_5.rect t)).emb (ix2 r j)
      = (ix2 ⟨t.val / 21 * 256 + r.val, by omega⟩ ⟨min (t.val % 21 - 4) 1 * 512 + j.val, by omega⟩ : S256x1024.Idx) := by
    blk_ext [idx t]
  refine (pay4_at _ _ r j).trans ?_
  refine Eq.trans ?_ (congrArg (Cert.InProjSRefIdeal.Value.values (m ((c : Thread nD τ).loc main_arg0))
    (m ((c : Thread nD τ).loc main_arg1))) he).symm
  refine Eq.trans ?_ (Cert.InProjSRefIdeal.Value.values_at _ _ _ _ ⟨2048 + (min (t.val % 21 - 4) 1 * 512 + j.val), by omega⟩ rfl).symm
  have hs : (src 5 t).val % 21 = min (t.val % 21) 5 := by
    show (t.val - (t.val % 21 - 5)) % 21 = _
    omega
  exact Finset.sum_congr rfl fun k _ => congrArg₂ (· * ·) (act_at m c t r k _ rfl)
    (weight_at m c (src 5 t) k j _ (by rw [hs]; show 2048 + (min (t.val % 21 - 4) 1 * 512 + j.val) = _; omega))

theorem pay5_at (a : FVec Ideal S256x2048 .bf16) (b : FVec Ideal S2048x512 .bf16) (r : Fin 256) (j : Fin 512) :
    k0_pay5 (F := Ideal) a b (ix2 r j) = ∑ k : Fin 2048, a (ix2 r k) * b (ix2 k j) := by
  pointwise [k0_pay5]

theorem late6 : ∀ t : Fin cfg0.N, (cfg0.win 6).flush t = true → 6 ≤ t.val % 21 :=
  (by decide +kernel : ∀ t : Fin cfg0.N, (cfg0.win 6).flush t = true → 6 ≤ t.val % 21)

/-- The array of the recurrence. -/
theorem recurrence_eq (c : Dev nD) : (dats m 0 c).arrAt 6 cfg0.N
    = Cert.InProjSRefIdeal.Value.recurrence (m ((c : Thread nD τ).loc main_arg0)) (m ((c : Thread nD τ).loc main_arg1)) := by
  refine (dats m 0 c).arrAt_eq_of_covers 6 _ (by decide +kernel) fun t hf y => ?_
  have hlo := late6 t hf
  blk_simp
  rw [after_6]
  obtain ⟨r, j, rfl⟩ : ∃ (r : Fin 256) (j : Fin 512), y = ix2 r j := ⟨y 0, y 1, eq_ix2 y⟩
  have ht : t.val < 21 := (idx t).2.2.2.2.2.2.2.2
  have he : ((View.whole main_v7_3).slice (win0_6.rect t)).emb (ix2 r j)
      = (ix2 ⟨t.val / 21 * 256 + r.val, by omega⟩ ⟨min (t.val % 21 - 6) 6 * 512 + j.val, by omega⟩ : S256x3584.Idx) := by
    blk_ext [idx t]
  refine (pay5_at _ _ r j).trans ?_
  refine Eq.trans ?_ (congrArg (Cert.InProjSRefIdeal.Value.recurrence (m ((c : Thread nD τ).loc main_arg0))
    (m ((c : Thread nD τ).loc main_arg1))) he).symm
  refine Eq.trans ?_ (Cert.InProjSRefIdeal.Value.recurrence_at _ _ _ _ ⟨3072 + (min (t.val % 21 - 6) 6 * 512 + j.val), by omega⟩ rfl).symm
  have hs : (src 12 t).val % 21 = min (t.val % 21) 12 := by
    show (t.val - (t.val % 21 - 12)) % 21 = _
    omega
  exact Finset.sum_congr rfl fun k _ => congrArg₂ (· * ·) (act_at m c t r k _ rfl)
    (weight_at m c (src 12 t) k j _ (by rw [hs]; show 3072 + (min (t.val % 21 - 6) 6 * 512 + j.val) = _; omega))

theorem pay6_at (a : FVec Ideal S256x2048 .bf16) (b : FVec Ideal S2048x512 .bf16) (r : Fin 256) (j : Fin 512) :
    k0_pay6 (F := Ideal) a b (ix2 r j) = ∑ k : Fin 2048, a (ix2 r k) * b (ix2 k j) := by
  pointwise [k0_pay6]

theorem late7 : ∀ t : Fin cfg0.N, (cfg0.win 7).flush t = true → 13 ≤ t.val % 21 :=
  (by decide +kernel : ∀ t : Fin cfg0.N, (cfg0.win 7).flush t = true → 13 ≤ t.val % 21)

/-- The array of the gates. -/
theorem gates_eq (c : Dev nD) : (dats m 0 c).arrAt 7 cfg0.N
    = Cert.InProjSRefIdeal.Value.gates (m ((c : Thread nD τ).loc main_arg0)) (m ((c : Thread nD τ).loc main_arg1)) := by
  refine (dats m 0 c).arrAt_eq_of_covers 7 _ (by decide +kernel) fun t hf y => ?_
  have hlo := late7 t hf
  blk_simp
  rw [after_7]
  obtain ⟨r, j, rfl⟩ : ∃ (r : Fin 256) (j : Fin 512), y = ix2 r j := ⟨y 0, y 1, eq_ix2 y⟩
  have ht : t.val < 21 := (idx t).2.2.2.2.2.2.2.2
  have he : ((View.whole main_v7_4).slice (win0_7.rect t)).emb (ix2 r j)
      = (ix2 ⟨t.val / 21 * 256 + r.val, by omega⟩ ⟨(t.val % 21 - 13) * 512 + j.val, by omega⟩ : S256x4096.Idx) := by
    blk_ext [idx t]
  refine (pay6_at _ _ r j).trans ?_
  refine Eq.trans ?_ (congrArg (Cert.InProjSRefIdeal.Value.gates (m ((c : Thread nD τ).loc main_arg0))
    (m ((c : Thread nD τ).loc main_arg1))) he).symm
  refine Eq.trans ?_ (Cert.InProjSRefIdeal.Value.gates_at _ _ _ _ ⟨6592 + ((t.val % 21 - 13) * 512 + j.val), by omega⟩ rfl).symm
  exact Finset.sum_congr rfl fun k _ => congrArg₂ (· * ·) (act_at m c t r k _ rfl) (gate_at m c t k j _ rfl)

/-- The last token is the host code's. -/
theorem lastToken_eq (c : Dev nD) : V m c main_v6 = Cert.InProjSRefIdeal.Value.lastToken (m ((c : Thread nD τ).loc main_arg0)) := by
  entry_read
  rfl

end Cert.InProjSIdeal.Proj

end
-- ==== Proof.Moba.Split.lean ====
/- The body of the attention kernel in two parts: what it does at the first query block of a pair of heads
   (`headProg`), and what it does at every query block (`restProg`). -/
module

public import proofs.«01_k».proof.Proof.Gen.KernelIdeal.Skeleton
public import proofs.«01_k».proof.Proof.Gen.KernelIdeal.Loops

@[expose] public section

set_option maxRecDepth 65536

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body does at the first query block: it fills the four scratch buffers. -/
noncomputable def headProg (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg0 2#32
  let v1 : BitVec 32 := Scalar.addi v0 0#32
  let v2 : BitVec 32 := Scalar.muli arg0 2#32
  let v3 : BitVec 32 := Scalar.addi v2 1#32
  have v4 : IVec S256x128 32 := iota .tc S256x128 32 [1] iota_S256x128_d1_w32
  if k0_h1 : k0_cond1 i = 1#1 then do
    let ⟨v868, v2957⟩ : Σ' (v868 : IVec S256x256 32), FVec F S256x128 .f32 ← k0_part83 i arg2 harg2 arg3 harg3 arg4 harg4 arg5 harg5 arg6 harg6 arg7 harg7 arg8 harg8 arg9 harg9 arg10 harg10 v1 v4 k0_h1
    let ⟨v3628, v3839, v3841, v3842⟩ : Σ' (v3628 : IVec S256x256 32) (v3839 : FVec F S256x256 .f32) (v3841 : IVec S256x256 1), BitVec 32 ← k0_part84 i arg2 harg2 arg3 harg3 arg4 harg4 arg5 harg5 arg6 harg6 arg7 harg7 arg8 harg8 arg9 harg9 arg10 harg10 v3 v4 k0_h1 v868 v2957
    let v3844 : Elt F .f32 ← smemLoad arg2 (Rect.unit (s := S256) (k0_off1 i 240#32 1#32) S1.size (k0_off1_inb i k0_h1 30 1)) numel1_S1 rfl
    let v3851 : Elt F .f32 ← smemLoad arg2 (Rect.unit (s := S256) (k0_off1 i 248#32 1#32) S1.size (k0_off1_inb i k0_h1 31 1)) numel1_S1 rfl
    let v3854 : Vec F S1x1x256x256 .f32 ← Prog.lift (.load arg8 (Rect.unit (s := S2x2x256x256) ![1, 1, 0, 0] S1x1x256x256.size inb_S2x2x256x256_S1x1x256x256_1_1_0_0).toLoadRect (View.loadsAt_vmem h_S1x1x256x256))
    Prog.lift (.store arg8 (Rect.unit (s := S2x2x256x256) ![1, 1, 0, 0] S1x1x256x256.size inb_S2x2x256x256_S1x1x256x256_1_1_0_0) (k0_pay455 v3628 v3839 v3841 v3844 v3851) Finset.univ (View.stores_vmem_bits_univ h_S1x1x256x256 rfl) (.inl rfl))
    pure ⟨⟩
  else do
    pure ⟨⟩

/-- The first loads of the second part. -/
noncomputable def rest87 (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) :
    Prog (TpuEff nD τ sig (Elt F) Λ₀ .tc) (Σ' (arg1 : BitVec 32) (v1 : BitVec 32) (v3 : BitVec 32) (v4 : IVec S256x128 32) (v9 : FVec F S256x128 .f32) (v11 : FVec F S256x128 .f32) (v12 : IVec S32x256 32) (v32 : FVec F S32x256 .f32) (v34 : IVec S32x256 1), FVec F S128x128 .f32) := do
  let arg0 : BitVec 32 := BitVec.ofNat 32 (i 0).val
  let arg1 : BitVec 32 := BitVec.ofNat 32 (i 1).val
  let v0 : BitVec 32 := Scalar.muli arg0 2#32
  let v1 : BitVec 32 := Scalar.addi v0 0#32
  let v2 : BitVec 32 := Scalar.muli arg0 2#32
  let v3 : BitVec 32 := Scalar.addi v2 1#32
  have v4 : IVec S256x128 32 := iota .tc S256x128 32 [1] iota_S256x128_d1_w32
  let v8 : Vec F S256x128 .f32 ← Prog.lift (.load arg3 (Rect.unit (s := S256x256) ![0, 0] S256x128.size inb_S256x256_S256x128_0_0).toLoadRect (View.loadsAt_vmem h_S256x128))
  let v10 : Vec F S256x128 .f32 ← Prog.lift (.load arg3 (Rect.unit (s := S256x256) ![0, 128] S256x128.size inb_S256x256_S256x128_0_128).toLoadRect (View.loadsAt_vmem h_S256x128))
  have v12 : IVec S32x256 32 := iota .tc S32x256 32 [0] iota_S32x256_d0_w32
  let v15 : Vec F S1x128x128 .f32 ← Prog.lift (.load arg7 (Rect.unit (s := S2x128x128) ![0, 0, 0] S1x128x128.size inb_S2x128x128_S1x128x128_0_0_0).toLoadRect (View.loadsAt_vmem h_S1x128x128))
  let v35 : Vec F S1x128x128 .f32 ← Prog.lift (.load arg7 (Rect.unit (s := S2x128x128) ![1, 0, 0] S1x128x128.size inb_S2x128x128_S1x128x128_1_0_0).toLoadRect (View.loadsAt_vmem h_S1x128x128))
  pure ⟨arg1, v1, v3, v4, k0_pay456 v8, k0_pay457 v10, v12, k0_pay458 i v8 v15, k0_pay459 i, k0_pay460 v35⟩

/-- The second part up to the first store of the output. -/
noncomputable def rest106 (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) :
    Prog (TpuEff nD τ sig (Elt F) Λ₀ .tc) (Σ' (v859_3 : FVec F S256x1 .f32), FVec F S256x128 .f32) := do
  let ⟨arg1, v1, v3, v4, v9, v11, v12, v32, v34, v36⟩ : Σ' (arg1 : BitVec 32) (v1 : BitVec 32) (v3 : BitVec 32) (v4 : IVec S256x128 32) (v9 : FVec F S256x128 .f32) (v11 : FVec F S256x128 .f32) (v12 : IVec S32x256 32) (v32 : FVec F S32x256 .f32) (v34 : IVec S32x256 1), FVec F S128x128 .f32 ← rest87 i arg2 harg2 arg3 harg3 arg4 harg4 arg5 harg5 arg6 harg6 arg7 harg7 arg8 harg8 arg9 harg9 arg10 harg10
  let ⟨v52, v53, v54, v55, v73, v75, v80⟩ : Σ' (v52 : FVec F S32x256 .f32) (v53 : FVec F S32x256 .f32) (v54 : FVec F S32x256 .f32) (v55 : FVec F S32x256 .f32) (v73 : IVec S32x256 1) (v75 : IVec S32x256 1), FVec F S32x256 .f32 ← k0_part88 i arg2 harg2 arg3 harg3 arg4 harg4 arg5 harg5 arg6 harg6 arg7 harg7 arg8 harg8 arg9 harg9 arg10 harg10 arg1 v11 v12 v32 v34 v36
  let ⟨v87, v89, v91, v109, v111, v117, cst_48, v120⟩ : Σ' (v87 : FVec F S32x256 .f32) (v89 : FVec F S32x256 .f32) (v91 : FVec F S32x256 .f32) (v109 : IVec S32x256 1) (v111 : IVec S32x256 1) (v117 : FVec F S32x256 .f32) (cst_48 : F .f32), FVec F S32x256 .f32 ← k0_part89 i arg2 harg2 arg3 harg3 arg4 harg4 arg5 harg5 arg6 harg6 arg7 harg7 arg8 harg8 arg9 harg9 arg10 harg10 arg1 v32 v52 v53 v54 v55 v73 v75 v80
  let ⟨v162, v163⟩ : Σ' (v162 : FVec F S256x128 .f32), FVec F S128x256 .f32 ← k0_part90 i arg2 harg2 arg3 harg3 arg4 harg4 arg5 harg5 arg6 harg6 arg7 harg7 arg8 harg8 arg9 harg9 arg10 harg10 arg1 v55 v87 v89 v91 v109 v111 v117 cst_48 v120
  let ⟨v164, v185, v207⟩ : Σ' (v164 : FVec F S256x128 .f32) (v185 : IVec S8x128 32), FVec F S8x128 .f32 ← k0_part91 i arg2 harg2 arg3 harg3 arg4 harg4 arg5 harg5 arg6 harg6 arg7 harg7 arg8 harg8 arg9 harg9 arg10 harg10 v1 v163
  let ⟨v249, v251⟩ : Σ' (v249 : FVec F S8x128 .f32), IVec S8x128 1 ← k0_part92 i arg2 harg2 arg3 harg3 arg4 harg4 arg5 harg5 arg6 harg6 arg7 harg7 arg8 harg8 arg9 harg9 arg10 harg10 v1 v185 v207
  let ⟨v298, v300⟩ : Σ' (v298 : FVec F S8x128 .f32), IVec S8x128 1 ← k0_part93 i arg2 harg2 arg3 harg3 arg4 harg4 arg5 harg5 arg6 harg6 arg7 harg7 arg8 harg8 arg9 harg9 arg10 harg10 v1 v185 v249 v251
  let v347 : FVec F S8x128 .f32 ← k0_part94 i arg2 harg2 arg3 harg3 arg4 harg4 arg5 harg5 arg6 harg6 arg7 harg7 arg8 harg8 arg9 harg9 arg10 harg10 v1 v185 v298 v300
  let ⟨v389, v391⟩ : Σ' (v389 : FVec F S8x128 .f32), IVec S8x128 1 ← k0_part95 i arg2 harg2 arg3 harg3 arg4 harg4 arg5 harg5 arg6 harg6 arg7 harg7 arg8 harg8 arg9 harg9 arg10 harg10 v1 v185 v347
  let ⟨v410, v431, v432, v434, v437⟩ : Σ' (v410 : FVec F S8x128 .f32) (v431 : IVec S8x128 32) (v432 : FVec F S8x128 .f32) (v434 : IVec S8x128 1), Elt F .f32 ← k0_part96 i arg2 harg2 arg3 harg3 arg4 harg4 arg5 harg5 arg6 harg6 arg7 harg7 arg8 harg8 arg9 harg9 arg10 harg10 v1 v3 v185 v389 v391
  let ⟨v481, v483, c56_i32_107⟩ : Σ' (v481 : FVec F S8x128 .f32) (v483 : IVec S8x128 1), BitVec 32 ← k0_part97 i arg2 harg2 arg3 harg3 arg4 harg4 arg5 harg5 arg6 harg6 arg7 harg7 arg8 harg8 arg9 harg9 arg10 harg10 v3 v431 v432 v434 v437
  let ⟨v530, c14_i32_120⟩ : Σ' (v530 : FVec F S8x128 .f32), BitVec 32 ← k0_part98 i arg2 harg2 arg3 harg3 arg4 harg4 arg5 harg5 arg6 harg6 arg7 harg7 arg8 harg8 arg9 harg9 arg10 harg10 v3 v431 v481 v483 c56_i32_107
  let ⟨v572, v574, v577⟩ : Σ' (v572 : FVec F S8x128 .f32) (v574 : IVec S8x128 1), Elt F .f32 ← k0_part99 i arg2 harg2 arg3 harg3 arg4 harg4 arg5 harg5 arg6 harg6 arg7 harg7 arg8 harg8 arg9 harg9 arg10 harg10 v3 v431 v530 c14_i32_120
  let ⟨v621, v623, c216_i32_147⟩ : Σ' (v621 : FVec F S8x128 .f32) (v623 : IVec S8x128 1), BitVec 32 ← k0_part100 i arg2 harg2 arg3 harg3 arg4 harg4 arg5 harg5 arg6 harg6 arg7 harg7 arg8 harg8 arg9 harg9 arg10 harg10 v3 v431 v572 v574 v577
  let ⟨v656, v658, v659, v662, v666, v668, v670⟩ : Σ' (v656 : FVec F S8x128 .f32) (v658 : BitVec 32) (v659 : FVec F S1x128 .f32) (v662 : FVec F S1x128 .f32) (v666 : FVec F S256x128 .f32) (v668 : IVec S256x128 1), IVec S256x128 1 ← k0_part101 i arg2 harg2 arg3 harg3 arg4 harg4 arg5 harg5 arg6 harg6 arg7 harg7 arg8 harg8 arg9 harg9 arg10 harg10 arg1 v3 v4 v162 v410 v431 v621 v623 c216_i32_147
  let ⟨v686, v688, v716, v717⟩ : Σ' (v686 : FVec F S256x128 .bf16) (v688 : FVec F S256x256 .bf16) (v716 : FVec F S256x128 .bf16), FVec F S256x128 .bf16 ← k0_part102 i arg2 harg2 arg3 harg3 arg4 harg4 arg5 harg5 arg6 harg6 arg7 harg7 arg8 harg8 arg9 harg9 arg10 harg10 v4 v9 v11 v164 v656 v658 v659 v662 v666 v668 v670
  let ⟨v718, v720, v724, v736, v745, v753, v754⟩ : Σ' (v718 : FVec F S256x256 .bf16) (v720 : BitVec 32) (v724 : BitVec 32) (v736 : FVec F S256x256 .f32) (v745 : FVec F S256x256 .f32) (v753 : IVec S256x1 1), IVec S256x128 32 ← k0_part103 i arg2 harg2 arg3 harg3 arg4 harg4 arg5 harg5 arg6 harg6 arg7 harg7 arg8 harg8 arg9 harg9 arg10 harg10 arg1 v4 v162 v686 v716 v717
  let ⟨v772, v783, v788, v790, v791⟩ : Σ' (v772 : FVec F S256x256 .f32) (v783 : FVec F S256x256 .f32) (v788 : FVec F S256x1 .f32) (v790 : FVec F S256x1 .f32), FVec F S256 .f32 ← k0_part104 i arg2 harg2 arg3 harg3 arg4 harg4 arg5 harg5 arg6 harg6 arg7 harg7 arg8 harg8 arg9 harg9 arg10 harg10 v4 v164 v686 v716 v724 v736 v745 v753 v754
  let ⟨v793, v808, v811, v822, v833, v835⟩ : Σ' (v793 : FVec F S256x1 .f32) (v808 : FVec F S256x1 .f32) (v811 : FVec F S256x1 .f32) (v822 : FVec F S256x128 .f32) (v833 : FVec F S256x128 .f32), BitVec 32 ← k0_part105 i arg2 harg2 arg3 harg3 arg4 harg4 arg5 harg5 arg6 harg6 arg7 harg7 arg8 harg8 arg9 harg9 arg10 harg10 v658 v720 v724 v736 v745 v772 v783 v788 v790 v791
  let v836 : BitVec 32 := Scalar.divsi v835 4#32
  let v837 : BitVec 1 := Scalar.cmpi .sgt v835 0#32
  let v838 : BitVec 32 := Scalar.extui v837
  let v839 : BitVec 1 := Scalar.cmpi .slt v835 0#32
  let v840 : BitVec 32 := Scalar.extui v839
  let v841 : BitVec 32 := Scalar.subi v838 v840
  let v842 : BitVec 1 := Scalar.cmpi .sgt 4#32 0#32
  let v843 : BitVec 32 := Scalar.extui v842
  let v844 : BitVec 1 := Scalar.cmpi .slt 4#32 0#32
  let v845 : BitVec 32 := Scalar.extui v844
  let v846 : BitVec 32 := Scalar.subi v843 v845
  let v847 : BitVec 1 := Scalar.cmpi .ne v841 v846
  let v848 : BitVec 32 := Scalar.remsi v835 4#32
  let v849 : BitVec 1 := Scalar.cmpi .ne v848 0#32
  let v850 : BitVec 1 := Scalar.andi v847 v849
  let v851 : BitVec 32 := Scalar.subi v836 1#32
  let v852 : BitVec 32 := Scalar.select v850 v851 v836
  let v853 : BitVec 32 := Scalar.subi v852 0#32
  let v855 : BitVec 32 := Scalar.divsi v853 1#32
  let v856 : BitVec 32 := Scalar.muli v855 1#32
  let v857 : BitVec 32 := Scalar.addi 0#32 v856
  let (v858_0, v858_1, v858_2, v858_3, v858_4, v858_5) ← Scf.Loop.for (k0_t1_loop i) (k0_t1_ok i) (v788, v793, v808, v811, v822, v833) (k0_t1_body i arg2 harg2 arg3 harg3 arg4 harg4 arg5 harg5 arg6 harg6 arg7 harg7 arg8 harg8 arg9 harg9 arg10 harg10 v688 v718)
  let (v859_0, v859_1, v859_2, v859_3, v859_4, v859_5) ← Scf.Loop.for (k0_t2_loop i) (k0_t2_ok i) (v858_0, v858_1, v858_2, v858_3, v858_4, v858_5) (k0_t2_body i arg2 harg2 arg3 harg3 arg4 harg4 arg5 harg5 arg6 harg6 arg7 harg7 arg8 harg8 arg9 harg9 arg10 harg10 v688 v718 v857)
  let v862 : Vec F S256x128 .f32 ← Prog.lift (.load arg6 (Rect.unit (s := S256x256) ![0, 0] S256x128.size inb_S256x256_S256x128_0_0).toLoadRect (View.loadsAt_vmem h_S256x128))
  Prog.lift (.store arg6 (Rect.unit (s := S256x256) ![0, 0] S256x128.size inb_S256x256_S256x128_0_0) (k0_pay531 v859_2 v859_4) Finset.univ (View.stores_vmem_bits_univ h_S256x128 rfl) (.inl rfl))
  pure ⟨v859_3, v859_5⟩

/-- What the body does at every query block. -/
noncomputable def restProg (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) :
    Prog (TpuEff nD τ sig (Elt F) Λ₀ .tc) PUnit := do
  let ⟨v859_3, v859_5⟩ : Σ' (v859_3 : FVec F S256x1 .f32), FVec F S256x128 .f32 ← rest106 i arg2 harg2 arg3 harg3 arg4 harg4 arg5 harg5 arg6 harg6 arg7 harg7 arg8 harg8 arg9 harg9 arg10 harg10
  let v865 : Vec F S256x128 .f32 ← Prog.lift (.load arg6 (Rect.unit (s := S256x256) ![0, 128] S256x128.size inb_S256x256_S256x128_0_128).toLoadRect (View.loadsAt_vmem h_S256x128))
  Prog.lift (.store arg6 (Rect.unit (s := S256x256) ![0, 128] S256x128.size inb_S256x256_S256x128_0_128) (k0_pay1 v859_3 v859_5) Finset.univ (View.stores_vmem_bits_univ h_S256x128 rfl) (.inl rfl))
  pure ⟨⟩

/-- The body is its two parts in turn. -/
theorem body_split (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) :
    cc0_moba_prompt (F := F) i arg2 harg2 arg3 harg3 arg4 harg4 arg5 harg5 arg6 harg6 arg7 harg7 arg8 harg8 arg9 harg9 arg10 harg10
      = headProg i arg2 harg2 arg3 harg3 arg4 harg4 arg5 harg5 arg6 harg6 arg7 harg7 arg8 harg8 arg9 harg9 arg10 harg10 >>= fun _ => restProg i arg2 harg2 arg3 harg3 arg4 harg4 arg5 harg5 arg6 harg6 arg7 harg7 arg8 harg8 arg9 harg9 arg10 harg10 := by
  rw [cc0_moba_prompt_eq_skeleton]; unfold cc0_moba_prompt_skel restProg
  rw [k0_part106_eq_skeleton]; unfold k0_part106_skel rest106
  have h87 : k0_part87 (F := F) i arg2 harg2 arg3 harg3 arg4 harg4 arg5 harg5 arg6 harg6 arg7 harg7 arg8 harg8 arg9 harg9 arg10 harg10
      = headProg i arg2 harg2 arg3 harg3 arg4 harg4 arg5 harg5 arg6 harg6 arg7 harg7 arg8 harg8 arg9 harg9 arg10 harg10 >>= fun _ => rest87 i arg2 harg2 arg3 harg3 arg4 harg4 arg5 harg5 arg6 harg6 arg7 harg7 arg8 harg8 arg9 harg9 arg10 harg10 := by
    rw [k0_part87_eq_skeleton]; unfold k0_part87_skel headProg rest87
    by_cases hc : k0_cond1 i = 1#1
    · simp only [hc, dif_pos, bind_assoc, pure_bind]
    · simp only [hc, dif_neg, not_false_eq_true, bind_assoc, pure_bind]
  rw [h87]
  simp only [bind_assoc]

end Cert.KernelIdeal.Moba

end
-- ==== Proof.Moba.Runs.lean ====
/- What the frame of the attention kernel is stated over: the branch condition at the grid's points, the staging and
   scratch buffers as the kernel's operands, and the frame's last step. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moba

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The frame from a run that says nothing of the outputs. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The branch condition of the body, from the grid coordinates. -/
abbrev cond0_0 (i : grid0.Coords) : Prop := k0_cond1 i = 1#1
/-- It holds at the first row tile of each pair of heads. -/
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- Each window's staging buffer at a point, and its wholeness. -/
abbrev ms0_0 (t : Fin cfg0.N) : Memref sig .tc .smem S256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
/-- The scratch buffers. -/
abbrev scM0_0 : Memref sig .tc .vmem S2x128x128 .f32 := Memref.whole cc0_scratch0
abbrev scM0_1 : Memref sig .tc .vmem S2x2x256x256 .f32 := Memref.whole cc0_scratch1
abbrev scM0_2 : Memref sig .tc .vmem S2x8192x256 .bf16 := Memref.whole cc0_scratch2
abbrev scM0_3 : Memref sig .tc .vmem S2x8192x128 .bf16 := Memref.whole cc0_scratch3
abbrev VS0_2 : View sig .tc .vmem S2x8192x256 .bf16 := scM0_2.view
abbrev VS0_3 : View sig .tc .vmem S2x8192x128 .bf16 := scM0_3.view

/-- What the region owns besides the staged arrays: the scratch buffers at some contents, and the register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Moba

end
-- ==== Proof.Moba.Main.lean ====
/- The run of the second part of the attention kernel's body, on scratch buffers at any contents. -/
module

public import proofs.«01_k».proof.Proof.Moba.Split
public import proofs.«01_k».proof.Proof.Moba.Runs

@[expose] public section

set_option maxRecDepth 65536

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 8000000 in
/-- The pieces the second part's stores leave in the output block, with the proof that the second part runs from the
    table, the queries and the four scratch buffers, and leaves these as they were. -/
noncomputable def mainRun (c : Dev nD) (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole)
    (x0 : Vec F S256 .f32) (x1 : Vec F S256x256 .f32) (xs0 : Vec F S2x128x128 .f32) (xs1 : Vec F S2x2x256x256 .f32) (xs2 : Vec F S2x8192x256 .bf16) (xs3 : Vec F S2x8192x128 .bf16) :
    { L : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f L) ∗ owns (c : Thread nD τ) arg7 fullShare xs0 ∗ owns (c : Thread nD τ) arg8 fullShare xs1 ∗ owns (c : Thread nD τ) arg9 fullShare xs2 ∗ owns (c : Thread nD τ) arg10 fullShare xs3) -∗ K ⟨⟩))
          ⊢ wp frame (wpE (defs₀ (F := F)) Variants.none c none) E (restProg i arg2 harg2 arg3 harg3 arg4 harg4 arg5 harg5 arg6 harg6 arg7 harg7 arg8 harg8 arg9 harg9 arg10 harg10) K } := by
  refine ⟨?_, fun E K => ?run⟩
  case run =>
    unfold restProg
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    iexists _; isplitr; · ipureintro; exact harg10.read_unread _
    iexact H6

end Cert.KernelIdeal.Moba

end
-- ==== Proof.Moba.Init.lean ====
/- The run of the first part of the attention kernel's body: the four scratch buffers filled. -/
module

public import proofs.«01_k».proof.Proof.Moba.Split
public import proofs.«01_k».proof.Proof.Moba.Runs

@[expose] public section

set_option maxRecDepth 65536

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 16000000 in
/-- The pieces the first part's stores leave in the four scratch buffers, with the proof that at a first query block
    the first part runs from the table, the keys and the values, and leaves these as they were. -/
noncomputable def initRun (c : Dev nD) (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) (hc0 : k0_cond1 i = 1#1)
    (x0 : Vec F S256 .f32) (x2 : Vec F S8192x256 .f32) (x3 : Vec F S8192x256 .f32) :
    Σ' (LS0 : List (View.Piece (Elt F) S2x128x128 .f32)) (LS1 : List (View.Piece (Elt F) S2x2x256x256 .f32)) (LS2 : List (View.Piece (Elt F) S2x8192x256 .bf16)), { LS3 : List (View.Piece (Elt F) S2x8192x128 .bf16) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg4 fullShare x2 ∗ owns (c : Thread nD τ) arg5 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (headProg i arg2 harg2 arg3 harg3 arg4 harg4 arg5 harg5 arg6 harg6 arg7 harg7 arg8 harg8 arg9 harg9 arg10 harg10) K } := by
  refine ⟨?_, ?_, ?_, ?_, fun E K => ?run⟩
  case run =>
    unfold headProg
    simp only [k0_part83_eq_skeleton, k0_part84_eq_skeleton]; unfold k0_part83_skel k0_part84_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg4.eq_unread hf1; obtain rfl := harg5.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [H5]
    · iexists _; iexact H5
    iexists _; iexact H6

end Cert.KernelIdeal.Moba

end
-- ==== Proof.Moba.Frame.lean ====
/- The frame of the attention kernel with the mask at minus infinity: every execution ends, with the arguments as they were.
   Between grid points the four scratch buffers may hold anything, and nothing is said of the output. -/
module

public import proofs.«01_k».proof.Proof.Moba.Main
public import proofs.«01_k».proof.Proof.Moba.Init
public import proofs.«01_k».proof.Proof.Moba.Runs
public import Idealize.ShloMosaic.Lib.Claim

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window (4), of which this run keeps nothing. -/
def forgets0 : Fin 5 → Bool := fun w => w.val == 4

/-- The proof data of the one pipeline on core `c`: the arrays as the region finds them; after the body at a point each
    input buffer at its block, the output at anything; the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- At a point that is not the first of its pair of heads the first part does nothing. -/
theorem head_skip (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) (h : ¬ k0_cond1 i = 1#1) :
    headProg (F := F) i arg2 harg2 arg3 harg3 arg4 harg4 arg5 harg5 arg6 harg6 arg7 harg7 arg8 harg8 arg9 harg9 arg10 harg10 = Prog.ret ⟨⟩ := by
  unfold headProg
  simp only [dif_neg h]
  rfl

/-- The body from any contents of the output and the scratch buffers, the inputs at their blocks. -/
theorem body_any (c : Dev nD) (i : grid0.Coords) (arg2 : Memref sig .tc .smem S256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S8192x256 .f32) (harg5 : arg5.IsWhole) (arg6 : Memref sig .tc .vmem S256x256 .f32) (harg6 : arg6.IsWhole) (arg7 : Memref sig .tc .vmem S2x128x128 .f32) (harg7 : arg7.IsWhole) (arg8 : Memref sig .tc .vmem S2x2x256x256 .f32) (harg8 : arg8.IsWhole) (arg9 : Memref sig .tc .vmem S2x8192x256 .bf16) (harg9 : arg9.IsWhole) (arg10 : Memref sig .tc .vmem S2x8192x128 .bf16) (harg10 : arg10.IsWhole) (x0 : Vec F S256 .f32) (x1 : Vec F S256x256 .f32) (x2 : Vec F S8192x256 .f32) (x3 : Vec F S8192x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_moba_prompt (F := F) i arg2 harg2 arg3 harg3 arg4 harg4 arg5 harg5 arg6 harg6 arg7 harg7 arg8 harg8 arg9 harg9 arg10 harg10) K := by
  rw [body_split, wp_bind]
  by_cases h : k0_cond1 i = 1#1
  · iintro ⟨H0, H1, H2, H3, H4, HS0, HS1, HS2, HS3, Hk⟩
    iapply ((initRun c i arg2 harg2 arg3 harg3 arg4 harg4 arg5 harg5 arg6 harg6 arg7 harg7 arg8 harg8 arg9 harg9 arg10 harg10 h x0 x2 x3).2.2.2.2 Set.univ _)
    isplitl [H0]; · iexact H0
    isplitl [H2]; · iexact H2
    isplitl [H3]; · iexact H3
    isplitl [HS0]; · iexact HS0
    isplitl [HS1]; · iexact HS1
    isplitl [HS2]; · iexact HS2
    isplitl [HS3]; · iexact HS3
    iintro ⟨H0, H2, H3, ⟨%e0, HS0⟩, ⟨%e1, HS1⟩, ⟨%e2, HS2⟩, ⟨%e3, HS3⟩⟩
    iapply ((mainRun c i arg2 harg2 arg3 harg3 arg4 harg4 arg5 harg5 arg6 harg6 arg7 harg7 arg8 harg8 arg9 harg9 arg10 harg10 x0 x1 _ _ _ _).2 Set.univ _)
    isplitl [H0]; · iexact H0
    isplitl [H1]; · iexact H1
    isplitl [H4]; · iexact H4
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    isplitl [HS3]
    · unfold owns; iexists _; isplitr
      swap; · iexact HS3
      ipureintro; rfl
    iintro ⟨H0, H1, ⟨%e4, H4⟩, HS0, HS1, HS2, HS3⟩
    iapply Hk
    isplitl [H0]; · iexact H0
    isplitl [H1]; · iexact H1
    isplitl [H2]; · iexact H2
    isplitl [H3]; · iexact H3
    isplitl [H4]
    · unfold owns; iexists _; iexists _; isplitr
      swap; · iexact H4
      ipureintro; rfl
    isplitl [HS0]; · iexists _; iexact HS0
    isplitl [HS1]; · iexists _; iexact HS1
    isplitl [HS2]; · iexists _; iexact HS2
    iexists _; iexact HS3
  · rw [head_skip _ _ _ _ _ _ _ _ _ _ _ _ _ _ _ _ _ _ _ h]
    iintro ⟨H0, H1, H2, H3, H4, ⟨%e0, HS0⟩, ⟨%e1, HS1⟩, ⟨%e2, HS2⟩, ⟨%e3, HS3⟩, Hk⟩
    rw [wp_ret]
    imodintro
    iapply ((mainRun c i arg2 harg2 arg3 harg3 arg4 harg4 arg5 harg5 arg6 harg6 arg7 harg7 arg8 harg8 arg9 harg9 arg10 harg10 x0 x1 _ _ _ _).2 Set.univ _)
    isplitl [H0]; · iexact H0
    isplitl [H1]; · iexact H1
    isplitl [H4]; · iexact H4
    isplitl [HS0]; · iexact HS0
    isplitl [HS1]; · iexact HS1
    isplitl [HS2]; · iexact HS2
    isplitl [HS3]; · iexact HS3
    iintro ⟨H0, H1, ⟨%e4, H4⟩, HS0, HS1, HS2, HS3⟩
    iapply Hk
    isplitl [H0]; · iexact H0
    isplitl [H1]; · iexact H1
    isplitl [H2]; · iexact H2
    isplitl [H3]; · iexact H3
    isplitl [H4]
    · unfold owns; iexists _; iexists _; isplitr
      swap; · iexact H4
      ipureintro; rfl
    isplitl [HS0]; · iexists _; iexact HS0
    isplitl [HS1]; · iexists _; iexact HS1
    isplitl [HS2]; · iexists _; iexact HS2
    iexists _; iexact HS3

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = Pipeline.ΦA spec0 c from rfl, show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, H4⟩
  iapply (body_any c (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    · iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  dsimp only [dats]; exact Idealize.SL.BI.Entails.refl _

/-- The invariant after the last point is what the launch takes back. -/
theorem hout (c : Dev nD) : (dats m 0 c).Φ (Fin.last cfg0.N) ⊢ Pipeline.ΦA spec0 c := by
  dsimp only [dats]; exact Idealize.SL.BI.Entails.refl _

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- `run_main_quiescent` without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Moba

end
-- ==== Proof.Operands.lean ====
/- The recurrence's operands, element by element: what is made of every token's projected row and the row before it. -/
module

public import Idealize.ShloMosaic.Lib.Pipeline.ValueKit

@[expose] public section

noncomputable section

namespace Cert.Operands

open Idealize.ShloMosaic

variable (Z : FVec Ideal ⟨2, ![8192, 3584]⟩ .f32) (M : FVec Ideal ⟨2, ![1, 3520]⟩ .f32)

/-- A column of the row before the given one, zero before the first. -/
def prev (i : Fin 8192) (j : Fin 3584) : EReal := if i.val = 0 then 0 else Z (ix2 ⟨i.val - 1, by omega⟩ j)

/-- A row moved towards the row before it. -/
def mixed (i : Fin 8192) (j : Fin 3520) : EReal :=
  Z (ix2 i ⟨j.val, by omega⟩) + (prev Z i ⟨j.val, by omega⟩ - Z (ix2 i ⟨j.val, by omega⟩)) * M (ix2 0 j)

/-- The receptance. -/
def recv (i : Fin 8192) (j : Fin 1024) : EReal := mixed Z M i ⟨j.val, by omega⟩

/-- The key. -/
def key (i : Fin 8192) (j : Fin 1024) : EReal := mixed Z M i ⟨1024 + j.val, by omega⟩

/-- The value. -/
def val (i : Fin 8192) (j : Fin 1024) : EReal := mixed Z M i ⟨2048 + j.val, by omega⟩

/-- The decay's argument, through its low-rank map. -/
def decayArg (W0 : FVec Ideal ⟨2, ![1, 1024]⟩ .f32) (W2 : FVec Ideal ⟨3, ![1, 96, 1024]⟩ .f32) (i : Fin 8192) (j : Fin 1024) : EReal :=
  W0 (ix2 0 j) + ∑ u : Fin 96, Ideal.tanh (mixed Z M i ⟨3072 + u.val, by omega⟩) * W2 (ix3 0 u j)

/-- The decay's logarithm from its argument. -/
def decayLog (x : EReal) : EReal :=
  -Ideal.exp (-(max (-x) 0 + Ideal.log (1 + Ideal.exp (-max (-x) (- -x)))) - Ideal.ofBits .f32 0x3F000000#32)

/-- The logistic function. -/
def sig (x : EReal) : EReal := Ideal.div 1 (1 + Ideal.exp (-x))

/-- The rate at which the state learns, through its low-rank map. -/
def rate (A0 : FVec Ideal ⟨2, ![1, 1024]⟩ .f32) (A2 : FVec Ideal ⟨3, ![1, 96, 1024]⟩ .f32) (i : Fin 8192) (j : Fin 1024) : EReal :=
  sig (A0 (ix2 0 j) + ∑ u : Fin 96, mixed Z M i ⟨3168 + u.val, by omega⟩ * A2 (ix3 0 u j))

/-- The output's gate, through its low-rank map. -/
def gate (G2 : FVec Ideal ⟨3, ![1, 256, 1024]⟩ .f32) (i : Fin 8192) (j : Fin 1024) : EReal :=
  ∑ u : Fin 256, sig (mixed Z M i ⟨3264 + u.val, by omega⟩) * G2 (ix3 0 u j)

/-- The removal key before it is normalised. -/
def removal (KK : FVec Ideal ⟨2, ![1, 1024]⟩ .f32) (i : Fin 8192) (j : Fin 1024) : EReal := key Z M i j * KK (ix2 0 j)

/-- The sum over a column's head. -/
def headSum (f : Fin 1024 → EReal) (j : Fin 1024) : EReal := ∑ e : Fin 64, f ⟨j.val / 64 * 64 + e.val, by omega⟩

/-- The removal key, of length one in every head. -/
def unitKey (KK : FVec Ideal ⟨2, ![1, 1024]⟩ .f32) (i : Fin 8192) (j : Fin 1024) : EReal :=
  Ideal.div (removal Z M KK i j) (max (Ideal.sqrt (headSum (fun k => removal Z M KK i k * removal Z M KK i k) j)) (Ideal.ofBits .f32 0x2B8CBCCC#32))

/-- The key written into the state. -/
def keyIn (A0 : FVec Ideal ⟨2, ![1, 1024]⟩ .f32) (A2 : FVec Ideal ⟨3, ![1, 96, 1024]⟩ .f32) (KA : FVec Ideal ⟨2, ![1, 1024]⟩ .f32)
    (i : Fin 8192) (j : Fin 1024) : EReal :=
  key Z M i j * (1 + (rate Z M A0 A2 i j - 1) * KA (ix2 0 j))

/-- The token's own contribution to its output. -/
def bonus (A0 : FVec Ideal ⟨2, ![1, 1024]⟩ .f32) (A2 : FVec Ideal ⟨3, ![1, 96, 1024]⟩ .f32) (KA : FVec Ideal ⟨2, ![1, 1024]⟩ .f32)
    (RK : FVec Ideal ⟨3, ![1, 16, 64]⟩ .f32) (i : Fin 8192) (j : Fin 1024) : EReal :=
  headSum (fun k => recv Z M i k * keyIn Z M A0 A2 KA i k * RK (ix3 0 ⟨k.val / 64, by omega⟩ ⟨k.val % 64, by omega⟩)) j * val Z M i j

/-- A sum whose terms vanish outside a run of rows is the sum over the run. -/
theorem sum_padded {N n : ℕ} (lo : ℕ) (hn : lo + n ≤ N) (g : Fin N → EReal) (f : Fin n → EReal)
    (h0 : ∀ u : Fin N, ¬(lo ≤ u.val ∧ u.val < lo + n) → g u = 0) (h1 : ∀ u : Fin n, g ⟨lo + u.val, by omega⟩ = f u) :
    ∑ u, g u = ∑ u, f u := by
  refine (Fintype.sum_of_injective (fun u : Fin n => (⟨lo + u.val, by omega⟩ : Fin N)) (fun a b h => ?_) f g (fun u hu => ?_) fun u => (h1 u).symm).symm
  · have := congrArg Fin.val h
    exact Fin.ext (by simpa using this)
  · refine h0 u fun hh => hu ⟨⟨u.val - lo, by omega⟩, Fin.ext ?_⟩
    show lo + (u.val - lo) = u.val
    omega

/-- Against the matrix of ones where two columns share a head, a row's product is the sum over the column's head. -/
theorem sum_head (f : Fin 1024 → EReal) (j : Fin 1024) :
    ∑ k : Fin 1024, f k * (if k.val / 64 = j.val / 64 then (1 : EReal) else 0) = headSum f j := by
  refine sum_padded (j.val / 64 * 64) (by omega) _ _ (fun u hu => ?_) fun u => ?_
  · rw [if_neg (by omega), mul_zero]
  · rw [if_pos (by show (j.val / 64 * 64 + u.val) / 64 = j.val / 64; omega), mul_one]

end Cert.Operands

end
-- ==== Proof.PrepRef.lean ====
/- What the reference of the recurrence's operands computes, element by element. -/
module

public import proofs.«01_k».proof.Proof.Operands
public import proofs.«01_k».proof.Proof.Gen.PrepRefIdeal.Run

@[expose] public section

set_option maxRecDepth 16384

noncomputable section

namespace Cert.PrepRefIdeal.Value

open Cert.PrepRefIdeal Cert.PrepRefIdeal.Gen
open Idealize.ShloMosaic Idealize.ShloMosaic.TcCoe Idealize.SL.Sem

variable (X0 : FVec Ideal S8192x3584 .f32) (X1 : FVec Ideal S1x3520 .f32) (X2 X4 X7 X8 : FVec Ideal S1x1024 .f32)
  (X3 X5 : FVec Ideal S1x96x1024 .f32) (X6 : FVec Ideal S1x256x1024 .f32) (X9 : FVec Ideal S1x16x64 .f32)

/-- The columns that are the recurrence's. -/
def cols : FVec Ideal S8192x3520 .f32 := extractStridedSlice S8192x3520 ![0, 0] X0 slices_S8192x3584_S8192x3520_0_0

/-- Every row moved towards the row before it. -/
def zm : FVec Ideal S8192x3520 .f32 :=
  addf (cols X0) (mulf (subf (concatenate S8192x3520 0 [⟨S1x3520, (broadcastInDim S1x3520 ![] bcast_S_S1x3520 (constant S_ .f32 0x00000000#32))⟩,
      ⟨S8191x3520, (extractStridedSlice S8191x3520 ![0, 0] (cols X0) slices_S8192x3520_S8191x3520_0_0)⟩] concatenates_S1x3520_S8191x3520_S8192x3520_d0)
    (cols X0)) (broadcastInDim S8192x3520 ![0, 1] bcast_S1x3520_S8192x3520_0_1 (broadcastInDim S1x3520 ![1] bcast_S3520_S1x3520_1
      (shapeCast _ X1 shapeCasts_S1x3520_S3520))))

/-- A vector of the layer, in every row. -/
def rows (X : FVec Ideal S1x1024 .f32) : FVec Ideal S8192x1024 .f32 :=
  broadcastInDim S8192x1024 ![0, 1] bcast_S1x1024_S8192x1024_0_1 (broadcastInDim S1x1024 ![1] bcast_S1024_S1x1024_1
    (shapeCast _ X shapeCasts_S1x1024_S1024))

def r : FVec Ideal S8192x1024 .f32 := extractStridedSlice S8192x1024 ![0, 0] (zm X0 X1) slices_S8192x3520_S8192x1024_0_0
def k : FVec Ideal S8192x1024 .f32 := extractStridedSlice S8192x1024 ![0, 1024] (zm X0 X1) slices_S8192x3520_S8192x1024_0_1024
def v : FVec Ideal S8192x1024 .f32 := extractStridedSlice S8192x1024 ![0, 2048] (zm X0 X1) slices_S8192x3520_S8192x1024_0_2048

def one : FVec Ideal S8192x1024 .f32 := broadcastInDim S8192x1024 ![] bcast_S_S8192x1024 (constant S_ .f32 0x3F800000#32)
def zero : FVec Ideal S8192x1024 .f32 := broadcastInDim S8192x1024 ![] bcast_S_S8192x1024 (constant S_ .f32 0x00000000#32)

/-- The decay's argument, negated. -/
def wl : FVec Ideal S8192x1024 .f32 :=
  Host.negf (addf (rows X2) (Host.dotGeneral dot_S8192x96_S96x1024_S8192x1024_1_0_0_1_n_n none
    (Host.tanh (extractStridedSlice S8192x96 ![0, 3072] (zm X0 X1) slices_S8192x3520_S8192x96_0_3072)) (shapeCast _ X3 shapeCasts_S1x96x1024_S96x1024)))

/-- The decay's logarithm. -/
def lw : FVec Ideal S8192x1024 .f32 :=
  Host.negf (Host.exp (subf (Host.negf (select (cmpf .une (subf (wl X0 X1 X2 X3) zero) (subf (wl X0 X1 X2 X3) zero)) (addf (wl X0 X1 X2 X3) zero)
    (addf (maximumf (wl X0 X1 X2 X3) zero) (Host.log1p (Host.exp (Host.negf (Host.absf (subf (wl X0 X1 X2 X3) zero))))))))
    (broadcastInDim S8192x1024 ![] bcast_S_S8192x1024 (constant S_ .f32 0x3F000000#32))))

/-- The learning rate. -/
def a : FVec Ideal S8192x1024 .f32 :=
  Host.divf one (addf one (Host.exp (Host.negf (addf (rows X4) (Host.dotGeneral dot_S8192x96_S96x1024_S8192x1024_1_0_0_1_n_n none
    (extractStridedSlice S8192x96 ![0, 3168] (zm X0 X1) slices_S8192x3520_S8192x96_0_3168) (shapeCast _ X5 shapeCasts_S1x96x1024_S96x1024))))))

/-- The gate. -/
def g : FVec Ideal S8192x1024 .f32 :=
  Host.dotGeneral dot_S8192x256_S256x1024_S8192x1024_1_0_0_1_n_n none (Host.divf (broadcastInDim S8192x256 ![] bcast_S_S8192x256 (constant S_ .f32 0x3F800000#32))
    (addf (broadcastInDim S8192x256 ![] bcast_S_S8192x256 (constant S_ .f32 0x3F800000#32)) (Host.exp (Host.negf
      (extractStridedSlice S8192x256 ![0, 3264] (zm X0 X1) slices_S8192x3520_S8192x256_0_3264))))) (shapeCast _ X6 shapeCasts_S1x256x1024_S256x1024)

/-- The key written into the state. -/
def kh : FVec Ideal S8192x1024 .f32 := mulf (k X0 X1) (addf one (mulf (subf (a X0 X1 X4 X5) one) (rows X8)))

/-- The removal key, head by head, before it is normalised. -/
def kk0 : FVec Ideal S8192x16x64 .f32 := shapeCast _ (mulf (k X0 X1) (rows X7)) shapeCasts_S8192x1024_S8192x16x64

/-- The removal key. -/
def kk : FVec Ideal S8192x1024 .f32 :=
  shapeCast _ (Host.divf (kk0 X0 X1 X7) (broadcastInDim S8192x16x64 ![0, 1, 2] bcast_S8192x16x1_S8192x16x64_0_1_2
    (maximumf (Host.sqrt (broadcastInDim S8192x16x1 ![0, 1] bcast_S8192x16_S8192x16x1_0_1 (Host.reduceAdd (mulf (kk0 X0 X1 X7) (kk0 X0 X1 X7))
      (constant S_ .f32 0x00000000#32) reducesTo_S8192x16x64_S8192x16_d2 h_S_)))
      (broadcastInDim S8192x16x1 ![] bcast_S_S8192x16x1 (constant S_ .f32 0x2B8CBCCC#32))))) shapeCasts_S8192x16x64_S8192x1024

/-- The token's own contribution. -/
def bonus : FVec Ideal S8192x1024 .f32 :=
  shapeCast _ (mulf (broadcastInDim S8192x16x64 ![0, 1, 2] bcast_S8192x16x1_S8192x16x64_0_1_2 (broadcastInDim S8192x16x1 ![0, 1] bcast_S8192x16_S8192x16x1_0_1
    (Host.reduceAdd (mulf (mulf (shapeCast _ (r X0 X1) shapeCasts_S8192x1024_S8192x16x64) (shapeCast _ (kh X0 X1 X4 X8 X5) shapeCasts_S8192x1024_S8192x16x64))
      (broadcastInDim S8192x16x64 ![0, 1, 2] bcast_S1x16x64_S8192x16x64_0_1_2 (broadcastInDim S1x16x64 ![1, 2] bcast_S16x64_S1x16x64_1_2
        (shapeCast _ X9 shapeCasts_S1x16x64_S16x64)))) (constant S_ .f32 0x00000000#32) reducesTo_S8192x16x64_S8192x16_d2 h_S_)))
    (shapeCast _ (v X0 X1) shapeCasts_S8192x1024_S8192x16x64)) shapeCasts_S8192x16x64_S8192x1024

theorem zm_at (i : Fin 8192) (j : Fin 3520) : zm X0 X1 (ix2 i j) = Operands.mixed X0 X1 i j := by
  pointwise [zm, cols, Operands.mixed, Operands.prev]
  by_cases h : i.val = 0
  · simp only [h, Nat.lt_one_iff, dif_pos, if_pos]
  · rw [dif_neg (by omega), if_neg h]

theorem r_at (i : Fin 8192) (j : Fin 1024) : r X0 X1 (ix2 i j) = Operands.recv X0 X1 i j := by
  refine Eq.trans ?_ (zm_at X0 X1 i ⟨j.val, by omega⟩)
  pointwise [r]

theorem v_at (i : Fin 8192) (j : Fin 1024) : v X0 X1 (ix2 i j) = Operands.val X0 X1 i j := by
  refine Eq.trans ?_ (zm_at X0 X1 i ⟨2048 + j.val, by omega⟩)
  pointwise [v]

theorem wl_at (i : Fin 8192) (j : Fin 1024) : wl X0 X1 X2 X3 (ix2 i j) = -Operands.decayArg X0 X1 X2 X3 i j := by
  pointwise [wl, rows, zm_at, Operands.decayArg]

theorem lw_at (i : Fin 8192) (j : Fin 1024) : lw X0 X1 X2 X3 (ix2 i j) = Operands.decayLog (Operands.decayArg X0 X1 X2 X3 i j) := by
  pointwise [lw, zero, wl_at, Operands.decayLog]
  rw [if_neg (not_not.mpr rfl)]
  rfl

theorem a_at (i : Fin 8192) (j : Fin 1024) : a X0 X1 X4 X5 (ix2 i j) = Operands.rate X0 X1 X4 X5 i j := by
  pointwise [a, one, rows, zm_at, Operands.rate, Operands.sig]

theorem g_at (i : Fin 8192) (j : Fin 1024) : g X0 X1 X6 (ix2 i j) = Operands.gate X0 X1 X6 i j := by
  pointwise [g, zm_at, Operands.gate, Operands.sig]

theorem kh_at (i : Fin 8192) (j : Fin 1024) : kh X0 X1 X4 X8 X5 (ix2 i j) = Operands.keyIn X0 X1 X4 X5 X8 i j := by
  pointwise [kh, k, one, rows, zm_at, a_at, Operands.keyIn, Operands.key]

theorem kk0_at (i : Fin 8192) (h : Fin 16) (e : Fin 64) :
    kk0 X0 X1 X7 (ix3 i h e) = Operands.removal X0 X1 X7 i ⟨h.val * 64 + e.val, by omega⟩ := by
  pointwise [kk0, k, rows, zm_at, Operands.removal, Operands.key]

theorem kk_at (i : Fin 8192) (j : Fin 1024) : kk X0 X1 X7 (ix2 i j) = Operands.unitKey X0 X1 X7 i j := by
  pointwise [kk, kk0_at, Operands.unitKey, Operands.headSum]
  congr 2
  exact Fin.ext (by show j.val / 64 * 64 + j.val % 64 = j.val; omega)

theorem bonus_at (i : Fin 8192) (j : Fin 1024) : bonus X0 X1 X4 X8 X5 X9 (ix2 i j) = Operands.bonus X0 X1 X4 X5 X8 X9 i j := by
  pointwise [bonus, r, v, zm_at, kh_at, Operands.bonus, Operands.headSum, Operands.recv, Operands.val]
  have e : ∀ x : Fin 64, (j.val / 64 * 64 + x.val) / 64 = j.val / 64 := fun x => by omega
  have e' : ∀ x : Fin 64, (j.val / 64 * 64 + x.val) % 64 = x.val := fun x => by omega
  simp only [e, e']

variable (m : (ℓ : Loc nD τ sig) → Buf (Elt Ideal) ℓ) (c : Dev nD)

set_option maxHeartbeats 1600000 in
theorem lw_eq : res_main_v84 m c = lw (m ((c.tc : Thread nD τ).loc main_arg0)) (m ((c.tc : Thread nD τ).loc main_arg1))
    (m ((c.tc : Thread nD τ).loc main_arg2)) (m ((c.tc : Thread nD τ).loc main_arg3)) := by
  unfold res_main_v84
  rfl

set_option maxHeartbeats 1600000 in
theorem ka_eq : res_main_v85 m c = mulf (kk (m ((c.tc : Thread nD τ).loc main_arg0)) (m ((c.tc : Thread nD τ).loc main_arg1)) (m ((c.tc : Thread nD τ).loc main_arg7)))
    (a (m ((c.tc : Thread nD τ).loc main_arg0)) (m ((c.tc : Thread nD τ).loc main_arg1)) (m ((c.tc : Thread nD τ).loc main_arg4)) (m ((c.tc : Thread nD τ).loc main_arg5))) := by
  unfold res_main_v85
  rfl

set_option maxHeartbeats 1600000 in
theorem bonus_eq : res_main_v86 m c = bonus (m ((c.tc : Thread nD τ).loc main_arg0)) (m ((c.tc : Thread nD τ).loc main_arg1)) (m ((c.tc : Thread nD τ).loc main_arg4))
    (m ((c.tc : Thread nD τ).loc main_arg8)) (m ((c.tc : Thread nD τ).loc main_arg5)) (m ((c.tc : Thread nD τ).loc main_arg9)) := by
  unfold res_main_v86
  rfl

end Cert.PrepRefIdeal.Value

end
-- ==== Proof.PrepHost.lean ====
/- The arrays the kernel of the recurrence's operands is handed, as its host code lays them out. -/
module

public import proofs.«01_k».proof.Proof.Operands
public import proofs.«01_k».proof.Proof.Gen.PrepIdeal.Frame
public import Idealize.ShloMosaic.Lib.Claim
public import Idealize.ShloMosaic.Lib.KernelVsHost

@[expose] public section

set_option maxRecDepth 16384

noncomputable section

namespace Cert.PrepIdeal.Prep

open Cert.PrepIdeal Cert.PrepIdeal.Gen
open Idealize.ShloMosaic Idealize.ShloMosaic.TcCoe Idealize.SL.Sem
open Idealize.ShloMosaic.Pipeline (Dat)

variable (m : (ℓ : Loc nD τ sig) → Buf (Elt Ideal) ℓ)

/-- The value the host pads with. -/
def nil : FVec Ideal S_ .f32 := sitofp .f32 (constantI S_ 32 0#32)

/-- The shift's strengths, padded to the block's columns. -/
theorem mu_eq (c : Dev nD) : V m c main_v2
    = shapeCast S1x3584 (pad (α := EReal) S3584 ![0] ![64] ![0] (shapeCast S3520 (m ((c : Thread nD τ).loc main_arg1) : FVec Ideal S1x3520 .f32) shapeCasts_S1x3520_S3520)
        (nil : FVec Ideal S_ .f32) pads_S3520_S3584_0640 h_S_) shapeCasts_S3584_S1x3584 := by
  entry_read
  rfl

theorem row_at (Y : FVec Ideal S3584 .f32) (k : Fin 3584) : shapeCast S1x3584 Y shapeCasts_S3584_S1x3584 (ix2 0 k) = Y (ix1 k) := by
  pointwise

theorem flat_at (Y : FVec Ideal S1x3520 .f32) (k : Fin 3520) : shapeCast S3520 Y shapeCasts_S1x3520_S3520 (ix1 k) = Y (ix2 0 k) := by
  pointwise

theorem mu_at (c : Dev nD) (j : Fin 3520) (k : Fin 3584) (hk : k.val = j.val) :
    V m c main_v2 (ix2 0 k) = m ((c : Thread nD τ).loc main_arg1) (ix2 0 j) := by
  rw [mu_eq]
  refine (row_at _ k).trans ?_
  refine (pad_apply_of_inside ![0] ![64] ![0] _ nil pads_S3520_S3584_0640 h_S_ (ix1 k) (ix1 j) fun a => ?_).trans ?_
  · fin_cases a
    show k.val = 0 + j.val * (0 + 1)
    omega
  · exact flat_at _ j

/-- The padding value is zero. -/
theorem nil_at (i : S_.Idx) : nil i = 0 := by
  show ((((0#32 : BitVec 32).toInt : ℤ) : ℝ) : EReal) = 0
  simp

/-- A matrix padded above and below with rows of zeros. -/
theorem padded_at {n : ℕ} (lo hi : ℕ) (x : FVec Ideal ⟨2, ![n, 1024]⟩ .f32) (h : Shape.Pads ⟨2, ![n, 1024]⟩ ![lo, 0] ![hi, 0] ![0, 0] S512x1024)
    (u : Fin 512) (j : Fin 1024) :
    pad (α := EReal) S512x1024 ![lo, 0] ![hi, 0] ![0, 0] x nil h h_S_ (ix2 u j)
      = if hu : lo ≤ u.val ∧ u.val < lo + n then x (ix2 ⟨u.val - lo, by omega⟩ j) else (0 : EReal) := by
  by_cases hu : lo ≤ u.val ∧ u.val < lo + n
  · rw [dif_pos hu]
    refine pad_apply_of_inside _ _ _ _ _ _ _ _ _ fun a => ?_
    fin_cases a
    · show u.val = lo + (u.val - lo) * (0 + 1)
      omega
    · show j.val = 0 + j.val * (0 + 1)
      omega
  · rw [dif_neg hu]
    refine (pad_apply_of_not_inside _ _ _ _ _ _ _ _ 0 fun hh => hu ?_).trans (nil_at _)
    have h1 : lo ≤ u.val := hh.1
    have h2 : (u.val - lo) / (0 + 1) < n := hh.2.2
    omega

theorem w2_eq (c : Dev nD) : V m c main_v18
    = pad (α := EReal) S512x1024 ![0, 0] ![416, 0] ![0, 0] (shapeCast S96x1024 (m ((c : Thread nD τ).loc main_arg3) : FVec Ideal S1x96x1024 .f32) shapeCasts_S1x96x1024_S96x1024)
        (nil : FVec Ideal S_ .f32) pads_S96x1024_S512x1024_04160_000 h_S_ := by
  entry_read
  rfl

theorem a2_eq (c : Dev nD) : V m c main_v21
    = pad (α := EReal) S512x1024 ![96, 0] ![320, 0] ![0, 0] (shapeCast S96x1024 (m ((c : Thread nD τ).loc main_arg5) : FVec Ideal S1x96x1024 .f32) shapeCasts_S1x96x1024_S96x1024)
        (nil : FVec Ideal S_ .f32) pads_S96x1024_S512x1024_963200_000 h_S_ := by
  entry_read
  rfl

theorem g2_eq (c : Dev nD) : V m c main_v24
    = pad (α := EReal) S512x1024 ![192, 0] ![64, 0] ![0, 0] (shapeCast S256x1024 (m ((c : Thread nD τ).loc main_arg6) : FVec Ideal S1x256x1024 .f32) shapeCasts_S1x256x1024_S256x1024)
        (nil : FVec Ideal S_ .f32) pads_S256x1024_S512x1024_192640_000 h_S_ := by
  entry_read
  rfl

/-- The array before the first token is zero. -/
theorem zero_eq (c : Dev nD) : V m c main_v34
    = shapeCast S1x1x3584 (broadcastInDim S1x3584 ![] bcast_S_S1x3584 (constant (F := Ideal) S_ .f32 0x00000000#32)) shapeCasts_S1x3584_S1x1x3584 := by
  entry_read
  rfl

theorem zero_at (c : Dev nD) (j : Fin 3584) : (V m c main_v34 : FVec Ideal S1x1x3584 .f32) (ix3 0 0 j) = (0 : EReal) := by
  rw [zero_eq]
  pointwise

set_option maxHeartbeats 2000000 in
/-- The layer's five vectors, one to a row. -/
theorem vec_eq (c : Dev nD) : V m c main_v15
    = concatenate S8x1024 0 [⟨S1x1024, (V m c main_v9 : FVec Ideal S1x1024 .f32)⟩, ⟨S1x1024, (V m c main_v10 : FVec Ideal S1x1024 .f32)⟩,
        ⟨S1x1024, (V m c main_v11 : FVec Ideal S1x1024 .f32)⟩, ⟨S1x1024, (V m c main_v12 : FVec Ideal S1x1024 .f32)⟩,
        ⟨S1x1024, (V m c main_v13 : FVec Ideal S1x1024 .f32)⟩, ⟨S3x1024, (V m c main_v14 : FVec Ideal S3x1024 .f32)⟩] concatenates_S1x1024_S1x1024_S1x1024_S1x1024_S1x1024_S3x1024_S8x1024_d0 := by
  rfl

/-- The head of every column, as the host divides the column's number. -/
def headWord : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem headWord_at : ∀ j : Fin 1024, headWord (ix1 j) = BitVec.ofNat 32 (j.val / 64) := by
  decide +kernel

/-- The matrix of ones where two columns share a head. -/
theorem heads_eq (c : Dev nD) : V m c main_v32
    = uitofp (F := Ideal) .bf16 (cmpi .eq (broadcastInDim S1024x1024 ![0, 1] bcast_S1024x1_S1024x1024_0_1 (broadcastInDim S1024x1 ![0] bcast_S1024_S1024x1_0 headWord))
        (broadcastInDim S1024x1024 ![0, 1] bcast_S1x1024_S1024x1024_0_1 (broadcastInDim S1x1024 ![1] bcast_S1024_S1x1024_1 headWord))) := by
  entry_read
  rfl

theorem heads_at (c : Dev nD) (k j : Fin 1024) : (V m c main_v32 : FVec Ideal S1024x1024 .bf16) (ix2 k j) = if k.val / 64 = j.val / 64 then (1 : EReal) else 0 := by
  rw [heads_eq]
  pointwise [headWord_at]
  by_cases h : k.val / 64 = j.val / 64
  · rw [if_pos h, h, show IntOp.cmpi .eq (BitVec.ofNat 32 (j.val / 64)) (BitVec.ofNat 32 (j.val / 64)) = 1#1 from by simp [IntOp.cmpi]]
    show ((((1#1 : BitVec 1).toNat : ℕ) : ℝ) : EReal) = 1
    simp
  · rw [if_neg h, show IntOp.cmpi .eq (BitVec.ofNat 32 (k.val / 64)) (BitVec.ofNat 32 (j.val / 64)) = 0#1 from by
      have hne : BitVec.ofNat 32 (k.val / 64) ≠ BitVec.ofNat 32 (j.val / 64) := fun e => h (by
        have := congrArg BitVec.toNat e
        simp only [BitVec.toNat_ofNat] at this
        omega)
      simp only [IntOp.cmpi, beq_eq_false_iff_ne.mpr hne]
      rfl]
    show ((((0#1 : BitVec 1).toNat : ℕ) : ℝ) : EReal) = 0
    simp

end Cert.PrepIdeal.Prep

end
-- ==== Proof.PrepBlocks.lean ====
/- The blocks and the vectors a grid point of the kernel of the recurrence's operands reads. -/
module

public import proofs.«01_k».proof.Proof.PrepHost

@[expose] public section

set_option maxRecDepth 16384

noncomputable section

namespace Cert.PrepIdeal.Prep

open Cert.PrepIdeal Cert.PrepIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0] ∧ t.val < 32 :=
  (by decide +kernel : ∀ t : Fin grid0.N, _)

theorem bound (t : Fin cfg0.N) : t.val < 32 := (idx t).2.2.2.2.2.2.2.2.2.2.2.2.2.2.2.2

/-- The kernel's arguments. -/
abbrev Z (c : Dev nD) : FVec Ideal S8192x3584 .f32 := m ((c : Thread nD τ).loc main_arg0)
abbrev MU (c : Dev nD) : FVec Ideal S1x3520 .f32 := m ((c : Thread nD τ).loc main_arg1)
abbrev W0 (c : Dev nD) : FVec Ideal S1x1024 .f32 := m ((c : Thread nD τ).loc main_arg2)
abbrev W2 (c : Dev nD) : FVec Ideal S1x96x1024 .f32 := m ((c : Thread nD τ).loc main_arg3)
abbrev A0 (c : Dev nD) : FVec Ideal S1x1024 .f32 := m ((c : Thread nD τ).loc main_arg4)
abbrev A2 (c : Dev nD) : FVec Ideal S1x96x1024 .f32 := m ((c : Thread nD τ).loc main_arg5)
abbrev G2 (c : Dev nD) : FVec Ideal S1x256x1024 .f32 := m ((c : Thread nD τ).loc main_arg6)
abbrev KK (c : Dev nD) : FVec Ideal S1x1024 .f32 := m ((c : Thread nD τ).loc main_arg7)
abbrev KA (c : Dev nD) : FVec Ideal S1x1024 .f32 := m ((c : Thread nD τ).loc main_arg8)
abbrev RK (c : Dev nD) : FVec Ideal S1x16x64 .f32 := m ((c : Thread nD τ).loc main_arg9)

/-- The rows of a block. -/
theorem in_at (c : Dev nD) (t : Fin cfg0.N) (r : Fin 256) (k : Fin 3584) (i : Fin 8192) (hi : i.val = t.val * 256 + r.val) :
    iblk m c 0 t (ix2 r k) = Z m c (ix2 i k) := by
  blk_point [iblk, V, idx t]

theorem before_at (c : Dev nD) (t : Fin cfg0.N) (j : Fin 3584) : iblk m c 1 t (ix3 0 0 j) = (0 : EReal) := by
  refine Eq.trans ?_ (zero_at m c j)
  blk_simp [iblk, idx t]
  blk_ext [idx t]

theorem strength_at (c : Dev nD) (t : Fin cfg0.N) (j : Fin 3520) (k : Fin 3584) (hk : k.val = j.val) :
    iblk m c 2 t (ix2 0 k) = MU m c (ix2 0 j) := by
  refine Eq.trans ?_ (mu_at m c j k hk)
  blk_simp [iblk, idx t]
  blk_ext [idx t]

theorem share_at (c : Dev nD) (t : Fin cfg0.N) (k j : Fin 1024) :
    iblk m c 7 t (ix2 k j) = if k.val / 64 = j.val / 64 then (1 : EReal) else 0 := by
  refine Eq.trans ?_ (heads_at m c k j)
  blk_simp [iblk, idx t]
  blk_ext [idx t]

theorem plain_at (x : FVec Ideal S1x96x1024 .f32) (u : Fin 96) (j : Fin 1024) :
    shapeCast S96x1024 x shapeCasts_S1x96x1024_S96x1024 (ix2 u j) = x (ix3 0 u j) := by
  pointwise

theorem plain_gate_at (x : FVec Ideal S1x256x1024 .f32) (u : Fin 256) (j : Fin 1024) :
    shapeCast S256x1024 x shapeCasts_S1x256x1024_S256x1024 (ix2 u j) = x (ix3 0 u j) := by
  pointwise

theorem decay_at (c : Dev nD) (t : Fin cfg0.N) (u : Fin 512) (j : Fin 1024) :
    iblk m c 4 t (ix2 u j) = if hu : 0 ≤ u.val ∧ u.val < 0 + 96 then W2 m c (ix3 0 ⟨u.val - 0, by omega⟩ j) else (0 : EReal) := by
  have h : iblk m c 4 t (ix2 u j) = V m c main_v18 (ix2 u j) := by
    blk_simp [iblk, idx t]
    blk_ext [idx t]
  rw [h, w2_eq]
  refine (padded_at 0 416 _ _ u j).trans ?_
  by_cases hu : 0 ≤ u.val ∧ u.val < 0 + 96
  · rw [dif_pos hu, dif_pos hu]
    exact plain_at _ _ _
  · rw [dif_neg hu, dif_neg hu]

theorem rate_at (c : Dev nD) (t : Fin cfg0.N) (u : Fin 512) (j : Fin 1024) :
    iblk m c 5 t (ix2 u j) = if hu : 96 ≤ u.val ∧ u.val < 96 + 96 then A2 m c (ix3 0 ⟨u.val - 96, by omega⟩ j) else (0 : EReal) := by
  have h : iblk m c 5 t (ix2 u j) = V m c main_v21 (ix2 u j) := by
    blk_simp [iblk, idx t]
    blk_ext [idx t]
  rw [h, a2_eq]
  refine (padded_at 96 320 _ _ u j).trans ?_
  by_cases hu : 96 ≤ u.val ∧ u.val < 96 + 96
  · rw [dif_pos hu, dif_pos hu]
    exact plain_at _ _ _
  · rw [dif_neg hu, dif_neg hu]

theorem gate_at (c : Dev nD) (t : Fin cfg0.N) (u : Fin 512) (j : Fin 1024) :
    iblk m c 6 t (ix2 u j) = if hu : 192 ≤ u.val ∧ u.val < 192 + 256 then G2 m c (ix3 0 ⟨u.val - 192, by omega⟩ j) else (0 : EReal) := by
  have h : iblk m c 6 t (ix2 u j) = V m c main_v24 (ix2 u j) := by
    blk_simp [iblk, idx t]
    blk_ext [idx t]
  rw [h, g2_eq]
  refine (padded_at 192 64 _ _ u j).trans ?_
  by_cases hu : 192 ≤ u.val ∧ u.val < 192 + 256
  · rw [dif_pos hu, dif_pos hu]
    exact plain_gate_at _ _ _
  · rw [dif_neg hu, dif_neg hu]

theorem w0_eq (c : Dev nD) : V m c main_v9
    = shapeCast S1x1024 (shapeCast S1024 (m ((c : Thread nD τ).loc main_arg2) : FVec Ideal S1x1024 .f32) shapeCasts_S1x1024_S1024) shapeCasts_S1024_S1x1024 := by
  entry_read
  rfl

theorem a0_eq (c : Dev nD) : V m c main_v10
    = shapeCast S1x1024 (shapeCast S1024 (m ((c : Thread nD τ).loc main_arg4) : FVec Ideal S1x1024 .f32) shapeCasts_S1x1024_S1024) shapeCasts_S1024_S1x1024 := by
  entry_read
  rfl

theorem kk_eq (c : Dev nD) : V m c main_v11
    = shapeCast S1x1024 (shapeCast S1024 (m ((c : Thread nD τ).loc main_arg7) : FVec Ideal S1x1024 .f32) shapeCasts_S1x1024_S1024) shapeCasts_S1024_S1x1024 := by
  entry_read
  rfl

theorem ka_eq (c : Dev nD) : V m c main_v12
    = shapeCast S1x1024 (shapeCast S1024 (m ((c : Thread nD τ).loc main_arg8) : FVec Ideal S1x1024 .f32) shapeCasts_S1x1024_S1024) shapeCasts_S1024_S1x1024 := by
  entry_read
  rfl

theorem rk_eq (c : Dev nD) : V m c main_v13
    = shapeCast S1x1024 (shapeCast S1024 (shapeCast S16x64 (m ((c : Thread nD τ).loc main_arg9) : FVec Ideal S1x16x64 .f32) shapeCasts_S1x16x64_S16x64) shapeCasts_S16x64_S1024) shapeCasts_S1024_S1x1024 := by
  entry_read
  rfl

theorem twice_at (x : FVec Ideal S1x1024 .f32) (j : Fin 1024) :
    shapeCast S1x1024 (shapeCast S1024 x shapeCasts_S1x1024_S1024) shapeCasts_S1024_S1x1024 (ix2 0 j) = x (ix2 0 j) := by
  pointwise

theorem heads_flat_at (x : FVec Ideal S1x16x64 .f32) (j : Fin 1024) :
    shapeCast S1x1024 (shapeCast S1024 (shapeCast S16x64 x shapeCasts_S1x16x64_S16x64) shapeCasts_S16x64_S1024) shapeCasts_S1024_S1x1024 (ix2 0 j)
      = x (ix3 0 ⟨j.val / 64, by omega⟩ ⟨j.val % 64, by omega⟩) := by
  pointwise

/-- A row of eight, five of them given. -/
theorem rows_at (a b d e f : FVec Ideal S1x1024 .f32) (g : FVec Ideal S3x1024 .f32) (j : Fin 1024) (Y : FVec Ideal S8x1024 .f32)
    (hY : Y = concatenate S8x1024 0 [⟨S1x1024, a⟩, ⟨S1x1024, b⟩, ⟨S1x1024, d⟩, ⟨S1x1024, e⟩, ⟨S1x1024, f⟩, ⟨S3x1024, g⟩]
      concatenates_S1x1024_S1x1024_S1x1024_S1x1024_S1x1024_S3x1024_S8x1024_d0) :
    Y (ix2 0 j) = a (ix2 0 j) ∧ Y (ix2 1 j) = b (ix2 0 j) ∧ Y (ix2 2 j) = d (ix2 0 j) ∧ Y (ix2 3 j) = e (ix2 0 j) ∧ Y (ix2 4 j) = f (ix2 0 j) := by
  subst hY
  refine ⟨?_, ?_, ?_, ?_, ?_⟩ <;> pointwise

theorem w0_at (c : Dev nD) (t : Fin cfg0.N) (j : Fin 1024) :
    View.ld (iblk m c 3 t) (Rect.unit ![0, 0] ![1, 1024] inb_S8x1024_S1x1024_0_0) (ix2 0 j) = W0 m c (ix2 0 j) := by
  have h : View.ld (iblk m c 3 t) (Rect.unit ![0, 0] ![1, 1024] inb_S8x1024_S1x1024_0_0) (ix2 0 j) = V m c main_v15 (ix2 0 j) := by
    pointwise
    blk_simp [iblk, idx t]
    blk_ext [idx t]
  rw [h, (rows_at _ _ _ _ _ _ j _ (vec_eq m c)).1, w0_eq]
  exact twice_at _ j

theorem a0_at (c : Dev nD) (t : Fin cfg0.N) (j : Fin 1024) :
    View.ld (iblk m c 3 t) (Rect.unit ![1, 0] ![1, 1024] inb_S8x1024_S1x1024_1_0) (ix2 0 j) = A0 m c (ix2 0 j) := by
  have h : View.ld (iblk m c 3 t) (Rect.unit ![1, 0] ![1, 1024] inb_S8x1024_S1x1024_1_0) (ix2 0 j) = V m c main_v15 (ix2 1 j) := by
    pointwise
    blk_simp [iblk, idx t]
    blk_ext [idx t]
  rw [h, (rows_at _ _ _ _ _ _ j _ (vec_eq m c)).2.1, a0_eq]
  exact twice_at _ j

theorem kk_at (c : Dev nD) (t : Fin cfg0.N) (j : Fin 1024) :
    View.ld (iblk m c 3 t) (Rect.unit ![2, 0] ![1, 1024] inb_S8x1024_S1x1024_2_0) (ix2 0 j) = KK m c (ix2 0 j) := by
  have h : View.ld (iblk m c 3 t) (Rect.unit ![2, 0] ![1, 1024] inb_S8x1024_S1x1024_2_0) (ix2 0 j) = V m c main_v15 (ix2 2 j) := by
    pointwise
    blk_simp [iblk, idx t]
    blk_ext [idx t]
  rw [h, (rows_at _ _ _ _ _ _ j _ (vec_eq m c)).2.2.1, kk_eq]
  exact twice_at _ j

theorem ka_at (c : Dev nD) (t : Fin cfg0.N) (j : Fin 1024) :
    View.ld (iblk m c 3 t) (Rect.unit ![3, 0] ![1, 1024] inb_S8x1024_S1x1024_3_0) (ix2 0 j) = KA m c (ix2 0 j) := by
  have h : View.ld (iblk m c 3 t) (Rect.unit ![3, 0] ![1, 1024] inb_S8x1024_S1x1024_3_0) (ix2 0 j) = V m c main_v15 (ix2 3 j) := by
    pointwise
    blk_simp [iblk, idx t]
    blk_ext [idx t]
  rw [h, (rows_at _ _ _ _ _ _ j _ (vec_eq m c)).2.2.2.1, ka_eq]
  exact twice_at _ j

theorem rk_at (c : Dev nD) (t : Fin cfg0.N) (j : Fin 1024) :
    View.ld (iblk m c 3 t) (Rect.unit ![4, 0] ![1, 1024] inb_S8x1024_S1x1024_4_0) (ix2 0 j) = RK m c (ix3 0 ⟨j.val / 64, by omega⟩ ⟨j.val % 64, by omega⟩) := by
  have h : View.ld (iblk m c 3 t) (Rect.unit ![4, 0] ![1, 1024] inb_S8x1024_S1x1024_4_0) (ix2 0 j) = V m c main_v15 (ix2 4 j) := by
    pointwise
    blk_simp [iblk, idx t]
    blk_ext [idx t]
  rw [h, (rows_at _ _ _ _ _ _ j _ (vec_eq m c)).2.2.2.2, rk_eq]
  exact heads_flat_at _ j

/-- The row kept from the block before, as a grid point finds it. -/
def carry (c : Dev nD) (t : Fin cfg0.N) : FVec Ideal S1x3584 .f32 :=
  if t.val % 32 = 0 then k0_pay2 (F := Ideal) (iblk m c 1 t)
  else (outsAt0 m c (t.val - 1) (Nat.lt_of_le_of_lt (Nat.sub_le _ _) t.isLt)).2.2.2.2.2.2.2.2

end Cert.PrepIdeal.Prep

end
-- ==== Proof.PrepBody.lean ====
/- What the kernel of the recurrence's operands stores at a grid point, element by element. -/
module

public import proofs.«01_k».proof.Proof.Operands
public import proofs.«01_k».proof.Proof.Gen.PrepIdeal.Frame

@[expose] public section

set_option maxRecDepth 16384

noncomputable section

namespace Cert.PrepIdeal.Prep

open Cert.PrepIdeal Cert.PrepIdeal.Gen
open Idealize.ShloMosaic Idealize.ShloMosaic.TcCoe Idealize.SL.Sem

theorem first_at (X : FVec Ideal S1x1x3584 .f32) (j : Fin 3584) : k0_pay2 (F := Ideal) X (ix2 0 j) = X (ix3 0 0 j) := by
  pointwise [k0_pay2]

theorem last_at (Z : FVec Ideal S256x3584 .f32) (j : Fin 3584) : k0_pay3 (F := Ideal) Z (ix2 0 j) = Z (ix2 255 j) := by
  pointwise [k0_pay3]

/-- A row of the block moved towards the row before it, the block's first towards the row kept from the block before. -/
theorem moved_at (Z : FVec Ideal S256x3584 .f32) (C M : FVec Ideal S1x3584 .f32) (r : Fin 256) (j : Fin 3584) :
    k0_pay4 (F := Ideal) Z C M (ix2 r j)
      = Z (ix2 r j) + ((if r.val = 0 then C (ix2 0 j) else Z (ix2 ⟨r.val - 1, by omega⟩ j)) - Z (ix2 r j)) * M (ix2 0 j) := by
  pointwise [k0_pay4]
  by_cases h : r.val = 0
  · have hc : IntOp.cmpi .eq (BitVec.ofNat 32 r.val) 0#32 = 1#1 := by
      rw [h]
      rfl
    rw [if_pos h, hc]
    rfl
  · have hne : (BitVec.ofNat 32 r.val == 0#32) = false := beq_eq_false_iff_ne.mpr fun hh => h (by
      have := congrArg BitVec.toNat hh
      simpa [BitVec.toNat_ofNat, Nat.mod_eq_of_lt (show r.val < 4294967296 by omega)] using this)
    have hc : IntOp.cmpi .eq (BitVec.ofNat 32 r.val) 0#32 = 0#1 := by
      simp only [IntOp.cmpi, hne]
      rfl
    have hz : (⟨(r.val + 256 - 1) % 256, Nat.mod_lt _ (by norm_num)⟩ : Fin 256) = ⟨r.val - 1, by omega⟩ := Fin.ext (by
      show (r.val + 256 - 1) % 256 = r.val - 1
      omega)
    rw [if_neg h, hc, ← hz]
    rfl

theorem pay15_at (L : FVec Ideal S256x512 .f32) (w : FVec Ideal S1x1024 .f32) (W : FVec Ideal S512x1024 .bf16) (r : Fin 256) (j : Fin 1024) :
    k0_pay15 (F := Ideal) L w W (ix2 r j) = Operands.decayLog (w (ix2 0 j) + ∑ u : Fin 512, Ideal.tanh (L (ix2 r u)) * W (ix2 u j)) := by
  pointwise [k0_pay15, Operands.decayLog]
  simp only [zero_sub]
  rfl

theorem pay16_at (L : FVec Ideal S256x512 .f32) (w : FVec Ideal S1x1024 .f32) (W : FVec Ideal S512x1024 .bf16) (r : Fin 256) (j : Fin 1024) :
    k0_pay16 (F := Ideal) L w W (ix2 r j) = Operands.sig (w (ix2 0 j) + ∑ u : Fin 512, L (ix2 r u) * W (ix2 u j)) := by
  pointwise [k0_pay16, Operands.sig]
  all_goals rfl

theorem pay17_at (L : FVec Ideal S256x512 .f32) (W : FVec Ideal S512x1024 .bf16) (r : Fin 256) (j : Fin 1024) :
    k0_pay17 (F := Ideal) L W (ix2 r j) = ∑ u : Fin 512, Operands.sig (L (ix2 r u)) * W (ix2 u j) := by
  pointwise [k0_pay17, Operands.sig]
  all_goals rfl

theorem pay18_at (K : FVec Ideal S256x1024 .f32) (w : FVec Ideal S1x1024 .f32) (G : FVec Ideal S1024x1024 .bf16) (r : Fin 256) (j : Fin 1024) :
    k0_pay18 (F := Ideal) K w G (ix2 r j) = Ideal.div (K (ix2 r j) * w (ix2 0 j))
      (max (Ideal.sqrt (∑ k, (K (ix2 r k) * w (ix2 0 k)) * (K (ix2 r k) * w (ix2 0 k)) * G (ix2 k j)
        + ∑ k, ((K (ix2 r k) * w (ix2 0 k)) * (K (ix2 r k) * w (ix2 0 k)) - (K (ix2 r k) * w (ix2 0 k)) * (K (ix2 r k) * w (ix2 0 k))) * G (ix2 k j)))
        (Ideal.ofBits .f32 0x2B8CBCCC#32)) := by
  pointwise [k0_pay18]

theorem pay19_at (K : FVec Ideal S256x1024 .f32) (w : FVec Ideal S1x1024 .f32) (A : FVec Ideal S256x1024 .f32) (r : Fin 256) (j : Fin 1024) :
    k0_pay19 (F := Ideal) K w A (ix2 r j) = K (ix2 r j) * (1 + (A (ix2 r j) - 1) * w (ix2 0 j)) := by
  pointwise [k0_pay19]

theorem pay20_at (K : FVec Ideal S256x1024 .f32) (w : FVec Ideal S1x1024 .f32) (G : FVec Ideal S1024x1024 .bf16) (A : FVec Ideal S256x1024 .f32)
    (r : Fin 256) (j : Fin 1024) :
    k0_pay20 (F := Ideal) K w G A (ix2 r j) = k0_pay18 (F := Ideal) K w G (ix2 r j) * A (ix2 r j) := by
  pointwise [k0_pay20]

theorem pay1_at (R K V : FVec Ideal S256x1024 .f32) (w q : FVec Ideal S1x1024 .f32) (G : FVec Ideal S1024x1024 .bf16) (A : FVec Ideal S256x1024 .f32)
    (r : Fin 256) (j : Fin 1024) :
    k0_pay1 (F := Ideal) V G (k0_pay21 (F := Ideal) R K w q A) (constant S256x1024 .f32 0x00000000#32) (ix2 r j)
      = (∑ k, R (ix2 r k) * k0_pay19 (F := Ideal) K w A (ix2 r k) * q (ix2 0 k) * G (ix2 k j)) * V (ix2 r j) := by
  pointwise [k0_pay1, k0_pay21]

end Cert.PrepIdeal.Prep

end
-- ==== Proof.PrepOuts.lean ====
/- What every grid point of the kernel of the recurrence's operands leaves in its output blocks. -/
module

public import proofs.«01_k».proof.Proof.PrepBlocks
public import proofs.«01_k».proof.Proof.PrepBody

@[expose] public section

set_option maxRecDepth 16384

noncomputable section

namespace Cert.PrepIdeal.Prep

open Cert.PrepIdeal Cert.PrepIdeal.Gen
open Idealize.ShloMosaic Idealize.ShloMosaic.TcCoe Idealize.SL.Sem
open Idealize.ShloMosaic.Pipeline (Dat)

variable (m : (ℓ : Loc nD τ sig) → Buf (Elt Ideal) ℓ)

theorem recv_out (c : Dev nD) (t : Fin cfg0.N) : (outsAt0 m c t.val t.isLt).1
    = k0_pay5 (iblk m c 0 t) (carry m c t) (iblk m c 2 t) := by
  unfold carry
  by_cases h0 : t.val % 32 = 0
  · rw [outsAt0_A m c t h0, if_pos h0]
    frame_out
  · rw [outsAt0_B m c t h0, if_neg h0]
    frame_out
    exact congrArg (fun C : FVec Ideal S1x3584 .f32 => k0_pay5 (iblk m c 0 t) C (iblk m c 2 t))
      (Memref.IsWhole.read_unread _ _)

theorem decay_out (c : Dev nD) (t : Fin cfg0.N) : (outsAt0 m c t.val t.isLt).2.1
    = k0_pay15 (k0_pay8 (iblk m c 0 t) (carry m c t) (iblk m c 2 t)) (k0_pay9 (View.ld (iblk m c 3 t) (Rect.unit ![0, 0] ![1, 1024] inb_S8x1024_S1x1024_0_0))) (iblk m c 4 t) := by
  unfold carry
  by_cases h0 : t.val % 32 = 0
  · rw [outsAt0_A m c t h0, if_pos h0]
    frame_out
    rfl
  · rw [outsAt0_B m c t h0, if_neg h0]
    frame_out
    exact congrArg (fun C : FVec Ideal S1x3584 .f32 => k0_pay15 (k0_pay8 (iblk m c 0 t) C (iblk m c 2 t)) (k0_pay9 (View.ld (iblk m c 3 t) (Rect.unit ![0, 0] ![1, 1024] inb_S8x1024_S1x1024_0_0))) (iblk m c 4 t))
      (Memref.IsWhole.read_unread _ _)

theorem keyIn_out (c : Dev nD) (t : Fin cfg0.N) : (outsAt0 m c t.val t.isLt).2.2.1
    = k0_pay19 (k0_pay6 (iblk m c 0 t) (carry m c t) (iblk m c 2 t)) (k0_pay12 (View.ld (iblk m c 3 t) (Rect.unit ![3, 0] ![1, 1024] inb_S8x1024_S1x1024_3_0))) (k0_pay16 (k0_pay8 (iblk m c 0 t) (carry m c t) (iblk m c 2 t)) (k0_pay10 (View.ld (iblk m c 3 t) (Rect.unit ![1, 0] ![1, 1024] inb_S8x1024_S1x1024_1_0))) (iblk m c 5 t)) := by
  unfold carry
  by_cases h0 : t.val % 32 = 0
  · rw [outsAt0_A m c t h0, if_pos h0]
    frame_out
    rfl
  · rw [outsAt0_B m c t h0, if_neg h0]
    frame_out
    exact congrArg (fun C : FVec Ideal S1x3584 .f32 => k0_pay19 (k0_pay6 (iblk m c 0 t) C (iblk m c 2 t)) (k0_pay12 (View.ld (iblk m c 3 t) (Rect.unit ![3, 0] ![1, 1024] inb_S8x1024_S1x1024_3_0))) (k0_pay16 (k0_pay8 (iblk m c 0 t) C (iblk m c 2 t)) (k0_pay10 (View.ld (iblk m c 3 t) (Rect.unit ![1, 0] ![1, 1024] inb_S8x1024_S1x1024_1_0))) (iblk m c 5 t)))
      (Memref.IsWhole.read_unread _ _)

theorem val_out (c : Dev nD) (t : Fin cfg0.N) : (outsAt0 m c t.val t.isLt).2.2.2.1
    = k0_pay7 (iblk m c 0 t) (carry m c t) (iblk m c 2 t) := by
  unfold carry
  by_cases h0 : t.val % 32 = 0
  · rw [outsAt0_A m c t h0, if_pos h0]
    frame_out
  · rw [outsAt0_B m c t h0, if_neg h0]
    frame_out
    exact congrArg (fun C : FVec Ideal S1x3584 .f32 => k0_pay7 (iblk m c 0 t) C (iblk m c 2 t))
      (Memref.IsWhole.read_unread _ _)

theorem unit_out (c : Dev nD) (t : Fin cfg0.N) : (outsAt0 m c t.val t.isLt).2.2.2.2.1
    = k0_pay18 (k0_pay6 (iblk m c 0 t) (carry m c t) (iblk m c 2 t)) (k0_pay11 (View.ld (iblk m c 3 t) (Rect.unit ![2, 0] ![1, 1024] inb_S8x1024_S1x1024_2_0))) (k0_pay14 (iblk m c 7 t)) := by
  unfold carry
  by_cases h0 : t.val % 32 = 0
  · rw [outsAt0_A m c t h0, if_pos h0]
    frame_out
    rfl
  · rw [outsAt0_B m c t h0, if_neg h0]
    frame_out
    exact congrArg (fun C : FVec Ideal S1x3584 .f32 => k0_pay18 (k0_pay6 (iblk m c 0 t) C (iblk m c 2 t)) (k0_pay11 (View.ld (iblk m c 3 t) (Rect.unit ![2, 0] ![1, 1024] inb_S8x1024_S1x1024_2_0))) (k0_pay14 (iblk m c 7 t)))
      (Memref.IsWhole.read_unread _ _)

theorem moved_out (c : Dev nD) (t : Fin cfg0.N) : (outsAt0 m c t.val t.isLt).2.2.2.2.2.1
    = k0_pay20 (k0_pay6 (iblk m c 0 t) (carry m c t) (iblk m c 2 t)) (k0_pay11 (View.ld (iblk m c 3 t) (Rect.unit ![2, 0] ![1, 1024] inb_S8x1024_S1x1024_2_0))) (k0_pay14 (iblk m c 7 t)) (k0_pay16 (k0_pay8 (iblk m c 0 t) (carry m c t) (iblk m c 2 t)) (k0_pay10 (View.ld (iblk m c 3 t) (Rect.unit ![1, 0] ![1, 1024] inb_S8x1024_S1x1024_1_0))) (iblk m c 5 t)) := by
  unfold carry
  by_cases h0 : t.val % 32 = 0
  · rw [outsAt0_A m c t h0, if_pos h0]
    frame_out
    rfl
  · rw [outsAt0_B m c t h0, if_neg h0]
    frame_out
    exact congrArg (fun C : FVec Ideal S1x3584 .f32 => k0_pay20 (k0_pay6 (iblk m c 0 t) C (iblk m c 2 t)) (k0_pay11 (View.ld (iblk m c 3 t) (Rect.unit ![2, 0] ![1, 1024] inb_S8x1024_S1x1024_2_0))) (k0_pay14 (iblk m c 7 t)) (k0_pay16 (k0_pay8 (iblk m c 0 t) C (iblk m c 2 t)) (k0_pay10 (View.ld (iblk m c 3 t) (Rect.unit ![1, 0] ![1, 1024] inb_S8x1024_S1x1024_1_0))) (iblk m c 5 t)))
      (Memref.IsWhole.read_unread _ _)

theorem gate_out (c : Dev nD) (t : Fin cfg0.N) : (outsAt0 m c t.val t.isLt).2.2.2.2.2.2.1
    = k0_pay17 (k0_pay8 (iblk m c 0 t) (carry m c t) (iblk m c 2 t)) (iblk m c 6 t) := by
  unfold carry
  by_cases h0 : t.val % 32 = 0
  · rw [outsAt0_A m c t h0, if_pos h0]
    frame_out
  · rw [outsAt0_B m c t h0, if_neg h0]
    frame_out
    exact congrArg (fun C : FVec Ideal S1x3584 .f32 => k0_pay17 (k0_pay8 (iblk m c 0 t) C (iblk m c 2 t)) (iblk m c 6 t))
      (Memref.IsWhole.read_unread _ _)

theorem bonus_out (c : Dev nD) (t : Fin cfg0.N) : (outsAt0 m c t.val t.isLt).2.2.2.2.2.2.2.1
    = k0_pay1 (k0_pay7 (iblk m c 0 t) (carry m c t) (iblk m c 2 t)) (k0_pay14 (iblk m c 7 t)) (k0_pay21 (k0_pay5 (iblk m c 0 t) (carry m c t) (iblk m c 2 t)) (k0_pay6 (iblk m c 0 t) (carry m c t) (iblk m c 2 t)) (k0_pay12 (View.ld (iblk m c 3 t) (Rect.unit ![3, 0] ![1, 1024] inb_S8x1024_S1x1024_3_0))) (k0_pay13 (View.ld (iblk m c 3 t) (Rect.unit ![4, 0] ![1, 1024] inb_S8x1024_S1x1024_4_0))) (k0_pay16 (k0_pay8 (iblk m c 0 t) (carry m c t) (iblk m c 2 t)) (k0_pay10 (View.ld (iblk m c 3 t) (Rect.unit ![1, 0] ![1, 1024] inb_S8x1024_S1x1024_1_0))) (iblk m c 5 t))) (constant S256x1024 .f32 0x00000000#32) := by
  unfold carry
  by_cases h0 : t.val % 32 = 0
  · rw [outsAt0_A m c t h0, if_pos h0]
    frame_out
    rfl
  · rw [outsAt0_B m c t h0, if_neg h0]
    frame_out
    exact congrArg (fun C : FVec Ideal S1x3584 .f32 => k0_pay1 (k0_pay7 (iblk m c 0 t) C (iblk m c 2 t)) (k0_pay14 (iblk m c 7 t)) (k0_pay21 (k0_pay5 (iblk m c 0 t) C (iblk m c 2 t)) (k0_pay6 (iblk m c 0 t) C (iblk m c 2 t)) (k0_pay12 (View.ld (iblk m c 3 t) (Rect.unit ![3, 0] ![1, 1024] inb_S8x1024_S1x1024_3_0))) (k0_pay13 (View.ld (iblk m c 3 t) (Rect.unit ![4, 0] ![1, 1024] inb_S8x1024_S1x1024_4_0))) (k0_pay16 (k0_pay8 (iblk m c 0 t) C (iblk m c 2 t)) (k0_pay10 (View.ld (iblk m c 3 t) (Rect.unit ![1, 0] ![1, 1024] inb_S8x1024_S1x1024_1_0))) (iblk m c 5 t))) (constant S256x1024 .f32 0x00000000#32))
      (Memref.IsWhole.read_unread _ _)

theorem kept_out (c : Dev nD) (t : Fin cfg0.N) : (outsAt0 m c t.val t.isLt).2.2.2.2.2.2.2.2
    = k0_pay3 (iblk m c 0 t) := by
  by_cases h0 : t.val % 32 = 0
  · rw [outsAt0_A m c t h0]
    frame_out
  · rw [outsAt0_B m c t h0]
    frame_out

end Cert.PrepIdeal.Prep

end
-- ==== Proof.PrepValue.lean ====
/- The kernel of the recurrence's operands computes what its reference computes, over the extended reals, where the projected
   rows, the shift's strengths and the removal key's vector are finite. -/
module

public import proofs.«01_k».proof.Proof.PrepRef
public import proofs.«01_k».proof.Proof.PrepOuts

@[expose] public section

set_option maxRecDepth 16384

noncomputable section

namespace Cert.PrepIdeal.Prep

open Cert.PrepIdeal Cert.PrepIdeal.Gen
open Idealize.ShloMosaic Idealize.ShloMosaic.TcCoe Idealize.SL.Sem
open Idealize.ShloMosaic.Pipeline (Dat)

variable (m : (ℓ : Loc nD τ sig) → Buf (Elt Ideal) ℓ)

/-- The row a grid point finds kept is the row before its block. -/
theorem carry_at (c : Dev nD) (t : Fin cfg0.N) (j : Fin 3584) (i : Fin 8192) (hi : i.val = t.val * 256) :
    carry m c t (ix2 0 j) = Operands.prev (Z m c) i j := by
  have ht := bound t
  unfold carry Operands.prev
  by_cases h0 : t.val % 32 = 0
  · rw [if_pos h0, if_pos (by omega)]
    exact (first_at _ j).trans (before_at m c t j)
  · rw [if_neg h0, if_neg (by omega)]
    have h := kept_out m c ⟨t.val - 1, Nat.lt_of_le_of_lt (Nat.sub_le _ _) t.isLt⟩
    refine (congrFun h (ix2 0 j)).trans ((last_at _ j).trans ?_)
    exact in_at m c _ 255 j ⟨i.val - 1, by omega⟩ (by
      show i.val - 1 = (t.val - 1) * 256 + 255
      omega)

/-- A column of the block's moved rows. -/
theorem mixed_at (c : Dev nD) (t : Fin cfg0.N) (r : Fin 256) (i : Fin 8192) (hi : i.val = t.val * 256 + r.val) (j : Fin 3520) (k : Fin 3584)
    (hk : k.val = j.val) :
    k0_pay4 (F := Ideal) (iblk m c 0 t) (carry m c t) (iblk m c 2 t) (ix2 r k) = Operands.mixed (Z m c) (MU m c) i j := by
  have hlt : j.val < 3584 := by omega
  have e : k = ⟨j.val, hlt⟩ := Fin.ext hk
  rw [e]
  clear e hk k
  have hb : (if r.val = 0 then carry m c t (ix2 0 ⟨j.val, by omega⟩) else iblk m c 0 t (ix2 ⟨r.val - 1, by omega⟩ ⟨j.val, by omega⟩))
      = Operands.prev (Z m c) i ⟨j.val, by omega⟩ := by
    by_cases hr : r.val = 0
    · rw [if_pos hr]
      exact carry_at m c t _ i (by omega)
    · rw [if_neg hr]
      unfold Operands.prev
      rw [if_neg (by omega)]
      exact in_at m c t _ _ ⟨i.val - 1, by omega⟩ (by
        show i.val - 1 = t.val * 256 + (r.val - 1)
        omega)
  refine (moved_at _ _ _ r _).trans ?_
  rw [hb, strength_at m c t j ⟨j.val, by omega⟩ rfl, in_at m c t r _ i hi]
  rfl

theorem recv_cols (a : FVec Ideal S256x3584 .f32) (b e : FVec Ideal S1x3584 .f32) (r : Fin 256) (j : Fin 1024) :
    k0_pay5 (F := Ideal) a b e (ix2 r j) = k0_pay4 (F := Ideal) a b e (ix2 r ⟨j.val, by omega⟩) := by
  pointwise [k0_pay5, k0_pay4]

theorem key_cols (a : FVec Ideal S256x3584 .f32) (b e : FVec Ideal S1x3584 .f32) (r : Fin 256) (j : Fin 1024) :
    k0_pay6 (F := Ideal) a b e (ix2 r j) = k0_pay4 (F := Ideal) a b e (ix2 r ⟨1024 + j.val, by omega⟩) := by
  pointwise [k0_pay6, k0_pay4]

theorem val_cols (a : FVec Ideal S256x3584 .f32) (b e : FVec Ideal S1x3584 .f32) (r : Fin 256) (j : Fin 1024) :
    k0_pay7 (F := Ideal) a b e (ix2 r j) = k0_pay4 (F := Ideal) a b e (ix2 r ⟨2048 + j.val, by omega⟩) := by
  pointwise [k0_pay7, k0_pay4]

theorem low_cols (a : FVec Ideal S256x3584 .f32) (b e : FVec Ideal S1x3584 .f32) (r : Fin 256) (j : Fin 512) :
    k0_pay8 (F := Ideal) a b e (ix2 r j) = k0_pay4 (F := Ideal) a b e (ix2 r ⟨3072 + j.val, by omega⟩) := by
  pointwise [k0_pay8, k0_pay4]

theorem recv_eq (c : Dev nD) (t : Fin cfg0.N) (r : Fin 256) (i : Fin 8192) (hi : i.val = t.val * 256 + r.val) (j : Fin 1024) :
    k0_pay5 (F := Ideal) (iblk m c 0 t) (carry m c t) (iblk m c 2 t) (ix2 r j) = Operands.recv (Z m c) (MU m c) i j :=
  (recv_cols _ _ _ r j).trans (mixed_at m c t r i hi ⟨j.val, by omega⟩ _ rfl)

theorem key_eq (c : Dev nD) (t : Fin cfg0.N) (r : Fin 256) (i : Fin 8192) (hi : i.val = t.val * 256 + r.val) (j : Fin 1024) :
    k0_pay6 (F := Ideal) (iblk m c 0 t) (carry m c t) (iblk m c 2 t) (ix2 r j) = Operands.key (Z m c) (MU m c) i j :=
  (key_cols _ _ _ r j).trans (mixed_at m c t r i hi ⟨1024 + j.val, by omega⟩ _ rfl)

theorem val_eq (c : Dev nD) (t : Fin cfg0.N) (r : Fin 256) (i : Fin 8192) (hi : i.val = t.val * 256 + r.val) (j : Fin 1024) :
    k0_pay7 (F := Ideal) (iblk m c 0 t) (carry m c t) (iblk m c 2 t) (ix2 r j) = Operands.val (Z m c) (MU m c) i j :=
  (val_cols _ _ _ r j).trans (mixed_at m c t r i hi ⟨2048 + j.val, by omega⟩ _ rfl)

theorem low_eq (c : Dev nD) (t : Fin cfg0.N) (r : Fin 256) (i : Fin 8192) (hi : i.val = t.val * 256 + r.val) (u : Fin 512) (j : Fin 3520)
    (hj : j.val = 3072 + u.val) :
    k0_pay8 (F := Ideal) (iblk m c 0 t) (carry m c t) (iblk m c 2 t) (ix2 r u) = Operands.mixed (Z m c) (MU m c) i j :=
  (low_cols _ _ _ r u).trans (mixed_at m c t r i hi j _ hj.symm)

theorem same9 (x : FVec Ideal S1x1024 .f32) (j : Fin 1024) : k0_pay9 (F := Ideal) x (ix2 0 j) = x (ix2 0 j) := by pointwise [k0_pay9]
theorem same10 (x : FVec Ideal S1x1024 .f32) (j : Fin 1024) : k0_pay10 (F := Ideal) x (ix2 0 j) = x (ix2 0 j) := by pointwise [k0_pay10]
theorem same11 (x : FVec Ideal S1x1024 .f32) (j : Fin 1024) : k0_pay11 (F := Ideal) x (ix2 0 j) = x (ix2 0 j) := by pointwise [k0_pay11]
theorem same12 (x : FVec Ideal S1x1024 .f32) (j : Fin 1024) : k0_pay12 (F := Ideal) x (ix2 0 j) = x (ix2 0 j) := by pointwise [k0_pay12]
theorem same13 (x : FVec Ideal S1x1024 .f32) (j : Fin 1024) : k0_pay13 (F := Ideal) x (ix2 0 j) = x (ix2 0 j) := by pointwise [k0_pay13]
theorem same14 (x : FVec Ideal S1024x1024 .bf16) (k j : Fin 1024) : k0_pay14 (F := Ideal) x (ix2 k j) = x (ix2 k j) := by pointwise [k0_pay14]

/-- The decay's logarithm. -/
theorem decay_eq (c : Dev nD) (t : Fin cfg0.N) (r : Fin 256) (i : Fin 8192) (hi : i.val = t.val * 256 + r.val) (j : Fin 1024) :
    k0_pay15 (F := Ideal) (k0_pay8 (F := Ideal) (iblk m c 0 t) (carry m c t) (iblk m c 2 t)) (k0_pay9 (F := Ideal) (View.ld (iblk m c 3 t) (Rect.unit ![0, 0] ![1, 1024] inb_S8x1024_S1x1024_0_0))) (iblk m c 4 t) (ix2 r j) = Operands.decayLog (Operands.decayArg (Z m c) (MU m c) (W0 m c) (W2 m c) i j) := by
  refine (pay15_at _ _ _ r j).trans ?_
  rw [same9, w0_at m c t j]
  refine congrArg Operands.decayLog (congrArg (W0 m c (ix2 0 j) + ·) ?_)
  refine Operands.sum_padded 0 (by norm_num) _ _ (fun u hu => ?_) fun u => ?_
  · rw [decay_at m c t u j, dif_neg hu, mul_zero]
  · rw [decay_at m c t _ j, dif_pos ⟨by omega, by show 0 + u.val < 0 + 96; omega⟩,
      low_eq m c t r i hi _ ⟨3072 + u.val, by omega⟩ (by show 3072 + u.val = 3072 + (0 + u.val); omega)]
    refine congrArg (_ * ·) (congrArg (W2 m c) (congrArg (fun q : Fin 96 => (ix3 0 q j : S1x96x1024.Idx)) (Fin.ext ?_)))
    show 0 + u.val - 0 = u.val
    omega

/-- The learning rate. -/
theorem rate_eq (c : Dev nD) (t : Fin cfg0.N) (r : Fin 256) (i : Fin 8192) (hi : i.val = t.val * 256 + r.val) (j : Fin 1024) :
    k0_pay16 (F := Ideal) (k0_pay8 (F := Ideal) (iblk m c 0 t) (carry m c t) (iblk m c 2 t)) (k0_pay10 (F := Ideal) (View.ld (iblk m c 3 t) (Rect.unit ![1, 0] ![1, 1024] inb_S8x1024_S1x1024_1_0))) (iblk m c 5 t) (ix2 r j) = Operands.rate (Z m c) (MU m c) (A0 m c) (A2 m c) i j := by
  refine (pay16_at _ _ _ r j).trans ?_
  rw [same10, a0_at m c t j]
  refine congrArg Operands.sig (congrArg (A0 m c (ix2 0 j) + ·) ?_)
  refine Operands.sum_padded 96 (by norm_num) _ _ (fun u hu => ?_) fun u => ?_
  · rw [rate_at m c t u j, dif_neg hu, mul_zero]
  · rw [rate_at m c t _ j, dif_pos ⟨by show 96 ≤ 96 + u.val; omega, by show 96 + u.val < 96 + 96; omega⟩,
      low_eq m c t r i hi _ ⟨3168 + u.val, by omega⟩ (by show 3168 + u.val = 3072 + (96 + u.val); omega)]
    refine congrArg (_ * ·) (congrArg (A2 m c) (congrArg (fun q : Fin 96 => (ix3 0 q j : S1x96x1024.Idx)) (Fin.ext ?_)))
    show 96 + u.val - 96 = u.val
    omega

/-- The output's gate. -/
theorem gate_eq (c : Dev nD) (t : Fin cfg0.N) (r : Fin 256) (i : Fin 8192) (hi : i.val = t.val * 256 + r.val) (j : Fin 1024) :
    k0_pay17 (F := Ideal) (k0_pay8 (F := Ideal) (iblk m c 0 t) (carry m c t) (iblk m c 2 t)) (iblk m c 6 t) (ix2 r j) = Operands.gate (Z m c) (MU m c) (G2 m c) i j := by
  refine (pay17_at _ _ r j).trans ?_
  unfold Operands.gate
  refine Operands.sum_padded 192 (by norm_num) _ _ (fun u hu => ?_) fun u => ?_
  · rw [gate_at m c t u j, dif_neg hu, mul_zero]
  · rw [gate_at m c t _ j, dif_pos ⟨by show 192 ≤ 192 + u.val; omega, by show 192 + u.val < 192 + 256; omega⟩,
      low_eq m c t r i hi _ ⟨3264 + u.val, by omega⟩ (by show 3264 + u.val = 3072 + (192 + u.val); omega)]
    refine congrArg (_ * ·) (congrArg (G2 m c) (congrArg (fun q : Fin 256 => (ix3 0 q j : S1x256x1024.Idx)) (Fin.ext ?_)))
    show 192 + u.val - 192 = u.val
    omega

/-- The key written into the state. -/
theorem keyIn_eq (c : Dev nD) (t : Fin cfg0.N) (r : Fin 256) (i : Fin 8192) (hi : i.val = t.val * 256 + r.val) (j : Fin 1024) :
    k0_pay19 (F := Ideal) (k0_pay6 (F := Ideal) (iblk m c 0 t) (carry m c t) (iblk m c 2 t)) (k0_pay12 (F := Ideal) (View.ld (iblk m c 3 t) (Rect.unit ![3, 0] ![1, 1024] inb_S8x1024_S1x1024_3_0))) (k0_pay16 (F := Ideal) (k0_pay8 (F := Ideal) (iblk m c 0 t) (carry m c t) (iblk m c 2 t)) (k0_pay10 (F := Ideal) (View.ld (iblk m c 3 t) (Rect.unit ![1, 0] ![1, 1024] inb_S8x1024_S1x1024_1_0))) (iblk m c 5 t)) (ix2 r j) = Operands.keyIn (Z m c) (MU m c) (A0 m c) (A2 m c) (KA m c) i j := by
  refine (pay19_at _ _ _ r j).trans ?_
  rw [same12, ka_at m c t j, rate_eq m c t r i hi j, key_eq m c t r i hi j]
  rfl

/-- The removal key, of length one in every head, where the products before it are finite. -/
theorem unit_eq (c : Dev nD) (hf : ∀ i j, ∃ x : ℝ, Operands.removal (Z m c) (MU m c) (KK m c) i j = (x : EReal))
    (t : Fin cfg0.N) (r : Fin 256) (i : Fin 8192) (hi : i.val = t.val * 256 + r.val) (j : Fin 1024) :
    k0_pay18 (F := Ideal) (k0_pay6 (F := Ideal) (iblk m c 0 t) (carry m c t) (iblk m c 2 t)) (k0_pay11 (F := Ideal) (View.ld (iblk m c 3 t) (Rect.unit ![2, 0] ![1, 1024] inb_S8x1024_S1x1024_2_0))) (k0_pay14 (F := Ideal) (iblk m c 7 t)) (ix2 r j) = Operands.unitKey (Z m c) (MU m c) (KK m c) i j := by
  refine (pay18_at _ _ _ r j).trans ?_
  have hp : ∀ k, k0_pay6 (F := Ideal) (iblk m c 0 t) (carry m c t) (iblk m c 2 t) (ix2 r k) * k0_pay11 (F := Ideal) (View.ld (iblk m c 3 t) (Rect.unit ![2, 0] ![1, 1024] inb_S8x1024_S1x1024_2_0)) (ix2 0 k) = Operands.removal (Z m c) (MU m c) (KK m c) i k := fun k => by
    rw [same11, kk_at m c t k, key_eq m c t r i hi k]
    rfl
  have hz : ∀ k, Operands.removal (Z m c) (MU m c) (KK m c) i k * Operands.removal (Z m c) (MU m c) (KK m c) i k
      - Operands.removal (Z m c) (MU m c) (KK m c) i k * Operands.removal (Z m c) (MU m c) (KK m c) i k = 0 := fun k => by
    obtain ⟨x, hx⟩ := hf i k
    rw [hx, ← EReal.coe_mul, ← EReal.coe_sub, sub_self, EReal.coe_zero]
  simp only [hp, hz, zero_mul, Finset.sum_const_zero, add_zero, same14, share_at m c t]
  unfold Operands.unitKey
  rw [← Operands.sum_head]

/-- The token's own contribution. -/
theorem bonus_eq (c : Dev nD) (t : Fin cfg0.N) (r : Fin 256) (i : Fin 8192) (hi : i.val = t.val * 256 + r.val) (j : Fin 1024) :
    k0_pay1 (F := Ideal) (k0_pay7 (F := Ideal) (iblk m c 0 t) (carry m c t) (iblk m c 2 t)) (k0_pay14 (F := Ideal) (iblk m c 7 t)) (k0_pay21 (F := Ideal) (k0_pay5 (F := Ideal) (iblk m c 0 t) (carry m c t) (iblk m c 2 t)) (k0_pay6 (F := Ideal) (iblk m c 0 t) (carry m c t) (iblk m c 2 t)) (k0_pay12 (F := Ideal) (View.ld (iblk m c 3 t) (Rect.unit ![3, 0] ![1, 1024] inb_S8x1024_S1x1024_3_0))) (k0_pay13 (F := Ideal) (View.ld (iblk m c 3 t) (Rect.unit ![4, 0] ![1, 1024] inb_S8x1024_S1x1024_4_0))) (k0_pay16 (F := Ideal) (k0_pay8 (F := Ideal) (iblk m c 0 t) (carry m c t) (iblk m c 2 t)) (k0_pay10 (F := Ideal) (View.ld (iblk m c 3 t) (Rect.unit ![1, 0] ![1, 1024] inb_S8x1024_S1x1024_1_0))) (iblk m c 5 t))) (constant S256x1024 .f32 0x00000000#32) (ix2 r j) = Operands.bonus (Z m c) (MU m c) (A0 m c) (A2 m c) (KA m c) (RK m c) i j := by
  refine (pay1_at _ _ _ _ _ _ _ r j).trans ?_
  unfold Operands.bonus
  rw [← Operands.sum_head, val_eq m c t r i hi j]
  refine congrArg (· * Operands.val (Z m c) (MU m c) i j) ?_
  refine Fin.sum_fin_congr fun k => ?_
  rw [same13, same14, rk_at m c t k, share_at m c t k j, keyIn_eq m c t r i hi k, recv_eq m c t r i hi k]

/-- A sum, a difference and a product of reals are real. -/
theorem removal_real (c : Dev nD) (hZ : ∀ i j, ∃ x : ℝ, Z m c (ix2 i j) = (x : EReal)) (hM : ∀ j, ∃ x : ℝ, MU m c (ix2 0 j) = (x : EReal))
    (hK : ∀ j, ∃ x : ℝ, KK m c (ix2 0 j) = (x : EReal)) (i : Fin 8192) (j : Fin 1024) :
    ∃ x : ℝ, Operands.removal (Z m c) (MU m c) (KK m c) i j = (x : EReal) := by
  have hp : ∀ k, ∃ x : ℝ, Operands.prev (Z m c) i k = (x : EReal) := fun k => by
    unfold Operands.prev
    by_cases h : i.val = 0
    · rw [if_pos h]
      exact ⟨0, rfl⟩
    · rw [if_neg h]
      exact hZ _ _
  obtain ⟨p, hp⟩ := hp ⟨1024 + j.val, by omega⟩
  obtain ⟨z, hz⟩ := hZ i ⟨1024 + j.val, by omega⟩
  obtain ⟨u, hu⟩ := hM ⟨1024 + j.val, by omega⟩
  obtain ⟨w, hw⟩ := hK j
  refine ⟨(z + (p - z) * u) * w, ?_⟩
  unfold Operands.removal Operands.key Operands.mixed
  rw [EReal.coe_mul, EReal.coe_add, EReal.coe_mul, EReal.coe_sub, ← hw, ← hu]
  exact congrArg₂ (· * ·) (congrArg₂ (· + ·) hz (congrArg₂ (· * ·) (congrArg₂ (· - ·) hp hz) rfl)) rfl

/-- The array of the receptance. -/
theorem recv_final (c : Dev nD) : (dats m 0 c).arrAt 8 cfg0.N = Cert.PrepRefIdeal.Value.r (Z m c) (MU m c) := by
  refine (dats m 0 c).arrAt_eq_of_covers 8 _ (by decide +kernel) fun t hf' y => ?_
  blk_simp
  rw [after0_8, recv_out m c t]
  obtain ⟨r, j, rfl⟩ : ∃ (r : Fin 256) (j : Fin 1024), y = ix2 r j := ⟨y 0, y 1, eq_ix2 y⟩
  have ht : t.val < 32 := bound t
  have he : ((View.whole main_v35_0).slice (win0_8.rect t)).emb (ix2 r j) = (ix2 ⟨t.val * 256 + r.val, by omega⟩ j : S8192x1024.Idx) := by
    blk_ext [idx t]
  refine Eq.trans ?_ (congrArg (Cert.PrepRefIdeal.Value.r (Z m c) (MU m c) : FVec Ideal S8192x1024 .f32) he).symm
  refine Eq.trans (recv_eq m c t r ⟨t.val * 256 + r.val, by omega⟩ rfl j) ?_
  exact (Cert.PrepRefIdeal.Value.r_at _ _ _ _).symm

/-- The array of the decay's logarithm. -/
theorem decay_final (c : Dev nD) : (dats m 0 c).arrAt 9 cfg0.N = Cert.PrepRefIdeal.Value.lw (Z m c) (MU m c) (W0 m c) (W2 m c) := by
  refine (dats m 0 c).arrAt_eq_of_covers 9 _ (by decide +kernel) fun t hf' y => ?_
  blk_simp
  rw [after0_9, decay_out m c t]
  obtain ⟨r, j, rfl⟩ : ∃ (r : Fin 256) (j : Fin 1024), y = ix2 r j := ⟨y 0, y 1, eq_ix2 y⟩
  have ht : t.val < 32 := bound t
  have he : ((View.whole main_v35_1).slice (win0_9.rect t)).emb (ix2 r j) = (ix2 ⟨t.val * 256 + r.val, by omega⟩ j : S8192x1024.Idx) := by
    blk_ext [idx t]
  refine Eq.trans ?_ (congrArg (Cert.PrepRefIdeal.Value.lw (Z m c) (MU m c) (W0 m c) (W2 m c) : FVec Ideal S8192x1024 .f32) he).symm
  refine Eq.trans (decay_eq m c t r ⟨t.val * 256 + r.val, by omega⟩ rfl j) ?_
  exact (Cert.PrepRefIdeal.Value.lw_at _ _ _ _ _ _).symm

/-- The array of the key written into the state. -/
theorem keyIn_final (c : Dev nD) : (dats m 0 c).arrAt 10 cfg0.N = Cert.PrepRefIdeal.Value.kh (Z m c) (MU m c) (A0 m c) (KA m c) (A2 m c) := by
  refine (dats m 0 c).arrAt_eq_of_covers 10 _ (by decide +kernel) fun t hf' y => ?_
  blk_simp
  rw [after0_10, keyIn_out m c t]
  obtain ⟨r, j, rfl⟩ : ∃ (r : Fin 256) (j : Fin 1024), y = ix2 r j := ⟨y 0, y 1, eq_ix2 y⟩
  have ht : t.val < 32 := bound t
  have he : ((View.whole main_v35_2).slice (win0_10.rect t)).emb (ix2 r j) = (ix2 ⟨t.val * 256 + r.val, by omega⟩ j : S8192x1024.Idx) := by
    blk_ext [idx t]
  refine Eq.trans ?_ (congrArg (Cert.PrepRefIdeal.Value.kh (Z m c) (MU m c) (A0 m c) (KA m c) (A2 m c) : FVec Ideal S8192x1024 .f32) he).symm
  refine Eq.trans (keyIn_eq m c t r ⟨t.val * 256 + r.val, by omega⟩ rfl j) ?_
  exact (Cert.PrepRefIdeal.Value.kh_at _ _ _ _ _ _ _).symm

/-- The array of the value. -/
theorem val_final (c : Dev nD) : (dats m 0 c).arrAt 11 cfg0.N = Cert.PrepRefIdeal.Value.v (Z m c) (MU m c) := by
  refine (dats m 0 c).arrAt_eq_of_covers 11 _ (by decide +kernel) fun t hf' y => ?_
  blk_simp
  rw [after0_11, val_out m c t]
  obtain ⟨r, j, rfl⟩ : ∃ (r : Fin 256) (j : Fin 1024), y = ix2 r j := ⟨y 0, y 1, eq_ix2 y⟩
  have ht : t.val < 32 := bound t
  have he : ((View.whole main_v35_3).slice (win0_11.rect t)).emb (ix2 r j) = (ix2 ⟨t.val * 256 + r.val, by omega⟩ j : S8192x1024.Idx) := by
    blk_ext [idx t]
  refine Eq.trans ?_ (congrArg (Cert.PrepRefIdeal.Value.v (Z m c) (MU m c) : FVec Ideal S8192x1024 .f32) he).symm
  refine Eq.trans (val_eq m c t r ⟨t.val * 256 + r.val, by omega⟩ rfl j) ?_
  exact (Cert.PrepRefIdeal.Value.v_at _ _ _ _).symm

/-- The array of the removal key. -/
theorem unit_final (c : Dev nD) (hf : ∀ i j, ∃ x : ℝ, Operands.removal (Z m c) (MU m c) (KK m c) i j = (x : EReal)) : (dats m 0 c).arrAt 12 cfg0.N = Cert.PrepRefIdeal.Value.kk (Z m c) (MU m c) (KK m c) := by
  refine (dats m 0 c).arrAt_eq_of_covers 12 _ (by decide +kernel) fun t hf' y => ?_
  blk_simp
  rw [after0_12, unit_out m c t]
  obtain ⟨r, j, rfl⟩ : ∃ (r : Fin 256) (j : Fin 1024), y = ix2 r j := ⟨y 0, y 1, eq_ix2 y⟩
  have ht : t.val < 32 := bound t
  have he : ((View.whole main_v35_4).slice (win0_12.rect t)).emb (ix2 r j) = (ix2 ⟨t.val * 256 + r.val, by omega⟩ j : S8192x1024.Idx) := by
    blk_ext [idx t]
  refine Eq.trans ?_ (congrArg (Cert.PrepRefIdeal.Value.kk (Z m c) (MU m c) (KK m c) : FVec Ideal S8192x1024 .f32) he).symm
  refine Eq.trans (unit_eq m c hf t r ⟨t.val * 256 + r.val, by omega⟩ rfl j) ?_
  exact (Cert.PrepRefIdeal.Value.kk_at _ _ _ _ _).symm

/-- The array of the removal key at the learning rate. -/
theorem moved_final (c : Dev nD) (hf : ∀ i j, ∃ x : ℝ, Operands.removal (Z m c) (MU m c) (KK m c) i j = (x : EReal)) : (dats m 0 c).arrAt 13 cfg0.N = mulf (Cert.PrepRefIdeal.Value.kk (Z m c) (MU m c) (KK m c)) (Cert.PrepRefIdeal.Value.a (Z m c) (MU m c) (A0 m c) (A2 m c)) := by
  refine (dats m 0 c).arrAt_eq_of_covers 13 _ (by decide +kernel) fun t hf' y => ?_
  blk_simp
  rw [after0_13, moved_out m c t]
  obtain ⟨r, j, rfl⟩ : ∃ (r : Fin 256) (j : Fin 1024), y = ix2 r j := ⟨y 0, y 1, eq_ix2 y⟩
  have ht : t.val < 32 := bound t
  have he : ((View.whole main_v35_5).slice (win0_13.rect t)).emb (ix2 r j) = (ix2 ⟨t.val * 256 + r.val, by omega⟩ j : S8192x1024.Idx) := by
    blk_ext [idx t]
  refine Eq.trans ?_ (congrArg (mulf (Cert.PrepRefIdeal.Value.kk (Z m c) (MU m c) (KK m c)) (Cert.PrepRefIdeal.Value.a (Z m c) (MU m c) (A0 m c) (A2 m c)) : FVec Ideal S8192x1024 .f32) he).symm
  refine Eq.trans ((pay20_at _ _ _ _ r j)) ?_
  refine Eq.trans (congrArg₂ (· * ·) (unit_eq m c hf t r ⟨t.val * 256 + r.val, by omega⟩ rfl j) (rate_eq m c t r ⟨t.val * 256 + r.val, by omega⟩ rfl j)) ?_
  exact congrArg₂ (· * ·) (Cert.PrepRefIdeal.Value.kk_at _ _ _ _ _).symm (Cert.PrepRefIdeal.Value.a_at _ _ _ _ _ _).symm

/-- The array of the gate. -/
theorem gate_final (c : Dev nD) : (dats m 0 c).arrAt 14 cfg0.N = Cert.PrepRefIdeal.Value.g (Z m c) (MU m c) (G2 m c) := by
  refine (dats m 0 c).arrAt_eq_of_covers 14 _ (by decide +kernel) fun t hf' y => ?_
  blk_simp
  rw [after0_14, gate_out m c t]
  obtain ⟨r, j, rfl⟩ : ∃ (r : Fin 256) (j : Fin 1024), y = ix2 r j := ⟨y 0, y 1, eq_ix2 y⟩
  have ht : t.val < 32 := bound t
  have he : ((View.whole main_v35_6).slice (win0_14.rect t)).emb (ix2 r j) = (ix2 ⟨t.val * 256 + r.val, by omega⟩ j : S8192x1024.Idx) := by
    blk_ext [idx t]
  refine Eq.trans ?_ (congrArg (Cert.PrepRefIdeal.Value.g (Z m c) (MU m c) (G2 m c) : FVec Ideal S8192x1024 .f32) he).symm
  refine Eq.trans (gate_eq m c t r ⟨t.val * 256 + r.val, by omega⟩ rfl j) ?_
  exact (Cert.PrepRefIdeal.Value.g_at _ _ _ _ _).symm

/-- The array of the token's own contribution. -/
theorem bonus_final (c : Dev nD) : (dats m 0 c).arrAt 15 cfg0.N = Cert.PrepRefIdeal.Value.bonus (Z m c) (MU m c) (A0 m c) (KA m c) (A2 m c) (RK m c) := by
  refine (dats m 0 c).arrAt_eq_of_covers 15 _ (by decide +kernel) fun t hf' y => ?_
  blk_simp
  rw [after0_15, bonus_out m c t]
  obtain ⟨r, j, rfl⟩ : ∃ (r : Fin 256) (j : Fin 1024), y = ix2 r j := ⟨y 0, y 1, eq_ix2 y⟩
  have ht : t.val < 32 := bound t
  have he : ((View.whole main_v35_7).slice (win0_15.rect t)).emb (ix2 r j) = (ix2 ⟨t.val * 256 + r.val, by omega⟩ j : S8192x1024.Idx) := by
    blk_ext [idx t]
  refine Eq.trans ?_ (congrArg (Cert.PrepRefIdeal.Value.bonus (Z m c) (MU m c) (A0 m c) (KA m c) (A2 m c) (RK m c) : FVec Ideal S8192x1024 .f32) he).symm
  refine Eq.trans (bonus_eq m c t r ⟨t.val * 256 + r.val, by omega⟩ rfl j) ?_
  exact (Cert.PrepRefIdeal.Value.bonus_at _ _ _ _ _ _ _ _).symm

end Cert.PrepIdeal.Prep

end
-- ==== Proof.PrepFinite.lean ====
/- What the precondition of the recurrence's operands says: the projected rows, the shift's strengths and the removal key's
   vector are real numbers. -/
module

public import proofs.«01_k».proof.Pre_prep_finite
public import Idealize.ShloMosaic.Lib.Pipeline.ValueKit
public import Idealize.ShloMosaic.Lib.ReduceAll

@[expose] public section

set_option maxRecDepth 16384

noncomputable section

namespace Cert.Pre_prep_finite

open Idealize.ShloMosaic

theorem facts : Facts where
  bcast_S_S8192x3584 := by decide
  reducesTo_S8192x3584_S_d0_1 := by decide
  h_S_ := by decide
  bcast_S_S1x3520 := by decide
  reducesTo_S1x3520_S_d0_1 := by decide
  bcast_S_S1x1024 := by decide
  reducesTo_S1x1024_S_d0_1 := by decide

instance : Facts := facts

/-- A magnitude below the word of positive infinity is a real number's. -/
theorem real_of_below (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x with
  | bot => simp [Ideal.cmp] at h
  | coe a => exact ⟨a, rfl⟩
  | top => simp [Ideal.cmp] at h

theorem both_one (a b : BitVec 1) : IntOp.andi a b = 1#1 → a = 1#1 ∧ b = 1#1 := by
  revert a b
  decide

theorem real (X0 : FVec Ideal S8192x3584 .f32) (X1 : FVec Ideal S1x3520 .f32) (X2 X4 X7 X8 : FVec Ideal S1x1024 .f32)
    (X3 X5 : FVec Ideal S1x96x1024 .f32) (X6 : FVec Ideal S1x256x1024 .f32) (X9 : FVec Ideal S1x16x64 .f32)
    (h : fn (F := Ideal) X0 X1 X2 X3 X4 X5 X6 X7 X8 X9 = fun _ => 1#1) :
    (∀ i, ∃ a : ℝ, X0 i = (a : EReal)) ∧ (∀ i, ∃ a : ℝ, X1 i = (a : EReal)) ∧ ∀ i, ∃ a : ℝ, X7 i = (a : EReal) := by
  have h0 := congrFun h (Shape.Idx.first Facts.h_S_)
  obtain ⟨h1, h7⟩ := both_one _ _ h0
  obtain ⟨h0, h1⟩ := both_one _ _ h1
  haveI : Subsingleton S_.Idx := ⟨fun a b => funext fun k => k.elim0⟩
  exact ⟨fun i => real_of_below _ (Host.reduce_andi_all _ _ _ _ _ h0 i), fun i => real_of_below _ (Host.reduce_andi_all _ _ _ _ _ h1 i),
    fun i => real_of_below _ (Host.reduce_andi_all _ _ _ _ _ h7 i)⟩

end Cert.Pre_prep_finite

end
-- ==== Proof.OperandsS.lean ====
/- The recurrence's operands of the sample, element by element: what is made of every token's projected row and the row before it, where
   every sequence of eight brings the row before its first. -/
module

public import proofs.«01_k».proof.Proof.Operands

@[expose] public section

noncomputable section

namespace Cert.OperandsS

open Idealize.ShloMosaic
open Cert.Operands (decayLog sig headSum)

variable (Z : FVec Ideal ⟨2, ![256, 3584]⟩ .f32) (P : FVec Ideal ⟨2, ![32, 3584]⟩ .f32) (M : FVec Ideal ⟨2, ![1, 3520]⟩ .f32)

/-- A column of the row before the given one; before a sequence's first, of the row the sequence brings with it. -/
def prev (i : Fin 256) (j : Fin 3584) : EReal := if i.val % 8 = 0 then P (ix2 ⟨i.val / 8, by omega⟩ j) else Z (ix2 ⟨i.val - 1, by omega⟩ j)

/-- A row moved towards the row before it. -/
def mixed (i : Fin 256) (j : Fin 3520) : EReal :=
  Z (ix2 i ⟨j.val, by omega⟩) + (prev Z P i ⟨j.val, by omega⟩ - Z (ix2 i ⟨j.val, by omega⟩)) * M (ix2 0 j)

/-- The receptance. -/
def recv (i : Fin 256) (j : Fin 1024) : EReal := mixed Z P M i ⟨j.val, by omega⟩

/-- The key. -/
def key (i : Fin 256) (j : Fin 1024) : EReal := mixed Z P M i ⟨1024 + j.val, by omega⟩

/-- The value. -/
def val (i : Fin 256) (j : Fin 1024) : EReal := mixed Z P M i ⟨2048 + j.val, by omega⟩

/-- The decay's argument, through its low-rank map. -/
def decayArg (W0 : FVec Ideal ⟨2, ![1, 1024]⟩ .f32) (W2 : FVec Ideal ⟨3, ![1, 96, 1024]⟩ .f32) (i : Fin 256) (j : Fin 1024) : EReal :=
  W0 (ix2 0 j) + ∑ u : Fin 96, Ideal.tanh (mixed Z P M i ⟨3072 + u.val, by omega⟩) * W2 (ix3 0 u j)

/-- The rate at which the state learns, through its low-rank map. -/
def rate (A0 : FVec Ideal ⟨2, ![1, 1024]⟩ .f32) (A2 : FVec Ideal ⟨3, ![1, 96, 1024]⟩ .f32) (i : Fin 256) (j : Fin 1024) : EReal :=
  sig (A0 (ix2 0 j) + ∑ u : Fin 96, mixed Z P M i ⟨3168 + u.val, by omega⟩ * A2 (ix3 0 u j))

/-- The output's gate, through its low-rank map. -/
def gate (G2 : FVec Ideal ⟨3, ![1, 256, 1024]⟩ .f32) (i : Fin 256) (j : Fin 1024) : EReal :=
  ∑ u : Fin 256, sig (mixed Z P M i ⟨3264 + u.val, by omega⟩) * G2 (ix3 0 u j)

/-- The removal key before it is normalised. -/
def removal (KK : FVec Ideal ⟨2, ![1, 1024]⟩ .f32) (i : Fin 256) (j : Fin 1024) : EReal := key Z P M i j * KK (ix2 0 j)

/-- The removal key, of length one in every head. -/
def unitKey (KK : FVec Ideal ⟨2, ![1, 1024]⟩ .f32) (i : Fin 256) (j : Fin 1024) : EReal :=
  Ideal.div (removal Z P M KK i j) (max (Ideal.sqrt (headSum (fun k => removal Z P M KK i k * removal Z P M KK i k) j)) (Ideal.ofBits .f32 0x2B8CBCCC#32))

/-- The key written into the state. -/
def keyIn (A0 : FVec Ideal ⟨2, ![1, 1024]⟩ .f32) (A2 : FVec Ideal ⟨3, ![1, 96, 1024]⟩ .f32) (KA : FVec Ideal ⟨2, ![1, 1024]⟩ .f32)
    (i : Fin 256) (j : Fin 1024) : EReal :=
  key Z P M i j * (1 + (rate Z P M A0 A2 i j - 1) * KA (ix2 0 j))

/-- The token's own contribution to its output. -/
def bonus (A0 : FVec Ideal ⟨2, ![1, 1024]⟩ .f32) (A2 : FVec Ideal ⟨3, ![1, 96, 1024]⟩ .f32) (KA : FVec Ideal ⟨2, ![1, 1024]⟩ .f32)
    (RK : FVec Ideal ⟨3, ![1, 16, 64]⟩ .f32) (i : Fin 256) (j : Fin 1024) : EReal :=
  headSum (fun k => recv Z P M i k * keyIn Z P M A0 A2 KA i k * RK (ix3 0 ⟨k.val / 64, by omega⟩ ⟨k.val % 64, by omega⟩)) j * val Z P M i j

end Cert.OperandsS

end
-- ==== Proof.PrepSRef.lean ====
/- What the reference of the sample's operands of the recurrence computes, element by element. -/
module

public import proofs.«01_k».proof.Proof.OperandsS
public import proofs.«01_k».proof.Proof.Gen.PrepSRefIdeal.Run

@[expose] public section

set_option maxRecDepth 16384

noncomputable section

namespace Cert.PrepSRefIdeal.Value

open Cert.PrepSRefIdeal Cert.PrepSRefIdeal.Gen
open Idealize.ShloMosaic Idealize.ShloMosaic.TcCoe Idealize.SL.Sem

variable (X0 : FVec Ideal S256x3584 .f32) (X10 : FVec Ideal S32x3584 .f32) (X1 : FVec Ideal S1x3520 .f32) (X2 X4 X7 X8 : FVec Ideal S1x1024 .f32)
  (X3 X5 : FVec Ideal S1x96x1024 .f32) (X6 : FVec Ideal S1x256x1024 .f32) (X9 : FVec Ideal S1x16x64 .f32)

/-- The columns that are the recurrence's. -/
def cols : FVec Ideal S256x3520 .f32 := extractStridedSlice S256x3520 ![0, 0] X0 slices_S256x3584_S256x3520_0_0

/-- Those columns, sequence by sequence. -/
def seqs : FVec Ideal S32x8x3520 .f32 := shapeCast _ (cols X0) shapeCasts_S256x3520_S32x8x3520

/-- Every row moved towards the row before it, sequence by sequence. -/
def zm3 : FVec Ideal S32x8x3520 .f32 :=
  addf (seqs X0) (mulf (subf (concatenate S32x8x3520 1 [⟨S32x1x3520, (broadcastInDim S32x1x3520 ![0, 2] bcast_S32x3520_S32x1x3520_0_2
      (extractStridedSlice S32x3520 ![0, 0] X10 slices_S32x3584_S32x3520_0_0))⟩,
      ⟨S32x7x3520, (extractStridedSlice S32x7x3520 ![0, 0, 0] (seqs X0) slices_S32x8x3520_S32x7x3520_0_0_0)⟩] concatenates_S32x1x3520_S32x7x3520_S32x8x3520_d1)
    (seqs X0)) (broadcastInDim S32x8x3520 ![0, 1, 2] bcast_S1x1x3520_S32x8x3520_0_1_2 (broadcastInDim S1x1x3520 ![2] bcast_S3520_S1x1x3520_2
      (shapeCast _ X1 shapeCasts_S1x3520_S3520))))

/-- Every row moved towards the row before it. -/
def zm : FVec Ideal S256x3520 .f32 := shapeCast _ (zm3 X0 X10 X1) shapeCasts_S32x8x3520_S256x3520

/-- A vector of the layer, in every row. -/
def rows (X : FVec Ideal S1x1024 .f32) : FVec Ideal S256x1024 .f32 :=
  broadcastInDim S256x1024 ![0, 1] bcast_S1x1024_S256x1024_0_1 (broadcastInDim S1x1024 ![1] bcast_S1024_S1x1024_1
    (shapeCast _ X shapeCasts_S1x1024_S1024))

def r : FVec Ideal S256x1024 .f32 := extractStridedSlice S256x1024 ![0, 0] (zm X0 X10 X1) slices_S256x3520_S256x1024_0_0
def k : FVec Ideal S256x1024 .f32 := extractStridedSlice S256x1024 ![0, 1024] (zm X0 X10 X1) slices_S256x3520_S256x1024_0_1024
def v : FVec Ideal S256x1024 .f32 := extractStridedSlice S256x1024 ![0, 2048] (zm X0 X10 X1) slices_S256x3520_S256x1024_0_2048

def one : FVec Ideal S256x1024 .f32 := broadcastInDim S256x1024 ![] bcast_S_S256x1024 (constant S_ .f32 0x3F800000#32)
def zero : FVec Ideal S256x1024 .f32 := broadcastInDim S256x1024 ![] bcast_S_S256x1024 (constant S_ .f32 0x00000000#32)

/-- The decay's argument, negated. -/
def wl : FVec Ideal S256x1024 .f32 :=
  Host.negf (addf (rows X2) (Host.dotGeneral dot_S256x96_S96x1024_S256x1024_1_0_0_1_n_n none
    (Host.tanh (extractStridedSlice S256x96 ![0, 3072] (zm X0 X10 X1) slices_S256x3520_S256x96_0_3072)) (shapeCast _ X3 shapeCasts_S1x96x1024_S96x1024)))

/-- The decay's logarithm. -/
def lw : FVec Ideal S256x1024 .f32 :=
  Host.negf (Host.exp (subf (Host.negf (select (cmpf .une (subf (wl X0 X10 X1 X2 X3) zero) (subf (wl X0 X10 X1 X2 X3) zero)) (addf (wl X0 X10 X1 X2 X3) zero)
    (addf (maximumf (wl X0 X10 X1 X2 X3) zero) (Host.log1p (Host.exp (Host.negf (Host.absf (subf (wl X0 X10 X1 X2 X3) zero))))))))
    (broadcastInDim S256x1024 ![] bcast_S_S256x1024 (constant S_ .f32 0x3F000000#32))))

/-- The learning rate. -/
def a : FVec Ideal S256x1024 .f32 :=
  Host.divf one (addf one (Host.exp (Host.negf (addf (rows X4) (Host.dotGeneral dot_S256x96_S96x1024_S256x1024_1_0_0_1_n_n none
    (extractStridedSlice S256x96 ![0, 3168] (zm X0 X10 X1) slices_S256x3520_S256x96_0_3168) (shapeCast _ X5 shapeCasts_S1x96x1024_S96x1024))))))

/-- The gate. -/
def g : FVec Ideal S256x1024 .f32 :=
  Host.dotGeneral dot_S256x256_S256x1024_S256x1024_1_0_0_1_n_n none (Host.divf (broadcastInDim S256x256 ![] bcast_S_S256x256 (constant S_ .f32 0x3F800000#32))
    (addf (broadcastInDim S256x256 ![] bcast_S_S256x256 (constant S_ .f32 0x3F800000#32)) (Host.exp (Host.negf
      (extractStridedSlice S256x256 ![0, 3264] (zm X0 X10 X1) slices_S256x3520_S256x256_0_3264))))) (shapeCast _ X6 shapeCasts_S1x256x1024_S256x1024)

/-- The key written into the state. -/
def kh : FVec Ideal S256x1024 .f32 := mulf (k X0 X10 X1) (addf one (mulf (subf (a X0 X10 X1 X4 X5) one) (rows X8)))

/-- The removal key, head by head, before it is normalised. -/
def kk0 : FVec Ideal S256x16x64 .f32 := shapeCast _ (mulf (k X0 X10 X1) (rows X7)) shapeCasts_S256x1024_S256x16x64

/-- The removal key. -/
def kk : FVec Ideal S256x1024 .f32 :=
  shapeCast _ (Host.divf (kk0 X0 X10 X1 X7) (broadcastInDim S256x16x64 ![0, 1, 2] bcast_S256x16x1_S256x16x64_0_1_2
    (maximumf (Host.sqrt (broadcastInDim S256x16x1 ![0, 1] bcast_S256x16_S256x16x1_0_1 (Host.reduceAdd (mulf (kk0 X0 X10 X1 X7) (kk0 X0 X10 X1 X7))
      (constant S_ .f32 0x00000000#32) reducesTo_S256x16x64_S256x16_d2 h_S_)))
      (broadcastInDim S256x16x1 ![] bcast_S_S256x16x1 (constant S_ .f32 0x2B8CBCCC#32))))) shapeCasts_S256x16x64_S256x1024

/-- The token's own contribution. -/
def bonus : FVec Ideal S256x1024 .f32 :=
  shapeCast _ (mulf (broadcastInDim S256x16x64 ![0, 1, 2] bcast_S256x16x1_S256x16x64_0_1_2 (broadcastInDim S256x16x1 ![0, 1] bcast_S256x16_S256x16x1_0_1
    (Host.reduceAdd (mulf (mulf (shapeCast _ (r X0 X10 X1) shapeCasts_S256x1024_S256x16x64) (shapeCast _ (kh X0 X10 X1 X4 X8 X5) shapeCasts_S256x1024_S256x16x64))
      (broadcastInDim S256x16x64 ![0, 1, 2] bcast_S1x16x64_S256x16x64_0_1_2 (broadcastInDim S1x16x64 ![1, 2] bcast_S16x64_S1x16x64_1_2
        (shapeCast _ X9 shapeCasts_S1x16x64_S16x64)))) (constant S_ .f32 0x00000000#32) reducesTo_S256x16x64_S256x16_d2 h_S_)))
    (shapeCast _ (v X0 X10 X1) shapeCasts_S256x1024_S256x16x64)) shapeCasts_S256x16x64_S256x1024

theorem seqs_at (n : Fin 32) (t : Fin 8) (j : Fin 3520) (i : Fin 256) (hi : i.val = n.val * 8 + t.val) :
    seqs X0 (ix3 n t j) = X0 (ix2 i ⟨j.val, by omega⟩) := by
  have hb : n.val * 8 + t.val < 256 := by clear hi; omega
  obtain rfl : i = ⟨n.val * 8 + t.val, hb⟩ := Fin.ext hi
  pointwise [seqs, cols]

theorem zm3_at (n : Fin 32) (t : Fin 8) (j : Fin 3520) (i : Fin 256) (hi : i.val = n.val * 8 + t.val) :
    zm3 X0 X10 X1 (ix3 n t j) = OperandsS.mixed X0 X10 X1 i j := by
  pointwise [zm3, OperandsS.mixed, OperandsS.prev]
  rw [seqs_at X0 n t j i hi]
  by_cases h : t.val = 0
  · rw [dif_pos (by omega), if_pos (show i.val % 8 = 0 by omega)]
    have e : (⟨i.val / 8, by omega⟩ : Fin 32) = n := Fin.ext (by show i.val / 8 = n.val; omega)
    rw [e]
  · rw [dif_neg (by omega), if_neg (show ¬i.val % 8 = 0 by omega), seqs_at X0 n _ j ⟨i.val - 1, by omega⟩ (by
      show i.val - 1 = n.val * 8 + (t.val - 1)
      omega)]

theorem zm_at (i : Fin 256) (j : Fin 3520) : zm X0 X10 X1 (ix2 i j) = OperandsS.mixed X0 X10 X1 i j := by
  refine Eq.trans ?_ (zm3_at X0 X10 X1 ⟨i.val / 8, by omega⟩ ⟨i.val % 8, by omega⟩ j i (by
    show i.val = i.val / 8 * 8 + i.val % 8
    omega))
  pointwise [zm]

theorem r_at (i : Fin 256) (j : Fin 1024) : r X0 X10 X1 (ix2 i j) = OperandsS.recv X0 X10 X1 i j := by
  refine Eq.trans ?_ (zm_at X0 X10 X1 i ⟨j.val, by omega⟩)
  pointwise [r]

theorem v_at (i : Fin 256) (j : Fin 1024) : v X0 X10 X1 (ix2 i j) = OperandsS.val X0 X10 X1 i j := by
  refine Eq.trans ?_ (zm_at X0 X10 X1 i ⟨2048 + j.val, by omega⟩)
  pointwise [v]

theorem wl_at (i : Fin 256) (j : Fin 1024) : wl X0 X10 X1 X2 X3 (ix2 i j) = -OperandsS.decayArg X0 X10 X1 X2 X3 i j := by
  pointwise [wl, rows, zm_at, OperandsS.decayArg]

theorem lw_at (i : Fin 256) (j : Fin 1024) : lw X0 X10 X1 X2 X3 (ix2 i j) = Operands.decayLog (OperandsS.decayArg X0 X10 X1 X2 X3 i j) := by
  pointwise [lw, zero, wl_at, Operands.decayLog]
  rw [if_neg (not_not.mpr rfl)]
  rfl

theorem a_at (i : Fin 256) (j : Fin 1024) : a X0 X10 X1 X4 X5 (ix2 i j) = OperandsS.rate X0 X10 X1 X4 X5 i j := by
  pointwise [a, one, rows, zm_at, OperandsS.rate, Operands.sig]

theorem g_at (i : Fin 256) (j : Fin 1024) : g X0 X10 X1 X6 (ix2 i j) = OperandsS.gate X0 X10 X1 X6 i j := by
  pointwise [g, zm_at, OperandsS.gate, Operands.sig]

theorem kh_at (i : Fin 256) (j : Fin 1024) : kh X0 X10 X1 X4 X8 X5 (ix2 i j) = OperandsS.keyIn X0 X10 X1 X4 X5 X8 i j := by
  pointwise [kh, k, one, rows, zm_at, a_at, OperandsS.keyIn, OperandsS.key]

theorem kk0_at (i : Fin 256) (h : Fin 16) (e : Fin 64) :
    kk0 X0 X10 X1 X7 (ix3 i h e) = OperandsS.removal X0 X10 X1 X7 i ⟨h.val * 64 + e.val, by omega⟩ := by
  pointwise [kk0, k, rows, zm_at, OperandsS.removal, OperandsS.key]

theorem kk_at (i : Fin 256) (j : Fin 1024) : kk X0 X10 X1 X7 (ix2 i j) = OperandsS.unitKey X0 X10 X1 X7 i j := by
  pointwise [kk, kk0_at, OperandsS.unitKey, Operands.headSum]
  congr 2
  exact Fin.ext (by show j.val / 64 * 64 + j.val % 64 = j.val; omega)

theorem bonus_at (i : Fin 256) (j : Fin 1024) : bonus X0 X10 X1 X4 X8 X5 X9 (ix2 i j) = OperandsS.bonus X0 X10 X1 X4 X5 X8 X9 i j := by
  pointwise [bonus, r, v, zm_at, kh_at, OperandsS.bonus, Operands.headSum, OperandsS.recv, OperandsS.val]
  have e : ∀ x : Fin 64, (j.val / 64 * 64 + x.val) / 64 = j.val / 64 := fun x => by omega
  have e' : ∀ x : Fin 64, (j.val / 64 * 64 + x.val) % 64 = x.val := fun x => by omega
  simp only [e, e']

variable (m : (ℓ : Loc nD τ sig) → Buf (Elt Ideal) ℓ) (c : Dev nD)

set_option maxHeartbeats 1600000 in
theorem kk_eq : res_main_v85 m c = kk (m ((c.tc : Thread nD τ).loc main_arg0)) (m ((c.tc : Thread nD τ).loc main_arg10)) (m ((c.tc : Thread nD τ).loc main_arg1)) (m ((c.tc : Thread nD τ).loc main_arg7)) := by
  unfold res_main_v85
  rfl

set_option maxHeartbeats 1600000 in
theorem lw_eq : res_main_v87 m c = lw (m ((c.tc : Thread nD τ).loc main_arg0)) (m ((c.tc : Thread nD τ).loc main_arg10)) (m ((c.tc : Thread nD τ).loc main_arg1))
    (m ((c.tc : Thread nD τ).loc main_arg2)) (m ((c.tc : Thread nD τ).loc main_arg3)) := by
  unfold res_main_v87
  rfl

set_option maxHeartbeats 1600000 in
theorem ka_eq : res_main_v88 m c = mulf (kk (m ((c.tc : Thread nD τ).loc main_arg0)) (m ((c.tc : Thread nD τ).loc main_arg10)) (m ((c.tc : Thread nD τ).loc main_arg1)) (m ((c.tc : Thread nD τ).loc main_arg7)))
    (a (m ((c.tc : Thread nD τ).loc main_arg0)) (m ((c.tc : Thread nD τ).loc main_arg10)) (m ((c.tc : Thread nD τ).loc main_arg1)) (m ((c.tc : Thread nD τ).loc main_arg4)) (m ((c.tc : Thread nD τ).loc main_arg5))) := by
  unfold res_main_v88
  rfl

set_option maxHeartbeats 1600000 in
theorem bonus_eq : res_main_v89 m c = bonus (m ((c.tc : Thread nD τ).loc main_arg0)) (m ((c.tc : Thread nD τ).loc main_arg10)) (m ((c.tc : Thread nD τ).loc main_arg1)) (m ((c.tc : Thread nD τ).loc main_arg4))
    (m ((c.tc : Thread nD τ).loc main_arg8)) (m ((c.tc : Thread nD τ).loc main_arg5)) (m ((c.tc : Thread nD τ).loc main_arg9)) := by
  unfold res_main_v89
  rfl

end Cert.PrepSRefIdeal.Value

end
-- ==== Proof.PrepSHost.lean ====
/- The arrays the kernel of the sample's operands of the recurrence is handed, as its host code lays them out. -/
module

public import proofs.«01_k».proof.Proof.Operands
public import proofs.«01_k».proof.Proof.Gen.PrepSIdeal.Frame
public import Idealize.ShloMosaic.Lib.Claim
public import Idealize.ShloMosaic.Lib.KernelVsHost

@[expose] public section

set_option maxRecDepth 16384

noncomputable section

namespace Cert.PrepSIdeal.Prep

open Cert.PrepSIdeal Cert.PrepSIdeal.Gen
open Idealize.ShloMosaic Idealize.ShloMosaic.TcCoe Idealize.SL.Sem
open Idealize.ShloMosaic.Pipeline (Dat)

variable (m : (ℓ : Loc nD τ sig) → Buf (Elt Ideal) ℓ)

/-- The value the host pads with. -/
def nil : FVec Ideal S_ .f32 := sitofp .f32 (constantI S_ 32 0#32)

/-- The shift's strengths, padded to the block's columns. -/
theorem mu_eq (c : Dev nD) : V m c main_v2
    = shapeCast S1x3584 (pad (α := EReal) S3584 ![0] ![64] ![0] (shapeCast S3520 (m ((c : Thread nD τ).loc main_arg1) : FVec Ideal S1x3520 .f32) shapeCasts_S1x3520_S3520)
        (nil : FVec Ideal S_ .f32) pads_S3520_S3584_0640 h_S_) shapeCasts_S3584_S1x3584 := by
  entry_read
  rfl

theorem row_at (Y : FVec Ideal S3584 .f32) (k : Fin 3584) : shapeCast S1x3584 Y shapeCasts_S3584_S1x3584 (ix2 0 k) = Y (ix1 k) := by
  pointwise

theorem flat_at (Y : FVec Ideal S1x3520 .f32) (k : Fin 3520) : shapeCast S3520 Y shapeCasts_S1x3520_S3520 (ix1 k) = Y (ix2 0 k) := by
  pointwise

theorem mu_at (c : Dev nD) (j : Fin 3520) (k : Fin 3584) (hk : k.val = j.val) :
    V m c main_v2 (ix2 0 k) = m ((c : Thread nD τ).loc main_arg1) (ix2 0 j) := by
  rw [mu_eq]
  refine (row_at _ k).trans ?_
  refine (pad_apply_of_inside ![0] ![64] ![0] _ nil pads_S3520_S3584_0640 h_S_ (ix1 k) (ix1 j) fun a => ?_).trans ?_
  · fin_cases a
    show k.val = 0 + j.val * (0 + 1)
    omega
  · exact flat_at _ j

/-- The padding value is zero. -/
theorem nil_at (i : S_.Idx) : nil i = 0 := by
  show ((((0#32 : BitVec 32).toInt : ℤ) : ℝ) : EReal) = 0
  simp

/-- A matrix padded above and below with rows of zeros. -/
theorem padded_at {n : ℕ} (lo hi : ℕ) (x : FVec Ideal ⟨2, ![n, 1024]⟩ .f32) (h : Shape.Pads ⟨2, ![n, 1024]⟩ ![lo, 0] ![hi, 0] ![0, 0] S512x1024)
    (u : Fin 512) (j : Fin 1024) :
    pad (α := EReal) S512x1024 ![lo, 0] ![hi, 0] ![0, 0] x nil h h_S_ (ix2 u j)
      = if hu : lo ≤ u.val ∧ u.val < lo + n then x (ix2 ⟨u.val - lo, by omega⟩ j) else (0 : EReal) := by
  by_cases hu : lo ≤ u.val ∧ u.val < lo + n
  · rw [dif_pos hu]
    refine pad_apply_of_inside _ _ _ _ _ _ _ _ _ fun a => ?_
    fin_cases a
    · show u.val = lo + (u.val - lo) * (0 + 1)
      omega
    · show j.val = 0 + j.val * (0 + 1)
      omega
  · rw [dif_neg hu]
    refine (pad_apply_of_not_inside _ _ _ _ _ _ _ _ 0 fun hh => hu ?_).trans (nil_at _)
    have h1 : lo ≤ u.val := hh.1
    have h2 : (u.val - lo) / (0 + 1) < n := hh.2.2
    omega

theorem w2_eq (c : Dev nD) : V m c main_v18
    = pad (α := EReal) S512x1024 ![0, 0] ![416, 0] ![0, 0] (shapeCast S96x1024 (m ((c : Thread nD τ).loc main_arg3) : FVec Ideal S1x96x1024 .f32) shapeCasts_S1x96x1024_S96x1024)
        (nil : FVec Ideal S_ .f32) pads_S96x1024_S512x1024_04160_000 h_S_ := by
  entry_read
  rfl

theorem a2_eq (c : Dev nD) : V m c main_v21
    = pad (α := EReal) S512x1024 ![96, 0] ![320, 0] ![0, 0] (shapeCast S96x1024 (m ((c : Thread nD τ).loc main_arg5) : FVec Ideal S1x96x1024 .f32) shapeCasts_S1x96x1024_S96x1024)
        (nil : FVec Ideal S_ .f32) pads_S96x1024_S512x1024_963200_000 h_S_ := by
  entry_read
  rfl

theorem g2_eq (c : Dev nD) : V m c main_v24
    = pad (α := EReal) S512x1024 ![192, 0] ![64, 0] ![0, 0] (shapeCast S256x1024 (m ((c : Thread nD τ).loc main_arg6) : FVec Ideal S1x256x1024 .f32) shapeCasts_S1x256x1024_S256x1024)
        (nil : FVec Ideal S_ .f32) pads_S256x1024_S512x1024_192640_000 h_S_ := by
  entry_read
  rfl

/-- The rows the sequences bring, each eight times. -/
theorem before_eq (c : Dev nD) : V m c main_v34
    = shapeCast S256x3584 (broadcastInDim S32x8x3584 ![0, 2] bcast_S32x3584_S32x8x3584_0_2 (m ((c : Thread nD τ).loc main_arg10) : FVec Ideal S32x3584 .f32)) shapeCasts_S32x8x3584_S256x3584 := by
  entry_read
  rfl

theorem repeated_at (X : FVec Ideal S32x3584 .f32) (r : Fin 256) (j : Fin 3584) :
    shapeCast S256x3584 (broadcastInDim S32x8x3584 ![0, 2] bcast_S32x3584_S32x8x3584_0_2 X) shapeCasts_S32x8x3584_S256x3584 (ix2 r j)
      = X (ix2 ⟨r.val / 8, by omega⟩ j) := by
  pointwise

theorem repeat_at (c : Dev nD) (r : Fin 256) (j : Fin 3584) :
    (V m c main_v34 : FVec Ideal S256x3584 .f32) (ix2 r j) = (m ((c : Thread nD τ).loc main_arg10) : FVec Ideal S32x3584 .f32) (ix2 ⟨r.val / 8, by omega⟩ j) := by
  rw [before_eq]
  exact repeated_at _ r j

set_option maxHeartbeats 2000000 in
/-- The layer's five vectors, one to a row. -/
theorem vec_eq (c : Dev nD) : V m c main_v15
    = concatenate S8x1024 0 [⟨S1x1024, (V m c main_v9 : FVec Ideal S1x1024 .f32)⟩, ⟨S1x1024, (V m c main_v10 : FVec Ideal S1x1024 .f32)⟩,
        ⟨S1x1024, (V m c main_v11 : FVec Ideal S1x1024 .f32)⟩, ⟨S1x1024, (V m c main_v12 : FVec Ideal S1x1024 .f32)⟩,
        ⟨S1x1024, (V m c main_v13 : FVec Ideal S1x1024 .f32)⟩, ⟨S3x1024, (V m c main_v14 : FVec Ideal S3x1024 .f32)⟩] concatenates_S1x1024_S1x1024_S1x1024_S1x1024_S1x1024_S3x1024_S8x1024_d0 := by
  rfl

/-- The head of every column, as the host divides the column's number. -/
def headWord : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem headWord_at : ∀ j : Fin 1024, headWord (ix1 j) = BitVec.ofNat 32 (j.val / 64) := by
  decide +kernel

/-- The matrix of ones where two columns share a head. -/
theorem heads_eq (c : Dev nD) : V m c main_v32
    = uitofp (F := Ideal) .bf16 (cmpi .eq (broadcastInDim S1024x1024 ![0, 1] bcast_S1024x1_S1024x1024_0_1 (broadcastInDim S1024x1 ![0] bcast_S1024_S1024x1_0 headWord))
        (broadcastInDim S1024x1024 ![0, 1] bcast_S1x1024_S1024x1024_0_1 (broadcastInDim S1x1024 ![1] bcast_S1024_S1x1024_1 headWord))) := by
  entry_read
  rfl

theorem heads_at (c : Dev nD) (k j : Fin 1024) : (V m c main_v32 : FVec Ideal S1024x1024 .bf16) (ix2 k j) = if k.val / 64 = j.val / 64 then (1 : EReal) else 0 := by
  rw [heads_eq]
  pointwise [headWord_at]
  by_cases h : k.val / 64 = j.val / 64
  · rw [if_pos h, h, show IntOp.cmpi .eq (BitVec.ofNat 32 (j.val / 64)) (BitVec.ofNat 32 (j.val / 64)) = 1#1 from by simp [IntOp.cmpi]]
    show ((((1#1 : BitVec 1).toNat : ℕ) : ℝ) : EReal) = 1
    simp
  · rw [if_neg h, show IntOp.cmpi .eq (BitVec.ofNat 32 (k.val / 64)) (BitVec.ofNat 32 (j.val / 64)) = 0#1 from by
      have hne : BitVec.ofNat 32 (k.val / 64) ≠ BitVec.ofNat 32 (j.val / 64) := fun e => h (by
        have := congrArg BitVec.toNat e
        simp only [BitVec.toNat_ofNat] at this
        omega)
      simp only [IntOp.cmpi, beq_eq_false_iff_ne.mpr hne]
      rfl]
    show ((((0#1 : BitVec 1).toNat : ℕ) : ℝ) : EReal) = 0
    simp

end Cert.PrepSIdeal.Prep

end
-- ==== Proof.PrepSBlocks.lean ====
/- The blocks and the vectors a grid point of the kernel of the sample's operands of the recurrence reads. -/
module

public import proofs.«01_k».proof.Proof.PrepSHost

@[expose] public section

set_option maxRecDepth 16384

noncomputable section

namespace Cert.PrepSIdeal.Prep

open Cert.PrepSIdeal Cert.PrepSIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0] ∧ t.val < 1 :=
  (by decide +kernel : ∀ t : Fin grid0.N, _)

theorem bound (t : Fin cfg0.N) : t.val < 1 := (idx t).2.2.2.2.2.2.2.2.2.2.2.2.2.2.2.2

/-- The kernel's arguments. -/
abbrev Z (c : Dev nD) : FVec Ideal S256x3584 .f32 := m ((c : Thread nD τ).loc main_arg0)
abbrev ZP (c : Dev nD) : FVec Ideal S32x3584 .f32 := m ((c : Thread nD τ).loc main_arg10)
abbrev MU (c : Dev nD) : FVec Ideal S1x3520 .f32 := m ((c : Thread nD τ).loc main_arg1)
abbrev W0 (c : Dev nD) : FVec Ideal S1x1024 .f32 := m ((c : Thread nD τ).loc main_arg2)
abbrev W2 (c : Dev nD) : FVec Ideal S1x96x1024 .f32 := m ((c : Thread nD τ).loc main_arg3)
abbrev A0 (c : Dev nD) : FVec Ideal S1x1024 .f32 := m ((c : Thread nD τ).loc main_arg4)
abbrev A2 (c : Dev nD) : FVec Ideal S1x96x1024 .f32 := m ((c : Thread nD τ).loc main_arg5)
abbrev G2 (c : Dev nD) : FVec Ideal S1x256x1024 .f32 := m ((c : Thread nD τ).loc main_arg6)
abbrev KK (c : Dev nD) : FVec Ideal S1x1024 .f32 := m ((c : Thread nD τ).loc main_arg7)
abbrev KA (c : Dev nD) : FVec Ideal S1x1024 .f32 := m ((c : Thread nD τ).loc main_arg8)
abbrev RK (c : Dev nD) : FVec Ideal S1x16x64 .f32 := m ((c : Thread nD τ).loc main_arg9)

/-- The rows of a block. -/
theorem in_at (c : Dev nD) (t : Fin cfg0.N) (r : Fin 256) (k : Fin 3584) (i : Fin 256) (hi : i.val = t.val * 256 + r.val) :
    iblk m c 0 t (ix2 r k) = Z m c (ix2 i k) := by
  blk_point [iblk, V, idx t]

theorem before_at (c : Dev nD) (t : Fin cfg0.N) (r : Fin 256) (k : Fin 3584) (i : Fin 256) (hi : i.val = t.val * 256 + r.val) :
    iblk m c 1 t (ix2 r k) = ZP m c (ix2 ⟨i.val / 8, by omega⟩ k) := by
  refine Eq.trans ?_ (repeat_at m c i k)
  blk_simp [iblk, idx t]
  blk_ext [idx t]

theorem strength_at (c : Dev nD) (t : Fin cfg0.N) (j : Fin 3520) (k : Fin 3584) (hk : k.val = j.val) :
    iblk m c 2 t (ix2 0 k) = MU m c (ix2 0 j) := by
  refine Eq.trans ?_ (mu_at m c j k hk)
  blk_simp [iblk, idx t]
  blk_ext [idx t]

theorem share_at (c : Dev nD) (t : Fin cfg0.N) (k j : Fin 1024) :
    iblk m c 7 t (ix2 k j) = if k.val / 64 = j.val / 64 then (1 : EReal) else 0 := by
  refine Eq.trans ?_ (heads_at m c k j)
  blk_simp [iblk, idx t]
  blk_ext [idx t]

theorem plain_at (x : FVec Ideal S1x96x1024 .f32) (u : Fin 96) (j : Fin 1024) :
    shapeCast S96x1024 x shapeCasts_S1x96x1024_S96x1024 (ix2 u j) = x (ix3 0 u j) := by
  pointwise

theorem plain_gate_at (x : FVec Ideal S1x256x1024 .f32) (u : Fin 256) (j : Fin 1024) :
    shapeCast S256x1024 x shapeCasts_S1x256x1024_S256x1024 (ix2 u j) = x (ix3 0 u j) := by
  pointwise

theorem decay_at (c : Dev nD) (t : Fin cfg0.N) (u : Fin 512) (j : Fin 1024) :
    iblk m c 4 t (ix2 u j) = if hu : 0 ≤ u.val ∧ u.val < 0 + 96 then W2 m c (ix3 0 ⟨u.val - 0, by omega⟩ j) else (0 : EReal) := by
  have h : iblk m c 4 t (ix2 u j) = V m c main_v18 (ix2 u j) := by
    blk_simp [iblk, idx t]
    blk_ext [idx t]
  rw [h, w2_eq]
  refine (padded_at 0 416 _ _ u j).trans ?_
  by_cases hu : 0 ≤ u.val ∧ u.val < 0 + 96
  · rw [dif_pos hu, dif_pos hu]
    exact plain_at _ _ _
  · rw [dif_neg hu, dif_neg hu]

theorem rate_at (c : Dev nD) (t : Fin cfg0.N) (u : Fin 512) (j : Fin 1024) :
    iblk m c 5 t (ix2 u j) = if hu : 96 ≤ u.val ∧ u.val < 96 + 96 then A2 m c (ix3 0 ⟨u.val - 96, by omega⟩ j) else (0 : EReal) := by
  have h : iblk m c 5 t (ix2 u j) = V m c main_v21 (ix2 u j) := by
    blk_simp [iblk, idx t]
    blk_ext [idx t]
  rw [h, a2_eq]
  refine (padded_at 96 320 _ _ u j).trans ?_
  by_cases hu : 96 ≤ u.val ∧ u.val < 96 + 96
  · rw [dif_pos hu, dif_pos hu]
    exact plain_at _ _ _
  · rw [dif_neg hu, dif_neg hu]

theorem gate_at (c : Dev nD) (t : Fin cfg0.N) (u : Fin 512) (j : Fin 1024) :
    iblk m c 6 t (ix2 u j) = if hu : 192 ≤ u.val ∧ u.val < 192 + 256 then G2 m c (ix3 0 ⟨u.val - 192, by omega⟩ j) else (0 : EReal) := by
  have h : iblk m c 6 t (ix2 u j) = V m c main_v24 (ix2 u j) := by
    blk_simp [iblk, idx t]
    blk_ext [idx t]
  rw [h, g2_eq]
  refine (padded_at 192 64 _ _ u j).trans ?_
  by_cases hu : 192 ≤ u.val ∧ u.val < 192 + 256
  · rw [dif_pos hu, dif_pos hu]
    exact plain_gate_at _ _ _
  · rw [dif_neg hu, dif_neg hu]

theorem w0_eq (c : Dev nD) : V m c main_v9
    = shapeCast S1x1024 (shapeCast S1024 (m ((c : Thread nD τ).loc main_arg2) : FVec Ideal S1x1024 .f32) shapeCasts_S1x1024_S1024) shapeCasts_S1024_S1x1024 := by
  entry_read
  rfl

theorem a0_eq (c : Dev nD) : V m c main_v10
    = shapeCast S1x1024 (shapeCast S1024 (m ((c : Thread nD τ).loc main_arg4) : FVec Ideal S1x1024 .f32) shapeCasts_S1x1024_S1024) shapeCasts_S1024_S1x1024 := by
  entry_read
  rfl

theorem kk_eq (c : Dev nD) : V m c main_v11
    = shapeCast S1x1024 (shapeCast S1024 (m ((c : Thread nD τ).loc main_arg7) : FVec Ideal S1x1024 .f32) shapeCasts_S1x1024_S1024) shapeCasts_S1024_S1x1024 := by
  entry_read
  rfl

theorem ka_eq (c : Dev nD) : V m c main_v12
    = shapeCast S1x1024 (shapeCast S1024 (m ((c : Thread nD τ).loc main_arg8) : FVec Ideal S1x1024 .f32) shapeCasts_S1x1024_S1024) shapeCasts_S1024_S1x1024 := by
  entry_read
  rfl

theorem rk_eq (c : Dev nD) : V m c main_v13
    = shapeCast S1x1024 (shapeCast S1024 (shapeCast S16x64 (m ((c : Thread nD τ).loc main_arg9) : FVec Ideal S1x16x64 .f32) shapeCasts_S1x16x64_S16x64) shapeCasts_S16x64_S1024) shapeCasts_S1024_S1x1024 := by
  entry_read
  rfl

theorem twice_at (x : FVec Ideal S1x1024 .f32) (j : Fin 1024) :
    shapeCast S1x1024 (shapeCast S1024 x shapeCasts_S1x1024_S1024) shapeCasts_S1024_S1x1024 (ix2 0 j) = x (ix2 0 j) := by
  pointwise

theorem heads_flat_at (x : FVec Ideal S1x16x64 .f32) (j : Fin 1024) :
    shapeCast S1x1024 (shapeCast S1024 (shapeCast S16x64 x shapeCasts_S1x16x64_S16x64) shapeCasts_S16x64_S1024) shapeCasts_S1024_S1x1024 (ix2 0 j)
      = x (ix3 0 ⟨j.val / 64, by omega⟩ ⟨j.val % 64, by omega⟩) := by
  pointwise

/-- A row of eight, five of them given. -/
theorem rows_at (a b d e f : FVec Ideal S1x1024 .f32) (g : FVec Ideal S3x1024 .f32) (j : Fin 1024) (Y : FVec Ideal S8x1024 .f32)
    (hY : Y = concatenate S8x1024 0 [⟨S1x1024, a⟩, ⟨S1x1024, b⟩, ⟨S1x1024, d⟩, ⟨S1x1024, e⟩, ⟨S1x1024, f⟩, ⟨S3x1024, g⟩]
      concatenates_S1x1024_S1x1024_S1x1024_S1x1024_S1x1024_S3x1024_S8x1024_d0) :
    Y (ix2 0 j) = a (ix2 0 j) ∧ Y (ix2 1 j) = b (ix2 0 j) ∧ Y (ix2 2 j) = d (ix2 0 j) ∧ Y (ix2 3 j) = e (ix2 0 j) ∧ Y (ix2 4 j) = f (ix2 0 j) := by
  subst hY
  refine ⟨?_, ?_, ?_, ?_, ?_⟩ <;> pointwise

theorem w0_at (c : Dev nD) (t : Fin cfg0.N) (j : Fin 1024) :
    View.ld (iblk m c 3 t) (Rect.unit ![0, 0] ![1, 1024] inb_S8x1024_S1x1024_0_0) (ix2 0 j) = W0 m c (ix2 0 j) := by
  have h : View.ld (iblk m c 3 t) (Rect.unit ![0, 0] ![1, 1024] inb_S8x1024_S1x1024_0_0) (ix2 0 j) = V m c main_v15 (ix2 0 j) := by
    pointwise
    blk_simp [iblk, idx t]
    blk_ext [idx t]
  rw [h, (rows_at _ _ _ _ _ _ j _ (vec_eq m c)).1, w0_eq]
  exact twice_at _ j

theorem a0_at (c : Dev nD) (t : Fin cfg0.N) (j : Fin 1024) :
    View.ld (iblk m c 3 t) (Rect.unit ![1, 0] ![1, 1024] inb_S8x1024_S1x1024_1_0) (ix2 0 j) = A0 m c (ix2 0 j) := by
  have h : View.ld (iblk m c 3 t) (Rect.unit ![1, 0] ![1, 1024] inb_S8x1024_S1x1024_1_0) (ix2 0 j) = V m c main_v15 (ix2 1 j) := by
    pointwise
    blk_simp [iblk, idx t]
    blk_ext [idx t]
  rw [h, (rows_at _ _ _ _ _ _ j _ (vec_eq m c)).2.1, a0_eq]
  exact twice_at _ j

theorem kk_at (c : Dev nD) (t : Fin cfg0.N) (j : Fin 1024) :
    View.ld (iblk m c 3 t) (Rect.unit ![2, 0] ![1, 1024] inb_S8x1024_S1x1024_2_0) (ix2 0 j) = KK m c (ix2 0 j) := by
  have h : View.ld (iblk m c 3 t) (Rect.unit ![2, 0] ![1, 1024] inb_S8x1024_S1x1024_2_0) (ix2 0 j) = V m c main_v15 (ix2 2 j) := by
    pointwise
    blk_simp [iblk, idx t]
    blk_ext [idx t]
  rw [h, (rows_at _ _ _ _ _ _ j _ (vec_eq m c)).2.2.1, kk_eq]
  exact twice_at _ j

theorem ka_at (c : Dev nD) (t : Fin cfg0.N) (j : Fin 1024) :
    View.ld (iblk m c 3 t) (Rect.unit ![3, 0] ![1, 1024] inb_S8x1024_S1x1024_3_0) (ix2 0 j) = KA m c (ix2 0 j) := by
  have h : View.ld (iblk m c 3 t) (Rect.unit ![3, 0] ![1, 1024] inb_S8x1024_S1x1024_3_0) (ix2 0 j) = V m c main_v15 (ix2 3 j) := by
    pointwise
    blk_simp [iblk, idx t]
    blk_ext [idx t]
  rw [h, (rows_at _ _ _ _ _ _ j _ (vec_eq m c)).2.2.2.1, ka_eq]
  exact twice_at _ j

theorem rk_at (c : Dev nD) (t : Fin cfg0.N) (j : Fin 1024) :
    View.ld (iblk m c 3 t) (Rect.unit ![4, 0] ![1, 1024] inb_S8x1024_S1x1024_4_0) (ix2 0 j) = RK m c (ix3 0 ⟨j.val / 64, by omega⟩ ⟨j.val % 64, by omega⟩) := by
  have h : View.ld (iblk m c 3 t) (Rect.unit ![4, 0] ![1, 1024] inb_S8x1024_S1x1024_4_0) (ix2 0 j) = V m c main_v15 (ix2 4 j) := by
    pointwise
    blk_simp [iblk, idx t]
    blk_ext [idx t]
  rw [h, (rows_at _ _ _ _ _ _ j _ (vec_eq m c)).2.2.2.2, rk_eq]
  exact heads_flat_at _ j

end Cert.PrepSIdeal.Prep

end
-- ==== Proof.PrepSBody.lean ====
/- What the kernel of the sample's operands of the recurrence stores at a grid point, element by element. -/
module

public import proofs.«01_k».proof.Proof.Operands
public import proofs.«01_k».proof.Proof.Gen.PrepSIdeal.Frame

@[expose] public section

set_option maxRecDepth 16384

noncomputable section

namespace Cert.PrepSIdeal.Prep

open Cert.PrepSIdeal Cert.PrepSIdeal.Gen
open Idealize.ShloMosaic Idealize.ShloMosaic.TcCoe Idealize.SL.Sem

/-- A row of the block moved towards the row before it, a sequence's first towards the row the sequence brings. -/
theorem moved_at (Z B : FVec Ideal S256x3584 .f32) (M : FVec Ideal S1x3584 .f32) (r : Fin 256) (j : Fin 3584) :
    k0_pay5 (F := Ideal) Z B M (ix2 r j)
      = Z (ix2 r j) + ((if r.val % 8 = 0 then B (ix2 r j) else Z (ix2 ⟨r.val - 1, by omega⟩ j)) - Z (ix2 r j)) * M (ix2 0 j) := by
  have hc : ∀ q : Fin 256, IntOp.cmpi .eq (IntOp.remsi .vector (BitVec.ofNat 32 q.val) 8#32) 0#32 = if q.val % 8 = 0 then 1#1 else 0#1 := by decide +kernel
  pointwise [k0_pay5]
  by_cases h : r.val % 8 = 0
  · rw [if_pos h, hc r, if_pos h]
    rfl
  · have hz : (⟨(r.val + 256 - 1) % 256, Nat.mod_lt _ (by norm_num)⟩ : Fin 256) = ⟨r.val - 1, by omega⟩ := Fin.ext (by
      show (r.val + 256 - 1) % 256 = r.val - 1
      omega)
    rw [if_neg h, hc r, if_neg h, ← hz]
    rfl

/-- The decay's logarithm, of a block's rows. -/
def decayOf (a b : FVec Ideal S256x3584 .f32) (e : FVec Ideal S1x3584 .f32) (w : FVec Ideal S1x1024 .f32) (W : FVec Ideal S512x1024 .bf16) : FVec Ideal S256x1024 .f32 :=
  k0_pay18 (F := Ideal) w (k0_pay16 (F := Ideal) a b e) (k0_pay17 (F := Ideal) W)

/-- The removal key of a block's rows. -/
def unitOf (K : FVec Ideal S256x1024 .f32) (w : FVec Ideal S1x1024 .f32) (G : FVec Ideal S1024x1024 .bf16) : FVec Ideal S256x1024 .f32 :=
  k0_pay1 (F := Ideal) (k0_pay21 (F := Ideal) K w) (k0_pay24 (F := Ideal) K w G) (k0_pay25 (F := Ideal) K w G)

/-- The removal key at the learning rate. -/
def movedOf (K : FVec Ideal S256x1024 .f32) (w : FVec Ideal S1x1024 .f32) (G : FVec Ideal S1024x1024 .bf16) (A : FVec Ideal S256x1024 .f32) : FVec Ideal S256x1024 .f32 :=
  k0_pay3 (F := Ideal) A (k0_pay21 (F := Ideal) K w) (k0_pay24 (F := Ideal) K w G) (k0_pay25 (F := Ideal) K w G)

theorem decayOf_at (a b : FVec Ideal S256x3584 .f32) (e : FVec Ideal S1x3584 .f32) (w : FVec Ideal S1x1024 .f32) (W : FVec Ideal S512x1024 .bf16) (r : Fin 256) (j : Fin 1024) :
    decayOf a b e w W (ix2 r j) = Operands.decayLog (w (ix2 0 j) + ∑ u : Fin 512, Ideal.tanh (k0_pay9 (F := Ideal) a b e (ix2 r u)) * W (ix2 u j)) := by
  unfold decayOf k0_pay16
  generalize k0_pay9 (F := Ideal) a b e = L
  pointwise [k0_pay18, k0_pay17, Operands.decayLog]
  simp only [zero_sub]
  rfl

theorem pay19_at (L : FVec Ideal S256x512 .f32) (w : FVec Ideal S1x1024 .f32) (W : FVec Ideal S512x1024 .bf16) (r : Fin 256) (j : Fin 1024) :
    k0_pay19 (F := Ideal) L w W (ix2 r j) = Operands.sig (w (ix2 0 j) + ∑ u : Fin 512, L (ix2 r u) * W (ix2 u j)) := by
  pointwise [k0_pay19, Operands.sig]
  all_goals rfl

theorem pay20_at (L : FVec Ideal S256x512 .f32) (W : FVec Ideal S512x1024 .bf16) (r : Fin 256) (j : Fin 1024) :
    k0_pay20 (F := Ideal) L W (ix2 r j) = ∑ u : Fin 512, Operands.sig (L (ix2 r u)) * W (ix2 u j) := by
  pointwise [k0_pay20, Operands.sig]
  all_goals rfl

theorem unitOf_at (K : FVec Ideal S256x1024 .f32) (w : FVec Ideal S1x1024 .f32) (G : FVec Ideal S1024x1024 .bf16) (r : Fin 256) (j : Fin 1024) :
    unitOf K w G (ix2 r j) = Ideal.div (K (ix2 r j) * w (ix2 0 j))
      (max (Ideal.sqrt (∑ k, (K (ix2 r k) * w (ix2 0 k)) * (K (ix2 r k) * w (ix2 0 k)) * G (ix2 k j)
        + ∑ k, ((K (ix2 r k) * w (ix2 0 k)) * (K (ix2 r k) * w (ix2 0 k)) - (K (ix2 r k) * w (ix2 0 k)) * (K (ix2 r k) * w (ix2 0 k))) * G (ix2 k j)))
        (Ideal.ofBits .f32 0x2B8CBCCC#32)) := by
  pointwise [unitOf, k0_pay1, k0_pay21, k0_pay22, k0_pay23, k0_pay24, k0_pay25]

theorem pay2_at (K : FVec Ideal S256x1024 .f32) (w : FVec Ideal S1x1024 .f32) (A : FVec Ideal S256x1024 .f32) (r : Fin 256) (j : Fin 1024) :
    k0_pay2 (F := Ideal) K w A (ix2 r j) = K (ix2 r j) * (1 + (A (ix2 r j) - 1) * w (ix2 0 j)) := by
  pointwise [k0_pay2]

theorem movedOf_at (K : FVec Ideal S256x1024 .f32) (w : FVec Ideal S1x1024 .f32) (G : FVec Ideal S1024x1024 .bf16) (A : FVec Ideal S256x1024 .f32)
    (r : Fin 256) (j : Fin 1024) :
    movedOf K w G A (ix2 r j) = unitOf K w G (ix2 r j) * A (ix2 r j) := by
  pointwise [movedOf, unitOf, k0_pay3]

theorem pay4_at (R K V : FVec Ideal S256x1024 .f32) (w q : FVec Ideal S1x1024 .f32) (G : FVec Ideal S1024x1024 .bf16) (A : FVec Ideal S256x1024 .f32)
    (r : Fin 256) (j : Fin 1024) :
    k0_pay4 (F := Ideal) R K V w q G A (ix2 r j)
      = (∑ k, R (ix2 r k) * k0_pay2 (F := Ideal) K w A (ix2 r k) * q (ix2 0 k) * G (ix2 k j)) * V (ix2 r j) := by
  pointwise [k0_pay4]

end Cert.PrepSIdeal.Prep

end
-- ==== Proof.PrepSOuts.lean ====
/- What every grid point of the kernel of the sample's operands of the recurrence leaves in its output blocks. -/
module

public import proofs.«01_k».proof.Proof.PrepSBlocks
public import proofs.«01_k».proof.Proof.PrepSBody

@[expose] public section

set_option maxRecDepth 16384

noncomputable section

namespace Cert.PrepSIdeal.Prep

open Cert.PrepSIdeal Cert.PrepSIdeal.Gen
open Idealize.ShloMosaic Idealize.ShloMosaic.TcCoe Idealize.SL.Sem
open Idealize.ShloMosaic.Pipeline (Dat)

variable (m : (ℓ : Loc nD τ sig) → Buf (Elt Ideal) ℓ)

theorem recv_out (c : Dev nD) (t : Fin cfg0.N) : (outsAt0 m c t).1
    = k0_pay6 (iblk m c 0 t) (iblk m c 1 t) (iblk m c 2 t) := by
  unfold outsAt0
  frame_out
  try rfl

theorem decay_out (c : Dev nD) (t : Fin cfg0.N) : (outsAt0 m c t).2.1
    = decayOf (iblk m c 0 t) (iblk m c 1 t) (iblk m c 2 t) (k0_pay10 (View.ld (iblk m c 3 t) (Rect.unit ![0, 0] ![1, 1024] inb_S8x1024_S1x1024_0_0))) (iblk m c 4 t) := by
  unfold outsAt0
  frame_out
  try rfl

theorem keyIn_out (c : Dev nD) (t : Fin cfg0.N) : (outsAt0 m c t).2.2.1
    = k0_pay2 (k0_pay7 (iblk m c 0 t) (iblk m c 1 t) (iblk m c 2 t)) (k0_pay13 (View.ld (iblk m c 3 t) (Rect.unit ![3, 0] ![1, 1024] inb_S8x1024_S1x1024_3_0))) (k0_pay19 (k0_pay9 (iblk m c 0 t) (iblk m c 1 t) (iblk m c 2 t)) (k0_pay11 (View.ld (iblk m c 3 t) (Rect.unit ![1, 0] ![1, 1024] inb_S8x1024_S1x1024_1_0))) (iblk m c 5 t)) := by
  unfold outsAt0
  frame_out
  try rfl

theorem val_out (c : Dev nD) (t : Fin cfg0.N) : (outsAt0 m c t).2.2.2.1
    = k0_pay8 (iblk m c 0 t) (iblk m c 1 t) (iblk m c 2 t) := by
  unfold outsAt0
  frame_out
  try rfl

theorem unit_out (c : Dev nD) (t : Fin cfg0.N) : (outsAt0 m c t).2.2.2.2.1
    = unitOf (k0_pay7 (iblk m c 0 t) (iblk m c 1 t) (iblk m c 2 t)) (k0_pay12 (View.ld (iblk m c 3 t) (Rect.unit ![2, 0] ![1, 1024] inb_S8x1024_S1x1024_2_0))) (k0_pay15 (iblk m c 7 t)) := by
  unfold outsAt0
  frame_out
  try rfl

theorem moved_out (c : Dev nD) (t : Fin cfg0.N) : (outsAt0 m c t).2.2.2.2.2.1
    = movedOf (k0_pay7 (iblk m c 0 t) (iblk m c 1 t) (iblk m c 2 t)) (k0_pay12 (View.ld (iblk m c 3 t) (Rect.unit ![2, 0] ![1, 1024] inb_S8x1024_S1x1024_2_0))) (k0_pay15 (iblk m c 7 t)) (k0_pay19 (k0_pay9 (iblk m c 0 t) (iblk m c 1 t) (iblk m c 2 t)) (k0_pay11 (View.ld (iblk m c 3 t) (Rect.unit ![1, 0] ![1, 1024] inb_S8x1024_S1x1024_1_0))) (iblk m c 5 t)) := by
  unfold outsAt0
  frame_out
  try rfl

theorem gate_out (c : Dev nD) (t : Fin cfg0.N) : (outsAt0 m c t).2.2.2.2.2.2.1
    = k0_pay20 (k0_pay9 (iblk m c 0 t) (iblk m c 1 t) (iblk m c 2 t)) (iblk m c 6 t) := by
  unfold outsAt0
  frame_out
  try rfl

theorem bonus_out (c : Dev nD) (t : Fin cfg0.N) : (outsAt0 m c t).2.2.2.2.2.2.2
    = k0_pay4 (k0_pay6 (iblk m c 0 t) (iblk m c 1 t) (iblk m c 2 t)) (k0_pay7 (iblk m c 0 t) (iblk m c 1 t) (iblk m c 2 t)) (k0_pay8 (iblk m c 0 t) (iblk m c 1 t) (iblk m c 2 t)) (k0_pay13 (View.ld (iblk m c 3 t) (Rect.unit ![3, 0] ![1, 1024] inb_S8x1024_S1x1024_3_0))) (k0_pay14 (View.ld (iblk m c 3 t) (Rect.unit ![4, 0] ![1, 1024] inb_S8x1024_S1x1024_4_0))) (k0_pay15 (iblk m c 7 t)) (k0_pay19 (k0_pay9 (iblk m c 0 t) (iblk m c 1 t) (iblk m c 2 t)) (k0_pay11 (View.ld (iblk m c 3 t) (Rect.unit ![1, 0] ![1, 1024] inb_S8x1024_S1x1024_1_0))) (iblk m c 5 t)) := by
  unfold outsAt0
  frame_out
  try rfl

end Cert.PrepSIdeal.Prep

end
-- ==== Proof.PrepSValue.lean ====
/- The kernel of the sample's operands of the recurrence computes what its reference computes, over the extended reals, where the projected
   rows, the shift's strengths and the removal key's vector are finite. -/
module

public import proofs.«01_k».proof.Proof.PrepSRef
public import proofs.«01_k».proof.Proof.PrepSOuts

@[expose] public section

set_option maxRecDepth 16384

noncomputable section

namespace Cert.PrepSIdeal.Prep

open Cert.PrepSIdeal Cert.PrepSIdeal.Gen
open Idealize.ShloMosaic Idealize.ShloMosaic.TcCoe Idealize.SL.Sem
open Idealize.ShloMosaic.Pipeline (Dat)

variable (m : (ℓ : Loc nD τ sig) → Buf (Elt Ideal) ℓ)

/-- A column of the block's moved rows. -/
theorem mixed_at (c : Dev nD) (t : Fin cfg0.N) (r : Fin 256) (i : Fin 256) (hi : i.val = t.val * 256 + r.val) (j : Fin 3520) (k : Fin 3584)
    (hk : k.val = j.val) :
    k0_pay5 (F := Ideal) (iblk m c 0 t) (iblk m c 1 t) (iblk m c 2 t) (ix2 r k) = OperandsS.mixed (Z m c) (ZP m c) (MU m c) i j := by
  have hlt : j.val < 3584 := by omega
  have e : k = ⟨j.val, hlt⟩ := Fin.ext hk
  rw [e]
  clear e hk k
  have ht := bound t
  have hb : (if r.val % 8 = 0 then iblk m c 1 t (ix2 r ⟨j.val, by omega⟩) else iblk m c 0 t (ix2 ⟨r.val - 1, by omega⟩ ⟨j.val, by omega⟩))
      = OperandsS.prev (Z m c) (ZP m c) i ⟨j.val, by omega⟩ := by
    unfold OperandsS.prev
    by_cases hr : r.val % 8 = 0
    · rw [if_pos hr, if_pos (by omega)]
      exact before_at m c t r _ i hi
    · rw [if_neg hr, if_neg (by omega)]
      exact in_at m c t _ _ ⟨i.val - 1, by omega⟩ (by
        show i.val - 1 = t.val * 256 + (r.val - 1)
        omega)
  refine (moved_at _ _ _ r _).trans ?_
  rw [hb, strength_at m c t j ⟨j.val, by omega⟩ rfl, in_at m c t r _ i hi]
  rfl

theorem recv_cols (a b : FVec Ideal S256x3584 .f32) (e : FVec Ideal S1x3584 .f32) (r : Fin 256) (j : Fin 1024) :
    k0_pay6 (F := Ideal) a b e (ix2 r j) = k0_pay5 (F := Ideal) a b e (ix2 r ⟨j.val, by omega⟩) := by
  pointwise [k0_pay6, k0_pay5]

theorem key_cols (a b : FVec Ideal S256x3584 .f32) (e : FVec Ideal S1x3584 .f32) (r : Fin 256) (j : Fin 1024) :
    k0_pay7 (F := Ideal) a b e (ix2 r j) = k0_pay5 (F := Ideal) a b e (ix2 r ⟨1024 + j.val, by omega⟩) := by
  pointwise [k0_pay7, k0_pay5]

theorem val_cols (a b : FVec Ideal S256x3584 .f32) (e : FVec Ideal S1x3584 .f32) (r : Fin 256) (j : Fin 1024) :
    k0_pay8 (F := Ideal) a b e (ix2 r j) = k0_pay5 (F := Ideal) a b e (ix2 r ⟨2048 + j.val, by omega⟩) := by
  pointwise [k0_pay8, k0_pay5]

theorem low_cols (a b : FVec Ideal S256x3584 .f32) (e : FVec Ideal S1x3584 .f32) (r : Fin 256) (j : Fin 512) :
    k0_pay9 (F := Ideal) a b e (ix2 r j) = k0_pay5 (F := Ideal) a b e (ix2 r ⟨3072 + j.val, by omega⟩) := by
  pointwise [k0_pay9, k0_pay5]

theorem recv_eq (c : Dev nD) (t : Fin cfg0.N) (r : Fin 256) (i : Fin 256) (hi : i.val = t.val * 256 + r.val) (j : Fin 1024) :
    k0_pay6 (F := Ideal) (iblk m c 0 t) (iblk m c 1 t) (iblk m c 2 t) (ix2 r j) = OperandsS.recv (Z m c) (ZP m c) (MU m c) i j :=
  (recv_cols _ _ _ r j).trans (mixed_at m c t r i hi ⟨j.val, by omega⟩ _ rfl)

theorem key_eq (c : Dev nD) (t : Fin cfg0.N) (r : Fin 256) (i : Fin 256) (hi : i.val = t.val * 256 + r.val) (j : Fin 1024) :
    k0_pay7 (F := Ideal) (iblk m c 0 t) (iblk m c 1 t) (iblk m c 2 t) (ix2 r j) = OperandsS.key (Z m c) (ZP m c) (MU m c) i j :=
  (key_cols _ _ _ r j).trans (mixed_at m c t r i hi ⟨1024 + j.val, by omega⟩ _ rfl)

theorem val_eq (c : Dev nD) (t : Fin cfg0.N) (r : Fin 256) (i : Fin 256) (hi : i.val = t.val * 256 + r.val) (j : Fin 1024) :
    k0_pay8 (F := Ideal) (iblk m c 0 t) (iblk m c 1 t) (iblk m c 2 t) (ix2 r j) = OperandsS.val (Z m c) (ZP m c) (MU m c) i j :=
  (val_cols _ _ _ r j).trans (mixed_at m c t r i hi ⟨2048 + j.val, by omega⟩ _ rfl)

theorem low_eq (c : Dev nD) (t : Fin cfg0.N) (r : Fin 256) (i : Fin 256) (hi : i.val = t.val * 256 + r.val) (u : Fin 512) (j : Fin 3520)
    (hj : j.val = 3072 + u.val) :
    k0_pay9 (F := Ideal) (iblk m c 0 t) (iblk m c 1 t) (iblk m c 2 t) (ix2 r u) = OperandsS.mixed (Z m c) (ZP m c) (MU m c) i j :=
  (low_cols _ _ _ r u).trans (mixed_at m c t r i hi j _ hj.symm)

theorem same10 (x : FVec Ideal S1x1024 .f32) (j : Fin 1024) : k0_pay10 (F := Ideal) x (ix2 0 j) = x (ix2 0 j) := by pointwise [k0_pay10]
theorem same11 (x : FVec Ideal S1x1024 .f32) (j : Fin 1024) : k0_pay11 (F := Ideal) x (ix2 0 j) = x (ix2 0 j) := by pointwise [k0_pay11]
theorem same12 (x : FVec Ideal S1x1024 .f32) (j : Fin 1024) : k0_pay12 (F := Ideal) x (ix2 0 j) = x (ix2 0 j) := by pointwise [k0_pay12]
theorem same13 (x : FVec Ideal S1x1024 .f32) (j : Fin 1024) : k0_pay13 (F := Ideal) x (ix2 0 j) = x (ix2 0 j) := by pointwise [k0_pay13]
theorem same14 (x : FVec Ideal S1x1024 .f32) (j : Fin 1024) : k0_pay14 (F := Ideal) x (ix2 0 j) = x (ix2 0 j) := by pointwise [k0_pay14]
theorem same15 (x : FVec Ideal S1024x1024 .bf16) (k j : Fin 1024) : k0_pay15 (F := Ideal) x (ix2 k j) = x (ix2 k j) := by pointwise [k0_pay15]

/-- The decay's logarithm. -/
theorem decay_eq (c : Dev nD) (t : Fin cfg0.N) (r : Fin 256) (i : Fin 256) (hi : i.val = t.val * 256 + r.val) (j : Fin 1024) :
    decayOf (iblk m c 0 t) (iblk m c 1 t) (iblk m c 2 t) (k0_pay10 (F := Ideal) (View.ld (iblk m c 3 t) (Rect.unit ![0, 0] ![1, 1024] inb_S8x1024_S1x1024_0_0))) (iblk m c 4 t) (ix2 r j) = Operands.decayLog (OperandsS.decayArg (Z m c) (ZP m c) (MU m c) (W0 m c) (W2 m c) i j) := by
  refine (decayOf_at _ _ _ _ _ r j).trans ?_
  rw [same10, w0_at m c t j]
  refine congrArg Operands.decayLog (congrArg (W0 m c (ix2 0 j) + ·) ?_)
  refine Operands.sum_padded 0 (by norm_num) _ _ (fun u hu => ?_) fun u => ?_
  · rw [decay_at m c t u j, dif_neg hu, mul_zero]
  · rw [decay_at m c t _ j, dif_pos ⟨by omega, by show 0 + u.val < 0 + 96; omega⟩,
      low_eq m c t r i hi _ ⟨3072 + u.val, by omega⟩ (by show 3072 + u.val = 3072 + (0 + u.val); omega)]
    refine congrArg (_ * ·) (congrArg (W2 m c) (congrArg (fun q : Fin 96 => (ix3 0 q j : S1x96x1024.Idx)) (Fin.ext ?_)))
    show 0 + u.val - 0 = u.val
    omega

/-- The learning rate. -/
theorem rate_eq (c : Dev nD) (t : Fin cfg0.N) (r : Fin 256) (i : Fin 256) (hi : i.val = t.val * 256 + r.val) (j : Fin 1024) :
    k0_pay19 (F := Ideal) (k0_pay9 (F := Ideal) (iblk m c 0 t) (iblk m c 1 t) (iblk m c 2 t)) (k0_pay11 (F := Ideal) (View.ld (iblk m c 3 t) (Rect.unit ![1, 0] ![1, 1024] inb_S8x1024_S1x1024_1_0))) (iblk m c 5 t) (ix2 r j) = OperandsS.rate (Z m c) (ZP m c) (MU m c) (A0 m c) (A2 m c) i j := by
  refine (pay19_at _ _ _ r j).trans ?_
  rw [same11, a0_at m c t j]
  refine congrArg Operands.sig (congrArg (A0 m c (ix2 0 j) + ·) ?_)
  refine Operands.sum_padded 96 (by norm_num) _ _ (fun u hu => ?_) fun u => ?_
  · rw [rate_at m c t u j, dif_neg hu, mul_zero]
  · rw [rate_at m c t _ j, dif_pos ⟨by show 96 ≤ 96 + u.val; omega, by show 96 + u.val < 96 + 96; omega⟩,
      low_eq m c t r i hi _ ⟨3168 + u.val, by omega⟩ (by show 3168 + u.val = 3072 + (96 + u.val); omega)]
    refine congrArg (_ * ·) (congrArg (A2 m c) (congrArg (fun q : Fin 96 => (ix3 0 q j : S1x96x1024.Idx)) (Fin.ext ?_)))
    show 96 + u.val - 96 = u.val
    omega

/-- The output's gate. -/
theorem gate_eq (c : Dev nD) (t : Fin cfg0.N) (r : Fin 256) (i : Fin 256) (hi : i.val = t.val * 256 + r.val) (j : Fin 1024) :
    k0_pay20 (F := Ideal) (k0_pay9 (F := Ideal) (iblk m c 0 t) (iblk m c 1 t) (iblk m c 2 t)) (iblk m c 6 t) (ix2 r j) = OperandsS.gate (Z m c) (ZP m c) (MU m c) (G2 m c) i j := by
  refine (pay20_at _ _ r j).trans ?_
  unfold OperandsS.gate
  refine Operands.sum_padded 192 (by norm_num) _ _ (fun u hu => ?_) fun u => ?_
  · rw [gate_at m c t u j, dif_neg hu, mul_zero]
  · rw [gate_at m c t _ j, dif_pos ⟨by show 192 ≤ 192 + u.val; omega, by show 192 + u.val < 192 + 256; omega⟩,
      low_eq m c t r i hi _ ⟨3264 + u.val, by omega⟩ (by show 3264 + u.val = 3072 + (192 + u.val); omega)]
    refine congrArg (_ * ·) (congrArg (G2 m c) (congrArg (fun q : Fin 256 => (ix3 0 q j : S1x256x1024.Idx)) (Fin.ext ?_)))
    show 192 + u.val - 192 = u.val
    omega

/-- The key written into the state. -/
theorem keyIn_eq (c : Dev nD) (t : Fin cfg0.N) (r : Fin 256) (i : Fin 256) (hi : i.val = t.val * 256 + r.val) (j : Fin 1024) :
    k0_pay2 (F := Ideal) (k0_pay7 (F := Ideal) (iblk m c 0 t) (iblk m c 1 t) (iblk m c 2 t)) (k0_pay13 (F := Ideal) (View.ld (iblk m c 3 t) (Rect.unit ![3, 0] ![1, 1024] inb_S8x1024_S1x1024_3_0))) (k0_pay19 (F := Ideal) (k0_pay9 (F := Ideal) (iblk m c 0 t) (iblk m c 1 t) (iblk m c 2 t)) (k0_pay11 (F := Ideal) (View.ld (iblk m c 3 t) (Rect.unit ![1, 0] ![1, 1024] inb_S8x1024_S1x1024_1_0))) (iblk m c 5 t)) (ix2 r j) = OperandsS.keyIn (Z m c) (ZP m c) (MU m c) (A0 m c) (A2 m c) (KA m c) i j := by
  refine (pay2_at _ _ _ r j).trans ?_
  rw [same13, ka_at m c t j, rate_eq m c t r i hi j, key_eq m c t r i hi j]
  rfl

/-- The removal key, of length one in every head, where the products before it are finite. -/
theorem unit_eq (c : Dev nD) (hf : ∀ i j, ∃ x : ℝ, OperandsS.removal (Z m c) (ZP m c) (MU m c) (KK m c) i j = (x : EReal))
    (t : Fin cfg0.N) (r : Fin 256) (i : Fin 256) (hi : i.val = t.val * 256 + r.val) (j : Fin 1024) :
    unitOf (k0_pay7 (F := Ideal) (iblk m c 0 t) (iblk m c 1 t) (iblk m c 2 t)) (k0_pay12 (F := Ideal) (View.ld (iblk m c 3 t) (Rect.unit ![2, 0] ![1, 1024] inb_S8x1024_S1x1024_2_0))) (k0_pay15 (F := Ideal) (iblk m c 7 t)) (ix2 r j) = OperandsS.unitKey (Z m c) (ZP m c) (MU m c) (KK m c) i j := by
  refine (unitOf_at _ _ _ r j).trans ?_
  have hp : ∀ k, k0_pay7 (F := Ideal) (iblk m c 0 t) (iblk m c 1 t) (iblk m c 2 t) (ix2 r k) * k0_pay12 (F := Ideal) (View.ld (iblk m c 3 t) (Rect.unit ![2, 0] ![1, 1024] inb_S8x1024_S1x1024_2_0)) (ix2 0 k) = OperandsS.removal (Z m c) (ZP m c) (MU m c) (KK m c) i k := fun k => by
    rw [same12, kk_at m c t k, key_eq m c t r i hi k]
    rfl
  have hz : ∀ k, OperandsS.removal (Z m c) (ZP m c) (MU m c) (KK m c) i k * OperandsS.removal (Z m c) (ZP m c) (MU m c) (KK m c) i k
      - OperandsS.removal (Z m c) (ZP m c) (MU m c) (KK m c) i k * OperandsS.removal (Z m c) (ZP m c) (MU m c) (KK m c) i k = 0 := fun k => by
    obtain ⟨x, hx⟩ := hf i k
    rw [hx, ← EReal.coe_mul, ← EReal.coe_sub, sub_self, EReal.coe_zero]
  simp only [hp, hz, zero_mul, Finset.sum_const_zero, add_zero, same15, share_at m c t]
  unfold OperandsS.unitKey
  rw [← Operands.sum_head]

/-- The token's own contribution. -/
theorem bonus_eq (c : Dev nD) (t : Fin cfg0.N) (r : Fin 256) (i : Fin 256) (hi : i.val = t.val * 256 + r.val) (j : Fin 1024) :
    k0_pay4 (F := Ideal) (k0_pay6 (F := Ideal) (iblk m c 0 t) (iblk m c 1 t) (iblk m c 2 t)) (k0_pay7 (F := Ideal) (iblk m c 0 t) (iblk m c 1 t) (iblk m c 2 t)) (k0_pay8 (F := Ideal) (iblk m c 0 t) (iblk m c 1 t) (iblk m c 2 t)) (k0_pay13 (F := Ideal) (View.ld (iblk m c 3 t) (Rect.unit ![3, 0] ![1, 1024] inb_S8x1024_S1x1024_3_0))) (k0_pay14 (F := Ideal) (View.ld (iblk m c 3 t) (Rect.unit ![4, 0] ![1, 1024] inb_S8x1024_S1x1024_4_0))) (k0_pay15 (F := Ideal) (iblk m c 7 t)) (k0_pay19 (F := Ideal) (k0_pay9 (F := Ideal) (iblk m c 0 t) (iblk m c 1 t) (iblk m c 2 t)) (k0_pay11 (F := Ideal) (View.ld (iblk m c 3 t) (Rect.unit ![1, 0] ![1, 1024] inb_S8x1024_S1x1024_1_0))) (iblk m c 5 t)) (ix2 r j) = OperandsS.bonus (Z m c) (ZP m c) (MU m c) (A0 m c) (A2 m c) (KA m c) (RK m c) i j := by
  refine (pay4_at _ _ _ _ _ _ _ r j).trans ?_
  unfold OperandsS.bonus
  rw [← Operands.sum_head, val_eq m c t r i hi j]
  refine congrArg (· * OperandsS.val (Z m c) (ZP m c) (MU m c) i j) ?_
  refine Fin.sum_fin_congr fun k => ?_
  rw [same14, same15, rk_at m c t k, share_at m c t k j, keyIn_eq m c t r i hi k, recv_eq m c t r i hi k]

/-- A sum, a difference and a product of reals are real. -/
theorem removal_real (c : Dev nD) (hZ : ∀ i j, ∃ x : ℝ, Z m c (ix2 i j) = (x : EReal)) (hP : ∀ i j, ∃ x : ℝ, ZP m c (ix2 i j) = (x : EReal)) (hM : ∀ j, ∃ x : ℝ, MU m c (ix2 0 j) = (x : EReal))
    (hK : ∀ j, ∃ x : ℝ, KK m c (ix2 0 j) = (x : EReal)) (i : Fin 256) (j : Fin 1024) :
    ∃ x : ℝ, OperandsS.removal (Z m c) (ZP m c) (MU m c) (KK m c) i j = (x : EReal) := by
  have hp : ∀ k, ∃ x : ℝ, OperandsS.prev (Z m c) (ZP m c) i k = (x : EReal) := fun k => by
    unfold OperandsS.prev
    by_cases h : i.val % 8 = 0
    · rw [if_pos h]
      exact hP _ _
    · rw [if_neg h]
      exact hZ _ _
  obtain ⟨p, hp⟩ := hp ⟨1024 + j.val, by omega⟩
  obtain ⟨z, hz⟩ := hZ i ⟨1024 + j.val, by omega⟩
  obtain ⟨u, hu⟩ := hM ⟨1024 + j.val, by omega⟩
  obtain ⟨w, hw⟩ := hK j
  refine ⟨(z + (p - z) * u) * w, ?_⟩
  unfold OperandsS.removal OperandsS.key OperandsS.mixed
  rw [EReal.coe_mul, EReal.coe_add, EReal.coe_mul, EReal.coe_sub, ← hw, ← hu]
  exact congrArg₂ (· * ·) (congrArg₂ (· + ·) hz (congrArg₂ (· * ·) (congrArg₂ (· - ·) hp hz) rfl)) rfl

/-- The array of the receptance. -/
theorem recv_final (c : Dev nD) : (dats m 0 c).arrAt 8 cfg0.N = Cert.PrepSRefIdeal.Value.r (Z m c) (ZP m c) (MU m c) := by
  refine (dats m 0 c).arrAt_eq_of_covers 8 _ (by decide +kernel) fun t hf' y => ?_
  blk_simp
  rw [after0_8, recv_out m c t]
  obtain ⟨r, j, rfl⟩ : ∃ (r : Fin 256) (j : Fin 1024), y = ix2 r j := ⟨y 0, y 1, eq_ix2 y⟩
  have ht : t.val < 1 := bound t
  have he : ((View.whole main_v35_0).slice (win0_8.rect t)).emb (ix2 r j) = (ix2 ⟨t.val * 256 + r.val, by omega⟩ j : S256x1024.Idx) := by
    blk_ext [idx t]
  refine Eq.trans ?_ (congrArg (Cert.PrepSRefIdeal.Value.r (Z m c) (ZP m c) (MU m c) : FVec Ideal S256x1024 .f32) he).symm
  refine Eq.trans (recv_eq m c t r ⟨t.val * 256 + r.val, by omega⟩ rfl j) ?_
  exact (Cert.PrepSRefIdeal.Value.r_at _ _ _ _ _).symm

/-- The array of the decay's logarithm. -/
theorem decay_final (c : Dev nD) : (dats m 0 c).arrAt 9 cfg0.N = Cert.PrepSRefIdeal.Value.lw (Z m c) (ZP m c) (MU m c) (W0 m c) (W2 m c) := by
  refine (dats m 0 c).arrAt_eq_of_covers 9 _ (by decide +kernel) fun t hf' y => ?_
  blk_simp
  rw [after0_9, decay_out m c t]
  obtain ⟨r, j, rfl⟩ : ∃ (r : Fin 256) (j : Fin 1024), y = ix2 r j := ⟨y 0, y 1, eq_ix2 y⟩
  have ht : t.val < 1 := bound t
  have he : ((View.whole main_v35_1).slice (win0_9.rect t)).emb (ix2 r j) = (ix2 ⟨t.val * 256 + r.val, by omega⟩ j : S256x1024.Idx) := by
    blk_ext [idx t]
  refine Eq.trans ?_ (congrArg (Cert.PrepSRefIdeal.Value.lw (Z m c) (ZP m c) (MU m c) (W0 m c) (W2 m c) : FVec Ideal S256x1024 .f32) he).symm
  refine Eq.trans (decay_eq m c t r ⟨t.val * 256 + r.val, by omega⟩ rfl j) ?_
  exact (Cert.PrepSRefIdeal.Value.lw_at _ _ _ _ _ _ _).symm

/-- The array of the key written into the state. -/
theorem keyIn_final (c : Dev nD) : (dats m 0 c).arrAt 10 cfg0.N = Cert.PrepSRefIdeal.Value.kh (Z m c) (ZP m c) (MU m c) (A0 m c) (KA m c) (A2 m c) := by
  refine (dats m 0 c).arrAt_eq_of_covers 10 _ (by decide +kernel) fun t hf' y => ?_
  blk_simp
  rw [after0_10, keyIn_out m c t]
  obtain ⟨r, j, rfl⟩ : ∃ (r : Fin 256) (j : Fin 1024), y = ix2 r j := ⟨y 0, y 1, eq_ix2 y⟩
  have ht : t.val < 1 := bound t
  have he : ((View.whole main_v35_2).slice (win0_10.rect t)).emb (ix2 r j) = (ix2 ⟨t.val * 256 + r.val, by omega⟩ j : S256x1024.Idx) := by
    blk_ext [idx t]
  refine Eq.trans ?_ (congrArg (Cert.PrepSRefIdeal.Value.kh (Z m c) (ZP m c) (MU m c) (A0 m c) (KA m c) (A2 m c) : FVec Ideal S256x1024 .f32) he).symm
  refine Eq.trans (keyIn_eq m c t r ⟨t.val * 256 + r.val, by omega⟩ rfl j) ?_
  exact (Cert.PrepSRefIdeal.Value.kh_at _ _ _ _ _ _ _ _).symm

/-- The array of the value. -/
theorem val_final (c : Dev nD) : (dats m 0 c).arrAt 11 cfg0.N = Cert.PrepSRefIdeal.Value.v (Z m c) (ZP m c) (MU m c) := by
  refine (dats m 0 c).arrAt_eq_of_covers 11 _ (by decide +kernel) fun t hf' y => ?_
  blk_simp
  rw [after0_11, val_out m c t]
  obtain ⟨r, j, rfl⟩ : ∃ (r : Fin 256) (j : Fin 1024), y = ix2 r j := ⟨y 0, y 1, eq_ix2 y⟩
  have ht : t.val < 1 := bound t
  have he : ((View.whole main_v35_3).slice (win0_11.rect t)).emb (ix2 r j) = (ix2 ⟨t.val * 256 + r.val, by omega⟩ j : S256x1024.Idx) := by
    blk_ext [idx t]
  refine Eq.trans ?_ (congrArg (Cert.PrepSRefIdeal.Value.v (Z m c) (ZP m c) (MU m c) : FVec Ideal S256x1024 .f32) he).symm
  refine Eq.trans (val_eq m c t r ⟨t.val * 256 + r.val, by omega⟩ rfl j) ?_
  exact (Cert.PrepSRefIdeal.Value.v_at _ _ _ _ _).symm

/-- The array of the removal key. -/
theorem unit_final (c : Dev nD) (hf : ∀ i j, ∃ x : ℝ, OperandsS.removal (Z m c) (ZP m c) (MU m c) (KK m c) i j = (x : EReal)) : (dats m 0 c).arrAt 12 cfg0.N = Cert.PrepSRefIdeal.Value.kk (Z m c) (ZP m c) (MU m c) (KK m c) := by
  refine (dats m 0 c).arrAt_eq_of_covers 12 _ (by decide +kernel) fun t hf' y => ?_
  blk_simp
  rw [after0_12, unit_out m c t]
  obtain ⟨r, j, rfl⟩ : ∃ (r : Fin 256) (j : Fin 1024), y = ix2 r j := ⟨y 0, y 1, eq_ix2 y⟩
  have ht : t.val < 1 := bound t
  have he : ((View.whole main_v35_4).slice (win0_12.rect t)).emb (ix2 r j) = (ix2 ⟨t.val * 256 + r.val, by omega⟩ j : S256x1024.Idx) := by
    blk_ext [idx t]
  refine Eq.trans ?_ (congrArg (Cert.PrepSRefIdeal.Value.kk (Z m c) (ZP m c) (MU m c) (KK m c) : FVec Ideal S256x1024 .f32) he).symm
  refine Eq.trans (unit_eq m c hf t r ⟨t.val * 256 + r.val, by omega⟩ rfl j) ?_
  exact (Cert.PrepSRefIdeal.Value.kk_at _ _ _ _ _ _).symm

/-- The array of the removal key at the learning rate. -/
theorem moved_final (c : Dev nD) (hf : ∀ i j, ∃ x : ℝ, OperandsS.removal (Z m c) (ZP m c) (MU m c) (KK m c) i j = (x : EReal)) : (dats m 0 c).arrAt 13 cfg0.N = mulf (Cert.PrepSRefIdeal.Value.kk (Z m c) (ZP m c) (MU m c) (KK m c)) (Cert.PrepSRefIdeal.Value.a (Z m c) (ZP m c) (MU m c) (A0 m c) (A2 m c)) := by
  refine (dats m 0 c).arrAt_eq_of_covers 13 _ (by decide +kernel) fun t hf' y => ?_
  blk_simp
  rw [after0_13, moved_out m c t]
  obtain ⟨r, j, rfl⟩ : ∃ (r : Fin 256) (j : Fin 1024), y = ix2 r j := ⟨y 0, y 1, eq_ix2 y⟩
  have ht : t.val < 1 := bound t
  have he : ((View.whole main_v35_5).slice (win0_13.rect t)).emb (ix2 r j) = (ix2 ⟨t.val * 256 + r.val, by omega⟩ j : S256x1024.Idx) := by
    blk_ext [idx t]
  refine Eq.trans ?_ (congrArg (mulf (Cert.PrepSRefIdeal.Value.kk (Z m c) (ZP m c) (MU m c) (KK m c)) (Cert.PrepSRefIdeal.Value.a (Z m c) (ZP m c) (MU m c) (A0 m c) (A2 m c)) : FVec Ideal S256x1024 .f32) he).symm
  refine Eq.trans ((movedOf_at _ _ _ _ r j)) ?_
  refine Eq.trans (congrArg₂ (· * ·) (unit_eq m c hf t r ⟨t.val * 256 + r.val, by omega⟩ rfl j) (rate_eq m c t r ⟨t.val * 256 + r.val, by omega⟩ rfl j)) ?_
  exact congrArg₂ (· * ·) (Cert.PrepSRefIdeal.Value.kk_at _ _ _ _ _ _).symm (Cert.PrepSRefIdeal.Value.a_at _ _ _ _ _ _ _).symm

/-- The array of the gate. -/
theorem gate_final (c : Dev nD) : (dats m 0 c).arrAt 14 cfg0.N = Cert.PrepSRefIdeal.Value.g (Z m c) (ZP m c) (MU m c) (G2 m c) := by
  refine (dats m 0 c).arrAt_eq_of_covers 14 _ (by decide +kernel) fun t hf' y => ?_
  blk_simp
  rw [after0_14, gate_out m c t]
  obtain ⟨r, j, rfl⟩ : ∃ (r : Fin 256) (j : Fin 1024), y = ix2 r j := ⟨y 0, y 1, eq_ix2 y⟩
  have ht : t.val < 1 := bound t
  have he : ((View.whole main_v35_6).slice (win0_14.rect t)).emb (ix2 r j) = (ix2 ⟨t.val * 256 + r.val, by omega⟩ j : S256x1024.Idx) := by
    blk_ext [idx t]
  refine Eq.trans ?_ (congrArg (Cert.PrepSRefIdeal.Value.g (Z m c) (ZP m c) (MU m c) (G2 m c) : FVec Ideal S256x1024 .f32) he).symm
  refine Eq.trans (gate_eq m c t r ⟨t.val * 256 + r.val, by omega⟩ rfl j) ?_
  exact (Cert.PrepSRefIdeal.Value.g_at _ _ _ _ _ _).symm

/-- The array of the token's own contribution. -/
theorem bonus_final (c : Dev nD) : (dats m 0 c).arrAt 15 cfg0.N = Cert.PrepSRefIdeal.Value.bonus (Z m c) (ZP m c) (MU m c) (A0 m c) (KA m c) (A2 m c) (RK m c) := by
  refine (dats m 0 c).arrAt_eq_of_covers 15 _ (by decide +kernel) fun t hf' y => ?_
  blk_simp
  rw [after0_15, bonus_out m c t]
  obtain ⟨r, j, rfl⟩ : ∃ (r : Fin 256) (j : Fin 1024), y = ix2 r j := ⟨y 0, y 1, eq_ix2 y⟩
  have ht : t.val < 1 := bound t
  have he : ((View.whole main_v35_7).slice (win0_15.rect t)).emb (ix2 r j) = (ix2 ⟨t.val * 256 + r.val, by omega⟩ j : S256x1024.Idx) := by
    blk_ext [idx t]
  refine Eq.trans ?_ (congrArg (Cert.PrepSRefIdeal.Value.bonus (Z m c) (ZP m c) (MU m c) (A0 m c) (KA m c) (A2 m c) (RK m c) : FVec Ideal S256x1024 .f32) he).symm
  refine Eq.trans (bonus_eq m c t r ⟨t.val * 256 + r.val, by omega⟩ rfl j) ?_
  exact (Cert.PrepSRefIdeal.Value.bonus_at _ _ _ _ _ _ _ _ _).symm

end Cert.PrepSIdeal.Prep

end
-- ==== Proof.PrepSFinite.lean ====
/- What the precondition of the sample's operands says: the projected rows, the rows before the sequences' first, the
   shift's strengths and the removal key's vector are real numbers. -/
module

public import proofs.«01_k».proof.Pre_prep_sample_finite
public import proofs.«01_k».proof.Proof.PrepFinite
public import Idealize.ShloMosaic.Lib.ReduceAll

@[expose] public section

set_option maxRecDepth 16384

noncomputable section

namespace Cert.Pre_prep_sample_finite

open Idealize.ShloMosaic
open Cert.Pre_prep_finite (real_of_below both_one)

theorem facts : Facts where
  bcast_S_S256x3584 := by decide
  reducesTo_S256x3584_S_d0_1 := by decide
  h_S_ := by decide
  bcast_S_S1x3520 := by decide
  reducesTo_S1x3520_S_d0_1 := by decide
  bcast_S_S1x1024 := by decide
  reducesTo_S1x1024_S_d0_1 := by decide
  bcast_S_S32x3584 := by decide
  reducesTo_S32x3584_S_d0_1 := by decide

instance : Facts := facts

theorem real (X0 : FVec Ideal S256x3584 .f32) (X1 : FVec Ideal S1x3520 .f32) (X2 X4 X7 X8 : FVec Ideal S1x1024 .f32)
    (X3 X5 : FVec Ideal S1x96x1024 .f32) (X6 : FVec Ideal S1x256x1024 .f32) (X9 : FVec Ideal S1x16x64 .f32) (X10 : FVec Ideal S32x3584 .f32)
    (h : fn (F := Ideal) X0 X1 X2 X3 X4 X5 X6 X7 X8 X9 X10 = fun _ => 1#1) :
    (∀ i, ∃ a : ℝ, X0 i = (a : EReal)) ∧ (∀ i, ∃ a : ℝ, X1 i = (a : EReal)) ∧ (∀ i, ∃ a : ℝ, X7 i = (a : EReal)) ∧
      ∀ i, ∃ a : ℝ, X10 i = (a : EReal) := by
  have h0 := congrFun h (Shape.Idx.first Facts.h_S_)
  obtain ⟨h1, h10⟩ := both_one _ _ h0
  obtain ⟨h1, h7⟩ := both_one _ _ h1
  obtain ⟨h0, h1⟩ := both_one _ _ h1
  haveI : Subsingleton S_.Idx := ⟨fun a b => funext fun k => k.elim0⟩
  exact ⟨fun i => real_of_below _ (Host.reduce_andi_all _ _ _ _ _ h0 i), fun i => real_of_below _ (Host.reduce_andi_all _ _ _ _ _ h1 i),
    fun i => real_of_below _ (Host.reduce_andi_all _ _ _ _ _ h7 i),
    fun i => real_of_below _ (Host.reduce_andi_all _ _ _ _ _ h10 i)⟩

end Cert.Pre_prep_sample_finite

end
-- ==== Proof.ProjShiftValue.lean ====
/- The projection of the row before the sample's first computes what its reference computes, over the extended reals: the row is kept
   in a scratch buffer, and each grid point multiplies it by 512 columns of the weights. -/
module

public import proofs.«01_k».proof.Proof.Gen.ProjShiftIdeal.Frame
public import proofs.«01_k».proof.Proof.Gen.ProjShiftRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjShiftRefIdeal.Value

open Cert.ProjShiftRefIdeal Cert.ProjShiftRefIdeal.Gen
open Idealize.ShloMosaic Idealize.ShloMosaic.TcCoe

/-- The rows times the recurrence's columns of the weights. -/
def proj (x : FVec Ideal S1x32x2048 .f32) (w : FVec Ideal S1x2048x10688 .f32) : FVec Ideal S32x3584 .f32 :=
  Host.dotGeneral dot_S32x2048_S2048x3584_S32x3584_1_0_0_1_n_n none (shapeCast _ x shapeCasts_S1x32x2048_S32x2048)
    (extractStridedSlice S2048x3584 ![0, 3072] (shapeCast _ w shapeCasts_S1x2048x10688_S2048x10688) slices_S2048x10688_S2048x3584_0_3072)

theorem proj_at (x : FVec Ideal S1x32x2048 .f32) (w : FVec Ideal S1x2048x10688 .f32) (i : Fin 32) (j : Fin 3584) (l : Fin 10688)
    (hl : l.val = 3072 + j.val) : proj x w (ix2 i j) = ∑ k : Fin 2048, x (ix3 0 i k) * w (ix3 0 k l) := by
  obtain rfl : l = ⟨3072 + j.val, lt_of_lt_of_le (Nat.add_lt_add_left j.isLt 3072) (by decide)⟩ := Fin.ext hl
  pointwise [proj]

end Cert.ProjShiftRefIdeal.Value

namespace Cert.ProjShiftIdeal.Proj

open Cert.ProjShiftIdeal Cert.ProjShiftIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices. -/
theorem idx : ∀ t : Fin cfg0.N, win0_0.index t = ![0, 0] ∧ win0_1.index t = ![0, t.val + 6] ∧ win0_2.index t = ![0, t.val] ∧ t.val < 7 :=
  (by decide +kernel : ∀ t : Fin grid0.N, _)

theorem copy_at (X : FVec Ideal S32x2048 .f32) : k0_pay1 (F := Ideal) X = X := by
  funext y
  obtain ⟨r, k, rfl⟩ : ∃ (r : Fin 32) (j : Fin 2048), y = ix2 r j := ⟨y 0, y 1, eq_ix2 y⟩
  pointwise [k0_pay1]

theorem pay_at (a : FVec Ideal S32x2048 .bf16) (b : FVec Ideal S2048x512 .bf16) (r : Fin 32) (j : Fin 512) :
    k0_pay2 (F := Ideal) a b (ix2 r j) = ∑ k : Fin 2048, a (ix2 r k) * b (ix2 k j) := by
  pointwise [k0_pay2]

/-- The rows, in the argument array. -/
theorem rows_at (c : Dev nD) (t : Fin cfg0.N) (r : Fin 32) (k : Fin 2048) :
    iblk m c 0 t (ix2 r k) = m ((c : Thread nD τ).loc main_arg0) (ix3 0 r k) := by
  blk_point [iblk, V, idx t]

/-- The block of the weights, in the argument array. -/
theorem weight_at (c : Dev nD) (t : Fin cfg0.N) (k : Fin 2048) (j : Fin 512) (l : Fin 10688) (hl : l.val = (t.val + 6) * 512 + j.val) :
    X0_1 m c t (ix2 k j) = m ((c : Thread nD τ).loc main_arg1) (ix3 0 k l) := by
  unfold X0_1 Pipeline.Window.fill
  rw [dif_pos (moved0_1 t (ix2 k j))]
  pointwise
  blk_point [iblk, V, idx t]

/-- The copy of the rows the kernel keeps is the rows, after every point. -/
theorem kept (c : Dev nD) : ∀ (n : ℕ) (hn : n < cfg0.N) (r : Fin 32) (k : Fin 2048),
    (outsAt0 m c n hn).2 (ix2 r k) = m ((c : Thread nD τ).loc main_arg0) (ix3 0 r k) := by
  intro n
  induction n with
  | zero =>
    intro hn r k
    rw [show outsAt0 m c 0 hn = _ from outsAt0_A m c ⟨0, hn⟩ (by norm_num)]
    frame_out
    rw [copy_at]
    exact rows_at m c ⟨0, hn⟩ r k
  | succ n ih =>
    intro hn r k
    have h7 : n + 1 < 7 := (idx ⟨n + 1, hn⟩).2.2.2
    rw [show outsAt0 m c (n + 1) hn = _ from outsAt0_B m c ⟨n + 1, hn⟩ (by show ¬(n + 1) % 7 = 0; omega)]
    exact ih (Nat.lt_of_succ_lt hn) r k

/-- The kernel's arguments. -/
abbrev ROW (c : Dev nD) : FVec Ideal S1x32x2048 .f32 := m ((c : Thread nD τ).loc main_arg0)
abbrev WIN (c : Dev nD) : FVec Ideal S1x2048x10688 .f32 := m ((c : Thread nD τ).loc main_arg1)

/-- What a point stores. -/
theorem out_at (c : Dev nD) (t : Fin cfg0.N) (r : Fin 32) (j : Fin 512) (l : Fin 10688) (hl : l.val = (t.val + 6) * 512 + j.val) :
    (outsAt0 m c t.val t.isLt).1 (ix2 r j)
      = ∑ k : Fin 2048, ROW m c (ix3 0 r k) * WIN m c (ix3 0 k l) := by
  have h7 : t.val < 7 := (idx t).2.2.2
  by_cases h0 : t.val % 7 = 0
  · have h : (outsAt0 m c t.val t.isLt).1 = k0_pay2 (k0_pay1 (iblk m c 0 t)) (X0_1 m c t) := by
      rw [outsAt0_A m c t h0]
      frame_out
    rw [h, pay_at, copy_at]
    exact Finset.sum_congr rfl fun k _ => congrArg₂ (· * ·) (rows_at m c t r k) (weight_at m c t k j l hl)
  · have h : (outsAt0 m c t.val t.isLt).1
        = k0_pay2 (outsAt0 m c (t.val - 1) (Nat.lt_of_le_of_lt (Nat.sub_le _ _) t.isLt)).2 (X0_1 m c t) := by
      rw [outsAt0_B m c t h0]
      frame_out
      refine congrArg (fun C : FVec Ideal S32x2048 .bf16 => k0_pay2 C (X0_1 m c t)) ?_
      exact Memref.IsWhole.read_unread (Memref.isWhole_whole cc0_scratch0) _
    rw [h, pay_at]
    exact Finset.sum_congr rfl fun k _ => congrArg₂ (· * ·) (kept m c _ _ r k) (weight_at m c t k j l hl)

/-- The kernel's result array. -/
theorem final (c : Dev nD) : (dats m 0 c).arrAt 2 cfg0.N
    = Cert.ProjShiftRefIdeal.Value.proj (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 32) (j : Fin 512), y = ix2 r j := ⟨y 0, y 1, eq_ix2 y⟩
  have ht : t.val < 7 := (idx t).2.2.2
  have he : ((View.whole main_v3).slice (win0_2.rect t)).emb (ix2 r j)
      = (ix2 r ⟨t.val * 512 + j.val, by omega⟩ : S32x3584.Idx) := by
    blk_ext [idx t]
  refine (out_at m c t r j ⟨(t.val + 6) * 512 + j.val, by omega⟩ rfl).trans ?_
  refine Eq.trans ?_ (congrArg (Cert.ProjShiftRefIdeal.Value.proj (m ((c : Thread nD τ).loc main_arg0))
    (m ((c : Thread nD τ).loc main_arg1))) he).symm
  exact (Cert.ProjShiftRefIdeal.Value.proj_at _ _ r ⟨t.val * 512 + j.val, by omega⟩ ⟨(t.val + 6) * 512 + j.val, by omega⟩
    (by show (t.val + 6) * 512 + j.val = 3072 + (t.val * 512 + j.val); omega)).symm

end Cert.ProjShiftIdeal.Proj

end
-- ==== Proof.lean ====
module

public import proofs.«01_k».proof.Defs
public import proofs.«01_k».proof.Proof.FfnValue
public import proofs.«01_k».proof.Proof.FfnSValue
public import proofs.«01_k».proof.Proof.MergeValue
public import proofs.«01_k».proof.Proof.MergeSValue
public import proofs.«01_k».proof.Proof.InProjValue
public import proofs.«01_k».proof.Proof.InProjSValue
public import proofs.«01_k».proof.Proof.InProjBits.Frame
public import proofs.«01_k».proof.Proof.InProjSBits.Frame
public import proofs.«01_k».proof.Proof.MobaBits.Frame
public import proofs.«01_k».proof.Proof.Moba.Frame
public import proofs.«01_k».proof.Proof.Gen.Ffn.Frame
public import proofs.«01_k».proof.Proof.Gen.FfnS.Frame
public import proofs.«01_k».proof.Proof.Gen.FfnIdeal.Value
public import proofs.«01_k».proof.Proof.Gen.FfnSIdeal.Value
public import proofs.«01_k».proof.Proof.Gen.InProjRefIdeal.Run
public import proofs.«01_k».proof.Proof.Gen.InProjSRefIdeal.Run
public import proofs.«01_k».proof.Proof.Gen.Merge.Frame
public import proofs.«01_k».proof.Proof.Gen.MergeS.Frame
public import proofs.«01_k».proof.Proof.Gen.MergeIdeal.Value
public import proofs.«01_k».proof.Proof.Gen.MergeSIdeal.Value
public import proofs.«01_k».proof.Proof.Gen.ReferenceIdeal.Run
public import proofs.«01_k».proof.Proof.PrepValue
public import proofs.«01_k».proof.Proof.PrepFinite
public import proofs.«01_k».proof.Proof.Gen.Prep.Frame
public import proofs.«01_k».proof.Proof.Gen.PrepIdeal.Value
public import proofs.«01_k».proof.Proof.Gen.PrepRefIdeal.Run
public import proofs.«01_k».proof.Proof.PrepSValue
public import proofs.«01_k».proof.Proof.PrepSFinite
public import proofs.«01_k».proof.Proof.ProjShiftValue
public import proofs.«01_k».proof.Proof.Gen.PrepS.Frame
public import proofs.«01_k».proof.Proof.Gen.PrepSIdeal.Value
public import proofs.«01_k».proof.Proof.Gen.PrepSRefIdeal.Run
public import proofs.«01_k».proof.Proof.Gen.ScanS.Frame
public import proofs.«01_k».proof.Proof.Gen.ScanSIdeal.Frame
public import proofs.«01_k».proof.Proof.Gen.ScanSRefIdeal.Run
public import proofs.«01_k».proof.Proof.Gen.SelectS.Frame
public import proofs.«01_k».proof.Proof.Gen.SelectSIdeal.Frame
public import proofs.«01_k».proof.Proof.Gen.SelectSRefIdeal.Run
public import proofs.«01_k».proof.Proof.Gen.ProjShift.Frame
public import proofs.«01_k».proof.Proof.Gen.ProjShiftIdeal.Value
public import proofs.«01_k».proof.Proof.Gen.ProjShiftRefIdeal.Run
public import Idealize.ShloMosaic.Adequacy
public import Idealize.ShloMosaic.Init

@[expose] public section

noncomputable section

namespace Cert.Proof

open Idealize.ShloMosaic Idealize.ShloMosaic.TcCoe Idealize.SL.Sem

theorem frame_ffn : Cert.quiescent_Ffn := fun m ρ _ => Cert.Ffn.Gen.frame m ρ

theorem frame_ffn_ideal : Cert.quiescent_FfnIdeal := fun m ρ _ => Cert.FfnIdeal.Gen.frame m ρ

theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_merge : Cert.quiescent_Merge := fun m ρ _ => Cert.Merge.Gen.frame m ρ

theorem frame_merge_ideal : Cert.quiescent_MergeIdeal := fun m ρ _ => Cert.MergeIdeal.Gen.frame m ρ

theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem frame_moba : Cert.quiescent_Kernel := fun m ρ _ => Cert.Kernel.Moba.frame m ρ

theorem frame_moba_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_moba_ideal : Cert.quiescent_KernelIdeal := fun m ρ _ => Cert.KernelIdeal.Moba.frame m ρ

/-- The mask's literal stands for minus infinity. -/
theorem preserves_moba : Cert.preserves_Kernel_KernelIdeal :=
  IdealRules.named_const.statement Cert.KernelIdeal.κ "mask" .f32 0xF149F2CA#32 ⊥ rfl

/-- The feed-forward kernel and its reference end with the same array. -/
theorem ffn_value : Cert.algebraic_FfnIdeal_FfnRefIdeal := fun m g m' g' _ hm =>
  ⟨fun c => Cert.FfnRefIdeal.Value.norm (Cert.FfnIdeal.Ffn.MIX m c) (m ((c.tc : Thread Cert.FfnIdeal.nD Cert.FfnIdeal.τ).loc Cert.FfnIdeal.main_arg4))
      (m ((c.tc : Thread Cert.FfnIdeal.nD Cert.FfnIdeal.τ).loc Cert.FfnIdeal.main_arg5)),
    (θ_run Cert.FfnIdeal.defs _ _).mono (fun r h c => ⟨(h c).1.trans (Cert.FfnIdeal.Ffn.final m c), (h c).2⟩)
      (Cert.FfnIdeal.Value.run_blocks (F := Ideal) m g),
    (θ_run Cert.FfnRefIdeal.defs _ _).mono (fun r h c => ⟨(h c).1.trans (by
        obtain ⟨h0, h1, h2, h3, h4, h5⟩ := hm c
        rw [Cert.FfnRefIdeal.Value.res_eq, h0, h1, h2, h3, h4, h5]), (h c).2⟩)
      (Cert.FfnRefIdeal.Value.run (F := Ideal) m' g')⟩

/-- The merge kernel and its reference end with the same array. -/
theorem merge_value : Cert.algebraic_MergeIdeal_MergeRefIdeal := fun m g m' g' _ hm =>
  ⟨fun c => Cert.MergeRefIdeal.Value.norm (Cert.MergeIdeal.Merge.MIX m c) (m ((c.tc : Thread Cert.MergeIdeal.nD Cert.MergeIdeal.τ).loc Cert.MergeIdeal.main_arg7))
      (m ((c.tc : Thread Cert.MergeIdeal.nD Cert.MergeIdeal.τ).loc Cert.MergeIdeal.main_arg8)),
    (θ_run Cert.MergeIdeal.defs _ _).mono (fun r h c => ⟨(h c).1.trans (Cert.MergeIdeal.Merge.final m c), (h c).2⟩)
      (Cert.MergeIdeal.Value.run_blocks (F := Ideal) m g),
    (θ_run Cert.MergeRefIdeal.defs _ _).mono (fun r h c => ⟨(h c).1.trans (by
        obtain ⟨h0, h1, h2, h3, h4, h5, h6, h7, h8⟩ := hm c
        rw [Cert.MergeRefIdeal.Value.res_eq, h0, h1, h2, h3, h4, h5, h6, h7, h8]), (h c).2⟩)
      (Cert.MergeRefIdeal.Value.run (F := Ideal) m' g')⟩

theorem frame_proj : Cert.quiescent_InProj := fun m ρ _ => Cert.InProj.Proj.frame m ρ

theorem frame_proj_ideal : Cert.quiescent_InProjIdeal := fun m ρ _ => Cert.InProjIdeal.Proj.frame m ρ

theorem frame_proj_ref : Cert.quiescent_InProjRefIdeal := fun m ρ _ =>
  (θ_run Cert.InProjRefIdeal.defs _ _).mono (fun r h => ⟨fun c => (h c).2.2.2.2.2.2, sem_eq_zero_of_no_sems (by decide) r.2⟩)
    (Cert.InProjRefIdeal.Value.run (F := Ideal) m ρ)

/-- The projection kernel and its reference end with the same arrays. -/
theorem proj_value : Cert.algebraic_InProjIdeal_InProjRefIdeal := fun m g m' g' _ hm =>
  ⟨fun c => Cert.InProjRefIdeal.Value.queries (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Value.keys (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Value.values (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Value.recurrence (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Value.gates (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    fun c => Cert.InProjRefIdeal.Value.lastToken (m ((c.tc : Thread Cert.InProjIdeal.nD Cert.InProjIdeal.τ).loc Cert.InProjIdeal.main_arg0)),
    (θ_run Cert.InProjIdeal.defs _ _).mono (fun r h c => ⟨((h.1 c).1 3).trans (Cert.InProjIdeal.Proj.queries_eq m c),
        ((h.1 c).1 4).trans (Cert.InProjIdeal.Proj.keys_eq m c),
        ((h.1 c).1 5).trans (Cert.InProjIdeal.Proj.values_eq m c),
        ((h.1 c).1 6).trans (Cert.InProjIdeal.Proj.recurrence_eq m c),
        ((h.1 c).1 7).trans (Cert.InProjIdeal.Proj.gates_eq m c),
        ((h.1 c).2 Cert.InProjIdeal.main_v6 (Pipeline.mem_restRefs_of Cert.InProjIdeal.main_v6 (by decide) (by decide))).trans (Cert.InProjIdeal.Proj.lastToken_eq m c),
        h.2 c⟩)
      (θ_run_and (Cert.InProjIdeal.Proj.run_main (F := Ideal) m g)
        (Cert.InProjIdeal.Proj.unchanged (F := Ideal) m g)),
    (θ_run Cert.InProjRefIdeal.defs _ _).mono (fun r h c => by
        obtain ⟨h0, h1⟩ := hm c
        obtain ⟨r0, r1, r2, r3, r4, r5, ra⟩ := h c
        rw [h0, h1] at r0 r1 r2 r3 r4
        rw [h0] at r5
        exact ⟨r0, r1, r2, r3, r4, r5, ra⟩)
      (Cert.InProjRefIdeal.Value.run (F := Ideal) m' g')⟩

theorem frame_ffn_sample : Cert.quiescent_FfnS := fun m ρ _ => Cert.FfnS.Gen.frame m ρ

theorem frame_ffn_sample_ideal : Cert.quiescent_FfnSIdeal := fun m ρ _ => Cert.FfnSIdeal.Gen.frame m ρ

theorem frame_ffn_sample_ref : Cert.quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run (F := Ideal) m ρ)

theorem frame_merge_sample : Cert.quiescent_MergeS := fun m ρ _ => Cert.MergeS.Gen.frame m ρ

theorem frame_merge_sample_ideal : Cert.quiescent_MergeSIdeal := fun m ρ _ => Cert.MergeSIdeal.Gen.frame m ρ

theorem frame_merge_sample_ref : Cert.quiescent_MergeSRefIdeal := fun m ρ _ =>
  (θ_run Cert.MergeSRefIdeal.defs _ _).mono (fun r h => ⟨fun c => (h c).2, sem_eq_zero_of_no_sems (by decide) r.2⟩)
    (Cert.MergeSRefIdeal.Value.run (F := Ideal) m ρ)

/-- The feed-forward kernel of the sample and its reference end with the same array. -/
theorem ffn_sample_value : Cert.algebraic_FfnSIdeal_FfnSRefIdeal := fun m g m' g' _ hm =>
  ⟨fun c => Cert.FfnSRefIdeal.Value.norm (Cert.FfnSIdeal.Ffn.MIX m c) (m ((c.tc : Thread Cert.FfnSIdeal.nD Cert.FfnSIdeal.τ).loc Cert.FfnSIdeal.main_arg4))
      (m ((c.tc : Thread Cert.FfnSIdeal.nD Cert.FfnSIdeal.τ).loc Cert.FfnSIdeal.main_arg5)),
    (θ_run Cert.FfnSIdeal.defs _ _).mono (fun r h c => ⟨(h c).1.trans (Cert.FfnSIdeal.Ffn.final m c), (h c).2⟩)
      (Cert.FfnSIdeal.Value.run_blocks (F := Ideal) m g),
    (θ_run Cert.FfnSRefIdeal.defs _ _).mono (fun r h c => ⟨(h c).1.trans (by
        obtain ⟨h0, h1, h2, h3, h4, h5⟩ := hm c
        rw [Cert.FfnSRefIdeal.Value.res_eq, h0, h1, h2, h3, h4, h5]), (h c).2⟩)
      (Cert.FfnSRefIdeal.Value.run (F := Ideal) m' g')⟩

/-- The merge kernel of the sample and its reference end with the same array. -/
theorem merge_sample_value : Cert.algebraic_MergeSIdeal_MergeSRefIdeal := fun m g m' g' _ hm =>
  ⟨fun c => Cert.MergeSRefIdeal.Value.norm (Cert.MergeSIdeal.Merge.MIX m c) (m ((c.tc : Thread Cert.MergeSIdeal.nD Cert.MergeSIdeal.τ).loc Cert.MergeSIdeal.main_arg7))
      (m ((c.tc : Thread Cert.MergeSIdeal.nD Cert.MergeSIdeal.τ).loc Cert.MergeSIdeal.main_arg8)),
    (θ_run Cert.MergeSIdeal.defs _ _).mono (fun r h c => ⟨(h c).1.trans (Cert.MergeSIdeal.Merge.final m c), (h c).2⟩)
      (Cert.MergeSIdeal.Value.run_blocks (F := Ideal) m g),
    (θ_run Cert.MergeSRefIdeal.defs _ _).mono (fun r h c => ⟨(h c).1.trans (by
        obtain ⟨h0, h1, h2, h3, h4, h5, h6, h7, h8⟩ := hm c
        rw [Cert.MergeSRefIdeal.Value.res_eq, h0, h1, h2, h3, h4, h5, h6, h7, h8]), (h c).2⟩)
      (Cert.MergeSRefIdeal.Value.run (F := Ideal) m' g')⟩

theorem frame_proj_sample : Cert.quiescent_InProjS := fun m ρ _ => Cert.InProjS.Proj.frame m ρ

theorem frame_proj_sample_ideal : Cert.quiescent_InProjSIdeal := fun m ρ _ => Cert.InProjSIdeal.Proj.frame m ρ

theorem frame_proj_sample_ref : Cert.quiescent_InProjSRefIdeal := fun m ρ _ =>
  (θ_run Cert.InProjSRefIdeal.defs _ _).mono (fun r h => ⟨fun c => (h c).2.2.2.2.2.2, sem_eq_zero_of_no_sems (by decide) r.2⟩)
    (Cert.InProjSRefIdeal.Value.run (F := Ideal) m ρ)

/-- The projection kernel of the sample and its reference end with the same arrays. -/
theorem proj_sample_value : Cert.algebraic_InProjSIdeal_InProjSRefIdeal := fun m g m' g' _ hm =>
  ⟨fun c => Cert.InProjSRefIdeal.Value.queries (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)),
    fun c => Cert.InProjSRefIdeal.Value.keys (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)),
    fun c => Cert.InProjSRefIdeal.Value.values (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)),
    fun c => Cert.InProjSRefIdeal.Value.recurrence (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)),
    fun c => Cert.InProjSRefIdeal.Value.gates (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)),
    fun c => Cert.InProjSRefIdeal.Value.lastToken (m ((c.tc : Thread Cert.InProjSIdeal.nD Cert.InProjSIdeal.τ).loc Cert.InProjSIdeal.main_arg0)),
    (θ_run Cert.InProjSIdeal.defs _ _).mono (fun r h c => ⟨((h.1 c).1 3).trans (Cert.InProjSIdeal.Proj.queries_eq m c),
        ((h.1 c).1 4).trans (Cert.InProjSIdeal.Proj.keys_eq m c),
        ((h.1 c).1 5).trans (Cert.InProjSIdeal.Proj.values_eq m c),
        ((h.1 c).1 6).trans (Cert.InProjSIdeal.Proj.recurrence_eq m c),
        ((h.1 c).1 7).trans (Cert.InProjSIdeal.Proj.gates_eq m c),
        ((h.1 c).2 Cert.InProjSIdeal.main_v6 (Pipeline.mem_restRefs_of Cert.InProjSIdeal.main_v6 (by decide) (by decide))).trans (Cert.InProjSIdeal.Proj.lastToken_eq m c),
        h.2 c⟩)
      (θ_run_and (Cert.InProjSIdeal.Proj.run_main (F := Ideal) m g)
        (Cert.InProjSIdeal.Proj.unchanged (F := Ideal) m g)),
    (θ_run Cert.InProjSRefIdeal.defs _ _).mono (fun r h c => by
        obtain ⟨h0, h1⟩ := hm c
        obtain ⟨r0, r1, r2, r3, r4, r5, ra⟩ := h c
        rw [h0, h1] at r0 r1 r2 r3 r4
        rw [h0] at r5
        exact ⟨r0, r1, r2, r3, r4, r5, ra⟩)
      (Cert.InProjSRefIdeal.Value.run (F := Ideal) m' g')⟩

theorem frame_prep : Cert.quiescent_Prep := fun m ρ _ => Cert.Prep.Gen.frame m ρ

theorem frame_prep_ideal : Cert.quiescent_PrepIdeal := fun m ρ _ => Cert.PrepIdeal.Gen.frame m ρ

theorem frame_prep_ideal_finite : Cert.quiescent_PrepIdeal_pre_prep_finite := fun m ρ _ => Cert.PrepIdeal.Gen.frame m ρ

theorem frame_prep_ref : Cert.quiescent_PrepRefIdeal := fun m ρ _ =>
  (θ_run Cert.PrepRefIdeal.defs _ _).mono (fun r h => ⟨fun c => (h c).2.2.2.2.2.2.2.2, sem_eq_zero_of_no_sems (by decide) r.2⟩)
    (Cert.PrepRefIdeal.Value.run (F := Ideal) m ρ)

theorem frame_prep_ref_finite : Cert.quiescent_PrepRefIdeal_pre_prep_finite := fun m ρ _ =>
  (θ_run Cert.PrepRefIdeal.defs _ _).mono (fun r h => ⟨fun c => (h c).2.2.2.2.2.2.2.2, sem_eq_zero_of_no_sems (by decide) r.2⟩)
    (Cert.PrepRefIdeal.Value.run (F := Ideal) m ρ)

set_option maxHeartbeats 2000000 in
/-- The kernel of the recurrence's operands and its reference end with the same arrays, from finite arguments. -/
theorem prep_value : Cert.algebraic_PrepIdeal_PrepRefIdeal_pre_prep_finite := fun m g m' g' hpre hm =>
  have hf : ∀ c i j, ∃ x : ℝ, Cert.Operands.removal (Cert.PrepIdeal.Prep.Z m c) (Cert.PrepIdeal.Prep.MU m c) (Cert.PrepIdeal.Prep.KK m c) i j = (x : EReal) :=
    fun c i j => by
      obtain ⟨h0, h1, h7⟩ := Cert.Pre_prep_finite.real _ _ _ _ _ _ _ _ _ _ (hpre c)
      exact Cert.PrepIdeal.Prep.removal_real m c (fun i j => h0 _) (fun j => h1 _) (fun j => h7 _) i j
  ⟨fun c => Cert.PrepRefIdeal.Value.r (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => Cert.PrepRefIdeal.Value.lw (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)),
    fun c => Cert.PrepRefIdeal.Value.kh (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg4)) (m ((c.tc : Thread Cert.PrepIdeal.nD Cert.PrepIdeal.τ).loc Cert.PrepIdeal.main_arg8)) (m ((c.tc : Thread Cert.PrepIdeal.nD Cert.PrepIdeal.τ).loc Cert.PrepIdeal.main_arg5)),
    fun c => Cert.PrepRefIdeal.Value.v (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    fun c => Cert.PrepRefIdeal.Value.kk (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg7)),
    fun c => mulf (Cert.PrepRefIdeal.Value.kk (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg7))) (Cert.PrepRefIdeal.Value.a (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))),
    fun c => Cert.PrepRefIdeal.Value.g (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg6)),
    fun c => Cert.PrepRefIdeal.Value.bonus (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg4)) (m ((c.tc : Thread Cert.PrepIdeal.nD Cert.PrepIdeal.τ).loc Cert.PrepIdeal.main_arg8)) (m ((c.tc : Thread Cert.PrepIdeal.nD Cert.PrepIdeal.τ).loc Cert.PrepIdeal.main_arg5)) (m ((c.tc : Thread Cert.PrepIdeal.nD Cert.PrepIdeal.τ).loc Cert.PrepIdeal.main_arg9)),
    (θ_run Cert.PrepIdeal.defs _ _).mono (fun r h c => by
        obtain ⟨k0, k1, k2, k3, k4, k5, k6, k7, ka⟩ := h c
        exact ⟨k0.trans (Cert.PrepIdeal.Prep.recv_final m c),
          k1.trans (Cert.PrepIdeal.Prep.decay_final m c),
          k2.trans (Cert.PrepIdeal.Prep.keyIn_final m c),
          k3.trans (Cert.PrepIdeal.Prep.val_final m c),
          k4.trans (Cert.PrepIdeal.Prep.unit_final m c (hf c)),
          k5.trans (Cert.PrepIdeal.Prep.moved_final m c (hf c)),
          k6.trans (Cert.PrepIdeal.Prep.gate_final m c),
          k7.trans (Cert.PrepIdeal.Prep.bonus_final m c), ka⟩)
      (Cert.PrepIdeal.Value.run_blocks (F := Ideal) m g),
    (θ_run Cert.PrepRefIdeal.defs _ _).mono (fun r h c => by
        obtain ⟨h0, h1, h2, h3, h4, h5, h6, h7, h8, h9⟩ := hm c
        obtain ⟨r0, r1, r2, r3, r4, r5, r6, r7, ra⟩ := h c
        rw [Cert.PrepRefIdeal.Value.lw_eq] at r1
        rw [Cert.PrepRefIdeal.Value.ka_eq] at r5
        rw [Cert.PrepRefIdeal.Value.bonus_eq] at r7
        beta_reduce
        rw [← h0, ← h1, ← h2, ← h3, ← h4, ← h5, ← h6, ← h7, ← h8, ← h9]
        exact ⟨r0, r1, r2, r3, r4, r5, r6, r7, ra⟩)
      (Cert.PrepRefIdeal.Value.run (F := Ideal) m' g')⟩

theorem frame_prep_sample : Cert.quiescent_PrepS := fun m ρ _ => Cert.PrepS.Gen.frame m ρ

theorem frame_prep_sample_ideal : Cert.quiescent_PrepSIdeal := fun m ρ _ => Cert.PrepSIdeal.Gen.frame m ρ

theorem frame_prep_sample_ideal_finite : Cert.quiescent_PrepSIdeal_pre_prep_sample_finite := fun m ρ _ => Cert.PrepSIdeal.Gen.frame m ρ

theorem frame_prep_sample_ref : Cert.quiescent_PrepSRefIdeal := fun m ρ _ =>
  (θ_run Cert.PrepSRefIdeal.defs _ _).mono (fun r h => ⟨fun c => (h c).2.2.2.2.2.2.2.2, sem_eq_zero_of_no_sems (by decide) r.2⟩)
    (Cert.PrepSRefIdeal.Value.run (F := Ideal) m ρ)

theorem frame_prep_sample_ref_finite : Cert.quiescent_PrepSRefIdeal_pre_prep_sample_finite := fun m ρ _ =>
  (θ_run Cert.PrepSRefIdeal.defs _ _).mono (fun r h => ⟨fun c => (h c).2.2.2.2.2.2.2.2, sem_eq_zero_of_no_sems (by decide) r.2⟩)
    (Cert.PrepSRefIdeal.Value.run (F := Ideal) m ρ)

set_option maxHeartbeats 2000000 in
/-- The kernel of the operands of the sample's recurrence and its reference end with the same arrays, from finite arguments. -/
theorem prep_sample_value : Cert.algebraic_PrepSIdeal_PrepSRefIdeal_pre_prep_sample_finite := fun m g m' g' hpre hm =>
  have hf : ∀ c i j, ∃ x : ℝ, Cert.OperandsS.removal (Cert.PrepSIdeal.Prep.Z m c) (Cert.PrepSIdeal.Prep.ZP m c) (Cert.PrepSIdeal.Prep.MU m c) (Cert.PrepSIdeal.Prep.KK m c) i j = (x : EReal) :=
    fun c i j => by
      obtain ⟨h0, h1, h7, h10⟩ := Cert.Pre_prep_sample_finite.real _ _ _ _ _ _ _ _ _ _ _ (hpre c)
      exact Cert.PrepSIdeal.Prep.removal_real m c (fun i j => h0 _) (fun i j => h10 _) (fun j => h1 _) (fun j => h7 _) i j
  ⟨fun c => Cert.PrepSRefIdeal.Value.r (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)),
    fun c => Cert.PrepSRefIdeal.Value.lw (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg2)) (m ((c.tc : Thread Cert.PrepSIdeal.nD Cert.PrepSIdeal.τ).loc Cert.PrepSIdeal.main_arg3)),
    fun c => Cert.PrepSRefIdeal.Value.kh (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg4)) (m ((c.tc : Thread Cert.PrepSIdeal.nD Cert.PrepSIdeal.τ).loc Cert.PrepSIdeal.main_arg8)) (m ((c.tc : Thread Cert.PrepSIdeal.nD Cert.PrepSIdeal.τ).loc Cert.PrepSIdeal.main_arg5)),
    fun c => Cert.PrepSRefIdeal.Value.v (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)),
    fun c => Cert.PrepSRefIdeal.Value.kk (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg7)),
    fun c => mulf (Cert.PrepSRefIdeal.Value.kk (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg7))) (Cert.PrepSRefIdeal.Value.a (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg4)) (m ((c.tc : Thread Cert.PrepSIdeal.nD Cert.PrepSIdeal.τ).loc Cert.PrepSIdeal.main_arg5))),
    fun c => Cert.PrepSRefIdeal.Value.g (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg6)),
    fun c => Cert.PrepSRefIdeal.Value.bonus (m ((c.tc : Thread Cert.PrepSIdeal.nD Cert.PrepSIdeal.τ).loc Cert.PrepSIdeal.main_arg0)) (m ((c.tc : Thread Cert.PrepSIdeal.nD Cert.PrepSIdeal.τ).loc Cert.PrepSIdeal.main_arg10)) (m ((c.tc : Thread Cert.PrepSIdeal.nD Cert.PrepSIdeal.τ).loc Cert.PrepSIdeal.main_arg1)) (m ((c.tc : Thread Cert.PrepSIdeal.nD Cert.PrepSIdeal.τ).loc Cert.PrepSIdeal.main_arg4)) (m ((c.tc : Thread Cert.PrepSIdeal.nD Cert.PrepSIdeal.τ).loc Cert.PrepSIdeal.main_arg8)) (m ((c.tc : Thread Cert.PrepSIdeal.nD Cert.PrepSIdeal.τ).loc Cert.PrepSIdeal.main_arg5)) (m ((c.tc : Thread Cert.PrepSIdeal.nD Cert.PrepSIdeal.τ).loc Cert.PrepSIdeal.main_arg9)),
    (θ_run Cert.PrepSIdeal.defs _ _).mono (fun r h c => by
        obtain ⟨k0, k1, k2, k3, k4, k5, k6, k7, ka⟩ := h c
        exact ⟨k0.trans (Cert.PrepSIdeal.Prep.recv_final m c),
          k1.trans (Cert.PrepSIdeal.Prep.decay_final m c),
          k2.trans (Cert.PrepSIdeal.Prep.keyIn_final m c),
          k3.trans (Cert.PrepSIdeal.Prep.val_final m c),
          k4.trans (Cert.PrepSIdeal.Prep.unit_final m c (hf c)),
          k5.trans (Cert.PrepSIdeal.Prep.moved_final m c (hf c)),
          k6.trans (Cert.PrepSIdeal.Prep.gate_final m c),
          k7.trans (Cert.PrepSIdeal.Prep.bonus_final m c), ka⟩)
      (Cert.PrepSIdeal.Value.run_blocks (F := Ideal) m g),
    (θ_run Cert.PrepSRefIdeal.defs _ _).mono (fun r h c => by
        obtain ⟨h0, h1, h2, h3, h4, h5, h6, h7, h8, h9, h10⟩ := hm c
        obtain ⟨r0, r1, r2, r3, r4, r5, r6, r7, ra⟩ := h c
        rw [Cert.PrepSRefIdeal.Value.lw_eq] at r1
        rw [Cert.PrepSRefIdeal.Value.kk_eq] at r4
        rw [Cert.PrepSRefIdeal.Value.ka_eq] at r5
        rw [Cert.PrepSRefIdeal.Value.bonus_eq] at r7
        beta_reduce
        rw [← h0, ← h1, ← h2, ← h3, ← h4, ← h5, ← h6, ← h7, ← h8, ← h9, ← h10]
        exact ⟨r0, r1, r2, r3, r4, r5, r6, r7, ra⟩)
      (Cert.PrepSRefIdeal.Value.run (F := Ideal) m' g')⟩

theorem frame_proj_shift : Cert.quiescent_ProjShift := fun m ρ _ => Cert.ProjShift.Gen.frame m ρ

theorem frame_proj_shift_ideal : Cert.quiescent_ProjShiftIdeal := fun m ρ _ => Cert.ProjShiftIdeal.Gen.frame m ρ

theorem frame_proj_shift_ref : Cert.quiescent_ProjShiftRefIdeal := fun m ρ _ =>
  (θ_run Cert.ProjShiftRefIdeal.defs _ _).mono (fun r h => ⟨fun c => (h c).2, sem_eq_zero_of_no_sems (by decide) r.2⟩)
    (Cert.ProjShiftRefIdeal.Value.run (F := Ideal) m ρ)

/-- The projection of the row before the sample's first and its reference end with the same array. -/
theorem proj_shift_value : Cert.algebraic_ProjShiftIdeal_ProjShiftRefIdeal := fun m g m' g' _ hm =>
  ⟨fun c => Cert.ProjShiftRefIdeal.Value.proj (m ((c.tc : Thread Cert.ProjShiftIdeal.nD Cert.ProjShiftIdeal.τ).loc Cert.ProjShiftIdeal.main_arg0)) (m ((c.tc : Thread Cert.ProjShiftIdeal.nD Cert.ProjShiftIdeal.τ).loc Cert.ProjShiftIdeal.main_arg1)),
    (θ_run Cert.ProjShiftIdeal.defs _ _).mono (fun r h c => ⟨(h c).1.trans (Cert.ProjShiftIdeal.Proj.final m c), (h c).2⟩)
      (Cert.ProjShiftIdeal.Value.run_blocks (F := Ideal) m g),
    (θ_run Cert.ProjShiftRefIdeal.defs _ _).mono (fun r h c => by
        obtain ⟨h0, h1⟩ := hm c
        obtain ⟨r0, ra⟩ := h c
        beta_reduce
        rw [← h0, ← h1]
        exact ⟨r0, ra⟩)
      (Cert.ProjShiftRefIdeal.Value.run (F := Ideal) m' g')⟩

theorem frame_scan_sample : Cert.quiescent_ScanS := fun m ρ _ => Cert.ScanS.Gen.frame m ρ

theorem frame_scan_sample_ideal : Cert.quiescent_ScanSIdeal := fun m ρ _ => Cert.ScanSIdeal.Gen.frame m ρ

theorem frame_scan_sample_ref : Cert.quiescent_ScanSRefIdeal := fun m ρ _ =>
  (θ_run Cert.ScanSRefIdeal.defs _ _).mono (fun r h => ⟨fun c => (h c).2.2, sem_eq_zero_of_no_sems (by decide) r.2⟩)
    (Cert.ScanSRefIdeal.Value.run (F := Ideal) m ρ)

theorem frame_select_sample : Cert.quiescent_SelectS := fun m ρ _ => Cert.SelectS.Gen.frame m ρ

theorem frame_select_sample_ideal : Cert.quiescent_SelectSIdeal := fun m ρ _ => Cert.SelectSIdeal.Gen.frame m ρ

theorem frame_select_sample_ref : Cert.quiescent_SelectSRefIdeal := fun m ρ _ =>
  (θ_run Cert.SelectSRefIdeal.defs _ _).mono (fun r h => ⟨fun c => (h c).2, sem_eq_zero_of_no_sems (by decide) r.2⟩)
    (Cert.SelectSRefIdeal.Value.run (F := Ideal) m ρ)

theorem claim : Cert.Claim := ⟨Cert.Ffn.Gen.facts, Cert.FfnIdeal.Gen.facts, Cert.FfnRefIdeal.Gen.facts, Cert.Merge.Gen.facts,
  Cert.MergeIdeal.Gen.facts, Cert.MergeRefIdeal.Gen.facts, Cert.Kernel.Gen.facts, Cert.KernelIdeal.Gen.facts, Cert.ReferenceIdeal.Gen.facts,
  Cert.InProj.Gen.facts, Cert.InProjIdeal.Gen.facts, Cert.InProjRefIdeal.Gen.facts,
  Cert.InProjS.Gen.facts, Cert.InProjSIdeal.Gen.facts, Cert.InProjSRefIdeal.Gen.facts, Cert.MergeS.Gen.facts, Cert.MergeSIdeal.Gen.facts, Cert.MergeSRefIdeal.Gen.facts, Cert.FfnS.Gen.facts, Cert.FfnSIdeal.Gen.facts, Cert.FfnSRefIdeal.Gen.facts, Cert.Prep.Gen.facts, Cert.PrepIdeal.Gen.facts, Cert.PrepRefIdeal.Gen.facts,
  Cert.PrepS.Gen.facts, Cert.PrepSIdeal.Gen.facts, Cert.PrepSRefIdeal.Gen.facts, Cert.ProjShift.Gen.facts, Cert.ProjShiftIdeal.Gen.facts, Cert.ProjShiftRefIdeal.Gen.facts,
  Cert.ScanS.Gen.facts, Cert.ScanSIdeal.Gen.facts, Cert.ScanSRefIdeal.Gen.facts,
  Cert.SelectS.Gen.facts, Cert.SelectSIdeal.Gen.facts, Cert.SelectSRefIdeal.Gen.facts,
  Cert.Pre_prep_finite.facts, Cert.Pre_prep_sample_finite.facts,
  frame_ffn, frame_ffn_ideal, frame_ffn_ref, frame_merge, frame_merge_ideal, frame_merge_ref, frame_moba, frame_moba_ideal, frame_moba_ref,
  frame_proj, frame_proj_ideal, frame_proj_ref,
  frame_proj_sample, frame_proj_sample_ideal, frame_proj_sample_ref, frame_merge_sample, frame_merge_sample_ideal, frame_merge_sample_ref, frame_ffn_sample, frame_ffn_sample_ideal, frame_ffn_sample_ref,
  frame_prep, frame_prep_ideal, frame_prep_ideal_finite, frame_prep_ref, frame_prep_ref_finite,
  frame_prep_sample, frame_prep_sample_ideal, frame_prep_sample_ideal_finite, frame_prep_sample_ref, frame_prep_sample_ref_finite,
  frame_proj_shift, frame_proj_shift_ideal, frame_proj_shift_ref,
  frame_scan_sample, frame_scan_sample_ideal, frame_scan_sample_ref,
  frame_select_sample, frame_select_sample_ideal, frame_select_sample_ref,
  trivial, ffn_value, trivial, merge_value, preserves_moba, trivial, proj_value, trivial, proj_sample_value, trivial, merge_sample_value,
  trivial, ffn_sample_value, trivial, prep_value, trivial, prep_sample_value, trivial, proj_shift_value, trivial, trivial⟩

end Cert.Proof

end
